-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v12_0)) (v1 : (c : Dev Cert.Kernel7Ideal.nD) → Buf (Elt Ideal) ((c.tc : Thread Cert.Kernel7Ideal.nD Cert.Kernel7Ideal.τ).loc Cert.Kernel7Ideal.main_v12_1)) (v2 : (c : Dev Cert.Kernel7Ideal.nD) → Buf (Elt Ideal) ((c.tc : Thread Cert.Kernel7Ideal.nD Cert.Kernel7Ideal.τ).loc Cert.Kernel7Ideal.main_v12_2)) (v3 : (c : Dev Cert.Kernel7Ideal.nD) → Buf (Elt Ideal) ((c.tc : Thread Cert.Kernel7Ideal.nD Cert.Kernel7Ideal.τ).loc Cert.Kernel7Ideal.main_v12_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_0) = v0 c
          ∧ r.2.mem ((c.tc : Thread Cert.Kernel7Ideal.nD Cert.Kernel7Ideal.τ).loc Cert.Kernel7Ideal.main_v12_1) = v1 c
          ∧ r.2.mem ((c.tc : Thread Cert.Kernel7Ideal.nD Cert.Kernel7Ideal.τ).loc Cert.Kernel7Ideal.main_v12_2) = v2 c
          ∧ r.2.mem ((c.tc : Thread Cert.Kernel7Ideal.nD Cert.Kernel7Ideal.τ).loc Cert.Kernel7Ideal.main_v12_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_v33) = v1 c
          ∧ r.2.mem ((c.tc : Thread Cert.Reference7Ideal.nD Cert.Reference7Ideal.τ).loc Cert.Reference7Ideal.main_v34) = v2 c
          ∧ r.2.mem ((c.tc : Thread Cert.Reference7Ideal.nD Cert.Reference7Ideal.τ).loc Cert.Reference7Ideal.main_v36) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v8_0)) (v1 : (c : Dev Cert.Kernel15Ideal.nD) → Buf (Elt Ideal) ((c.tc : Thread Cert.Kernel15Ideal.nD Cert.Kernel15Ideal.τ).loc Cert.Kernel15Ideal.main_v8_1)) (v2 : (c : Dev Cert.Kernel15Ideal.nD) → Buf (Elt Ideal) ((c.tc : Thread Cert.Kernel15Ideal.nD Cert.Kernel15Ideal.τ).loc Cert.Kernel15Ideal.main_v8_2)) (v3 : (c : Dev Cert.Kernel15Ideal.nD) → Buf (Elt Ideal) ((c.tc : Thread Cert.Kernel15Ideal.nD Cert.Kernel15Ideal.τ).loc Cert.Kernel15Ideal.main_v8_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8_0) = v0 c
          ∧ r.2.mem ((c.tc : Thread Cert.Kernel15Ideal.nD Cert.Kernel15Ideal.τ).loc Cert.Kernel15Ideal.main_v8_1) = v1 c
          ∧ r.2.mem ((c.tc : Thread Cert.Kernel15Ideal.nD Cert.Kernel15Ideal.τ).loc Cert.Kernel15Ideal.main_v8_2) = v2 c
          ∧ r.2.mem ((c.tc : Thread Cert.Kernel15Ideal.nD Cert.Kernel15Ideal.τ).loc Cert.Kernel15Ideal.main_v8_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v29) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v31) = v2 c
          ∧ r.2.mem ((c.tc : Thread Cert.Reference15Ideal.nD Cert.Reference15Ideal.τ).loc Cert.Reference15Ideal.main_v33) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v8_0)) (v1 : (c : Dev Cert.Kernel16Ideal.nD) → Buf (Elt Ideal) ((c.tc : Thread Cert.Kernel16Ideal.nD Cert.Kernel16Ideal.τ).loc Cert.Kernel16Ideal.main_v8_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v8_0) = v0 c
          ∧ r.2.mem ((c.tc : Thread Cert.Kernel16Ideal.nD Cert.Kernel16Ideal.τ).loc Cert.Kernel16Ideal.main_v8_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v10) = v0 c
          ∧ r.2.mem ((c.tc : Thread Cert.Reference16Ideal.nD Cert.Reference16Ideal.τ).loc Cert.Reference16Ideal.main_v11) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)) (v3 : (c : Dev Cert.Kernel22Ideal.nD) → Buf (Elt Ideal) ((c.tc : Thread Cert.Kernel22Ideal.nD Cert.Kernel22Ideal.τ).loc Cert.Kernel22Ideal.main_v3_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_v3_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_v35) = v1 c
          ∧ r.2.mem ((c.tc : Thread Cert.Reference22Ideal.nD Cert.Reference22Ideal.τ).loc Cert.Reference22Ideal.main_v16) = v2 c
          ∧ r.2.mem ((c.tc : Thread Cert.Reference22Ideal.nD Cert.Reference22Ideal.τ).loc Cert.Reference22Ideal.main_v22) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v3_0)) (v1 : (c : Dev Cert.Kernel23Ideal.nD) → Buf (Elt Ideal) ((c.tc : Thread Cert.Kernel23Ideal.nD Cert.Kernel23Ideal.τ).loc Cert.Kernel23Ideal.main_v3_1)) (v2 : (c : Dev Cert.Kernel23Ideal.nD) → Buf (Elt Ideal) ((c.tc : Thread Cert.Kernel23Ideal.nD Cert.Kernel23Ideal.τ).loc Cert.Kernel23Ideal.main_v3_2)) (v3 : (c : Dev Cert.Kernel23Ideal.nD) → Buf (Elt Ideal) ((c.tc : Thread Cert.Kernel23Ideal.nD Cert.Kernel23Ideal.τ).loc Cert.Kernel23Ideal.main_v3_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3_0) = v0 c
          ∧ r.2.mem ((c.tc : Thread Cert.Kernel23Ideal.nD Cert.Kernel23Ideal.τ).loc Cert.Kernel23Ideal.main_v3_1) = v1 c
          ∧ r.2.mem ((c.tc : Thread Cert.Kernel23Ideal.nD Cert.Kernel23Ideal.τ).loc Cert.Kernel23Ideal.main_v3_2) = v2 c
          ∧ r.2.mem ((c.tc : Thread Cert.Kernel23Ideal.nD Cert.Kernel23Ideal.τ).loc Cert.Kernel23Ideal.main_v3_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v8) = v0 c
          ∧ r.2.mem ((c.tc : Thread Cert.Reference23Ideal.nD Cert.Reference23Ideal.τ).loc Cert.Reference23Ideal.main_v35) = v1 c
          ∧ r.2.mem ((c.tc : Thread Cert.Reference23Ideal.nD Cert.Reference23Ideal.τ).loc Cert.Reference23Ideal.main_v16) = v2 c
          ∧ r.2.mem ((c.tc : Thread Cert.Reference23Ideal.nD Cert.Reference23Ideal.τ).loc Cert.Reference23Ideal.main_v22) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v6_0)) (v1 : (c : Dev Cert.Kernel24Ideal.nD) → Buf (Elt Ideal) ((c.tc : Thread Cert.Kernel24Ideal.nD Cert.Kernel24Ideal.τ).loc Cert.Kernel24Ideal.main_v6_1)) (v2 : (c : Dev Cert.Kernel24Ideal.nD) → Buf (Elt Ideal) ((c.tc : Thread Cert.Kernel24Ideal.nD Cert.Kernel24Ideal.τ).loc Cert.Kernel24Ideal.main_v6_2)) (v3 : (c : Dev Cert.Kernel24Ideal.nD) → Buf (Elt Ideal) ((c.tc : Thread Cert.Kernel24Ideal.nD Cert.Kernel24Ideal.τ).loc Cert.Kernel24Ideal.main_v6_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v6_0) = v0 c
          ∧ r.2.mem ((c.tc : Thread Cert.Kernel24Ideal.nD Cert.Kernel24Ideal.τ).loc Cert.Kernel24Ideal.main_v6_1) = v1 c
          ∧ r.2.mem ((c.tc : Thread Cert.Kernel24Ideal.nD Cert.Kernel24Ideal.τ).loc Cert.Kernel24Ideal.main_v6_2) = v2 c
          ∧ r.2.mem ((c.tc : Thread Cert.Kernel24Ideal.nD Cert.Kernel24Ideal.τ).loc Cert.Kernel24Ideal.main_v6_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v11) = v0 c
          ∧ r.2.mem ((c.tc : Thread Cert.Reference24Ideal.nD Cert.Reference24Ideal.τ).loc Cert.Reference24Ideal.main_v38) = v1 c
          ∧ r.2.mem ((c.tc : Thread Cert.Reference24Ideal.nD Cert.Reference24Ideal.τ).loc Cert.Reference24Ideal.main_v19) = v2 c
          ∧ r.2.mem ((c.tc : Thread Cert.Reference24Ideal.nD Cert.Reference24Ideal.τ).loc Cert.Reference24Ideal.main_v25) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Kernel.lean ====
abbrev S2x2048x16x96 : Shape := ⟨4, ![2, 2048, 16, 96]⟩
abbrev S2x2048x16x64 : Shape := ⟨4, ![2, 2048, 16, 64]⟩
abbrev S2x2048x32 : Shape := ⟨3, ![2, 2048, 32]⟩
abbrev S2x16x2048x2048 : Shape := ⟨4, ![2, 16, 2048, 2048]⟩
abbrev S2x2048x16x32 : Shape := ⟨4, ![2, 2048, 16, 32]⟩
abbrev S2x2048x2048x16 : Shape := ⟨4, ![2, 2048, 2048, 16]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S4096x8x64 : Shape := ⟨3, ![4096, 8, 64]⟩
abbrev S4096x8x128 : Shape := ⟨3, ![4096, 8, 128]⟩
abbrev S4096x8x256 : Shape := ⟨3, ![4096, 8, 256]⟩
abbrev S4096x2048 : Shape := ⟨2, ![4096, 2048]⟩
abbrev S4096x1x32 : Shape := ⟨3, ![4096, 1, 32]⟩
abbrev S4096x8x32 : Shape := ⟨3, ![4096, 8, 32]⟩
abbrev S4096x8x384 : Shape := ⟨3, ![4096, 8, 384]⟩
abbrev S4096x3072 : Shape := ⟨2, ![4096, 3072]⟩
abbrev S2x8x2x8x256 : Shape := ⟨5, ![2, 8, 2, 8, 256]⟩
abbrev S2x8x8x2x256 : Shape := ⟨5, ![2, 8, 8, 2, 256]⟩
abbrev S16x8x2x256 : Shape := ⟨4, ![16, 8, 2, 256]⟩
abbrev S16x8x8x256 : Shape := ⟨4, ![16, 8, 8, 256]⟩
abbrev S4096x1024 : Shape := ⟨2, ![4096, 1024]⟩
abbrev S2048x256 : Shape := ⟨2, ![2048, 256]⟩
abbrev S512x384 : Shape := ⟨2, ![512, 384]⟩
abbrev S2048x128 : Shape := ⟨2, ![2048, 128]⟩
abbrev S8x1x8x256 : Shape := ⟨4, ![8, 1, 8, 256]⟩
abbrev S8x8x256 : Shape := ⟨3, ![8, 8, 256]⟩
abbrev S2x512x256 : Shape := ⟨3, ![2, 512, 256]⟩
abbrev S2x512x128 : Shape := ⟨3, ![2, 512, 128]⟩
abbrev S1x256 : Shape := ⟨2, ![1, 256]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S128x256 : Shape := ⟨2, ![128, 256]⟩
abbrev S8x256 : Shape := ⟨2, ![8, 256]⟩
abbrev S1x8x256 : Shape := ⟨3, ![1, 8, 256]⟩
abbrev S512x256 : Shape := ⟨2, ![512, 256]⟩
abbrev S256x256 : Shape := ⟨2, ![256, 256]⟩
abbrev S1x1x8x256 : Shape := ⟨4, ![1, 1, 8, 256]⟩
abbrev S1x512x128 : Shape := ⟨3, ![1, 512, 128]⟩
abbrev S1x512x256 : Shape := ⟨3, ![1, 512, 256]⟩

abbrev nBuf : Space → Nat
  | .hbm => 71
  | .vmem => 18
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x64, .f32⟩
  | .hbm, ⟨2, _⟩ => ⟨S2x2048x32, .f32⟩
  | .hbm, ⟨3, _⟩ => ⟨S2x2048x16x64, .f32⟩
  | .hbm, ⟨4, _⟩ => ⟨S2x2048x16x64, .f32⟩
  | .hbm, ⟨5, _⟩ => ⟨S2x2048x16x64, .f32⟩
  | .hbm, ⟨6, _⟩ => ⟨S2x16x2048x2048, .f32⟩
  | .hbm, ⟨7, _⟩ => ⟨S2x2048x16x32, .f32⟩
  | .hbm, ⟨8, _⟩ => ⟨S2x2048x2048x16, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048x2048, .f32⟩
  | .hbm, ⟨13, _⟩ => ⟨S2x16x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S2x16x2048x2048, .i1⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S2x16x2048x1, .f32⟩
  | .hbm, ⟨34, _⟩ => ⟨S2x16x2048x2048, .f32⟩
  | .hbm, ⟨35, _⟩ => ⟨S2x16x2048x2048, .f32⟩
  | .hbm, ⟨36, _⟩ => ⟨S2x16x64x2048, .f32⟩
  | .hbm, ⟨37, _⟩ => ⟨S2x2048x16x64, .f32⟩
  | .hbm, ⟨38, _⟩ => ⟨S2x16x2048, .f32⟩
  | .hbm, ⟨39, _⟩ => ⟨S2x16x2048, .f32⟩
  | .hbm, ⟨40, _⟩ => ⟨S_, .f32⟩
  | .hbm, ⟨41, _⟩ => ⟨S4096x8x64, .f32⟩
  | .hbm, ⟨42, _⟩ => ⟨S_, .f32⟩
  | .hbm, ⟨43, _⟩ => ⟨S2x2048x16x96, .f32⟩
  | .hbm, ⟨44, _⟩ => ⟨S2x2048x16x96, .f32⟩
  | .hbm, ⟨45, _⟩ => ⟨S2x2048x16x64, .f32⟩
  | .hbm, ⟨46, _⟩ => ⟨S4096x8x128, .f32⟩
  | .hbm, ⟨47, _⟩ => ⟨S2x2048x16x32, .f32⟩
  | .hbm, ⟨48, _⟩ => ⟨S4096x8x64, .f32⟩
  | .hbm, ⟨49, _⟩ => ⟨S4096x8x256, .f32⟩
  | .hbm, ⟨50, _⟩ => ⟨S4096x2048, .f32⟩
  | .hbm, ⟨51, _⟩ => ⟨S4096x1x32, .f32⟩
  | .hbm, ⟨52, _⟩ => ⟨S4096x8x32, .f32⟩
  | .hbm, ⟨53, _⟩ => ⟨S4096x8x128, .f32⟩
  | .hbm, ⟨54, _⟩ => ⟨S4096x8x128, .f32⟩
  | .hbm, ⟨55, _⟩ => ⟨S4096x8x384, .f32⟩
  | .hbm, ⟨56, _⟩ => ⟨S4096x3072, .f32⟩
  | .hbm, ⟨57, _⟩ => ⟨S2x8x2x8x256, .f32⟩
  | .hbm, ⟨58, _⟩ => ⟨S2x8x8x2x256, .f32⟩
  | .hbm, ⟨59, _⟩ => ⟨S16x8x2x256, .f32⟩
  | .hbm, ⟨60, _⟩ => ⟨S_, .i32⟩
  | .hbm, ⟨61, _⟩ => ⟨S_, .f32⟩
  | .hbm, ⟨62, _⟩ => ⟨S16x8x8x256, .f32⟩
  | .hbm, ⟨63, _⟩ => ⟨S4096x2048, .bf16⟩
  | .hbm, ⟨64, _⟩ => ⟨S4096x3072, .bf16⟩
  | .hbm, ⟨65, _⟩ => ⟨S4096x1024, .f32⟩
  | .hbm, ⟨66, _⟩ => ⟨S4096x1024, .bf16⟩
  | .hbm, ⟨67, _⟩ => ⟨S4096x1024, .f32⟩
  | .hbm, ⟨68, _⟩ => ⟨S4096x1024, .bf16⟩
  | .hbm, ⟨69, _⟩ => ⟨S4096x2048, .bf16⟩
  | .hbm, ⟨70, _⟩ => ⟨S4096x3072, .bf16⟩
  | .local _ .vmem, ⟨0, _⟩ => ⟨S2048x256, .bf16⟩
  | .local _ .vmem, ⟨1, _⟩ => ⟨S2048x256, .bf16⟩
  | .local _ .vmem, ⟨2, _⟩ => ⟨S512x384, .bf16⟩
  | .local _ .vmem, ⟨3, _⟩ => ⟨S512x384, .bf16⟩
  | .local _ .vmem, ⟨4, _⟩ => ⟨S2048x128, .bf16⟩
  | .local _ .vmem, ⟨5, _⟩ => ⟨S2048x128, .bf16⟩
  | .local _ .vmem, ⟨6, _⟩ => ⟨S8x1x8x256, .f32⟩
  | .local _ .vmem, ⟨7, _⟩ => ⟨S8x1x8x256, .f32⟩
  | .local _ .vmem, ⟨8, _⟩ => ⟨S2048x128, .bf16⟩
  | .local _ .vmem, ⟨9, _⟩ => ⟨S2048x128, .bf16⟩
  | .local _ .vmem, ⟨10, _⟩ => ⟨S2048x256, .bf16⟩
  | .local _ .vmem, ⟨11, _⟩ => ⟨S2048x256, .bf16⟩
  | .local _ .vmem, ⟨12, _⟩ => ⟨S512x384, .bf16⟩
  | .local _ .vmem, ⟨13, _⟩ => ⟨S512x384, .bf16⟩
  | .local _ .vmem, ⟨14, _⟩ => ⟨S2048x256, .f32⟩
  | .local _ .vmem, ⟨15, _⟩ => ⟨S8x8x256, .f32⟩
  | .local _ .vmem, ⟨16, _⟩ => ⟨S2x512x256, .f32⟩
  | .local _ .vmem, ⟨17, _⟩ => ⟨S2x512x128, .f32⟩
  | _, _ => ⟨S2x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c : Ref sig .tc := ⟨.hbm, 60, rfl⟩
abbrev main_call1_v0 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53_0 : Ref sig .tc := ⟨.hbm, 69, rfl⟩
abbrev main_v53_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let c6_i32 : BitVec 32 := 6#32
  let arg2 : BitVec 32 := BitVec.ofNat 32 (i 2).val
  let c2_i32 : BitVec 32 := 2#32
  let v54 : BitVec 32 := Scalar.muli arg2 c2_i32
  let v55 : BitVec 32 := Scalar.subi c6_i32 v54
  let c4_i32 : BitVec 32 := 4#32
  let c0_i32_20 : BitVec 32 := 0#32
  let v56 : BitVec 1 := Scalar.cmpi .eq c4_i32 c0_i32_20
  let c1_i32 : BitVec 32 := 1#32
  let v57 : BitVec 32 := Scalar.select v56 c1_i32 c4_i32
  let v58 : BitVec 32 := Scalar.remsi v55 v57
  let c0_i32_22 : BitVec 32 := 0#32
  let v60 : BitVec 1 := Scalar.cmpi .slt v58 c0_i32_22
  let c0_i32_23 : BitVec 32 := 0#32
  let v61 : BitVec 1 := Scalar.cmpi .slt v57 c0_i32_23
  let v62 : BitVec 1 := Scalar.xori v60 v61
  let c0_i32_21 : BitVec 32 := 0#32
  let v59 : BitVec 1 := Scalar.cmpi .ne v58 c0_i32_21
  let v63 : BitVec 1 := Scalar.andi v62 v59
  let v64 : BitVec 32 := Scalar.addi v58 v57
  let v65 : BitVec 32 := Scalar.select v63 v64 v58
  let c0_i32_24 : BitVec 32 := 0#32
  let v66 : BitVec 1 := Scalar.cmpi .eq v65 c0_i32_24
  let v67 : BitVec 32 := Scalar.extui v66
  let c0_i32_25 : BitVec 32 := 0#32
  let v68 : BitVec 1 := Scalar.cmpi .ne v67 c0_i32_25
  v68

def k0_mult1 (i : grid0.Coords) : BitVec 32 :=
  let arg2 : BitVec 32 := BitVec.ofNat 32 (i 2).val
  let c2_i32 : BitVec 32 := 2#32
  let v54 : BitVec 32 := Scalar.muli arg2 c2_i32
  let c0_i32_64 : BitVec 32 := 0#32
  let v129 : BitVec 32 := Scalar.addi v54 c0_i32_64
  let c256_i32 : BitVec 32 := 256#32
  let v130 : BitVec 32 := Scalar.muli v129 c256_i32
  v130
def k0_off1 (i : grid0.Coords) (c0_i32_64 : BitVec 32) : Fin 2 → Nat :=
  let arg2 : BitVec 32 := BitVec.ofNat 32 (i 2).val
  let c2_i32 : BitVec 32 := 2#32
  let v54 : BitVec 32 := Scalar.muli arg2 c2_i32
  let v129 : BitVec 32 := Scalar.addi v54 c0_i32_64
  let c256_i32 : BitVec 32 := 256#32
  let v130 : BitVec 32 := Scalar.muli v129 c256_i32
  let v131 : BitVec 32 := v130
  let v132 : Index := Scalar.indexCast v131
  let c0_65 : Index := 0#32
  ![v132.toNat, 0]
def k0_off2 (i : grid0.Coords) (c0_i32_64 : BitVec 32) : Fin 2 → Nat :=
  let arg2 : BitVec 32 := BitVec.ofNat 32 (i 2).val
  let c2_i32 : BitVec 32 := 2#32
  let v54 : BitVec 32 := Scalar.muli arg2 c2_i32
  let v129 : BitVec 32 := Scalar.addi v54 c0_i32_64
  let c256_i32 : BitVec 32 := 256#32
  let v130 : BitVec 32 := Scalar.muli v129 c256_i32
  let v131 : BitVec 32 := v130
  let v135 : Index := Scalar.indexCast v131
  let c0_66 : Index := 0#32
  ![v135.toNat, 0]
def k0_off3 (i : grid0.Coords) (c0_i32_64 : BitVec 32) : Fin 4 → Nat :=
  let arg2 : BitVec 32 := BitVec.ofNat 32 (i 2).val
  let c2_i32 : BitVec 32 := 2#32
  let v54 : BitVec 32 := Scalar.muli arg2 c2_i32
  let v129 : BitVec 32 := Scalar.addi v54 c0_i32_64
  let v138 : Index := Scalar.indexCast v129
  let c0_67 : Index := 0#32
  let c0_68 : Index := 0#32
  let c0_69 : Index := 0#32
  ![v138.toNat, 0, 0, 0]
def k0_off4 (i : grid0.Coords) (c0_i32_64 : BitVec 32) : Fin 3 → Nat :=
  let arg2 : BitVec 32 := BitVec.ofNat 32 (i 2).val
  let c2_i32 : BitVec 32 := 2#32
  let v54 : BitVec 32 := Scalar.muli arg2 c2_i32
  let v129 : BitVec 32 := Scalar.addi v54 c0_i32_64
  let v141 : Index := Scalar.indexCast v129
  let c0_70 : Index := 0#32
  let c0_71 : Index := 0#32
  ![v141.toNat, 0, 0]
def k0_mult2 (i : grid0.Coords) : BitVec 32 :=
  let arg2 : BitVec 32 := BitVec.ofNat 32 (i 2).val
  let c2_i32 : BitVec 32 := 2#32
  let v54 : BitVec 32 := Scalar.muli arg2 c2_i32
  let c1_i32_114 : BitVec 32 := 1#32
  let v226 : BitVec 32 := Scalar.addi v54 c1_i32_114
  let c256_i32_115 : BitVec 32 := 256#32
  let v227 : BitVec 32 := Scalar.muli v226 c256_i32_115
  v227
def k0_cond3 (i : grid0.Coords) : BitVec 1 :=
  let c6_i32 : BitVec 32 := 6#32
  let arg2 : BitVec 32 := BitVec.ofNat 32 (i 2).val
  let c2_i32 : BitVec 32 := 2#32
  let v54 : BitVec 32 := Scalar.muli arg2 c2_i32
  let v55 : BitVec 32 := Scalar.subi c6_i32 v54
  let c4_i32_26 : BitVec 32 := 4#32
  let c0_i32_27 : BitVec 32 := 0#32
  let v69 : BitVec 1 := Scalar.cmpi .eq c4_i32_26 c0_i32_27
  let c1_i32_28 : BitVec 32 := 1#32
  let v70 : BitVec 32 := Scalar.select v69 c1_i32_28 c4_i32_26
  let v71 : BitVec 32 := Scalar.remsi v55 v70
  let c0_i32_30 : BitVec 32 := 0#32
  let v73 : BitVec 1 := Scalar.cmpi .slt v71 c0_i32_30
  let c0_i32_31 : BitVec 32 := 0#32
  let v74 : BitVec 1 := Scalar.cmpi .slt v70 c0_i32_31
  let v75 : BitVec 1 := Scalar.xori v73 v74
  let c0_i32_29 : BitVec 32 := 0#32
  let v72 : BitVec 1 := Scalar.cmpi .ne v71 c0_i32_29
  let v76 : BitVec 1 := Scalar.andi v75 v72
  let v77 : BitVec 32 := Scalar.addi v71 v70
  let v78 : BitVec 32 := Scalar.select v76 v77 v71
  let c2_i32_32 : BitVec 32 := 2#32
  let v79 : BitVec 1 := Scalar.cmpi .eq v78 c2_i32_32
  let v80 : BitVec 32 := Scalar.extui v79
  let c0_i32_33 : BitVec 32 := 0#32
  let v81 : BitVec 1 := Scalar.cmpi .ne v80 c0_i32_33
  v81

def k0_mult3 (i : grid0.Coords) : BitVec 32 :=
  let arg2 : BitVec 32 := BitVec.ofNat 32 (i 2).val
  let c2_i32 : BitVec 32 := 2#32
  let v54 : BitVec 32 := Scalar.muli arg2 c2_i32
  let c0_i32_64 : BitVec 32 := 0#32
  let v129 : BitVec 32 := Scalar.addi v54 c0_i32_64
  let c256_i32 : BitVec 32 := 256#32
  let v130 : BitVec 32 := Scalar.muli v129 c256_i32
  v130
def k0_off5 (i : grid0.Coords) (c0_i32_64 : BitVec 32) : Fin 2 → Nat :=
  let arg2 : BitVec 32 := BitVec.ofNat 32 (i 2).val
  let c2_i32 : BitVec 32 := 2#32
  let v54 : BitVec 32 := Scalar.muli arg2 c2_i32
  let v129 : BitVec 32 := Scalar.addi v54 c0_i32_64
  let c256_i32 : BitVec 32 := 256#32
  let v130 : BitVec 32 := Scalar.muli v129 c256_i32
  let v131 : BitVec 32 := v130
  let v132 : Index := Scalar.indexCast v131
  let c0_65 : Index := 0#32
  ![v132.toNat, 0]
def k0_off6 (i : grid0.Coords) (c0_i32_64 : BitVec 32) : Fin 2 → Nat :=
  let arg2 : BitVec 32 := BitVec.ofNat 32 (i 2).val
  let c2_i32 : BitVec 32 := 2#32
  let v54 : BitVec 32 := Scalar.muli arg2 c2_i32
  let v129 : BitVec 32 := Scalar.addi v54 c0_i32_64
  let c256_i32 : BitVec 32 := 256#32
  let v130 : BitVec 32 := Scalar.muli v129 c256_i32
  let v131 : BitVec 32 := v130
  let v135 : Index := Scalar.indexCast v131
  let c0_66 : Index := 0#32
  ![v135.toNat, 0]
def k0_off7 (i : grid0.Coords) (c0_i32_64 : BitVec 32) : Fin 4 → Nat :=
  let arg2 : BitVec 32 := BitVec.ofNat 32 (i 2).val
  let c2_i32 : BitVec 32 := 2#32
  let v54 : BitVec 32 := Scalar.muli arg2 c2_i32
  let v129 : BitVec 32 := Scalar.addi v54 c0_i32_64
  let v138 : Index := Scalar.indexCast v129
  let c0_67 : Index := 0#32
  let c0_68 : Index := 0#32
  let c0_69 : Index := 0#32
  ![v138.toNat, 0, 0, 0]
def k0_off8 (i : grid0.Coords) (c0_i32_64 : BitVec 32) : Fin 3 → Nat :=
  let arg2 : BitVec 32 := BitVec.ofNat 32 (i 2).val
  let c2_i32 : BitVec 32 := 2#32
  let v54 : BitVec 32 := Scalar.muli arg2 c2_i32
  let v129 : BitVec 32 := Scalar.addi v54 c0_i32_64
  let v141 : Index := Scalar.indexCast v129
  let c0_70 : Index := 0#32
  let c0_71 : Index := 0#32
  ![v141.toNat, 0, 0]
def k0_mult4 (i : grid0.Coords) : BitVec 32 :=
  let arg2 : BitVec 32 := BitVec.ofNat 32 (i 2).val
  let c2_i32 : BitVec 32 := 2#32
  let v54 : BitVec 32 := Scalar.muli arg2 c2_i32
  let c1_i32_114 : BitVec 32 := 1#32
  let v226 : BitVec 32 := Scalar.addi v54 c1_i32_114
  let c256_i32_115 : BitVec 32 := 256#32
  let v227 : BitVec 32 := Scalar.muli v226 c256_i32_115
  v227
def k0_mult5 (i : grid0.Coords) : BitVec 32 :=
  let arg2 : BitVec 32 := BitVec.ofNat 32 (i 2).val
  let c2_i32 : BitVec 32 := 2#32
  let v54 : BitVec 32 := Scalar.muli arg2 c2_i32
  let c2_i32_165 : BitVec 32 := 2#32
  let v323 : BitVec 32 := Scalar.addi v54 c2_i32_165
  let c0_i32_166 : BitVec 32 := 0#32
  let v324 : BitVec 32 := Scalar.addi v323 c0_i32_166
  let c256_i32_167 : BitVec 32 := 256#32
  let v325 : BitVec 32 := Scalar.muli v324 c256_i32_167
  v325
def k0_off9 (i : grid0.Coords) (c0_i32_166 : BitVec 32) : Fin 2 → Nat :=
  let arg2 : BitVec 32 := BitVec.ofNat 32 (i 2).val
  let c2_i32 : BitVec 32 := 2#32
  let v54 : BitVec 32 := Scalar.muli arg2 c2_i32
  let c2_i32_165 : BitVec 32 := 2#32
  let v323 : BitVec 32 := Scalar.addi v54 c2_i32_165
  let v324 : BitVec 32 := Scalar.addi v323 c0_i32_166
  let c256_i32_167 : BitVec 32 := 256#32
  let v325 : BitVec 32 := Scalar.muli v324 c256_i32_167
  let v326 : BitVec 32 := v325
  let v327 : Index := Scalar.indexCast v326
  let c0_168 : Index := 0#32
  ![v327.toNat, 0]
def k0_off10 (i : grid0.Coords) (c0_i32_166 : BitVec 32) : Fin 2 → Nat :=
  let arg2 : BitVec 32 := BitVec.ofNat 32 (i 2).val
  let c2_i32 : BitVec 32 := 2#32
  let v54 : BitVec 32 := Scalar.muli arg2 c2_i32
  let c2_i32_165 : BitVec 32 := 2#32
  let v323 : BitVec 32 := Scalar.addi v54 c2_i32_165
  let v324 : BitVec 32 := Scalar.addi v323 c0_i32_166
  let c256_i32_167 : BitVec 32 := 256#32
  let v325 : BitVec 32 := Scalar.muli v324 c256_i32_167
  let v326 : BitVec 32 := v325
  let v330 : Index := Scalar.indexCast v326
  let c0_169 : Index := 0#32
  ![v330.toNat, 0]
def k0_off11 (i : grid0.Coords) (c0_i32_166 : BitVec 32) : Fin 4 → Nat :=
  let arg2 : BitVec 32 := BitVec.ofNat 32 (i 2).val
  let c2_i32 : BitVec 32 := 2#32
  let v54 : BitVec 32 := Scalar.muli arg2 c2_i32
  let c2_i32_165 : BitVec 32 := 2#32
  let v323 : BitVec 32 := Scalar.addi v54 c2_i32_165
  let v324 : BitVec 32 := Scalar.addi v323 c0_i32_166
  let v333 : Index := Scalar.indexCast v324
  let c0_170 : Index := 0#32
  let c0_171 : Index := 0#32
  let c0_172 : Index := 0#32
  ![v333.toNat, 0, 0, 0]
def k0_off12 (i : grid0.Coords) (c0_i32_166 : BitVec 32) : Fin 3 → Nat :=
  let arg2 : BitVec 32 := BitVec.ofNat 32 (i 2).val
  let c2_i32 : BitVec 32 := 2#32
  let v54 : BitVec 32 := Scalar.muli arg2 c2_i32
  let c2_i32_165 : BitVec 32 := 2#32
  let v323 : BitVec 32 := Scalar.addi v54 c2_i32_165
  let v324 : BitVec 32 := Scalar.addi v323 c0_i32_166
  let v336 : Index := Scalar.indexCast v324
  let c0_173 : Index := 0#32
  let c0_174 : Index := 0#32
  ![v336.toNat, 0, 0]
def k0_mult6 (i : grid0.Coords) : BitVec 32 :=
  let arg2 : BitVec 32 := BitVec.ofNat 32 (i 2).val
  let c2_i32 : BitVec 32 := 2#32
  let v54 : BitVec 32 := Scalar.muli arg2 c2_i32
  let c2_i32_213 : BitVec 32 := 2#32
  let v407 : BitVec 32 := Scalar.addi v54 c2_i32_213
  let c1_i32_214 : BitVec 32 := 1#32
  let v408 : BitVec 32 := Scalar.addi v407 c1_i32_214
  let c256_i32_215 : BitVec 32 := 256#32
  let v409 : BitVec 32 := Scalar.muli v408 c256_i32_215
  v409
@[reducible] def k0_t1_loop (i : grid0.Coords) : Scf.Loop 32 :=
  let c0_i32_42 : BitVec 32 := 0#32
  let c6_i32 : BitVec 32 := 6#32
  let arg2 : BitVec 32 := BitVec.ofNat 32 (i 2).val
  let c2_i32 : BitVec 32 := 2#32
  let v54 : BitVec 32 := Scalar.muli arg2 c2_i32
  let v55 : BitVec 32 := Scalar.subi c6_i32 v54
  let c0_i32_35 : BitVec 32 := 0#32
  let v83 : BitVec 1 := Scalar.cmpi .sgt v55 c0_i32_35
  let v84 : BitVec 32 := Scalar.extui v83
  let c0_i32_36 : BitVec 32 := 0#32
  let v85 : BitVec 1 := Scalar.cmpi .slt v55 c0_i32_36
  let v86 : BitVec 32 := Scalar.extui v85
  let v87 : BitVec 32 := Scalar.subi v84 v86
  let c4_i32_34 : BitVec 32 := 4#32
  let c0_i32_37 : BitVec 32 := 0#32
  let v88 : BitVec 1 := Scalar.cmpi .sgt c4_i32_34 c0_i32_37
  let v89 : BitVec 32 := Scalar.extui v88
  let c0_i32_38 : BitVec 32 := 0#32
  let v90 : BitVec 1 := Scalar.cmpi .slt c4_i32_34 c0_i32_38
  let v91 : BitVec 32 := Scalar.extui v90
  let v92 : BitVec 32 := Scalar.subi v89 v91
  let v93 : BitVec 1 := Scalar.cmpi .ne v87 v92
  let v94 : BitVec 32 := Scalar.remsi v55 c4_i32_34
  let c0_i32_39 : BitVec 32 := 0#32
  let v95 : BitVec 1 := Scalar.cmpi .ne v94 c0_i32_39
  let v96 : BitVec 1 := Scalar.andi v93 v95
  let v82 : BitVec 32 := Scalar.divsi v55 c4_i32_34
  let c1_i32_40 : BitVec 32 := 1#32
  let v97 : BitVec 32 := Scalar.subi v82 c1_i32_40
  let v98 : BitVec 32 := Scalar.select v96 v97 v82
  let v99 : BitVec 32 := Scalar.subi v98 c0_i32_42
  let c1_i32_43 : BitVec 32 := 1#32
  let v101 : BitVec 32 := Scalar.divsi v99 c1_i32_43
  let v102 : BitVec 32 := Scalar.muli v101 c1_i32_43
  let v103 : BitVec 32 := Scalar.addi c0_i32_42 v102
  let c1_i32_44 : BitVec 32 := 1#32
  ⟨c0_i32_42, v103, c1_i32_44⟩
def k0_mult7 (i : grid0.Coords) (k0_t1 : Fin (k0_t1_loop i).trips) : BitVec 32 :=
  let arg2 : BitVec 32 := BitVec.ofNat 32 (i 2).val
  let c2_i32 : BitVec 32 := 2#32
  let v54 : BitVec 32 := Scalar.muli arg2 c2_i32
  let c2_i32_64 : BitVec 32 := 2#32
  let v129 : BitVec 32 := Scalar.addi v54 c2_i32_64
  let c6_i32 : BitVec 32 := 6#32
  let v55 : BitVec 32 := Scalar.subi c6_i32 v54
  let c4_i32_65 : BitVec 32 := 4#32
  let c0_i32_66 : BitVec 32 := 0#32
  let v130 : BitVec 1 := Scalar.cmpi .eq c4_i32_65 c0_i32_66
  let c1_i32_67 : BitVec 32 := 1#32
  let v131 : BitVec 32 := Scalar.select v130 c1_i32_67 c4_i32_65
  let v132 : BitVec 32 := Scalar.remsi v55 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let v140 : BitVec 32 := Scalar.addi v129 v139
  let c0_i32_42 : BitVec 32 := 0#32
  let c1_i32_44 : BitVec 32 := 1#32
  let arg14 : BitVec 32 := Scf.iv c0_i32_42 c1_i32_44 k0_t1
  let c4_i32_71 : BitVec 32 := 4#32
  let v141 : BitVec 32 := Scalar.muli arg14 c4_i32_71
  let v142 : BitVec 32 := Scalar.addi v140 v141
  let c0_i32_72 : BitVec 32 := 0#32
  let v143 : BitVec 32 := Scalar.addi v142 c0_i32_72
  let c256_i32 : BitVec 32 := 256#32
  let v144 : BitVec 32 := Scalar.muli v143 c256_i32
  v144
def k0_off13 (i : grid0.Coords) (k0_t1 : Fin (k0_t1_loop i).trips) (c0_i32_72 : BitVec 32) : Fin 2 → Nat :=
  let arg2 : BitVec 32 := BitVec.ofNat 32 (i 2).val
  let c2_i32 : BitVec 32 := 2#32
  let v54 : BitVec 32 := Scalar.muli arg2 c2_i32
  let c2_i32_64 : BitVec 32 := 2#32
  let v129 : BitVec 32 := Scalar.addi v54 c2_i32_64
  let c6_i32 : BitVec 32 := 6#32
  let v55 : BitVec 32 := Scalar.subi c6_i32 v54
  let c4_i32_65 : BitVec 32 := 4#32
  let c0_i32_66 : BitVec 32 := 0#32
  let v130 : BitVec 1 := Scalar.cmpi .eq c4_i32_65 c0_i32_66
  let c1_i32_67 : BitVec 32 := 1#32
  let v131 : BitVec 32 := Scalar.select v130 c1_i32_67 c4_i32_65
  let v132 : BitVec 32 := Scalar.remsi v55 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let v140 : BitVec 32 := Scalar.addi v129 v139
  let c0_i32_42 : BitVec 32 := 0#32
  let c1_i32_44 : BitVec 32 := 1#32
  let arg14 : BitVec 32 := Scf.iv c0_i32_42 c1_i32_44 k0_t1
  let c4_i32_71 : BitVec 32 := 4#32
  let v141 : BitVec 32 := Scalar.muli arg14 c4_i32_71
  let v142 : BitVec 32 := Scalar.addi v140 v141
  let v143 : BitVec 32 := Scalar.addi v142 c0_i32_72
  let c256_i32 : BitVec 32 := 256#32
  let v144 : BitVec 32 := Scalar.muli v143 c256_i32
  let v145 : BitVec 32 := v144
  let v146 : Index := Scalar.indexCast v145
  let c0_73 : Index := 0#32
  ![v146.toNat, 0]
def k0_off14 (i : grid0.Coords) (k0_t1 : Fin (k0_t1_loop i).trips) (c0_i32_72 : BitVec 32) : Fin 2 → Nat :=
  let arg2 : BitVec 32 := BitVec.ofNat 32 (i 2).val
  let c2_i32 : BitVec 32 := 2#32
  let v54 : BitVec 32 := Scalar.muli arg2 c2_i32
  let c2_i32_64 : BitVec 32 := 2#32
  let v129 : BitVec 32 := Scalar.addi v54 c2_i32_64
  let c6_i32 : BitVec 32 := 6#32
  let v55 : BitVec 32 := Scalar.subi c6_i32 v54
  let c4_i32_65 : BitVec 32 := 4#32
  let c0_i32_66 : BitVec 32 := 0#32
  let v130 : BitVec 1 := Scalar.cmpi .eq c4_i32_65 c0_i32_66
  let c1_i32_67 : BitVec 32 := 1#32
  let v131 : BitVec 32 := Scalar.select v130 c1_i32_67 c4_i32_65
  let v132 : BitVec 32 := Scalar.remsi v55 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let v140 : BitVec 32 := Scalar.addi v129 v139
  let c0_i32_42 : BitVec 32 := 0#32
  let c1_i32_44 : BitVec 32 := 1#32
  let arg14 : BitVec 32 := Scf.iv c0_i32_42 c1_i32_44 k0_t1
  let c4_i32_71 : BitVec 32 := 4#32
  let v141 : BitVec 32 := Scalar.muli arg14 c4_i32_71
  let v142 : BitVec 32 := Scalar.addi v140 v141
  let v143 : BitVec 32 := Scalar.addi v142 c0_i32_72
  let c256_i32 : BitVec 32 := 256#32
  let v144 : BitVec 32 := Scalar.muli v143 c256_i32
  let v145 : BitVec 32 := v144
  let v149 : Index := Scalar.indexCast v145
  let c0_74 : Index := 0#32
  ![v149.toNat, 0]
def k0_off15 (i : grid0.Coords) (k0_t1 : Fin (k0_t1_loop i).trips) (c0_i32_72 : BitVec 32) : Fin 4 → Nat :=
  let arg2 : BitVec 32 := BitVec.ofNat 32 (i 2).val
  let c2_i32 : BitVec 32 := 2#32
  let v54 : BitVec 32 := Scalar.muli arg2 c2_i32
  let c2_i32_64 : BitVec 32 := 2#32
  let v129 : BitVec 32 := Scalar.addi v54 c2_i32_64
  let c6_i32 : BitVec 32 := 6#32
  let v55 : BitVec 32 := Scalar.subi c6_i32 v54
  let c4_i32_65 : BitVec 32 := 4#32
  let c0_i32_66 : BitVec 32 := 0#32
  let v130 : BitVec 1 := Scalar.cmpi .eq c4_i32_65 c0_i32_66
  let c1_i32_67 : BitVec 32 := 1#32
  let v131 : BitVec 32 := Scalar.select v130 c1_i32_67 c4_i32_65
  let v132 : BitVec 32 := Scalar.remsi v55 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let v140 : BitVec 32 := Scalar.addi v129 v139
  let c0_i32_42 : BitVec 32 := 0#32
  let c1_i32_44 : BitVec 32 := 1#32
  let arg14 : BitVec 32 := Scf.iv c0_i32_42 c1_i32_44 k0_t1
  let c4_i32_71 : BitVec 32 := 4#32
  let v141 : BitVec 32 := Scalar.muli arg14 c4_i32_71
  let v142 : BitVec 32 := Scalar.addi v140 v141
  let v143 : BitVec 32 := Scalar.addi v142 c0_i32_72
  let v152 : Index := Scalar.indexCast v143
  let c0_75 : Index := 0#32
  let c0_76 : Index := 0#32
  let c0_77 : Index := 0#32
  ![v152.toNat, 0, 0, 0]
def k0_off16 (i : grid0.Coords) (k0_t1 : Fin (k0_t1_loop i).trips) (c0_i32_72 : BitVec 32) : Fin 3 → Nat :=
  let arg2 : BitVec 32 := BitVec.ofNat 32 (i 2).val
  let c2_i32 : BitVec 32 := 2#32
  let v54 : BitVec 32 := Scalar.muli arg2 c2_i32
  let c2_i32_64 : BitVec 32 := 2#32
  let v129 : BitVec 32 := Scalar.addi v54 c2_i32_64
  let c6_i32 : BitVec 32 := 6#32
  let v55 : BitVec 32 := Scalar.subi c6_i32 v54
  let c4_i32_65 : BitVec 32 := 4#32
  let c0_i32_66 : BitVec 32 := 0#32
  let v130 : BitVec 1 := Scalar.cmpi .eq c4_i32_65 c0_i32_66
  let c1_i32_67 : BitVec 32 := 1#32
  let v131 : BitVec 32 := Scalar.select v130 c1_i32_67 c4_i32_65
  let v132 : BitVec 32 := Scalar.remsi v55 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let v140 : BitVec 32 := Scalar.addi v129 v139
  let c0_i32_42 : BitVec 32 := 0#32
  let c1_i32_44 : BitVec 32 := 1#32
  let arg14 : BitVec 32 := Scf.iv c0_i32_42 c1_i32_44 k0_t1
  let c4_i32_71 : BitVec 32 := 4#32
  let v141 : BitVec 32 := Scalar.muli arg14 c4_i32_71
  let v142 : BitVec 32 := Scalar.addi v140 v141
  let v143 : BitVec 32 := Scalar.addi v142 c0_i32_72
  let v155 : Index := Scalar.indexCast v143
  let c0_78 : Index := 0#32
  let c0_79 : Index := 0#32
  ![v155.toNat, 0, 0]
def k0_mult8 (i : grid0.Coords) (k0_t1 : Fin (k0_t1_loop i).trips) : BitVec 32 :=
  let arg2 : BitVec 32 := BitVec.ofNat 32 (i 2).val
  let c2_i32 : BitVec 32 := 2#32
  let v54 : BitVec 32 := Scalar.muli arg2 c2_i32
  let c2_i32_118 : BitVec 32 := 2#32
  let v226 : BitVec 32 := Scalar.addi v54 c2_i32_118
  let c6_i32 : BitVec 32 := 6#32
  let v55 : BitVec 32 := Scalar.subi c6_i32 v54
  let c4_i32_119 : BitVec 32 := 4#32
  let c0_i32_120 : BitVec 32 := 0#32
  let v227 : BitVec 1 := Scalar.cmpi .eq c4_i32_119 c0_i32_120
  let c1_i32_121 : BitVec 32 := 1#32
  let v228 : BitVec 32 := Scalar.select v227 c1_i32_121 c4_i32_119
  let v229 : BitVec 32 := Scalar.remsi v55 v228
  let c0_i32_123 : BitVec 32 := 0#32
  let v231 : BitVec 1 := Scalar.cmpi .slt v229 c0_i32_123
  let c0_i32_124 : BitVec 32 := 0#32
  let v232 : BitVec 1 := Scalar.cmpi .slt v228 c0_i32_124
  let v233 : BitVec 1 := Scalar.xori v231 v232
  let c0_i32_122 : BitVec 32 := 0#32
  let v230 : BitVec 1 := Scalar.cmpi .ne v229 c0_i32_122
  let v234 : BitVec 1 := Scalar.andi v233 v230
  let v235 : BitVec 32 := Scalar.addi v229 v228
  let v236 : BitVec 32 := Scalar.select v234 v235 v229
  let v237 : BitVec 32 := Scalar.addi v226 v236
  let c0_i32_42 : BitVec 32 := 0#32
  let c1_i32_44 : BitVec 32 := 1#32
  let arg14 : BitVec 32 := Scf.iv c0_i32_42 c1_i32_44 k0_t1
  let c4_i32_125 : BitVec 32 := 4#32
  let v238 : BitVec 32 := Scalar.muli arg14 c4_i32_125
  let v239 : BitVec 32 := Scalar.addi v237 v238
  let c1_i32_126 : BitVec 32 := 1#32
  let v240 : BitVec 32 := Scalar.addi v239 c1_i32_126
  let c256_i32_127 : BitVec 32 := 256#32
  let v241 : BitVec 32 := Scalar.muli v240 c256_i32_127
  v241
def k0_mult9 (i : grid0.Coords) (k0_t1 : Fin (k0_t1_loop i).trips) : BitVec 32 :=
  let arg2 : BitVec 32 := BitVec.ofNat 32 (i 2).val
  let c2_i32 : BitVec 32 := 2#32
  let v54 : BitVec 32 := Scalar.muli arg2 c2_i32
  let c2_i32_173 : BitVec 32 := 2#32
  let v323 : BitVec 32 := Scalar.addi v54 c2_i32_173
  let c6_i32 : BitVec 32 := 6#32
  let v55 : BitVec 32 := Scalar.subi c6_i32 v54
  let c4_i32_174 : BitVec 32 := 4#32
  let c0_i32_175 : BitVec 32 := 0#32
  let v324 : BitVec 1 := Scalar.cmpi .eq c4_i32_174 c0_i32_175
  let c1_i32_176 : BitVec 32 := 1#32
  let v325 : BitVec 32 := Scalar.select v324 c1_i32_176 c4_i32_174
  let v326 : BitVec 32 := Scalar.remsi v55 v325
  let c0_i32_178 : BitVec 32 := 0#32
  let v328 : BitVec 1 := Scalar.cmpi .slt v326 c0_i32_178
  let c0_i32_179 : BitVec 32 := 0#32
  let v329 : BitVec 1 := Scalar.cmpi .slt v325 c0_i32_179
  let v330 : BitVec 1 := Scalar.xori v328 v329
  let c0_i32_177 : BitVec 32 := 0#32
  let v327 : BitVec 1 := Scalar.cmpi .ne v326 c0_i32_177
  let v331 : BitVec 1 := Scalar.andi v330 v327
  let v332 : BitVec 32 := Scalar.addi v326 v325
  let v333 : BitVec 32 := Scalar.select v331 v332 v326
  let v334 : BitVec 32 := Scalar.addi v323 v333
  let c0_i32_42 : BitVec 32 := 0#32
  let c1_i32_44 : BitVec 32 := 1#32
  let arg14 : BitVec 32 := Scf.iv c0_i32_42 c1_i32_44 k0_t1
  let c4_i32_180 : BitVec 32 := 4#32
  let v335 : BitVec 32 := Scalar.muli arg14 c4_i32_180
  let v336 : BitVec 32 := Scalar.addi v334 v335
  let c2_i32_181 : BitVec 32 := 2#32
  let v337 : BitVec 32 := Scalar.addi v336 c2_i32_181
  let c256_i32_182 : BitVec 32 := 256#32
  let v338 : BitVec 32 := Scalar.muli v337 c256_i32_182
  v338
def k0_mult10 (i : grid0.Coords) (k0_t1 : Fin (k0_t1_loop i).trips) : BitVec 32 :=
  let arg2 : BitVec 32 := BitVec.ofNat 32 (i 2).val
  let c2_i32 : BitVec 32 := 2#32
  let v54 : BitVec 32 := Scalar.muli arg2 c2_i32
  let c2_i32_228 : BitVec 32 := 2#32
  let v420 : BitVec 32 := Scalar.addi v54 c2_i32_228
  let c6_i32 : BitVec 32 := 6#32
  let v55 : BitVec 32 := Scalar.subi c6_i32 v54
  let c4_i32_229 : BitVec 32 := 4#32
  let c0_i32_230 : BitVec 32 := 0#32
  let v421 : BitVec 1 := Scalar.cmpi .eq c4_i32_229 c0_i32_230
  let c1_i32_231 : BitVec 32 := 1#32
  let v422 : BitVec 32 := Scalar.select v421 c1_i32_231 c4_i32_229
  let v423 : BitVec 32 := Scalar.remsi v55 v422
  let c0_i32_233 : BitVec 32 := 0#32
  let v425 : BitVec 1 := Scalar.cmpi .slt v423 c0_i32_233
  let c0_i32_234 : BitVec 32 := 0#32
  let v426 : BitVec 1 := Scalar.cmpi .slt v422 c0_i32_234
  let v427 : BitVec 1 := Scalar.xori v425 v426
  let c0_i32_232 : BitVec 32 := 0#32
  let v424 : BitVec 1 := Scalar.cmpi .ne v423 c0_i32_232
  let v428 : BitVec 1 := Scalar.andi v427 v424
  let v429 : BitVec 32 := Scalar.addi v423 v422
  let v430 : BitVec 32 := Scalar.select v428 v429 v423
  let v431 : BitVec 32 := Scalar.addi v420 v430
  let c0_i32_42 : BitVec 32 := 0#32
  let c1_i32_44 : BitVec 32 := 1#32
  let arg14 : BitVec 32 := Scf.iv c0_i32_42 c1_i32_44 k0_t1
  let c4_i32_235 : BitVec 32 := 4#32
  let v432 : BitVec 32 := Scalar.muli arg14 c4_i32_235
  let v433 : BitVec 32 := Scalar.addi v431 v432
  let c3_i32_236 : BitVec 32 := 3#32
  let v434 : BitVec 32 := Scalar.addi v433 c3_i32_236
  let c256_i32_237 : BitVec 32 := 256#32
  let v435 : BitVec 32 := Scalar.muli v434 c256_i32_237
  v435
@[reducible] def k0_t2_loop (i : grid0.Coords) : Scf.Loop 32 :=
  let c0_i32_42 : BitVec 32 := 0#32
  let c6_i32 : BitVec 32 := 6#32
  let arg2 : BitVec 32 := BitVec.ofNat 32 (i 2).val
  let c2_i32 : BitVec 32 := 2#32
  let v54 : BitVec 32 := Scalar.muli arg2 c2_i32
  let v55 : BitVec 32 := Scalar.subi c6_i32 v54
  let c0_i32_35 : BitVec 32 := 0#32
  let v83 : BitVec 1 := Scalar.cmpi .sgt v55 c0_i32_35
  let v84 : BitVec 32 := Scalar.extui v83
  let c0_i32_36 : BitVec 32 := 0#32
  let v85 : BitVec 1 := Scalar.cmpi .slt v55 c0_i32_36
  let v86 : BitVec 32 := Scalar.extui v85
  let v87 : BitVec 32 := Scalar.subi v84 v86
  let c4_i32_34 : BitVec 32 := 4#32
  let c0_i32_37 : BitVec 32 := 0#32
  let v88 : BitVec 1 := Scalar.cmpi .sgt c4_i32_34 c0_i32_37
  let v89 : BitVec 32 := Scalar.extui v88
  let c0_i32_38 : BitVec 32 := 0#32
  let v90 : BitVec 1 := Scalar.cmpi .slt c4_i32_34 c0_i32_38
  let v91 : BitVec 32 := Scalar.extui v90
  let v92 : BitVec 32 := Scalar.subi v89 v91
  let v93 : BitVec 1 := Scalar.cmpi .ne v87 v92
  let v94 : BitVec 32 := Scalar.remsi v55 c4_i32_34
  let c0_i32_39 : BitVec 32 := 0#32
  let v95 : BitVec 1 := Scalar.cmpi .ne v94 c0_i32_39
  let v96 : BitVec 1 := Scalar.andi v93 v95
  let v82 : BitVec 32 := Scalar.divsi v55 c4_i32_34
  let c1_i32_40 : BitVec 32 := 1#32
  let v97 : BitVec 32 := Scalar.subi v82 c1_i32_40
  let v98 : BitVec 32 := Scalar.select v96 v97 v82
  let v99 : BitVec 32 := Scalar.subi v98 c0_i32_42
  let c1_i32_43 : BitVec 32 := 1#32
  let v101 : BitVec 32 := Scalar.divsi v99 c1_i32_43
  let v102 : BitVec 32 := Scalar.muli v101 c1_i32_43
  let v103 : BitVec 32 := Scalar.addi c0_i32_42 v102
  let v100 : BitVec 32 := Scalar.addi c0_i32_42 v99
  let c1_i32_45 : BitVec 32 := 1#32
  ⟨v103, v100, c1_i32_45⟩
def k0_mult11 (i : grid0.Coords) (k0_t2 : Fin (k0_t2_loop i).trips) : BitVec 32 :=
  let arg2 : BitVec 32 := BitVec.ofNat 32 (i 2).val
  let c2_i32 : BitVec 32 := 2#32
  let v54 : BitVec 32 := Scalar.muli arg2 c2_i32
  let c2_i32_64 : BitVec 32 := 2#32
  let v129 : BitVec 32 := Scalar.addi v54 c2_i32_64
  let c6_i32 : BitVec 32 := 6#32
  let v55 : BitVec 32 := Scalar.subi c6_i32 v54
  let c4_i32_65 : BitVec 32 := 4#32
  let c0_i32_66 : BitVec 32 := 0#32
  let v130 : BitVec 1 := Scalar.cmpi .eq c4_i32_65 c0_i32_66
  let c1_i32_67 : BitVec 32 := 1#32
  let v131 : BitVec 32 := Scalar.select v130 c1_i32_67 c4_i32_65
  let v132 : BitVec 32 := Scalar.remsi v55 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let v140 : BitVec 32 := Scalar.addi v129 v139
  let c0_i32_42 : BitVec 32 := 0#32
  let c0_i32_35 : BitVec 32 := 0#32
  let v83 : BitVec 1 := Scalar.cmpi .sgt v55 c0_i32_35
  let v84 : BitVec 32 := Scalar.extui v83
  let c0_i32_36 : BitVec 32 := 0#32
  let v85 : BitVec 1 := Scalar.cmpi .slt v55 c0_i32_36
  let v86 : BitVec 32 := Scalar.extui v85
  let v87 : BitVec 32 := Scalar.subi v84 v86
  let c4_i32_34 : BitVec 32 := 4#32
  let c0_i32_37 : BitVec 32 := 0#32
  let v88 : BitVec 1 := Scalar.cmpi .sgt c4_i32_34 c0_i32_37
  let v89 : BitVec 32 := Scalar.extui v88
  let c0_i32_38 : BitVec 32 := 0#32
  let v90 : BitVec 1 := Scalar.cmpi .slt c4_i32_34 c0_i32_38
  let v91 : BitVec 32 := Scalar.extui v90
  let v92 : BitVec 32 := Scalar.subi v89 v91
  let v93 : BitVec 1 := Scalar.cmpi .ne v87 v92
  let v94 : BitVec 32 := Scalar.remsi v55 c4_i32_34
  let c0_i32_39 : BitVec 32 := 0#32
  let v95 : BitVec 1 := Scalar.cmpi .ne v94 c0_i32_39
  let v96 : BitVec 1 := Scalar.andi v93 v95
  let v82 : BitVec 32 := Scalar.divsi v55 c4_i32_34
  let c1_i32_40 : BitVec 32 := 1#32
  let v97 : BitVec 32 := Scalar.subi v82 c1_i32_40
  let v98 : BitVec 32 := Scalar.select v96 v97 v82
  let v99 : BitVec 32 := Scalar.subi v98 c0_i32_42
  let c1_i32_43 : BitVec 32 := 1#32
  let v101 : BitVec 32 := Scalar.divsi v99 c1_i32_43
  let v102 : BitVec 32 := Scalar.muli v101 c1_i32_43
  let v103 : BitVec 32 := Scalar.addi c0_i32_42 v102
  let c1_i32_45 : BitVec 32 := 1#32
  let arg14 : BitVec 32 := Scf.iv v103 c1_i32_45 k0_t2
  let c4_i32_71 : BitVec 32 := 4#32
  let v141 : BitVec 32 := Scalar.muli arg14 c4_i32_71
  let v142 : BitVec 32 := Scalar.addi v140 v141
  let c0_i32_72 : BitVec 32 := 0#32
  let v143 : BitVec 32 := Scalar.addi v142 c0_i32_72
  let c256_i32 : BitVec 32 := 256#32
  let v144 : BitVec 32 := Scalar.muli v143 c256_i32
  v144
def k0_off17 (i : grid0.Coords) (k0_t2 : Fin (k0_t2_loop i).trips) (c0_i32_72 : BitVec 32) : Fin 2 → Nat :=
  let arg2 : BitVec 32 := BitVec.ofNat 32 (i 2).val
  let c2_i32 : BitVec 32 := 2#32
  let v54 : BitVec 32 := Scalar.muli arg2 c2_i32
  let c2_i32_64 : BitVec 32 := 2#32
  let v129 : BitVec 32 := Scalar.addi v54 c2_i32_64
  let c6_i32 : BitVec 32 := 6#32
  let v55 : BitVec 32 := Scalar.subi c6_i32 v54
  let c4_i32_65 : BitVec 32 := 4#32
  let c0_i32_66 : BitVec 32 := 0#32
  let v130 : BitVec 1 := Scalar.cmpi .eq c4_i32_65 c0_i32_66
  let c1_i32_67 : BitVec 32 := 1#32
  let v131 : BitVec 32 := Scalar.select v130 c1_i32_67 c4_i32_65
  let v132 : BitVec 32 := Scalar.remsi v55 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let v140 : BitVec 32 := Scalar.addi v129 v139
  let c0_i32_42 : BitVec 32 := 0#32
  let c0_i32_35 : BitVec 32 := 0#32
  let v83 : BitVec 1 := Scalar.cmpi .sgt v55 c0_i32_35
  let v84 : BitVec 32 := Scalar.extui v83
  let c0_i32_36 : BitVec 32 := 0#32
  let v85 : BitVec 1 := Scalar.cmpi .slt v55 c0_i32_36
  let v86 : BitVec 32 := Scalar.extui v85
  let v87 : BitVec 32 := Scalar.subi v84 v86
  let c4_i32_34 : BitVec 32 := 4#32
  let c0_i32_37 : BitVec 32 := 0#32
  let v88 : BitVec 1 := Scalar.cmpi .sgt c4_i32_34 c0_i32_37
  let v89 : BitVec 32 := Scalar.extui v88
  let c0_i32_38 : BitVec 32 := 0#32
  let v90 : BitVec 1 := Scalar.cmpi .slt c4_i32_34 c0_i32_38
  let v91 : BitVec 32 := Scalar.extui v90
  let v92 : BitVec 32 := Scalar.subi v89 v91
  let v93 : BitVec 1 := Scalar.cmpi .ne v87 v92
  let v94 : BitVec 32 := Scalar.remsi v55 c4_i32_34
  let c0_i32_39 : BitVec 32 := 0#32
  let v95 : BitVec 1 := Scalar.cmpi .ne v94 c0_i32_39
  let v96 : BitVec 1 := Scalar.andi v93 v95
  let v82 : BitVec 32 := Scalar.divsi v55 c4_i32_34
  let c1_i32_40 : BitVec 32 := 1#32
  let v97 : BitVec 32 := Scalar.subi v82 c1_i32_40
  let v98 : BitVec 32 := Scalar.select v96 v97 v82
  let v99 : BitVec 32 := Scalar.subi v98 c0_i32_42
  let c1_i32_43 : BitVec 32 := 1#32
  let v101 : BitVec 32 := Scalar.divsi v99 c1_i32_43
  let v102 : BitVec 32 := Scalar.muli v101 c1_i32_43
  let v103 : BitVec 32 := Scalar.addi c0_i32_42 v102
  let c1_i32_45 : BitVec 32 := 1#32
  let arg14 : BitVec 32 := Scf.iv v103 c1_i32_45 k0_t2
  let c4_i32_71 : BitVec 32 := 4#32
  let v141 : BitVec 32 := Scalar.muli arg14 c4_i32_71
  let v142 : BitVec 32 := Scalar.addi v140 v141
  let v143 : BitVec 32 := Scalar.addi v142 c0_i32_72
  let c256_i32 : BitVec 32 := 256#32
  let v144 : BitVec 32 := Scalar.muli v143 c256_i32
  let v145 : BitVec 32 := v144
  let v146 : Index := Scalar.indexCast v145
  let c0_73 : Index := 0#32
  ![v146.toNat, 0]
def k0_off18 (i : grid0.Coords) (k0_t2 : Fin (k0_t2_loop i).trips) (c0_i32_72 : BitVec 32) : Fin 2 → Nat :=
  let arg2 : BitVec 32 := BitVec.ofNat 32 (i 2).val
  let c2_i32 : BitVec 32 := 2#32
  let v54 : BitVec 32 := Scalar.muli arg2 c2_i32
  let c2_i32_64 : BitVec 32 := 2#32
  let v129 : BitVec 32 := Scalar.addi v54 c2_i32_64
  let c6_i32 : BitVec 32 := 6#32
  let v55 : BitVec 32 := Scalar.subi c6_i32 v54
  let c4_i32_65 : BitVec 32 := 4#32
  let c0_i32_66 : BitVec 32 := 0#32
  let v130 : BitVec 1 := Scalar.cmpi .eq c4_i32_65 c0_i32_66
  let c1_i32_67 : BitVec 32 := 1#32
  let v131 : BitVec 32 := Scalar.select v130 c1_i32_67 c4_i32_65
  let v132 : BitVec 32 := Scalar.remsi v55 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let v140 : BitVec 32 := Scalar.addi v129 v139
  let c0_i32_42 : BitVec 32 := 0#32
  let c0_i32_35 : BitVec 32 := 0#32
  let v83 : BitVec 1 := Scalar.cmpi .sgt v55 c0_i32_35
  let v84 : BitVec 32 := Scalar.extui v83
  let c0_i32_36 : BitVec 32 := 0#32
  let v85 : BitVec 1 := Scalar.cmpi .slt v55 c0_i32_36
  let v86 : BitVec 32 := Scalar.extui v85
  let v87 : BitVec 32 := Scalar.subi v84 v86
  let c4_i32_34 : BitVec 32 := 4#32
  let c0_i32_37 : BitVec 32 := 0#32
  let v88 : BitVec 1 := Scalar.cmpi .sgt c4_i32_34 c0_i32_37
  let v89 : BitVec 32 := Scalar.extui v88
  let c0_i32_38 : BitVec 32 := 0#32
  let v90 : BitVec 1 := Scalar.cmpi .slt c4_i32_34 c0_i32_38
  let v91 : BitVec 32 := Scalar.extui v90
  let v92 : BitVec 32 := Scalar.subi v89 v91
  let v93 : BitVec 1 := Scalar.cmpi .ne v87 v92
  let v94 : BitVec 32 := Scalar.remsi v55 c4_i32_34
  let c0_i32_39 : BitVec 32 := 0#32
  let v95 : BitVec 1 := Scalar.cmpi .ne v94 c0_i32_39
  let v96 : BitVec 1 := Scalar.andi v93 v95
  let v82 : BitVec 32 := Scalar.divsi v55 c4_i32_34
  let c1_i32_40 : BitVec 32 := 1#32
  let v97 : BitVec 32 := Scalar.subi v82 c1_i32_40
  let v98 : BitVec 32 := Scalar.select v96 v97 v82
  let v99 : BitVec 32 := Scalar.subi v98 c0_i32_42
  let c1_i32_43 : BitVec 32 := 1#32
  let v101 : BitVec 32 := Scalar.divsi v99 c1_i32_43
  let v102 : BitVec 32 := Scalar.muli v101 c1_i32_43
  let v103 : BitVec 32 := Scalar.addi c0_i32_42 v102
  let c1_i32_45 : BitVec 32 := 1#32
  let arg14 : BitVec 32 := Scf.iv v103 c1_i32_45 k0_t2
  let c4_i32_71 : BitVec 32 := 4#32
  let v141 : BitVec 32 := Scalar.muli arg14 c4_i32_71
  let v142 : BitVec 32 := Scalar.addi v140 v141
  let v143 : BitVec 32 := Scalar.addi v142 c0_i32_72
  let c256_i32 : BitVec 32 := 256#32
  let v144 : BitVec 32 := Scalar.muli v143 c256_i32
  let v145 : BitVec 32 := v144
  let v149 : Index := Scalar.indexCast v145
  let c0_74 : Index := 0#32
  ![v149.toNat, 0]
def k0_off19 (i : grid0.Coords) (k0_t2 : Fin (k0_t2_loop i).trips) (c0_i32_72 : BitVec 32) : Fin 4 → Nat :=
  let arg2 : BitVec 32 := BitVec.ofNat 32 (i 2).val
  let c2_i32 : BitVec 32 := 2#32
  let v54 : BitVec 32 := Scalar.muli arg2 c2_i32
  let c2_i32_64 : BitVec 32 := 2#32
  let v129 : BitVec 32 := Scalar.addi v54 c2_i32_64
  let c6_i32 : BitVec 32 := 6#32
  let v55 : BitVec 32 := Scalar.subi c6_i32 v54
  let c4_i32_65 : BitVec 32 := 4#32
  let c0_i32_66 : BitVec 32 := 0#32
  let v130 : BitVec 1 := Scalar.cmpi .eq c4_i32_65 c0_i32_66
  let c1_i32_67 : BitVec 32 := 1#32
  let v131 : BitVec 32 := Scalar.select v130 c1_i32_67 c4_i32_65
  let v132 : BitVec 32 := Scalar.remsi v55 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let v140 : BitVec 32 := Scalar.addi v129 v139
  let c0_i32_42 : BitVec 32 := 0#32
  let c0_i32_35 : BitVec 32 := 0#32
  let v83 : BitVec 1 := Scalar.cmpi .sgt v55 c0_i32_35
  let v84 : BitVec 32 := Scalar.extui v83
  let c0_i32_36 : BitVec 32 := 0#32
  let v85 : BitVec 1 := Scalar.cmpi .slt v55 c0_i32_36
  let v86 : BitVec 32 := Scalar.extui v85
  let v87 : BitVec 32 := Scalar.subi v84 v86
  let c4_i32_34 : BitVec 32 := 4#32
  let c0_i32_37 : BitVec 32 := 0#32
  let v88 : BitVec 1 := Scalar.cmpi .sgt c4_i32_34 c0_i32_37
  let v89 : BitVec 32 := Scalar.extui v88
  let c0_i32_38 : BitVec 32 := 0#32
  let v90 : BitVec 1 := Scalar.cmpi .slt c4_i32_34 c0_i32_38
  let v91 : BitVec 32 := Scalar.extui v90
  let v92 : BitVec 32 := Scalar.subi v89 v91
  let v93 : BitVec 1 := Scalar.cmpi .ne v87 v92
  let v94 : BitVec 32 := Scalar.remsi v55 c4_i32_34
  let c0_i32_39 : BitVec 32 := 0#32
  let v95 : BitVec 1 := Scalar.cmpi .ne v94 c0_i32_39
  let v96 : BitVec 1 := Scalar.andi v93 v95
  let v82 : BitVec 32 := Scalar.divsi v55 c4_i32_34
  let c1_i32_40 : BitVec 32 := 1#32
  let v97 : BitVec 32 := Scalar.subi v82 c1_i32_40
  let v98 : BitVec 32 := Scalar.select v96 v97 v82
  let v99 : BitVec 32 := Scalar.subi v98 c0_i32_42
  let c1_i32_43 : BitVec 32 := 1#32
  let v101 : BitVec 32 := Scalar.divsi v99 c1_i32_43
  let v102 : BitVec 32 := Scalar.muli v101 c1_i32_43
  let v103 : BitVec 32 := Scalar.addi c0_i32_42 v102
  let c1_i32_45 : BitVec 32 := 1#32
  let arg14 : BitVec 32 := Scf.iv v103 c1_i32_45 k0_t2
  let c4_i32_71 : BitVec 32 := 4#32
  let v141 : BitVec 32 := Scalar.muli arg14 c4_i32_71
  let v142 : BitVec 32 := Scalar.addi v140 v141
  let v143 : BitVec 32 := Scalar.addi v142 c0_i32_72
  let v152 : Index := Scalar.indexCast v143
  let c0_75 : Index := 0#32
  let c0_76 : Index := 0#32
  let c0_77 : Index := 0#32
  ![v152.toNat, 0, 0, 0]
def k0_off20 (i : grid0.Coords) (k0_t2 : Fin (k0_t2_loop i).trips) (c0_i32_72 : BitVec 32) : Fin 3 → Nat :=
  let arg2 : BitVec 32 := BitVec.ofNat 32 (i 2).val
  let c2_i32 : BitVec 32 := 2#32
  let v54 : BitVec 32 := Scalar.muli arg2 c2_i32
  let c2_i32_64 : BitVec 32 := 2#32
  let v129 : BitVec 32 := Scalar.addi v54 c2_i32_64
  let c6_i32 : BitVec 32 := 6#32
  let v55 : BitVec 32 := Scalar.subi c6_i32 v54
  let c4_i32_65 : BitVec 32 := 4#32
  let c0_i32_66 : BitVec 32 := 0#32
  let v130 : BitVec 1 := Scalar.cmpi .eq c4_i32_65 c0_i32_66
  let c1_i32_67 : BitVec 32 := 1#32
  let v131 : BitVec 32 := Scalar.select v130 c1_i32_67 c4_i32_65
  let v132 : BitVec 32 := Scalar.remsi v55 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let v140 : BitVec 32 := Scalar.addi v129 v139
  let c0_i32_42 : BitVec 32 := 0#32
  let c0_i32_35 : BitVec 32 := 0#32
  let v83 : BitVec 1 := Scalar.cmpi .sgt v55 c0_i32_35
  let v84 : BitVec 32 := Scalar.extui v83
  let c0_i32_36 : BitVec 32 := 0#32
  let v85 : BitVec 1 := Scalar.cmpi .slt v55 c0_i32_36
  let v86 : BitVec 32 := Scalar.extui v85
  let v87 : BitVec 32 := Scalar.subi v84 v86
  let c4_i32_34 : BitVec 32 := 4#32
  let c0_i32_37 : BitVec 32 := 0#32
  let v88 : BitVec 1 := Scalar.cmpi .sgt c4_i32_34 c0_i32_37
  let v89 : BitVec 32 := Scalar.extui v88
  let c0_i32_38 : BitVec 32 := 0#32
  let v90 : BitVec 1 := Scalar.cmpi .slt c4_i32_34 c0_i32_38
  let v91 : BitVec 32 := Scalar.extui v90
  let v92 : BitVec 32 := Scalar.subi v89 v91
  let v93 : BitVec 1 := Scalar.cmpi .ne v87 v92
  let v94 : BitVec 32 := Scalar.remsi v55 c4_i32_34
  let c0_i32_39 : BitVec 32 := 0#32
  let v95 : BitVec 1 := Scalar.cmpi .ne v94 c0_i32_39
  let v96 : BitVec 1 := Scalar.andi v93 v95
  let v82 : BitVec 32 := Scalar.divsi v55 c4_i32_34
  let c1_i32_40 : BitVec 32 := 1#32
  let v97 : BitVec 32 := Scalar.subi v82 c1_i32_40
  let v98 : BitVec 32 := Scalar.select v96 v97 v82
  let v99 : BitVec 32 := Scalar.subi v98 c0_i32_42
  let c1_i32_43 : BitVec 32 := 1#32
  let v101 : BitVec 32 := Scalar.divsi v99 c1_i32_43
  let v102 : BitVec 32 := Scalar.muli v101 c1_i32_43
  let v103 : BitVec 32 := Scalar.addi c0_i32_42 v102
  let c1_i32_45 : BitVec 32 := 1#32
  let arg14 : BitVec 32 := Scf.iv v103 c1_i32_45 k0_t2
  let c4_i32_71 : BitVec 32 := 4#32
  let v141 : BitVec 32 := Scalar.muli arg14 c4_i32_71
  let v142 : BitVec 32 := Scalar.addi v140 v141
  let v143 : BitVec 32 := Scalar.addi v142 c0_i32_72
  let v155 : Index := Scalar.indexCast v143
  let c0_78 : Index := 0#32
  let c0_79 : Index := 0#32
  ![v155.toNat, 0, 0]
def k0_mult12 (i : grid0.Coords) (k0_t2 : Fin (k0_t2_loop i).trips) : BitVec 32 :=
  let arg2 : BitVec 32 := BitVec.ofNat 32 (i 2).val
  let c2_i32 : BitVec 32 := 2#32
  let v54 : BitVec 32 := Scalar.muli arg2 c2_i32
  let c2_i32_118 : BitVec 32 := 2#32
  let v226 : BitVec 32 := Scalar.addi v54 c2_i32_118
  let c6_i32 : BitVec 32 := 6#32
  let v55 : BitVec 32 := Scalar.subi c6_i32 v54
  let c4_i32_119 : BitVec 32 := 4#32
  let c0_i32_120 : BitVec 32 := 0#32
  let v227 : BitVec 1 := Scalar.cmpi .eq c4_i32_119 c0_i32_120
  let c1_i32_121 : BitVec 32 := 1#32
  let v228 : BitVec 32 := Scalar.select v227 c1_i32_121 c4_i32_119
  let v229 : BitVec 32 := Scalar.remsi v55 v228
  let c0_i32_123 : BitVec 32 := 0#32
  let v231 : BitVec 1 := Scalar.cmpi .slt v229 c0_i32_123
  let c0_i32_124 : BitVec 32 := 0#32
  let v232 : BitVec 1 := Scalar.cmpi .slt v228 c0_i32_124
  let v233 : BitVec 1 := Scalar.xori v231 v232
  let c0_i32_122 : BitVec 32 := 0#32
  let v230 : BitVec 1 := Scalar.cmpi .ne v229 c0_i32_122
  let v234 : BitVec 1 := Scalar.andi v233 v230
  let v235 : BitVec 32 := Scalar.addi v229 v228
  let v236 : BitVec 32 := Scalar.select v234 v235 v229
  let v237 : BitVec 32 := Scalar.addi v226 v236
  let c0_i32_42 : BitVec 32 := 0#32
  let c0_i32_35 : BitVec 32 := 0#32
  let v83 : BitVec 1 := Scalar.cmpi .sgt v55 c0_i32_35
  let v84 : BitVec 32 := Scalar.extui v83
  let c0_i32_36 : BitVec 32 := 0#32
  let v85 : BitVec 1 := Scalar.cmpi .slt v55 c0_i32_36
  let v86 : BitVec 32 := Scalar.extui v85
  let v87 : BitVec 32 := Scalar.subi v84 v86
  let c4_i32_34 : BitVec 32 := 4#32
  let c0_i32_37 : BitVec 32 := 0#32
  let v88 : BitVec 1 := Scalar.cmpi .sgt c4_i32_34 c0_i32_37
  let v89 : BitVec 32 := Scalar.extui v88
  let c0_i32_38 : BitVec 32 := 0#32
  let v90 : BitVec 1 := Scalar.cmpi .slt c4_i32_34 c0_i32_38
  let v91 : BitVec 32 := Scalar.extui v90
  let v92 : BitVec 32 := Scalar.subi v89 v91
  let v93 : BitVec 1 := Scalar.cmpi .ne v87 v92
  let v94 : BitVec 32 := Scalar.remsi v55 c4_i32_34
  let c0_i32_39 : BitVec 32 := 0#32
  let v95 : BitVec 1 := Scalar.cmpi .ne v94 c0_i32_39
  let v96 : BitVec 1 := Scalar.andi v93 v95
  let v82 : BitVec 32 := Scalar.divsi v55 c4_i32_34
  let c1_i32_40 : BitVec 32 := 1#32
  let v97 : BitVec 32 := Scalar.subi v82 c1_i32_40
  let v98 : BitVec 32 := Scalar.select v96 v97 v82
  let v99 : BitVec 32 := Scalar.subi v98 c0_i32_42
  let c1_i32_43 : BitVec 32 := 1#32
  let v101 : BitVec 32 := Scalar.divsi v99 c1_i32_43
  let v102 : BitVec 32 := Scalar.muli v101 c1_i32_43
  let v103 : BitVec 32 := Scalar.addi c0_i32_42 v102
  let c1_i32_45 : BitVec 32 := 1#32
  let arg14 : BitVec 32 := Scf.iv v103 c1_i32_45 k0_t2
  let c4_i32_125 : BitVec 32 := 4#32
  let v238 : BitVec 32 := Scalar.muli arg14 c4_i32_125
  let v239 : BitVec 32 := Scalar.addi v237 v238
  let c1_i32_126 : BitVec 32 := 1#32
  let v240 : BitVec 32 := Scalar.addi v239 c1_i32_126
  let c256_i32_127 : BitVec 32 := 256#32
  let v241 : BitVec 32 := Scalar.muli v240 c256_i32_127
  v241
def k0_mult13 (i : grid0.Coords) (k0_t2 : Fin (k0_t2_loop i).trips) : BitVec 32 :=
  let arg2 : BitVec 32 := BitVec.ofNat 32 (i 2).val
  let c2_i32 : BitVec 32 := 2#32
  let v54 : BitVec 32 := Scalar.muli arg2 c2_i32
  let c2_i32_173 : BitVec 32 := 2#32
  let v323 : BitVec 32 := Scalar.addi v54 c2_i32_173
  let c6_i32 : BitVec 32 := 6#32
  let v55 : BitVec 32 := Scalar.subi c6_i32 v54
  let c4_i32_174 : BitVec 32 := 4#32
  let c0_i32_175 : BitVec 32 := 0#32
  let v324 : BitVec 1 := Scalar.cmpi .eq c4_i32_174 c0_i32_175
  let c1_i32_176 : BitVec 32 := 1#32
  let v325 : BitVec 32 := Scalar.select v324 c1_i32_176 c4_i32_174
  let v326 : BitVec 32 := Scalar.remsi v55 v325
  let c0_i32_178 : BitVec 32 := 0#32
  let v328 : BitVec 1 := Scalar.cmpi .slt v326 c0_i32_178
  let c0_i32_179 : BitVec 32 := 0#32
  let v329 : BitVec 1 := Scalar.cmpi .slt v325 c0_i32_179
  let v330 : BitVec 1 := Scalar.xori v328 v329
  let c0_i32_177 : BitVec 32 := 0#32
  let v327 : BitVec 1 := Scalar.cmpi .ne v326 c0_i32_177
  let v331 : BitVec 1 := Scalar.andi v330 v327
  let v332 : BitVec 32 := Scalar.addi v326 v325
  let v333 : BitVec 32 := Scalar.select v331 v332 v326
  let v334 : BitVec 32 := Scalar.addi v323 v333
  let c0_i32_42 : BitVec 32 := 0#32
  let c0_i32_35 : BitVec 32 := 0#32
  let v83 : BitVec 1 := Scalar.cmpi .sgt v55 c0_i32_35
  let v84 : BitVec 32 := Scalar.extui v83
  let c0_i32_36 : BitVec 32 := 0#32
  let v85 : BitVec 1 := Scalar.cmpi .slt v55 c0_i32_36
  let v86 : BitVec 32 := Scalar.extui v85
  let v87 : BitVec 32 := Scalar.subi v84 v86
  let c4_i32_34 : BitVec 32 := 4#32
  let c0_i32_37 : BitVec 32 := 0#32
  let v88 : BitVec 1 := Scalar.cmpi .sgt c4_i32_34 c0_i32_37
  let v89 : BitVec 32 := Scalar.extui v88
  let c0_i32_38 : BitVec 32 := 0#32
  let v90 : BitVec 1 := Scalar.cmpi .slt c4_i32_34 c0_i32_38
  let v91 : BitVec 32 := Scalar.extui v90
  let v92 : BitVec 32 := Scalar.subi v89 v91
  let v93 : BitVec 1 := Scalar.cmpi .ne v87 v92
  let v94 : BitVec 32 := Scalar.remsi v55 c4_i32_34
  let c0_i32_39 : BitVec 32 := 0#32
  let v95 : BitVec 1 := Scalar.cmpi .ne v94 c0_i32_39
  let v96 : BitVec 1 := Scalar.andi v93 v95
  let v82 : BitVec 32 := Scalar.divsi v55 c4_i32_34
  let c1_i32_40 : BitVec 32 := 1#32
  let v97 : BitVec 32 := Scalar.subi v82 c1_i32_40
  let v98 : BitVec 32 := Scalar.select v96 v97 v82
  let v99 : BitVec 32 := Scalar.subi v98 c0_i32_42
  let c1_i32_43 : BitVec 32 := 1#32
  let v101 : BitVec 32 := Scalar.divsi v99 c1_i32_43
  let v102 : BitVec 32 := Scalar.muli v101 c1_i32_43
  let v103 : BitVec 32 := Scalar.addi c0_i32_42 v102
  let c1_i32_45 : BitVec 32 := 1#32
  let arg14 : BitVec 32 := Scf.iv v103 c1_i32_45 k0_t2
  let c4_i32_180 : BitVec 32 := 4#32
  let v335 : BitVec 32 := Scalar.muli arg14 c4_i32_180
  let v336 : BitVec 32 := Scalar.addi v334 v335
  let c2_i32_181 : BitVec 32 := 2#32
  let v337 : BitVec 32 := Scalar.addi v336 c2_i32_181
  let c256_i32_182 : BitVec 32 := 256#32
  let v338 : BitVec 32 := Scalar.muli v337 c256_i32_182
  v338
def k0_mult14 (i : grid0.Coords) (k0_t2 : Fin (k0_t2_loop i).trips) : BitVec 32 :=
  let arg2 : BitVec 32 := BitVec.ofNat 32 (i 2).val
  let c2_i32 : BitVec 32 := 2#32
  let v54 : BitVec 32 := Scalar.muli arg2 c2_i32
  let c2_i32_228 : BitVec 32 := 2#32
  let v420 : BitVec 32 := Scalar.addi v54 c2_i32_228
  let c6_i32 : BitVec 32 := 6#32
  let v55 : BitVec 32 := Scalar.subi c6_i32 v54
  let c4_i32_229 : BitVec 32 := 4#32
  let c0_i32_230 : BitVec 32 := 0#32
  let v421 : BitVec 1 := Scalar.cmpi .eq c4_i32_229 c0_i32_230
  let c1_i32_231 : BitVec 32 := 1#32
  let v422 : BitVec 32 := Scalar.select v421 c1_i32_231 c4_i32_229
  let v423 : BitVec 32 := Scalar.remsi v55 v422
  let c0_i32_233 : BitVec 32 := 0#32
  let v425 : BitVec 1 := Scalar.cmpi .slt v423 c0_i32_233
  let c0_i32_234 : BitVec 32 := 0#32
  let v426 : BitVec 1 := Scalar.cmpi .slt v422 c0_i32_234
  let v427 : BitVec 1 := Scalar.xori v425 v426
  let c0_i32_232 : BitVec 32 := 0#32
  let v424 : BitVec 1 := Scalar.cmpi .ne v423 c0_i32_232
  let v428 : BitVec 1 := Scalar.andi v427 v424
  let v429 : BitVec 32 := Scalar.addi v423 v422
  let v430 : BitVec 32 := Scalar.select v428 v429 v423
  let v431 : BitVec 32 := Scalar.addi v420 v430
  let c0_i32_42 : BitVec 32 := 0#32
  let c0_i32_35 : BitVec 32 := 0#32
  let v83 : BitVec 1 := Scalar.cmpi .sgt v55 c0_i32_35
  let v84 : BitVec 32 := Scalar.extui v83
  let c0_i32_36 : BitVec 32 := 0#32
  let v85 : BitVec 1 := Scalar.cmpi .slt v55 c0_i32_36
  let v86 : BitVec 32 := Scalar.extui v85
  let v87 : BitVec 32 := Scalar.subi v84 v86
  let c4_i32_34 : BitVec 32 := 4#32
  let c0_i32_37 : BitVec 32 := 0#32
  let v88 : BitVec 1 := Scalar.cmpi .sgt c4_i32_34 c0_i32_37
  let v89 : BitVec 32 := Scalar.extui v88
  let c0_i32_38 : BitVec 32 := 0#32
  let v90 : BitVec 1 := Scalar.cmpi .slt c4_i32_34 c0_i32_38
  let v91 : BitVec 32 := Scalar.extui v90
  let v92 : BitVec 32 := Scalar.subi v89 v91
  let v93 : BitVec 1 := Scalar.cmpi .ne v87 v92
  let v94 : BitVec 32 := Scalar.remsi v55 c4_i32_34
  let c0_i32_39 : BitVec 32 := 0#32
  let v95 : BitVec 1 := Scalar.cmpi .ne v94 c0_i32_39
  let v96 : BitVec 1 := Scalar.andi v93 v95
  let v82 : BitVec 32 := Scalar.divsi v55 c4_i32_34
  let c1_i32_40 : BitVec 32 := 1#32
  let v97 : BitVec 32 := Scalar.subi v82 c1_i32_40
  let v98 : BitVec 32 := Scalar.select v96 v97 v82
  let v99 : BitVec 32 := Scalar.subi v98 c0_i32_42
  let c1_i32_43 : BitVec 32 := 1#32
  let v101 : BitVec 32 := Scalar.divsi v99 c1_i32_43
  let v102 : BitVec 32 := Scalar.muli v101 c1_i32_43
  let v103 : BitVec 32 := Scalar.addi c0_i32_42 v102
  let c1_i32_45 : BitVec 32 := 1#32
  let arg14 : BitVec 32 := Scf.iv v103 c1_i32_45 k0_t2
  let c4_i32_235 : BitVec 32 := 4#32
  let v432 : BitVec 32 := Scalar.muli arg14 c4_i32_235
  let v433 : BitVec 32 := Scalar.addi v431 v432
  let c3_i32_236 : BitVec 32 := 3#32
  let v434 : BitVec 32 := Scalar.addi v433 c3_i32_236
  let c256_i32_237 : BitVec 32 := 256#32
  let v435 : BitVec 32 := Scalar.muli v434 c256_i32_237
  v435
def k0_cond4 (i : grid0.Coords) : BitVec 1 :=
  let arg2 : BitVec 32 := BitVec.ofNat 32 (i 2).val
  let c3_i32 : BitVec 32 := 3#32
  let v126 : BitVec 1 := Scalar.cmpi .eq arg2 c3_i32
  let v127 : BitVec 32 := Scalar.extui v126
  let c0_i32_63 : BitVec 32 := 0#32
  let v128 : BitVec 1 := Scalar.cmpi .ne v127 c0_i32_63
  v128

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== Kernel2.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1x4096x1024 : Shape := ⟨3, ![1, 4096, 1024]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 13
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x1024, .bf16⟩
  | .hbm, ⟨12, _⟩ => ⟨S1x4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1x4096x1024 : Shape := ⟨3, ![1, 4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S1x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S1x4096x1024 : Shape := ⟨3, ![1, 4096, 1024]⟩
abbrev S1024x1024 : Shape := ⟨2, ![1024, 1024]⟩
abbrev S1x1024x1024 : Shape := ⟨3, ![1, 1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x1024, .bf16⟩
  | .hbm, ⟨6, _⟩ => ⟨S4096x1024, .bf16⟩
  | .hbm, ⟨7, _⟩ => ⟨S1x4096x1024, .bf16⟩
  | .hbm, ⟨8, _⟩ => ⟨S4096x4096, .bf16⟩
  | .hbm, ⟨9, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel4.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1x4x1024x1024 : Shape := ⟨4, ![1, 4, 1024, 1024]⟩
abbrev S1024x2048 : Shape := ⟨2, ![1024, 2048]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 18
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S1024x4096, .f32⟩
  | .hbm, ⟨15, _⟩ => ⟨S1024x4096, .bf16⟩
  | .hbm, ⟨16, _⟩ => ⟨S4096x4096, .bf16⟩
  | .hbm, ⟨17, _⟩ => ⟨S1x4x1024x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .f32⟩
  | .local _ .vmem, ⟨5, _⟩ => ⟨S1x1x1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x1024, .f32⟩
  | .hbm, ⟨23, _⟩ => ⟨S1024x4096, .f32⟩
  | .hbm, ⟨24, _⟩ => ⟨S1024x4x1024, .f32⟩
  | .hbm, ⟨25, _⟩ => ⟨S4x1024x1024, .f32⟩
  | .hbm, ⟨26, _⟩ => ⟨S1x4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel5.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 20
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .bf16⟩
  | .hbm, ⟨15, _⟩ => ⟨S1024x4x1024, .f32⟩
  | .hbm, ⟨16, _⟩ => ⟨S4x1024x1024, .f32⟩
  | .hbm, ⟨17, _⟩ => ⟨S1x4x1024x1024, .f32⟩
  | .hbm, ⟨18, _⟩ => ⟨S1x4x1024x1024, .bf16⟩
  | .hbm, ⟨19, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩
abbrev S4096x4096 : Shape := ⟨2, ![4096, 4096]⟩
abbrev S1024x1024 : Shape := ⟨2, ![1024, 1024]⟩
abbrev S1x1x1024x1024 : Shape := ⟨4, ![1, 1, 1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4x1024, .f32⟩
  | .hbm, ⟨4, _⟩ => ⟨S4x1024x1024, .f32⟩
  | .hbm, ⟨5, _⟩ => ⟨S1x4x1024x1024, .f32⟩
  | .hbm, ⟨6, _⟩ => ⟨S1x4x1024x1024, .bf16⟩
  | .hbm, ⟨7, _⟩ => ⟨S4096x4096, .bf16⟩
  | .hbm, ⟨8, _⟩ => ⟨S4096x4096, .bf16⟩
  | .hbm, ⟨9, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference6Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .hbm, ⟨9, _⟩ => ⟨S4096x4096, .f32⟩
  | .hbm, ⟨10, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S4096x1024 : Shape := ⟨2, ![4096, 1024]⟩
abbrev S1024x4096 : Shape := ⟨2, ![1024, 4096]⟩
abbrev S2x1024 : Shape := ⟨2, ![2, 1024]⟩
abbrev S1024 : Shape := ⟨1, ![1024]⟩
abbrev S4096x4096 : Shape := ⟨2, ![4096, 4096]⟩
abbrev S_ : Shape := ⟨0, ![]⟩
abbrev S1x1x1024 : Shape := ⟨3, ![1, 1, 1024]⟩
abbrev S2x1x1024 : Shape := ⟨3, ![2, 1, 1024]⟩
abbrev S1x4096x1024 : Shape := ⟨3, ![1, 4096, 1024]⟩
abbrev S512x4096 : Shape := ⟨2, ![512, 4096]⟩
abbrev S512x1024 : Shape := ⟨2, ![512, 1024]⟩
abbrev S1024x512 : Shape := ⟨2, ![1024, 512]⟩
abbrev S1x1024 : Shape := ⟨2, ![1, 1024]⟩
abbrev S512 : Shape := ⟨1, ![512]⟩
abbrev S512x1 : Shape := ⟨2, ![512, 1]⟩

abbrev nBuf : Space → Nat
  | .hbm => 25
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S1024, .f32⟩
  | .hbm, ⟨6, _⟩ => ⟨S2x1024, .f32⟩
  | .hbm, ⟨7, _⟩ => ⟨S2x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S1x1x1024, .f32⟩
  | .hbm, ⟨13, _⟩ => ⟨S2x1x1024, .f32⟩
  | .hbm, ⟨14, _⟩ => ⟨S4096x4096, .f32⟩
  | .hbm, ⟨15, _⟩ => ⟨S4096x4096, .bf16⟩
  | .hbm, ⟨16, _⟩ => ⟨S4096x1024, .bf16⟩
  | .hbm, ⟨17, _⟩ => ⟨S1x4096x1024, .bf16⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S4096x1024, .f32⟩
  | .hbm, ⟨22, _⟩ => ⟨S4096x1024, .bf16⟩
  | .hbm, ⟨23, _⟩ => ⟨S4096x1024, .bf16⟩
  | .hbm, ⟨24, _⟩ => ⟨S1024x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x512, .bf16⟩
  | .local _ .vmem, ⟨20, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference7Ideal.lean ====
abbrev S4096x1024 : Shape := ⟨2, ![4096, 1024]⟩
abbrev S1024x4096 : Shape := ⟨2, ![1024, 4096]⟩
abbrev S2x1024 : Shape := ⟨2, ![2, 1024]⟩
abbrev S1024 : Shape := ⟨1, ![1024]⟩
abbrev S4096x4096 : Shape := ⟨2, ![4096, 4096]⟩
abbrev S_ : Shape := ⟨0, ![]⟩
abbrev S2x2048x1024 : Shape := ⟨3, ![2, 2048, 1024]⟩
abbrev S2x1x1024 : Shape := ⟨3, ![2, 1, 1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S1024, .f32⟩
  | .hbm, ⟨6, _⟩ => ⟨S2x1024, .f32⟩
  | .hbm, ⟨7, _⟩ => ⟨S2x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S2x2048x1024, .f32⟩
  | .hbm, ⟨15, _⟩ => ⟨S2x1x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S2x2048x1024, .f32⟩
  | .hbm, ⟨32, _⟩ => ⟨S2x2048x1024, .f32⟩
  | .hbm, ⟨33, _⟩ => ⟨S1x1x1024, .f32⟩
  | .hbm, ⟨34, _⟩ => ⟨S2x2048x1024, .f32⟩
  | .hbm, ⟨35, _⟩ => ⟨S2x2048x1024, .f32⟩
  | .hbm, ⟨36, _⟩ => ⟨S2x1x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x2048x1024, .f32⟩
  | .hbm, ⟨41, _⟩ => ⟨S2x2048x1024, .f32⟩
  | .hbm, ⟨42, _⟩ => ⟨S2x1x1024, .f32⟩
  | .hbm, ⟨43, _⟩ => ⟨S2x2048x1024, .f32⟩
  | .hbm, ⟨44, _⟩ => ⟨S2x2048x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x1024, .bf16⟩
  | .hbm, ⟨49, _⟩ => ⟨S1024x4096, .f32⟩
  | .hbm, ⟨50, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1024x4096 : Shape := ⟨2, ![1024, 4096]⟩
abbrev S1x1024x1024 : Shape := ⟨3, ![1, 1024, 1024]⟩
abbrev S1024x2048 : Shape := ⟨2, ![1024, 2048]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x4096, .f32⟩
  | .hbm, ⟨4, _⟩ => ⟨S1024x4096, .bf16⟩
  | .hbm, ⟨5, _⟩ => ⟨S4096x1024, .bf16⟩
  | .hbm, ⟨6, _⟩ => ⟨S1x1024x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S1x1024x1024, .bf16⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S1024x3088 : Shape := ⟨2, ![1024, 3088]⟩
abbrev S4096x3088 : Shape := ⟨2, ![4096, 3088]⟩
abbrev S1024x4096 : Shape := ⟨2, ![1024, 4096]⟩
abbrev S_ : Shape := ⟨0, ![]⟩
abbrev S4096x3200 : Shape := ⟨2, ![4096, 3200]⟩
abbrev S1024x3200 : Shape := ⟨2, ![1024, 3200]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x3088, .f32⟩
  | .hbm, ⟨3, _⟩ => ⟨S1024x4096, .f32⟩
  | .hbm, ⟨4, _⟩ => ⟨S1024x4096, .bf16⟩
  | .hbm, ⟨5, _⟩ => ⟨S_, .i32⟩
  | .hbm, ⟨6, _⟩ => ⟨S_, .f32⟩
  | .hbm, ⟨7, _⟩ => ⟨S4096x3200, .f32⟩
  | .hbm, ⟨8, _⟩ => ⟨S4096x3200, .bf16⟩
  | .hbm, ⟨9, _⟩ => ⟨S1024x3200, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x3088 : Shape := ⟨2, ![1024, 3088]⟩
abbrev S4096x3088 : Shape := ⟨2, ![4096, 3088]⟩
abbrev S3088x1024 : Shape := ⟨2, ![3088, 1024]⟩
abbrev S_ : Shape := ⟨0, ![]⟩
abbrev S1024x3200 : Shape := ⟨2, ![1024, 3200]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x3088, .f32⟩
  | .hbm, ⟨3, _⟩ => ⟨S4096x3088, .f32⟩
  | .hbm, ⟨4, _⟩ => ⟨S3088x1024, .f32⟩
  | .hbm, ⟨5, _⟩ => ⟨S1024x3088, .f32⟩
  | .hbm, ⟨6, _⟩ => ⟨S_, .i32⟩
  | .hbm, ⟨7, _⟩ => ⟨S_, .f32⟩
  | .hbm, ⟨8, _⟩ => ⟨S1024x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S1024x3088 : Shape := ⟨2, ![1024, 3088]⟩
abbrev S4096x3088 : Shape := ⟨2, ![4096, 3088]⟩
abbrev S_ : Shape := ⟨0, ![]⟩
abbrev S4096x3200 : Shape := ⟨2, ![4096, 3200]⟩
abbrev S1024x3200 : Shape := ⟨2, ![1024, 3200]⟩
abbrev S1x1024x3200 : Shape := ⟨3, ![1, 1024, 3200]⟩
abbrev S1x512x3200 : Shape := ⟨3, ![1, 512, 3200]⟩
abbrev S1024x512 : Shape := ⟨2, ![1024, 512]⟩
abbrev S512x3200 : Shape := ⟨2, ![512, 3200]⟩

abbrev nBuf : Space → Nat
  | .hbm => 13
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x3088, .f32⟩
  | .hbm, ⟨3, _⟩ => ⟨S_, .i32⟩
  | .hbm, ⟨4, _⟩ => ⟨S_, .f32⟩
  | .hbm, ⟨5, _⟩ => ⟨S4096x3200, .f32⟩
  | .hbm, ⟨6, _⟩ => ⟨S4096x3200, .bf16⟩
  | .hbm, ⟨7, _⟩ => ⟨S_, .i32⟩
  | .hbm, ⟨8, _⟩ => ⟨S_, .f32⟩
  | .hbm, ⟨9, _⟩ => ⟨S1024x3200, .f32⟩
  | .hbm, ⟨10, _⟩ => ⟨S1024x3200, .bf16⟩
  | .hbm, ⟨11, _⟩ => ⟨S1x1024x3200, .bf16⟩
  | .hbm, ⟨12, _⟩ => ⟨S4096x1024, .bf16⟩
  | .local _ .vmem, ⟨0, _⟩ => ⟨S1024x3200, .bf16⟩
  | .local _ .vmem, ⟨1, _⟩ => ⟨S1024x3200, .bf16⟩
  | .local _ .vmem, ⟨2, _⟩ => ⟨S1x512x3200, .bf16⟩
  | .local _ .vmem, ⟨3, _⟩ => ⟨S1x512x3200, .bf16⟩
  | .local _ .vmem, ⟨4, _⟩ => ⟨S1024x512, .bf16⟩
  | .local _ .vmem, ⟨5, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x3088 : Shape := ⟨2, ![1024, 3088]⟩
abbrev S4096x3088 : Shape := ⟨2, ![4096, 3088]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x3088, .f32⟩
  | .hbm, ⟨3, _⟩ => ⟨S4096x3088, .f32⟩
  | .hbm, ⟨4, _⟩ => ⟨S4096x1024, .f32⟩
  | .hbm, ⟨5, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S1024x3088 : Shape := ⟨2, ![1024, 3088]⟩
abbrev S1024x3072 : Shape := ⟨2, ![1024, 3072]⟩
abbrev S1x1024x3072 : Shape := ⟨3, ![1, 1024, 3072]⟩
abbrev S4096x3072 : Shape := ⟨2, ![4096, 3072]⟩
abbrev S1024x1024 : Shape := ⟨2, ![1024, 1024]⟩
abbrev S1x1024x1024 : Shape := ⟨3, ![1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x1024, .bf16⟩
  | .hbm, ⟨3, _⟩ => ⟨S1024x3072, .f32⟩
  | .hbm, ⟨4, _⟩ => ⟨S1x1024x3072, .f32⟩
  | .hbm, ⟨5, _⟩ => ⟨S1x1024x3072, .bf16⟩
  | .hbm, ⟨6, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x3088 : Shape := ⟨2, ![1024, 3088]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S1024x3072, .f32⟩
  | .hbm, ⟨3, _⟩ => ⟨S4096x3072, .f32⟩
  | .hbm, ⟨4, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4x1024x1536 : Shape := ⟨3, ![4, 1024, 1536]⟩
abbrev S4096x1536 : Shape := ⟨2, ![4096, 1536]⟩
abbrev S128x1536 : Shape := ⟨2, ![128, 1536]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4x1024x1536 : Shape := ⟨3, ![4, 1024, 1536]⟩
abbrev S_ : Shape := ⟨0, ![]⟩
abbrev S4096x1536 : Shape := ⟨2, ![4096, 1536]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | .hbm, ⟨37, _⟩ => ⟨S4096x1536, .f32⟩
  | .hbm, ⟨38, _⟩ => ⟨S4096x1536, .f32⟩
  | .hbm, ⟨39, _⟩ => ⟨S4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S2x1024 : Shape := ⟨2, ![2, 1024]⟩
abbrev S1024 : Shape := ⟨1, ![1024]⟩
abbrev S1x1x1024 : Shape := ⟨3, ![1, 1, 1024]⟩
abbrev S2x1x1024 : Shape := ⟨3, ![2, 1, 1024]⟩
abbrev S1x1024x1024 : Shape := ⟨3, ![1, 1024, 1024]⟩
abbrev S1024x4096 : Shape := ⟨2, ![1024, 4096]⟩
abbrev S512x1024 : Shape := ⟨2, ![512, 1024]⟩
abbrev S1024x512 : Shape := ⟨2, ![1024, 512]⟩
abbrev S1x1024 : Shape := ⟨2, ![1, 1024]⟩
abbrev S512 : Shape := ⟨1, ![512]⟩
abbrev S512x1 : Shape := ⟨2, ![512, 1]⟩

abbrev nBuf : Space → Nat
  | .hbm => 19
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S1x1x1024, .f32⟩
  | .hbm, ⟨8, _⟩ => ⟨S2x1x1024, .f32⟩
  | .hbm, ⟨9, _⟩ => ⟨S4096x1024, .bf16⟩
  | .hbm, ⟨10, _⟩ => ⟨S1024x1024, .bf16⟩
  | .hbm, ⟨11, _⟩ => ⟨S1x1024x1024, .bf16⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S4096x1024, .f32⟩
  | .hbm, ⟨16, _⟩ => ⟨S4096x1024, .bf16⟩
  | .hbm, ⟨17, _⟩ => ⟨S4096x1024, .bf16⟩
  | .hbm, ⟨18, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x512, .bf16⟩
  | .local _ .vmem, ⟨20, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference15Ideal.lean ====
abbrev S4096x1024 : Shape := ⟨2, ![4096, 1024]⟩
abbrev S1024x1024 : Shape := ⟨2, ![1024, 1024]⟩
abbrev S2x1024 : Shape := ⟨2, ![2, 1024]⟩
abbrev S1024 : Shape := ⟨1, ![1024]⟩
abbrev S2x2048x1024 : Shape := ⟨3, ![2, 2048, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S4096x1024, .f32⟩
  | .hbm, ⟨8, _⟩ => ⟨S2x2048x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x2048x1024, .f32⟩
  | .hbm, ⟨35, _⟩ => ⟨S2x2048x1024, .f32⟩
  | .hbm, ⟨36, _⟩ => ⟨S2x1x1024, .f32⟩
  | .hbm, ⟨37, _⟩ => ⟨S2x2048x1024, .f32⟩
  | .hbm, ⟨38, _⟩ => ⟨S2x2048x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x1024, .bf16⟩
  | .hbm, ⟨43, _⟩ => ⟨S1024x4096, .f32⟩
  | .hbm, ⟨44, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel16.lean ====
abbrev S4096x1024 : Shape := ⟨2, ![4096, 1024]⟩
abbrev S1024x4096 : Shape := ⟨2, ![1024, 4096]⟩
abbrev S2x1024 : Shape := ⟨2, ![2, 1024]⟩
abbrev S4096x4096 : Shape := ⟨2, ![4096, 4096]⟩
abbrev S_ : Shape := ⟨0, ![]⟩
abbrev S1x4096x1024 : Shape := ⟨3, ![1, 4096, 1024]⟩
abbrev S2x1x1024 : Shape := ⟨3, ![2, 1, 1024]⟩
abbrev S1024x2048 : Shape := ⟨2, ![1024, 2048]⟩
abbrev S1x2048x512 : Shape := ⟨3, ![1, 2048, 512]⟩
abbrev S1024x512 : Shape := ⟨2, ![1024, 512]⟩
abbrev S1x1x512 : Shape := ⟨3, ![1, 1, 512]⟩
abbrev S2048x512 : Shape := ⟨2, ![2048, 512]⟩
abbrev S1x512 : Shape := ⟨2, ![1, 512]⟩

abbrev nBuf : Space → Nat
  | .hbm => 16
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x1024, .bf16⟩
  | .hbm, ⟨12, _⟩ => ⟨S1x4096x1024, .bf16⟩
  | .hbm, ⟨13, _⟩ => ⟨S2x1x1024, .f32⟩
  | .hbm, ⟨14, _⟩ => ⟨S4096x1024, .f32⟩
  | .hbm, ⟨15, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference16Ideal.lean ====
abbrev S4096x1024 : Shape := ⟨2, ![4096, 1024]⟩
abbrev S1024x4096 : Shape := ⟨2, ![1024, 4096]⟩
abbrev S2x1024 : Shape := ⟨2, ![2, 1024]⟩
abbrev S4096x4096 : Shape := ⟨2, ![4096, 4096]⟩
abbrev S_ : Shape := ⟨0, ![]⟩
abbrev S2x2048x1024 : Shape := ⟨3, ![2, 2048, 1024]⟩
abbrev S2x1x1024 : Shape := ⟨3, ![2, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S2x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S2x2048x1024, .f32⟩
  | .hbm, ⟨12, _⟩ => ⟨S2x1x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel17.lean ====
abbrev S4x1536 : Shape := ⟨2, ![4, 1536]⟩

abbrev nBuf : Space → Nat
  | .hbm => 7
  | .vmem => 7
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S4x1536, .f32⟩
  | .hbm, ⟨5, _⟩ => ⟨S4x1536, .f32⟩
  | .hbm, ⟨6, _⟩ => ⟨S4x1536, .f32⟩
  | .local _ .vmem, ⟨0, _⟩ => ⟨S4x1536, .f32⟩
  | .local _ .vmem, ⟨1, _⟩ => ⟨S4x1536, .f32⟩
  | .local _ .vmem, ⟨2, _⟩ => ⟨S4x1536, .f32⟩
  | .local _ .vmem, ⟨3, _⟩ => ⟨S4x1536, .f32⟩
  | .local _ .vmem, ⟨4, _⟩ => ⟨S4x1536, .f32⟩
  | .local _ .vmem, ⟨5, _⟩ => ⟨S4x1536, .f32⟩
  | .local _ .vmem, ⟨6, _⟩ => ⟨S4x1536, .f32⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S4x1536 : Shape := ⟨2, ![4, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S_, .f32⟩
  | .hbm, ⟨5, _⟩ => ⟨S4x1536, .f32⟩
  | .hbm, ⟨6, _⟩ => ⟨S4x1536, .f32⟩
  | .hbm, ⟨7, _⟩ => ⟨S_, .f32⟩
  | .hbm, ⟨8, _⟩ => ⟨S4x1536, .f32⟩
  | .hbm, ⟨9, _⟩ => ⟨S4x1536, .f32⟩
  | .hbm, ⟨10, _⟩ => ⟨S4x1536, .f32⟩
  | .hbm, ⟨11, _⟩ => ⟨S_, .f32⟩
  | .hbm, ⟨12, _⟩ => ⟨S4x1536, .f32⟩
  | .hbm, ⟨13, _⟩ => ⟨S4x1536, .f32⟩
  | .hbm, ⟨14, _⟩ => ⟨S4x1536, .f32⟩
  | .hbm, ⟨15, _⟩ => ⟨S_, .f32⟩
  | .hbm, ⟨16, _⟩ => ⟨S4x1536, .f32⟩
  | .hbm, ⟨17, _⟩ => ⟨S4x1536, .f32⟩
  | .hbm, ⟨18, _⟩ => ⟨S4x1536, .f32⟩
  | .hbm, ⟨19, _⟩ => ⟨S_, .f32⟩
  | .hbm, ⟨20, _⟩ => ⟨S4x1536, .f32⟩
  | .hbm, ⟨21, _⟩ => ⟨S4x1536, .f32⟩
  | .hbm, ⟨22, _⟩ => ⟨S_, .f32⟩
  | .hbm, ⟨23, _⟩ => ⟨S4x1536, .f32⟩
  | .hbm, ⟨24, _⟩ => ⟨S4x1536, .f32⟩
  | .hbm, ⟨25, _⟩ => ⟨S4x1536, .f32⟩
  | .hbm, ⟨26, _⟩ => ⟨S_, .f32⟩
  | .hbm, ⟨27, _⟩ => ⟨S4x1536, .f32⟩
  | .hbm, ⟨28, _⟩ => ⟨S4x1536, .f32⟩
  | .hbm, ⟨29, _⟩ => ⟨S4x1536, .f32⟩
  | .hbm, ⟨30, _⟩ => ⟨S_, .f32⟩
  | .hbm, ⟨31, _⟩ => ⟨S4x1536, .f32⟩
  | .hbm, ⟨32, _⟩ => ⟨S4x1536, .f32⟩
  | .hbm, ⟨33, _⟩ => ⟨S4x1536, .f32⟩
  | .hbm, ⟨34, _⟩ => ⟨S_, .f32⟩
  | .hbm, ⟨35, _⟩ => ⟨S4x1536, .f32⟩
  | .hbm, ⟨36, _⟩ => ⟨S4x1536, .f32⟩
  | _, _ => ⟨S4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x256x256 : Shape := ⟨3, ![2, 256, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S2x256x256 : Shape := ⟨3, ![2, 256, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S2x256x384 : Shape := ⟨3, ![2, 256, 384]⟩
abbrev S512x384 : Shape := ⟨2, ![512, 384]⟩

abbrev nBuf : Space → Nat
  | .hbm => 11
  | .vmem => 7
  | .smem => 0
  | _ => 0

abbrev bufTy : (tb : Table) → Fin (tcTables nBuf tb) → BufTy
  | .hbm, ⟨0, _⟩ => ⟨S2x256x384, .f32⟩
  | .hbm, ⟨1, _⟩ => ⟨S2x256x384, .f32⟩
  | .hbm, ⟨2, _⟩ => ⟨S2x256x384, .f32⟩
  | .hbm, ⟨3, _⟩ => ⟨S2x256x384, .f32⟩
  | .hbm, ⟨4, _⟩ => ⟨S512x384, .f32⟩
  | .hbm, ⟨5, _⟩ => ⟨S512x384, .f32⟩
  | .hbm, ⟨6, _⟩ => ⟨S512x384, .f32⟩
  | .hbm, ⟨7, _⟩ => ⟨S512x384, .f32⟩
  | .hbm, ⟨8, _⟩ => ⟨S512x384, .f32⟩
  | .hbm, ⟨9, _⟩ => ⟨S512x384, .f32⟩
  | .hbm, ⟨10, _⟩ => ⟨S512x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | _, _ => ⟨S2x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S2x256x384 : Shape := ⟨3, ![2, 256, 384]⟩
abbrev S_ : Shape := ⟨0, ![]⟩
abbrev S512x384 : Shape := ⟨2, ![512, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x256x384, .f32⟩
  | .hbm, ⟨1, _⟩ => ⟨S2x256x384, .f32⟩
  | .hbm, ⟨2, _⟩ => ⟨S2x256x384, .f32⟩
  | .hbm, ⟨3, _⟩ => ⟨S2x256x384, .f32⟩
  | .hbm, ⟨4, _⟩ => ⟨S_, .f32⟩
  | .hbm, ⟨5, _⟩ => ⟨S2x256x384, .f32⟩
  | .hbm, ⟨6, _⟩ => ⟨S2x256x384, .f32⟩
  | .hbm, ⟨7, _⟩ => ⟨S_, .f32⟩
  | .hbm, ⟨8, _⟩ => ⟨S2x256x384, .f32⟩
  | .hbm, ⟨9, _⟩ => ⟨S2x256x384, .f32⟩
  | .hbm, ⟨10, _⟩ => ⟨S2x256x384, .f32⟩
  | .hbm, ⟨11, _⟩ => ⟨S_, .f32⟩
  | .hbm, ⟨12, _⟩ => ⟨S2x256x384, .f32⟩
  | .hbm, ⟨13, _⟩ => ⟨S2x256x384, .f32⟩
  | .hbm, ⟨14, _⟩ => ⟨S2x256x384, .f32⟩
  | .hbm, ⟨15, _⟩ => ⟨S_, .f32⟩
  | .hbm, ⟨16, _⟩ => ⟨S2x256x384, .f32⟩
  | .hbm, ⟨17, _⟩ => ⟨S2x256x384, .f32⟩
  | .hbm, ⟨18, _⟩ => ⟨S2x256x384, .f32⟩
  | .hbm, ⟨19, _⟩ => ⟨S_, .f32⟩
  | .hbm, ⟨20, _⟩ => ⟨S2x256x384, .f32⟩
  | .hbm, ⟨21, _⟩ => ⟨S2x256x384, .f32⟩
  | .hbm, ⟨22, _⟩ => ⟨S_, .f32⟩
  | .hbm, ⟨23, _⟩ => ⟨S2x256x384, .f32⟩
  | .hbm, ⟨24, _⟩ => ⟨S2x256x384, .f32⟩
  | .hbm, ⟨25, _⟩ => ⟨S2x256x384, .f32⟩
  | .hbm, ⟨26, _⟩ => ⟨S_, .f32⟩
  | .hbm, ⟨27, _⟩ => ⟨S2x256x384, .f32⟩
  | .hbm, ⟨28, _⟩ => ⟨S2x256x384, .f32⟩
  | .hbm, ⟨29, _⟩ => ⟨S2x256x384, .f32⟩
  | .hbm, ⟨30, _⟩ => ⟨S_, .f32⟩
  | .hbm, ⟨31, _⟩ => ⟨S2x256x384, .f32⟩
  | .hbm, ⟨32, _⟩ => ⟨S2x256x384, .f32⟩
  | .hbm, ⟨33, _⟩ => ⟨S2x256x384, .f32⟩
  | .hbm, ⟨34, _⟩ => ⟨S_, .f32⟩
  | .hbm, ⟨35, _⟩ => ⟨S2x256x384, .f32⟩
  | .hbm, ⟨36, _⟩ => ⟨S2x256x384, .f32⟩
  | .hbm, ⟨37, _⟩ => ⟨S512x384, .f32⟩
  | .hbm, ⟨38, _⟩ => ⟨S512x384, .f32⟩
  | .hbm, ⟨39, _⟩ => ⟨S512x384, .f32⟩
  | _, _ => ⟨S2x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S2x256x160 : Shape := ⟨3, ![2, 256, 160]⟩
abbrev S512x160 : Shape := ⟨2, ![512, 160]⟩

abbrev nBuf : Space → Nat
  | .hbm => 11
  | .vmem => 7
  | .smem => 0
  | _ => 0

abbrev bufTy : (tb : Table) → Fin (tcTables nBuf tb) → BufTy
  | .hbm, ⟨0, _⟩ => ⟨S2x256x160, .f32⟩
  | .hbm, ⟨1, _⟩ => ⟨S2x256x160, .f32⟩
  | .hbm, ⟨2, _⟩ => ⟨S2x256x160, .f32⟩
  | .hbm, ⟨3, _⟩ => ⟨S2x256x160, .f32⟩
  | .hbm, ⟨4, _⟩ => ⟨S512x160, .f32⟩
  | .hbm, ⟨5, _⟩ => ⟨S512x160, .f32⟩
  | .hbm, ⟨6, _⟩ => ⟨S512x160, .f32⟩
  | .hbm, ⟨7, _⟩ => ⟨S512x160, .f32⟩
  | .hbm, ⟨8, _⟩ => ⟨S512x160, .f32⟩
  | .hbm, ⟨9, _⟩ => ⟨S512x160, .f32⟩
  | .hbm, ⟨10, _⟩ => ⟨S512x160, .f32⟩
  | .local _ .vmem, ⟨0, _⟩ => ⟨S512x160, .f32⟩
  | .local _ .vmem, ⟨1, _⟩ => ⟨S512x160, .f32⟩
  | .local _ .vmem, ⟨2, _⟩ => ⟨S512x160, .f32⟩
  | .local _ .vmem, ⟨3, _⟩ => ⟨S512x160, .f32⟩
  | .local _ .vmem, ⟨4, _⟩ => ⟨S512x160, .f32⟩
  | .local _ .vmem, ⟨5, _⟩ => ⟨S512x160, .f32⟩
  | .local _ .vmem, ⟨6, _⟩ => ⟨S512x160, .f32⟩
  | _, _ => ⟨S2x256x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S2x256x160 : Shape := ⟨3, ![2, 256, 160]⟩
abbrev S_ : Shape := ⟨0, ![]⟩
abbrev S512x160 : Shape := ⟨2, ![512, 160]⟩

abbrev nBuf : Space → Nat
  | .hbm => 40
  | .vmem => 0
  | .smem => 0
  | _ => 0

abbrev bufTy : (tb : Table) → Fin (tcTables nBuf tb) → BufTy
  | .hbm, ⟨0, _⟩ => ⟨S2x256x160, .f32⟩
  | .hbm, ⟨1, _⟩ => ⟨S2x256x160, .f32⟩
  | .hbm, ⟨2, _⟩ => ⟨S2x256x160, .f32⟩
  | .hbm, ⟨3, _⟩ => ⟨S2x256x160, .f32⟩
  | .hbm, ⟨4, _⟩ => ⟨S_, .f32⟩
  | .hbm, ⟨5, _⟩ => ⟨S2x256x160, .f32⟩
  | .hbm, ⟨6, _⟩ => ⟨S2x256x160, .f32⟩
  | .hbm, ⟨7, _⟩ => ⟨S_, .f32⟩
  | .hbm, ⟨8, _⟩ => ⟨S2x256x160, .f32⟩
  | .hbm, ⟨9, _⟩ => ⟨S2x256x160, .f32⟩
  | .hbm, ⟨10, _⟩ => ⟨S2x256x160, .f32⟩
  | .hbm, ⟨11, _⟩ => ⟨S_, .f32⟩
  | .hbm, ⟨12, _⟩ => ⟨S2x256x160, .f32⟩
  | .hbm, ⟨13, _⟩ => ⟨S2x256x160, .f32⟩
  | .hbm, ⟨14, _⟩ => ⟨S2x256x160, .f32⟩
  | .hbm, ⟨15, _⟩ => ⟨S_, .f32⟩
  | .hbm, ⟨16, _⟩ => ⟨S2x256x160, .f32⟩
  | .hbm, ⟨17, _⟩ => ⟨S2x256x160, .f32⟩
  | .hbm, ⟨18, _⟩ => ⟨S2x256x160, .f32⟩
  | .hbm, ⟨19, _⟩ => ⟨S_, .f32⟩
  | .hbm, ⟨20, _⟩ => ⟨S2x256x160, .f32⟩
  | .hbm, ⟨21, _⟩ => ⟨S2x256x160, .f32⟩
  | .hbm, ⟨22, _⟩ => ⟨S_, .f32⟩
  | .hbm, ⟨23, _⟩ => ⟨S2x256x160, .f32⟩
  | .hbm, ⟨24, _⟩ => ⟨S2x256x160, .f32⟩
  | .hbm, ⟨25, _⟩ => ⟨S2x256x160, .f32⟩
  | .hbm, ⟨26, _⟩ => ⟨S_, .f32⟩
  | .hbm, ⟨27, _⟩ => ⟨S2x256x160, .f32⟩
  | .hbm, ⟨28, _⟩ => ⟨S2x256x160, .f32⟩
  | .hbm, ⟨29, _⟩ => ⟨S2x256x160, .f32⟩
  | .hbm, ⟨30, _⟩ => ⟨S_, .f32⟩
  | .hbm, ⟨31, _⟩ => ⟨S2x256x160, .f32⟩
  | .hbm, ⟨32, _⟩ => ⟨S2x256x160, .f32⟩
  | .hbm, ⟨33, _⟩ => ⟨S2x256x160, .f32⟩
  | .hbm, ⟨34, _⟩ => ⟨S_, .f32⟩
  | .hbm, ⟨35, _⟩ => ⟨S2x256x160, .f32⟩
  | .hbm, ⟨36, _⟩ => ⟨S2x256x160, .f32⟩
  | .hbm, ⟨37, _⟩ => ⟨S512x160, .f32⟩
  | .hbm, ⟨38, _⟩ => ⟨S512x160, .f32⟩
  | .hbm, ⟨39, _⟩ => ⟨S512x160, .f32⟩
  | _, _ => ⟨S2x256x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S2x128x512 : Shape := ⟨3, ![2, 128, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S2x128x512 : Shape := ⟨3, ![2, 128, 512]⟩
abbrev S_ : Shape := ⟨0, ![]⟩
abbrev S256x512 : Shape := ⟨2, ![256, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S_, .f32⟩
  | .hbm, ⟨5, _⟩ => ⟨S2x128x512, .f32⟩
  | .hbm, ⟨6, _⟩ => ⟨S2x128x512, .f32⟩
  | .hbm, ⟨7, _⟩ => ⟨S_, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S_, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S_, .f32⟩
  | .hbm, ⟨23, _⟩ => ⟨S2x128x512, .f32⟩
  | .hbm, ⟨24, _⟩ => ⟨S2x128x512, .f32⟩
  | .hbm, ⟨25, _⟩ => ⟨S2x128x512, .f32⟩
  | .hbm, ⟨26, _⟩ => ⟨S_, .f32⟩
  | .hbm, ⟨27, _⟩ => ⟨S2x128x512, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | .hbm, ⟨37, _⟩ => ⟨S256x512, .f32⟩
  | .hbm, ⟨38, _⟩ => ⟨S256x512, .f32⟩
  | .hbm, ⟨39, _⟩ => ⟨S256x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S1 : Shape := ⟨1, ![1]⟩
abbrev S4x1024x1024 : Shape := ⟨3, ![4, 1024, 1024]⟩
abbrev S4x512x1024 : Shape := ⟨3, ![4, 512, 1024]⟩
abbrev S4x2x512x1024 : Shape := ⟨4, ![4, 2, 512, 1024]⟩
abbrev S1x1x256x1024 : Shape := ⟨4, ![1, 1, 256, 1024]⟩
abbrev S1x256x1024 : Shape := ⟨3, ![1, 256, 1024]⟩
abbrev S256x1024 : Shape := ⟨2, ![256, 1024]⟩

abbrev nBuf : Space → Nat
  | .hbm => 12
  | .vmem => 18
  | .smem => 1
  | _ => 0

abbrev bufTy : (tb : Table) → Fin (tcTables nBuf tb) → BufTy
  | .hbm, ⟨0, _⟩ => ⟨S4x1024x1024, .f32⟩
  | .hbm, ⟨1, _⟩ => ⟨S4x512x1024, .f32⟩
  | .hbm, ⟨2, _⟩ => ⟨S4x512x1024, .f32⟩
  | .hbm, ⟨3, _⟩ => ⟨S4x1024x1024, .f32⟩
  | .hbm, ⟨4, _⟩ => ⟨S4x1024x1024, .f32⟩
  | .hbm, ⟨5, _⟩ => ⟨S4x2x512x1024, .f32⟩
  | .hbm, ⟨6, _⟩ => ⟨S4x2x512x1024, .f32⟩
  | .hbm, ⟨7, _⟩ => ⟨S4x2x512x1024, .f32⟩
  | .hbm, ⟨8, _⟩ => ⟨S4x2x512x1024, .f32⟩
  | .hbm, ⟨9, _⟩ => ⟨S4x2x512x1024, .f32⟩
  | .hbm, ⟨10, _⟩ => ⟨S4x2x512x1024, .f32⟩
  | .hbm, ⟨11, _⟩ => ⟨S4x2x512x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1x1x256x1024, .f32⟩
  | .local _ .vmem, ⟨11, _⟩ => ⟨S1x1x256x1024, .f32⟩
  | .local _ .vmem, ⟨12, _⟩ => ⟨S1x1x256x1024, .f32⟩
  | .local _ .vmem, ⟨13, _⟩ => ⟨S1x1x256x1024, .f32⟩
  | .local _ .vmem, ⟨14, _⟩ => ⟨S1x1x256x1024, .f32⟩
  | .local _ .vmem, ⟨15, _⟩ => ⟨S1x1x256x1024, .f32⟩
  | .local _ .vmem, ⟨16, _⟩ => ⟨S1x1x256x1024, .f32⟩
  | .local _ .vmem, ⟨17, _⟩ => ⟨S1x1x256x1024, .f32⟩
  | .local _ .smem, ⟨0, _⟩ => ⟨S1, .i32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference22Ideal.lean ====
abbrev S1 : Shape := ⟨1, ![1]⟩
abbrev S4x1024x1024 : Shape := ⟨3, ![4, 1024, 1024]⟩
abbrev S4x512x1024 : Shape := ⟨3, ![4, 512, 1024]⟩
abbrev S_ : Shape := ⟨0, ![]⟩
abbrev S4x1x512x1024 : Shape := ⟨4, ![4, 1, 512, 1024]⟩
abbrev S4x2x512x1024 : Shape := ⟨4, ![4, 2, 512, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1024x1024, .f32⟩
  | .hbm, ⟨2, _⟩ => ⟨S4x512x1024, .f32⟩
  | .hbm, ⟨3, _⟩ => ⟨S4x512x1024, .f32⟩
  | .hbm, ⟨4, _⟩ => ⟨S4x1024x1024, .f32⟩
  | .hbm, ⟨5, _⟩ => ⟨S4x1024x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x512x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x512x1024, .f32⟩
  | .hbm, ⟨14, _⟩ => ⟨S4x1x512x1024, .f32⟩
  | .hbm, ⟨15, _⟩ => ⟨S4x1x512x1024, .f32⟩
  | .hbm, ⟨16, _⟩ => ⟨S4x2x512x1024, .f32⟩
  | .hbm, ⟨17, _⟩ => ⟨S4x2x512x1024, .f32⟩
  | .hbm, ⟨18, _⟩ => ⟨S4x2x512x1024, .f32⟩
  | .hbm, ⟨19, _⟩ => ⟨S4x2x512x1024, .f32⟩
  | .hbm, ⟨20, _⟩ => ⟨S_, .f32⟩
  | .hbm, ⟨21, _⟩ => ⟨S4x2x512x1024, .f32⟩
  | .hbm, ⟨22, _⟩ => ⟨S4x2x512x1024, .f32⟩
  | .hbm, ⟨23, _⟩ => ⟨S_, .f32⟩
  | .hbm, ⟨24, _⟩ => ⟨S4x2x512x1024, .f32⟩
  | .hbm, ⟨25, _⟩ => ⟨S4x2x512x1024, .f32⟩
  | .hbm, ⟨26, _⟩ => ⟨S4x2x512x1024, .f32⟩
  | .hbm, ⟨27, _⟩ => ⟨S_, .f32⟩
  | .hbm, ⟨28, _⟩ => ⟨S4x2x512x1024, .f32⟩
  | .hbm, ⟨29, _⟩ => ⟨S4x2x512x1024, .f32⟩
  | .hbm, ⟨30, _⟩ => ⟨S4x2x512x1024, .f32⟩
  | .hbm, ⟨31, _⟩ => ⟨S_, .f32⟩
  | .hbm, ⟨32, _⟩ => ⟨S4x2x512x1024, .f32⟩
  | .hbm, ⟨33, _⟩ => ⟨S4x2x512x1024, .f32⟩
  | .hbm, ⟨34, _⟩ => ⟨S4x2x512x1024, .f32⟩
  | .hbm, ⟨35, _⟩ => ⟨S_, .f32⟩
  | .hbm, ⟨36, _⟩ => ⟨S4x2x512x1024, .f32⟩
  | .hbm, ⟨37, _⟩ => ⟨S4x2x512x1024, .f32⟩
  | .hbm, ⟨38, _⟩ => ⟨S_, .f32⟩
  | .hbm, ⟨39, _⟩ => ⟨S4x2x512x1024, .f32⟩
  | .hbm, ⟨40, _⟩ => ⟨S4x2x512x1024, .f32⟩
  | .hbm, ⟨41, _⟩ => ⟨S4x2x512x1024, .f32⟩
  | .hbm, ⟨42, _⟩ => ⟨S_, .f32⟩
  | .hbm, ⟨43, _⟩ => ⟨S4x2x512x1024, .f32⟩
  | .hbm, ⟨44, _⟩ => ⟨S4x2x512x1024, .f32⟩
  | .hbm, ⟨45, _⟩ => ⟨S4x2x512x1024, .f32⟩
  | .hbm, ⟨46, _⟩ => ⟨S_, .f32⟩
  | .hbm, ⟨47, _⟩ => ⟨S4x2x512x1024, .f32⟩
  | .hbm, ⟨48, _⟩ => ⟨S4x2x512x1024, .f32⟩
  | .hbm, ⟨49, _⟩ => ⟨S4x2x512x1024, .f32⟩
  | .hbm, ⟨50, _⟩ => ⟨S_, .f32⟩
  | .hbm, ⟨51, _⟩ => ⟨S4x2x512x1024, .f32⟩
  | .hbm, ⟨52, _⟩ => ⟨S4x2x512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel23.lean ====
abbrev S1 : Shape := ⟨1, ![1]⟩
abbrev S2x256x1024 : Shape := ⟨3, ![2, 256, 1024]⟩
abbrev S2x128x1024 : Shape := ⟨3, ![2, 128, 1024]⟩
abbrev S2x2x128x1024 : Shape := ⟨4, ![2, 2, 128, 1024]⟩
abbrev S1x1x128x1024 : Shape := ⟨4, ![1, 1, 128, 1024]⟩
abbrev S1x128x1024 : Shape := ⟨3, ![1, 128, 1024]⟩
abbrev S128x1024 : Shape := ⟨2, ![128, 1024]⟩

abbrev nBuf : Space → Nat
  | .hbm => 12
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x128x1024, .f32⟩
  | .hbm, ⟨2, _⟩ => ⟨S2x128x1024, .f32⟩
  | .hbm, ⟨3, _⟩ => ⟨S2x256x1024, .f32⟩
  | .hbm, ⟨4, _⟩ => ⟨S2x256x1024, .f32⟩
  | .hbm, ⟨5, _⟩ => ⟨S2x2x128x1024, .f32⟩
  | .hbm, ⟨6, _⟩ => ⟨S2x2x128x1024, .f32⟩
  | .hbm, ⟨7, _⟩ => ⟨S2x2x128x1024, .f32⟩
  | .hbm, ⟨8, _⟩ => ⟨S2x2x128x1024, .f32⟩
  | .hbm, ⟨9, _⟩ => ⟨S2x2x128x1024, .f32⟩
  | .hbm, ⟨10, _⟩ => ⟨S2x2x128x1024, .f32⟩
  | .hbm, ⟨11, _⟩ => ⟨S2x2x128x1024, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x1x128x1024, .f32⟩
  | .local _ .vmem, ⟨9, _⟩ => ⟨S1x1x128x1024, .f32⟩
  | .local _ .vmem, ⟨10, _⟩ => ⟨S1x1x128x1024, .f32⟩
  | .local _ .vmem, ⟨11, _⟩ => ⟨S1x1x128x1024, .f32⟩
  | .local _ .vmem, ⟨12, _⟩ => ⟨S1x1x128x1024, .f32⟩
  | .local _ .vmem, ⟨13, _⟩ => ⟨S1x1x128x1024, .f32⟩
  | .local _ .vmem, ⟨14, _⟩ => ⟨S1x1x128x1024, .f32⟩
  | .local _ .vmem, ⟨15, _⟩ => ⟨S1x1x128x1024, .f32⟩
  | .local _ .vmem, ⟨16, _⟩ => ⟨S1x1x128x1024, .f32⟩
  | .local _ .vmem, ⟨17, _⟩ => ⟨S1x1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference23Ideal.lean ====
abbrev S1 : Shape := ⟨1, ![1]⟩
abbrev S2x256x1024 : Shape := ⟨3, ![2, 256, 1024]⟩
abbrev S2x128x1024 : Shape := ⟨3, ![2, 128, 1024]⟩
abbrev S_ : Shape := ⟨0, ![]⟩
abbrev S2x1x128x1024 : Shape := ⟨4, ![2, 1, 128, 1024]⟩
abbrev S2x2x128x1024 : Shape := ⟨4, ![2, 2, 128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x1024, .f32⟩
  | .hbm, ⟨2, _⟩ => ⟨S2x128x1024, .f32⟩
  | .hbm, ⟨3, _⟩ => ⟨S2x128x1024, .f32⟩
  | .hbm, ⟨4, _⟩ => ⟨S2x256x1024, .f32⟩
  | .hbm, ⟨5, _⟩ => ⟨S2x256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x128x1024, .f32⟩
  | .hbm, ⟨14, _⟩ => ⟨S2x1x128x1024, .f32⟩
  | .hbm, ⟨15, _⟩ => ⟨S2x1x128x1024, .f32⟩
  | .hbm, ⟨16, _⟩ => ⟨S2x2x128x1024, .f32⟩
  | .hbm, ⟨17, _⟩ => ⟨S2x2x128x1024, .f32⟩
  | .hbm, ⟨18, _⟩ => ⟨S2x2x128x1024, .f32⟩
  | .hbm, ⟨19, _⟩ => ⟨S2x2x128x1024, .f32⟩
  | .hbm, ⟨20, _⟩ => ⟨S_, .f32⟩
  | .hbm, ⟨21, _⟩ => ⟨S2x2x128x1024, .f32⟩
  | .hbm, ⟨22, _⟩ => ⟨S2x2x128x1024, .f32⟩
  | .hbm, ⟨23, _⟩ => ⟨S_, .f32⟩
  | .hbm, ⟨24, _⟩ => ⟨S2x2x128x1024, .f32⟩
  | .hbm, ⟨25, _⟩ => ⟨S2x2x128x1024, .f32⟩
  | .hbm, ⟨26, _⟩ => ⟨S2x2x128x1024, .f32⟩
  | .hbm, ⟨27, _⟩ => ⟨S_, .f32⟩
  | .hbm, ⟨28, _⟩ => ⟨S2x2x128x1024, .f32⟩
  | .hbm, ⟨29, _⟩ => ⟨S2x2x128x1024, .f32⟩
  | .hbm, ⟨30, _⟩ => ⟨S2x2x128x1024, .f32⟩
  | .hbm, ⟨31, _⟩ => ⟨S_, .f32⟩
  | .hbm, ⟨32, _⟩ => ⟨S2x2x128x1024, .f32⟩
  | .hbm, ⟨33, _⟩ => ⟨S2x2x128x1024, .f32⟩
  | .hbm, ⟨34, _⟩ => ⟨S2x2x128x1024, .f32⟩
  | .hbm, ⟨35, _⟩ => ⟨S_, .f32⟩
  | .hbm, ⟨36, _⟩ => ⟨S2x2x128x1024, .f32⟩
  | .hbm, ⟨37, _⟩ => ⟨S2x2x128x1024, .f32⟩
  | .hbm, ⟨38, _⟩ => ⟨S_, .f32⟩
  | .hbm, ⟨39, _⟩ => ⟨S2x2x128x1024, .f32⟩
  | .hbm, ⟨40, _⟩ => ⟨S2x2x128x1024, .f32⟩
  | .hbm, ⟨41, _⟩ => ⟨S2x2x128x1024, .f32⟩
  | .hbm, ⟨42, _⟩ => ⟨S_, .f32⟩
  | .hbm, ⟨43, _⟩ => ⟨S2x2x128x1024, .f32⟩
  | .hbm, ⟨44, _⟩ => ⟨S2x2x128x1024, .f32⟩
  | .hbm, ⟨45, _⟩ => ⟨S2x2x128x1024, .f32⟩
  | .hbm, ⟨46, _⟩ => ⟨S_, .f32⟩
  | .hbm, ⟨47, _⟩ => ⟨S2x2x128x1024, .f32⟩
  | .hbm, ⟨48, _⟩ => ⟨S2x2x128x1024, .f32⟩
  | .hbm, ⟨49, _⟩ => ⟨S2x2x128x1024, .f32⟩
  | .hbm, ⟨50, _⟩ => ⟨S_, .f32⟩
  | .hbm, ⟨51, _⟩ => ⟨S2x2x128x1024, .f32⟩
  | .hbm, ⟨52, _⟩ => ⟨S2x2x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel24.lean ====
abbrev S1 : Shape := ⟨1, ![1]⟩
abbrev S2x1024x772 : Shape := ⟨3, ![2, 1024, 772]⟩
abbrev S2x512x896 : Shape := ⟨3, ![2, 512, 896]⟩
abbrev S_ : Shape := ⟨0, ![]⟩
abbrev S2x1024x896 : Shape := ⟨3, ![2, 1024, 896]⟩
abbrev S2x2x512x896 : Shape := ⟨4, ![2, 2, 512, 896]⟩
abbrev S1x1x256x896 : Shape := ⟨4, ![1, 1, 256, 896]⟩
abbrev S1x256x896 : Shape := ⟨3, ![1, 256, 896]⟩
abbrev S256x896 : Shape := ⟨2, ![256, 896]⟩

abbrev nBuf : Space → Nat
  | .hbm => 21
  | .vmem => 18
  | .smem => 1
  | _ => 0

abbrev bufTy : (tb : Table) → Fin (tcTables nBuf tb) → BufTy
  | .hbm, ⟨0, _⟩ => ⟨S2x1024x772, .f32⟩
  | .hbm, ⟨1, _⟩ => ⟨S2x512x896, .f32⟩
  | .hbm, ⟨2, _⟩ => ⟨S2x512x896, .f32⟩
  | .hbm, ⟨3, _⟩ => ⟨S2x1024x772, .f32⟩
  | .hbm, ⟨4, _⟩ => ⟨S2x1024x772, .f32⟩
  | .hbm, ⟨5, _⟩ => ⟨S_, .i32⟩
  | .hbm, ⟨6, _⟩ => ⟨S_, .f32⟩
  | .hbm, ⟨7, _⟩ => ⟨S2x1024x896, .f32⟩
  | .hbm, ⟨8, _⟩ => ⟨S_, .i32⟩
  | .hbm, ⟨9, _⟩ => ⟨S_, .f32⟩
  | .hbm, ⟨10, _⟩ => ⟨S2x1024x896, .f32⟩
  | .hbm, ⟨11, _⟩ => ⟨S_, .i32⟩
  | .hbm, ⟨12, _⟩ => ⟨S_, .f32⟩
  | .hbm, ⟨13, _⟩ => ⟨S2x1024x896, .f32⟩
  | .hbm, ⟨14, _⟩ => ⟨S2x2x512x896, .f32⟩
  | .hbm, ⟨15, _⟩ => ⟨S2x2x512x896, .f32⟩
  | .hbm, ⟨16, _⟩ => ⟨S2x2x512x896, .f32⟩
  | .hbm, ⟨17, _⟩ => ⟨S2x2x512x896, .f32⟩
  | .hbm, ⟨18, _⟩ => ⟨S2x2x512x896, .f32⟩
  | .hbm, ⟨19, _⟩ => ⟨S2x2x512x896, .f32⟩
  | .hbm, ⟨20, _⟩ => ⟨S2x2x512x896, .f32⟩
  | .local _ .vmem, ⟨0, _⟩ => ⟨S1x1x256x896, .f32⟩
  | .local _ .vmem, ⟨1, _⟩ => ⟨S1x1x256x896, .f32⟩
  | .local _ .vmem, ⟨2, _⟩ => ⟨S1x256x896, .f32⟩
  | .local _ .vmem, ⟨3, _⟩ => ⟨S1x256x896, .f32⟩
  | .local _ .vmem, ⟨4, _⟩ => ⟨S1x256x896, .f32⟩
  | .local _ .vmem, ⟨5, _⟩ => ⟨S1x256x896, .f32⟩
  | .local _ .vmem, ⟨6, _⟩ => ⟨S1x1x256x896, .f32⟩
  | .local _ .vmem, ⟨7, _⟩ => ⟨S1x1x256x896, .f32⟩
  | .local _ .vmem, ⟨8, _⟩ => ⟨S1x1x256x896, .f32⟩
  | .local _ .vmem, ⟨9, _⟩ => ⟨S1x1x256x896, .f32⟩
  | .local _ .vmem, ⟨10, _⟩ => ⟨S1x1x256x896, .f32⟩
  | .local _ .vmem, ⟨11, _⟩ => ⟨S1x1x256x896, .f32⟩
  | .local _ .vmem, ⟨12, _⟩ => ⟨S1x1x256x896, .f32⟩
  | .local _ .vmem, ⟨13, _⟩ => ⟨S1x1x256x896, .f32⟩
  | .local _ .vmem, ⟨14, _⟩ => ⟨S1x1x256x896, .f32⟩
  | .local _ .vmem, ⟨15, _⟩ => ⟨S1x1x256x896, .f32⟩
  | .local _ .vmem, ⟨16, _⟩ => ⟨S1x1x256x896, .f32⟩
  | .local _ .vmem, ⟨17, _⟩ => ⟨S1x1x256x896, .f32⟩
  | .local _ .smem, ⟨0, _⟩ => ⟨S1, .i32⟩
  | _, _ => ⟨S2x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference24Ideal.lean ====
abbrev S1 : Shape := ⟨1, ![1]⟩
abbrev S2x1024x772 : Shape := ⟨3, ![2, 1024, 772]⟩
abbrev S2x512x896 : Shape := ⟨3, ![2, 512, 896]⟩
abbrev S_ : Shape := ⟨0, ![]⟩
abbrev S2x1024x896 : Shape := ⟨3, ![2, 1024, 896]⟩
abbrev S2x1x512x896 : Shape := ⟨4, ![2, 1, 512, 896]⟩
abbrev S2x2x512x896 : Shape := ⟨4, ![2, 2, 512, 896]⟩

abbrev nBuf : Space → Nat
  | .hbm => 62
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1024x772, .f32⟩
  | .hbm, ⟨2, _⟩ => ⟨S2x512x896, .f32⟩
  | .hbm, ⟨3, _⟩ => ⟨S2x512x896, .f32⟩
  | .hbm, ⟨4, _⟩ => ⟨S2x1024x772, .f32⟩
  | .hbm, ⟨5, _⟩ => ⟨S2x1024x772, .f32⟩
  | .hbm, ⟨6, _⟩ => ⟨S_, .i32⟩
  | .hbm, ⟨7, _⟩ => ⟨S_, .f32⟩
  | .hbm, ⟨8, _⟩ => ⟨S2x1024x896, .f32⟩
  | .hbm, ⟨9, _⟩ => ⟨S_, .i32⟩
  | .hbm, ⟨10, _⟩ => ⟨S_, .f32⟩
  | .hbm, ⟨11, _⟩ => ⟨S2x1024x896, .f32⟩
  | .hbm, ⟨12, _⟩ => ⟨S_, .i32⟩
  | .hbm, ⟨13, _⟩ => ⟨S_, .f32⟩
  | .hbm, ⟨14, _⟩ => ⟨S2x1024x896, .f32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S2x512x896, .f32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S2x512x896, .f32⟩
  | .hbm, ⟨23, _⟩ => ⟨S2x1x512x896, .f32⟩
  | .hbm, ⟨24, _⟩ => ⟨S2x1x512x896, .f32⟩
  | .hbm, ⟨25, _⟩ => ⟨S2x2x512x896, .f32⟩
  | .hbm, ⟨26, _⟩ => ⟨S2x2x512x896, .f32⟩
  | .hbm, ⟨27, _⟩ => ⟨S2x2x512x896, .f32⟩
  | .hbm, ⟨28, _⟩ => ⟨S2x2x512x896, .f32⟩
  | .hbm, ⟨29, _⟩ => ⟨S_, .f32⟩
  | .hbm, ⟨30, _⟩ => ⟨S2x2x512x896, .f32⟩
  | .hbm, ⟨31, _⟩ => ⟨S2x2x512x896, .f32⟩
  | .hbm, ⟨32, _⟩ => ⟨S_, .f32⟩
  | .hbm, ⟨33, _⟩ => ⟨S2x2x512x896, .f32⟩
  | .hbm, ⟨34, _⟩ => ⟨S2x2x512x896, .f32⟩
  | .hbm, ⟨35, _⟩ => ⟨S2x2x512x896, .f32⟩
  | .hbm, ⟨36, _⟩ => ⟨S_, .f32⟩
  | .hbm, ⟨37, _⟩ => ⟨S2x2x512x896, .f32⟩
  | .hbm, ⟨38, _⟩ => ⟨S2x2x512x896, .f32⟩
  | .hbm, ⟨39, _⟩ => ⟨S2x2x512x896, .f32⟩
  | .hbm, ⟨40, _⟩ => ⟨S_, .f32⟩
  | .hbm, ⟨41, _⟩ => ⟨S2x2x512x896, .f32⟩
  | .hbm, ⟨42, _⟩ => ⟨S2x2x512x896, .f32⟩
  | .hbm, ⟨43, _⟩ => ⟨S2x2x512x896, .f32⟩
  | .hbm, ⟨44, _⟩ => ⟨S_, .f32⟩
  | .hbm, ⟨45, _⟩ => ⟨S2x2x512x896, .f32⟩
  | .hbm, ⟨46, _⟩ => ⟨S2x2x512x896, .f32⟩
  | .hbm, ⟨47, _⟩ => ⟨S_, .f32⟩
  | .hbm, ⟨48, _⟩ => ⟨S2x2x512x896, .f32⟩
  | .hbm, ⟨49, _⟩ => ⟨S2x2x512x896, .f32⟩
  | .hbm, ⟨50, _⟩ => ⟨S2x2x512x896, .f32⟩
  | .hbm, ⟨51, _⟩ => ⟨S_, .f32⟩
  | .hbm, ⟨52, _⟩ => ⟨S2x2x512x896, .f32⟩
  | .hbm, ⟨53, _⟩ => ⟨S2x2x512x896, .f32⟩
  | .hbm, ⟨54, _⟩ => ⟨S2x2x512x896, .f32⟩
  | .hbm, ⟨55, _⟩ => ⟨S_, .f32⟩
  | .hbm, ⟨56, _⟩ => ⟨S2x2x512x896, .f32⟩
  | .hbm, ⟨57, _⟩ => ⟨S2x2x512x896, .f32⟩
  | .hbm, ⟨58, _⟩ => ⟨S2x2x512x896, .f32⟩
  | .hbm, ⟨59, _⟩ => ⟨S_, .f32⟩
  | .hbm, ⟨60, _⟩ => ⟨S2x2x512x896, .f32⟩
  | .hbm, ⟨61, _⟩ => ⟨S2x2x512x896, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Proof.Attn.IdealLoop.lean ====
module

public import proofs.«01_k».proof.Proof.Gen.KernelIdeal.Loops
public import proofs.«01_k».proof.Proof.Gen.KernelIdeal.Frame

@[expose] public section

set_option maxRecDepth 16384

noncomputable section

namespace Cert.Attn.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The condition that the key block is the pair's first, as the body computes it. -/
abbrev kj0 (i : grid0.Coords) : Prop := Scalar.cmpi .ne (Scalar.extui (Scalar.cmpi .eq (BitVec.ofNat 32 (i 2).val) 0#32) : BitVec 32) 0#32 = 1#1

/-- A memref at named contents is owned at some contents. -/
theorem any_of (c : Dev nD) {sh : Shape} {e : EltTy} (a : Memref sig .tc .vmem sh e) (f : Buf (Elt F) (a.view.loc (c : Thread nD τ))) :
    (iprop(a.view.loc (c : Thread nD τ) ↦[a.view.set]{fullShare} f) : sProp 𝕄) ⊢ iprop(∃ d, owns (c : Thread nD τ) a fullShare d) := by
  unfold owns
  iintro H
  iexists (a.view.read (Elt F) f); iexists f
  isplitr
  · ipureintro; exact rfl
  iexact H

/-! The only trip of the counted loop (at the first two key blocks) handles the query blocks 4 to 7. -/

theorem off13_eq : ∀ (i : grid0.Coords) (k : Fin (k0_t1_loop i).trips) (r : Fin 4), k0_off13 i k (BitVec.ofNat 32 r.val) = ![1024 + 256 * r.val, 0] := by decide +kernel
theorem off14_eq : ∀ (i : grid0.Coords) (k : Fin (k0_t1_loop i).trips) (r : Fin 4), k0_off14 i k (BitVec.ofNat 32 r.val) = ![1024 + 256 * r.val, 0] := by decide +kernel
theorem off15_eq : ∀ (i : grid0.Coords) (k : Fin (k0_t1_loop i).trips) (r : Fin 4), k0_off15 i k (BitVec.ofNat 32 r.val) = ![4 + r.val, 0, 0, 0] := by decide +kernel
theorem off16_eq : ∀ (i : grid0.Coords) (k : Fin (k0_t1_loop i).trips) (r : Fin 4), k0_off16 i k (BitVec.ofNat 32 r.val) = ![4 + r.val, 0, 0] := by decide +kernel

instance (i : grid0.Coords) (k : Fin (k0_t1_loop i).trips) : ClosedOff (k0_off13 i k 0#32) := ⟨![1024, 0], off13_eq i k 0⟩
instance (i : grid0.Coords) (k : Fin (k0_t1_loop i).trips) : ClosedOff (k0_off13 i k 1#32) := ⟨![1280, 0], off13_eq i k 1⟩
instance (i : grid0.Coords) (k : Fin (k0_t1_loop i).trips) : ClosedOff (k0_off13 i k 2#32) := ⟨![1536, 0], off13_eq i k 2⟩
instance (i : grid0.Coords) (k : Fin (k0_t1_loop i).trips) : ClosedOff (k0_off13 i k 3#32) := ⟨![1792, 0], off13_eq i k 3⟩
instance (i : grid0.Coords) (k : Fin (k0_t1_loop i).trips) : ClosedOff (k0_off14 i k 0#32) := ⟨![1024, 0], off14_eq i k 0⟩
instance (i : grid0.Coords) (k : Fin (k0_t1_loop i).trips) : ClosedOff (k0_off14 i k 1#32) := ⟨![1280, 0], off14_eq i k 1⟩
instance (i : grid0.Coords) (k : Fin (k0_t1_loop i).trips) : ClosedOff (k0_off14 i k 2#32) := ⟨![1536, 0], off14_eq i k 2⟩
instance (i : grid0.Coords) (k : Fin (k0_t1_loop i).trips) : ClosedOff (k0_off14 i k 3#32) := ⟨![1792, 0], off14_eq i k 3⟩
instance (i : grid0.Coords) (k : Fin (k0_t1_loop i).trips) : ClosedOff (k0_off15 i k 0#32) := ⟨![4, 0, 0, 0], off15_eq i k 0⟩
instance (i : grid0.Coords) (k : Fin (k0_t1_loop i).trips) : ClosedOff (k0_off15 i k 1#32) := ⟨![5, 0, 0, 0], off15_eq i k 1⟩
instance (i : grid0.Coords) (k : Fin (k0_t1_loop i).trips) : ClosedOff (k0_off15 i k 2#32) := ⟨![6, 0, 0, 0], off15_eq i k 2⟩
instance (i : grid0.Coords) (k : Fin (k0_t1_loop i).trips) : ClosedOff (k0_off15 i k 3#32) := ⟨![7, 0, 0, 0], off15_eq i k 3⟩
instance (i : grid0.Coords) (k : Fin (k0_t1_loop i).trips) : ClosedOff (k0_off16 i k 0#32) := ⟨![4, 0, 0], off16_eq i k 0⟩
instance (i : grid0.Coords) (k : Fin (k0_t1_loop i).trips) : ClosedOff (k0_off16 i k 1#32) := ⟨![5, 0, 0], off16_eq i k 1⟩
instance (i : grid0.Coords) (k : Fin (k0_t1_loop i).trips) : ClosedOff (k0_off16 i k 2#32) := ⟨![6, 0, 0], off16_eq i k 2⟩
instance (i : grid0.Coords) (k : Fin (k0_t1_loop i).trips) : ClosedOff (k0_off16 i k 3#32) := ⟨![7, 0, 0], off16_eq i k 3⟩

/-- The second counted loop takes no trip. -/
theorem no_trip2 : ∀ i : grid0.Coords, (k0_t2_loop i).trips = 0 := by decide +kernel
/-- The first takes one at the first two key blocks and none at the others. -/
theorem trips1 : ∀ i : grid0.Coords, (k0_t1_loop i).trips = if (i 2).val < 2 then 1 else 0 := by decide +kernel

set_option maxHeartbeats 4000000 in
/-- One trip: the pieces it leaves in the three accumulators, as functions of what it finds there. -/
noncomputable def trip (c : Dev nD) (i : grid0.Coords) (arg3 : Memref sig .tc .vmem S2048x256 .bf16) (harg3 : arg3.IsWhole) (arg4 : Memref sig .tc .vmem S512x384 .bf16) (harg4 : arg4.IsWhole) (arg5 : Memref sig .tc .vmem S2048x128 .bf16) (harg5 : arg5.IsWhole) (arg6 : Memref sig .tc .vmem S8x1x8x256 .f32) (harg6 : arg6.IsWhole) (arg7 : Memref sig .tc .vmem S2048x128 .bf16) (harg7 : arg7.IsWhole) (arg8 : Memref sig .tc .vmem S2048x256 .bf16) (harg8 : arg8.IsWhole) (arg9 : Memref sig .tc .vmem S512x384 .bf16) (harg9 : arg9.IsWhole) (arg10 : Memref sig .tc .vmem S2048x256 .f32) (harg10 : arg10.IsWhole) (arg11 : Memref sig .tc .vmem S8x8x256 .f32) (harg11 : arg11.IsWhole) (arg12 : Memref sig .tc .vmem S2x512x256 .f32) (harg12 : arg12.IsWhole) (arg13 : Memref sig .tc .vmem S2x512x128 .f32) (harg13 : arg13.IsWhole) (v8 : IVec S1x256 1) (v37 : FVec F S512x256 .bf16) (v41 : FVec F S512x256 .bf16) (v43 : FVec F S512x128 .bf16) (v45 : FVec F S512x128 .bf16) (v54 : BitVec 32) (v55 : BitVec 32) (v70 : BitVec 32) (v71 : BitVec 32)
    (X3 : Buf (Elt F) (arg3.view.loc (c : Thread nD τ))) (X6 : Buf (Elt F) (arg6.view.loc (c : Thread nD τ))) (X7 : Buf (Elt F) (arg7.view.loc (c : Thread nD τ)))
    (X11 : Buf (Elt F) (arg11.view.loc (c : Thread nD τ))) (k : Fin (k0_t1_loop i).trips) :
    Σ' (L10 : Buf (Elt F) (arg10.view.loc (c : Thread nD τ)) → Buf (Elt F) (arg12.view.loc (c : Thread nD τ)) → Buf (Elt F) (arg13.view.loc (c : Thread nD τ)) → List (View.Piece (Elt F) S2048x256 .f32))
       (L12 : Buf (Elt F) (arg10.view.loc (c : Thread nD τ)) → Buf (Elt F) (arg12.view.loc (c : Thread nD τ)) → Buf (Elt F) (arg13.view.loc (c : Thread nD τ)) → List (View.Piece (Elt F) S2x512x256 .f32)),
      { L13 : Buf (Elt F) (arg10.view.loc (c : Thread nD τ)) → Buf (Elt F) (arg12.view.loc (c : Thread nD τ)) → Buf (Elt F) (arg13.view.loc (c : Thread nD τ)) → List (View.Piece (Elt F) S2x512x128 .f32) //
        ∀ (f10 : Buf (Elt F) (arg10.view.loc (c : Thread nD τ))) (f12 : Buf (Elt F) (arg12.view.loc (c : Thread nD τ))) (f13 : Buf (Elt F) (arg13.view.loc (c : Thread nD τ))),
        (iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11)
            ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13)) : sProp 𝕄)
          ⊢ wp frame (wpE (defs₀ (F := F)) Variants.none c none) Set.univ (k0_t1_body i arg3 harg3 arg4 harg4 arg5 harg5 arg6 harg6 arg7 harg7 arg8 harg8 arg9 harg9 arg10 harg10 arg11 harg11 arg12 harg12 arg13 harg13 v8 v37 v41 v43 v45 v54 v55 v70 v71 k ())
            fun _ => iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11)
            ∗ (arg10.view.loc (c : Thread nD τ) ↦[arg10.view.set]{fullShare} arg10.view.writes (Elt F) f10 (L10 f10 f12 f13)) ∗ (arg12.view.loc (c : Thread nD τ) ↦[arg12.view.set]{fullShare} arg12.view.writes (Elt F) f12 (L12 f10 f12 f13)) ∗ (arg13.view.loc (c : Thread nD τ) ↦[arg13.view.set]{fullShare} arg13.view.writes (Elt F) f13 (L13 f10 f12 f13))) } := by
  refine ⟨?_, ?_, ?_, fun f10 f12 f13 => ?run⟩
  case run =>
    unfold k0_t1_body
    iintro ⟨H3, H6, H7, H11, H10, H12, H13⟩
    sl_exec
    sl_step
    sl_close

/-- The pieces the trips before trip `n` leave in the accumulators (last first), over what these hold at loop entry. -/
noncomputable def pb (c : Dev nD) (i : grid0.Coords) (arg3 : Memref sig .tc .vmem S2048x256 .bf16) (harg3 : arg3.IsWhole) (arg4 : Memref sig .tc .vmem S512x384 .bf16) (harg4 : arg4.IsWhole) (arg5 : Memref sig .tc .vmem S2048x128 .bf16) (harg5 : arg5.IsWhole) (arg6 : Memref sig .tc .vmem S8x1x8x256 .f32) (harg6 : arg6.IsWhole) (arg7 : Memref sig .tc .vmem S2048x128 .bf16) (harg7 : arg7.IsWhole) (arg8 : Memref sig .tc .vmem S2048x256 .bf16) (harg8 : arg8.IsWhole) (arg9 : Memref sig .tc .vmem S512x384 .bf16) (harg9 : arg9.IsWhole) (arg10 : Memref sig .tc .vmem S2048x256 .f32) (harg10 : arg10.IsWhole) (arg11 : Memref sig .tc .vmem S8x8x256 .f32) (harg11 : arg11.IsWhole) (arg12 : Memref sig .tc .vmem S2x512x256 .f32) (harg12 : arg12.IsWhole) (arg13 : Memref sig .tc .vmem S2x512x128 .f32) (harg13 : arg13.IsWhole) (v8 : IVec S1x256 1) (v37 : FVec F S512x256 .bf16) (v41 : FVec F S512x256 .bf16) (v43 : FVec F S512x128 .bf16) (v45 : FVec F S512x128 .bf16) (v54 : BitVec 32) (v55 : BitVec 32) (v70 : BitVec 32) (v71 : BitVec 32)
    (X3 : Buf (Elt F) (arg3.view.loc (c : Thread nD τ))) (X6 : Buf (Elt F) (arg6.view.loc (c : Thread nD τ))) (X7 : Buf (Elt F) (arg7.view.loc (c : Thread nD τ)))
    (X11 : Buf (Elt F) (arg11.view.loc (c : Thread nD τ)))
    (G10 : Buf (Elt F) (arg10.view.loc (c : Thread nD τ))) (G12 : Buf (Elt F) (arg12.view.loc (c : Thread nD τ))) (G13 : Buf (Elt F) (arg13.view.loc (c : Thread nD τ))) : ℕ → List (View.Piece (Elt F) S2048x256 .f32) × List (View.Piece (Elt F) S2x512x256 .f32) × List (View.Piece (Elt F) S2x512x128 .f32)
  | 0 => ([], [], [])
  | n + 1 =>
    if h : n < (k0_t1_loop i).trips then
      ((trip c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 ⟨n, h⟩).1 (arg10.view.writes (Elt F) G10 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).1) (arg12.view.writes (Elt F) G12 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).2.1) (arg13.view.writes (Elt F) G13 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).2.2) ++ (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).1,
       (trip c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 ⟨n, h⟩).2.1 (arg10.view.writes (Elt F) G10 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).1) (arg12.view.writes (Elt F) G12 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).2.1) (arg13.view.writes (Elt F) G13 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).2.2) ++ (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).2.1,
       (trip c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 ⟨n, h⟩).2.2.1 (arg10.view.writes (Elt F) G10 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).1) (arg12.view.writes (Elt F) G12 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).2.1) (arg13.view.writes (Elt F) G13 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).2.2) ++ (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).2.2)
    else pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n

/-- What the first loop holds before trip `n`. -/
abbrev inv1 (c : Dev nD) (i : grid0.Coords) (arg3 : Memref sig .tc .vmem S2048x256 .bf16) (harg3 : arg3.IsWhole) (arg4 : Memref sig .tc .vmem S512x384 .bf16) (harg4 : arg4.IsWhole) (arg5 : Memref sig .tc .vmem S2048x128 .bf16) (harg5 : arg5.IsWhole) (arg6 : Memref sig .tc .vmem S8x1x8x256 .f32) (harg6 : arg6.IsWhole) (arg7 : Memref sig .tc .vmem S2048x128 .bf16) (harg7 : arg7.IsWhole) (arg8 : Memref sig .tc .vmem S2048x256 .bf16) (harg8 : arg8.IsWhole) (arg9 : Memref sig .tc .vmem S512x384 .bf16) (harg9 : arg9.IsWhole) (arg10 : Memref sig .tc .vmem S2048x256 .f32) (harg10 : arg10.IsWhole) (arg11 : Memref sig .tc .vmem S8x8x256 .f32) (harg11 : arg11.IsWhole) (arg12 : Memref sig .tc .vmem S2x512x256 .f32) (harg12 : arg12.IsWhole) (arg13 : Memref sig .tc .vmem S2x512x128 .f32) (harg13 : arg13.IsWhole) (v8 : IVec S1x256 1) (v37 : FVec F S512x256 .bf16) (v41 : FVec F S512x256 .bf16) (v43 : FVec F S512x128 .bf16) (v45 : FVec F S512x128 .bf16) (v54 : BitVec 32) (v55 : BitVec 32) (v70 : BitVec 32) (v71 : BitVec 32)
    (X3 : Buf (Elt F) (arg3.view.loc (c : Thread nD τ))) (X6 : Buf (Elt F) (arg6.view.loc (c : Thread nD τ))) (X7 : Buf (Elt F) (arg7.view.loc (c : Thread nD τ)))
    (X11 : Buf (Elt F) (arg11.view.loc (c : Thread nD τ)))
    (G10 : Buf (Elt F) (arg10.view.loc (c : Thread nD τ))) (G12 : Buf (Elt F) (arg12.view.loc (c : Thread nD τ))) (G13 : Buf (Elt F) (arg13.view.loc (c : Thread nD τ))) (n : ℕ) : sProp 𝕄 :=
  iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11)
    ∗ (arg10.view.loc (c : Thread nD τ) ↦[arg10.view.set]{fullShare} arg10.view.writes (Elt F) G10 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).1)
    ∗ (arg12.view.loc (c : Thread nD τ) ↦[arg12.view.set]{fullShare} arg12.view.writes (Elt F) G12 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).2.1)
    ∗ (arg13.view.loc (c : Thread nD τ) ↦[arg13.view.set]{fullShare} arg13.view.writes (Elt F) G13 (pb c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n).2.2))

/-- The first loop's invariant. -/
@[sl_loop, instance_reducible] noncomputable def loopInv1 (c : Dev nD) (i : grid0.Coords) (arg3 : Memref sig .tc .vmem S2048x256 .bf16) (harg3 : arg3.IsWhole) (arg4 : Memref sig .tc .vmem S512x384 .bf16) (harg4 : arg4.IsWhole) (arg5 : Memref sig .tc .vmem S2048x128 .bf16) (harg5 : arg5.IsWhole) (arg6 : Memref sig .tc .vmem S8x1x8x256 .f32) (harg6 : arg6.IsWhole) (arg7 : Memref sig .tc .vmem S2048x128 .bf16) (harg7 : arg7.IsWhole) (arg8 : Memref sig .tc .vmem S2048x256 .bf16) (harg8 : arg8.IsWhole) (arg9 : Memref sig .tc .vmem S512x384 .bf16) (harg9 : arg9.IsWhole) (arg10 : Memref sig .tc .vmem S2048x256 .f32) (harg10 : arg10.IsWhole) (arg11 : Memref sig .tc .vmem S8x8x256 .f32) (harg11 : arg11.IsWhole) (arg12 : Memref sig .tc .vmem S2x512x256 .f32) (harg12 : arg12.IsWhole) (arg13 : Memref sig .tc .vmem S2x512x128 .f32) (harg13 : arg13.IsWhole) (v8 : IVec S1x256 1) (v37 : FVec F S512x256 .bf16) (v41 : FVec F S512x256 .bf16) (v43 : FVec F S512x128 .bf16) (v45 : FVec F S512x128 .bf16) (v54 : BitVec 32) (v55 : BitVec 32) (v70 : BitVec 32) (v71 : BitVec 32)
    (X3 : Buf (Elt F) (arg3.view.loc (c : Thread nD τ))) (X6 : Buf (Elt F) (arg6.view.loc (c : Thread nD τ))) (X7 : Buf (Elt F) (arg7.view.loc (c : Thread nD τ)))
    (X11 : Buf (Elt F) (arg11.view.loc (c : Thread nD τ)))
    (G10 : Buf (Elt F) (arg10.view.loc (c : Thread nD τ))) (G12 : Buf (Elt F) (arg12.view.loc (c : Thread nD τ))) (G13 : Buf (Elt F) (arg13.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 v8 v37 v41 v43 v45 v54 v55 v70 v71 where
  inv := fun n _ => inv1 c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 G10 G12 G13 n
  step := fun k acc => by
    iintro HT
    iapply (wp_wand_r frame (wpE (defs₀ (F := F)) Variants.none (c : Thread nD τ) none) Set.univ)
    isplitl [HT]
    · iapply ((trip c i arg3 harg3 arg4 harg4 arg5 harg5 arg6 harg6 arg7 harg7 arg8 harg8 arg9 harg9 arg10 harg10 arg11 harg11 arg12 harg12 arg13 harg13 v8 v37 v41 v43 v45 v54 v55 v70 v71 X3 X6 X7 X11 k).2.2.2 _ _ _)
      iexact HT
    · iintro %v H
      simp only [inv1, pb, k.isLt, dif_pos, View.writes_append]
      iexact H

/-- The second loop never runs: its invariant is empty. -/
@[sl_loop, instance_reducible] noncomputable def loopInv2 (c : Dev nD) (i : grid0.Coords) (arg3 : Memref sig .tc .vmem S2048x256 .bf16) (harg3 : arg3.IsWhole) (arg4 : Memref sig .tc .vmem S512x384 .bf16) (harg4 : arg4.IsWhole) (arg5 : Memref sig .tc .vmem S2048x128 .bf16) (harg5 : arg5.IsWhole) (arg6 : Memref sig .tc .vmem S8x1x8x256 .f32) (harg6 : arg6.IsWhole) (arg7 : Memref sig .tc .vmem S2048x128 .bf16) (harg7 : arg7.IsWhole) (arg8 : Memref sig .tc .vmem S2048x256 .bf16) (harg8 : arg8.IsWhole) (arg9 : Memref sig .tc .vmem S512x384 .bf16) (harg9 : arg9.IsWhole) (arg10 : Memref sig .tc .vmem S2048x256 .f32) (harg10 : arg10.IsWhole) (arg11 : Memref sig .tc .vmem S8x8x256 .f32) (harg11 : arg11.IsWhole) (arg12 : Memref sig .tc .vmem S2x512x256 .f32) (harg12 : arg12.IsWhole) (arg13 : Memref sig .tc .vmem S2x512x128 .f32) (harg13 : arg13.IsWhole) (v8 : IVec S1x256 1) (v37 : FVec F S512x256 .bf16) (v41 : FVec F S512x256 .bf16) (v43 : FVec F S512x128 .bf16) (v45 : FVec F S512x128 .bf16) (v54 : BitVec 32) (v55 : BitVec 32) (v70 : BitVec 32) (v71 : BitVec 32) (v103 : BitVec 32) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 v8 v37 v41 v43 v45 v54 v55 v70 v71 v103 where
  inv := fun n _ => iprop(emp)
  step := fun k acc => absurd (lt_of_lt_of_eq k.isLt (no_trip2 i)) (Nat.not_lt_zero _)

end Cert.Attn.Ideal

end
-- ==== Proof.Attn.IdealRun0.lean ====
module

public import proofs.«01_k».proof.Proof.Attn.IdealLoop

@[expose] public section

set_option maxRecDepth 16384

noncomputable section

namespace Cert.Attn.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at the first key block of a pair: the pieces it leaves in each result's staging memref and in the
    carried scratch. -/
noncomputable def run0 (c : Dev nD) (i : grid0.Coords) (arg3 : Memref sig .tc .vmem S2048x256 .bf16) (harg3 : arg3.IsWhole) (arg4 : Memref sig .tc .vmem S512x384 .bf16) (harg4 : arg4.IsWhole) (arg5 : Memref sig .tc .vmem S2048x128 .bf16) (harg5 : arg5.IsWhole) (arg6 : Memref sig .tc .vmem S8x1x8x256 .f32) (harg6 : arg6.IsWhole) (arg7 : Memref sig .tc .vmem S2048x128 .bf16) (harg7 : arg7.IsWhole) (arg8 : Memref sig .tc .vmem S2048x256 .bf16) (harg8 : arg8.IsWhole) (arg9 : Memref sig .tc .vmem S512x384 .bf16) (harg9 : arg9.IsWhole) (arg10 : Memref sig .tc .vmem S2048x256 .f32) (harg10 : arg10.IsWhole) (arg11 : Memref sig .tc .vmem S8x8x256 .f32) (harg11 : arg11.IsWhole) (arg12 : Memref sig .tc .vmem S2x512x256 .f32) (harg12 : arg12.IsWhole) (arg13 : Memref sig .tc .vmem S2x512x128 .f32) (harg13 : arg13.IsWhole) (hc1 : kj0 i) (hc2 : ¬ k0_cond2 i = 1#1) (hc3 : k0_cond3 i = 1#1) (hc4 : ¬ k0_cond4 i = 1#1)
    (x3 : Vec F S2048x256 .bf16) (x4 : Vec F S512x384 .bf16) (x5 : Vec F S2048x128 .bf16) (x6 : Vec F S8x1x8x256 .f32) (x7 : Vec F S2048x128 .bf16) :
    Σ' (L9 : List (View.Piece (Elt F) S512x384 .bf16)) (L10 : Buf (Elt F) (arg10.view.loc (c : Thread nD τ))), { L11 : List (View.Piece (Elt F) S8x8x256 .f32) //
      ∀ (xi8 : Vec F S2048x256 .bf16) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare xi8
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ (∃ f, arg9.view.loc (c : Thread nD τ) ↦[arg9.view.set]{fullShare} arg9.view.writes (Elt F) f L9) ∗ (arg10.view.loc (c : Thread nD τ) ↦[arg10.view.set]{fullShare} L10) ∗ (∃ f, arg11.view.loc (c : Thread nD τ) ↦[arg11.view.set]{fullShare} arg11.view.writes (Elt F) f L11) ∗ (∃ d, owns (c : Thread nD τ) arg12 fullShare d) ∗ (∃ d, owns (c : Thread nD τ) arg13 fullShare d)) -∗ K ⟨⟩))
          ⊢ wp frame (wpE (defs₀ (F := F)) Variants.none c none) Set.univ (cc0_mla_attn_bwd i arg3 harg3 arg4 harg4 arg5 harg5 arg6 harg6 arg7 harg7 arg8 harg8 arg9 harg9 arg10 harg10 arg11 harg11 arg12 harg12 arg13 harg13) K } := by
  refine ⟨?_, ?_, ?_, fun xi8 K => ?run⟩
  case run =>
    simp only [cc0_mla_attn_bwd_eq_skeleton]; unfold cc0_mla_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexact H10
    isplitl [H11]
    · iexists _; iexact H11
    isplitl [H12]
    · iapply (any_of c arg12 _)
      iexact H12
    iapply (any_of c arg13 _)
    iexact H13

end Cert.Attn.Ideal

end
-- ==== Proof.Attn.IdealRun2.lean ====
module

public import proofs.«01_k».proof.Proof.Attn.IdealRun0

@[expose] public section

set_option maxRecDepth 16384

noncomputable section

namespace Cert.Attn.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at the third key block of a pair: the pieces it leaves in each result's staging memref and in the
    carried scratch. -/
noncomputable def run2 (c : Dev nD) (i : grid0.Coords) (arg3 : Memref sig .tc .vmem S2048x256 .bf16) (harg3 : arg3.IsWhole) (arg4 : Memref sig .tc .vmem S512x384 .bf16) (harg4 : arg4.IsWhole) (arg5 : Memref sig .tc .vmem S2048x128 .bf16) (harg5 : arg5.IsWhole) (arg6 : Memref sig .tc .vmem S8x1x8x256 .f32) (harg6 : arg6.IsWhole) (arg7 : Memref sig .tc .vmem S2048x128 .bf16) (harg7 : arg7.IsWhole) (arg8 : Memref sig .tc .vmem S2048x256 .bf16) (harg8 : arg8.IsWhole) (arg9 : Memref sig .tc .vmem S512x384 .bf16) (harg9 : arg9.IsWhole) (arg10 : Memref sig .tc .vmem S2048x256 .f32) (harg10 : arg10.IsWhole) (arg11 : Memref sig .tc .vmem S8x8x256 .f32) (harg11 : arg11.IsWhole) (arg12 : Memref sig .tc .vmem S2x512x256 .f32) (harg12 : arg12.IsWhole) (arg13 : Memref sig .tc .vmem S2x512x128 .f32) (harg13 : arg13.IsWhole) (hc1 : ¬ kj0 i) (hc2 : ¬ k0_cond2 i = 1#1) (hc3 : k0_cond3 i = 1#1) (hc4 : ¬ k0_cond4 i = 1#1)
    (x3 : Vec F S2048x256 .bf16) (x4 : Vec F S512x384 .bf16) (x5 : Vec F S2048x128 .bf16) (x6 : Vec F S8x1x8x256 .f32) (x7 : Vec F S2048x128 .bf16) (xs10 : Vec F S2048x256 .f32) (xs11 : Vec F S8x8x256 .f32) :
    Σ' (L9 : List (View.Piece (Elt F) S512x384 .bf16)), { L10 : Buf (Elt F) (arg10.view.loc (c : Thread nD τ)) //
      ∀ (xi8 : Vec F S2048x256 .bf16) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare xi8
            ∗ (∃ d, owns (c : Thread nD τ) arg9 fullShare d)
            ∗ owns (c : Thread nD τ) arg10 fullShare xs10
            ∗ owns (c : Thread nD τ) arg11 fullShare xs11
            ∗ (∃ d, owns (c : Thread nD τ) arg12 fullShare d)
            ∗ (∃ d, owns (c : Thread nD τ) arg13 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ (∃ f, arg9.view.loc (c : Thread nD τ) ↦[arg9.view.set]{fullShare} arg9.view.writes (Elt F) f L9) ∗ (arg10.view.loc (c : Thread nD τ) ↦[arg10.view.set]{fullShare} L10) ∗ owns (c : Thread nD τ) arg11 fullShare xs11 ∗ (∃ d, owns (c : Thread nD τ) arg12 fullShare d) ∗ (∃ d, owns (c : Thread nD τ) arg13 fullShare d)) -∗ K ⟨⟩))
          ⊢ wp frame (wpE (defs₀ (F := F)) Variants.none c none) Set.univ (cc0_mla_attn_bwd i arg3 harg3 arg4 harg4 arg5 harg5 arg6 harg6 arg7 harg7 arg8 harg8 arg9 harg9 arg10 harg10 arg11 harg11 arg12 harg12 arg13 harg13) K } := by
  refine ⟨?_, ?_, fun xi8 K => ?run⟩
  case run =>
    simp only [cc0_mla_attn_bwd_eq_skeleton]; unfold cc0_mla_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11
    sl_exec (disch := first | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexact H10
    isplitl [H11]
    · iexists _; isplitr; · ipureintro; exact harg11.read_unread _
      iexact H11
    isplitl [H12]
    · iapply (any_of c arg12 _)
      iexact H12
    iapply (any_of c arg13 _)
    iexact H13

end Cert.Attn.Ideal

end
-- ==== Proof.Attn.IdealRun1.lean ====
module

public import proofs.«01_k».proof.Proof.Attn.IdealLoop

@[expose] public section

set_option maxRecDepth 16384

noncomputable section

namespace Cert.Attn.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at the second key block of a pair: the pieces it leaves in each result's staging memref and in the
    carried scratch. -/
noncomputable def run1 (c : Dev nD) (i : grid0.Coords) (arg3 : Memref sig .tc .vmem S2048x256 .bf16) (harg3 : arg3.IsWhole) (arg4 : Memref sig .tc .vmem S512x384 .bf16) (harg4 : arg4.IsWhole) (arg5 : Memref sig .tc .vmem S2048x128 .bf16) (harg5 : arg5.IsWhole) (arg6 : Memref sig .tc .vmem S8x1x8x256 .f32) (harg6 : arg6.IsWhole) (arg7 : Memref sig .tc .vmem S2048x128 .bf16) (harg7 : arg7.IsWhole) (arg8 : Memref sig .tc .vmem S2048x256 .bf16) (harg8 : arg8.IsWhole) (arg9 : Memref sig .tc .vmem S512x384 .bf16) (harg9 : arg9.IsWhole) (arg10 : Memref sig .tc .vmem S2048x256 .f32) (harg10 : arg10.IsWhole) (arg11 : Memref sig .tc .vmem S8x8x256 .f32) (harg11 : arg11.IsWhole) (arg12 : Memref sig .tc .vmem S2x512x256 .f32) (harg12 : arg12.IsWhole) (arg13 : Memref sig .tc .vmem S2x512x128 .f32) (harg13 : arg13.IsWhole) (hc1 : ¬ kj0 i) (hc2 : k0_cond2 i = 1#1) (hc3 : ¬ k0_cond3 i = 1#1) (hc4 : ¬ k0_cond4 i = 1#1)
    (x3 : Vec F S2048x256 .bf16) (x4 : Vec F S512x384 .bf16) (x5 : Vec F S2048x128 .bf16) (x6 : Vec F S8x1x8x256 .f32) (x7 : Vec F S2048x128 .bf16) (xs10 : Vec F S2048x256 .f32) (xs11 : Vec F S8x8x256 .f32) :
    Σ' (L9 : List (View.Piece (Elt F) S512x384 .bf16)), { L10 : Buf (Elt F) (arg10.view.loc (c : Thread nD τ)) //
      ∀ (xi8 : Vec F S2048x256 .bf16) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare xi8
            ∗ (∃ d, owns (c : Thread nD τ) arg9 fullShare d)
            ∗ owns (c : Thread nD τ) arg10 fullShare xs10
            ∗ owns (c : Thread nD τ) arg11 fullShare xs11
            ∗ (∃ d, owns (c : Thread nD τ) arg12 fullShare d)
            ∗ (∃ d, owns (c : Thread nD τ) arg13 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ (∃ f, arg9.view.loc (c : Thread nD τ) ↦[arg9.view.set]{fullShare} arg9.view.writes (Elt F) f L9) ∗ (arg10.view.loc (c : Thread nD τ) ↦[arg10.view.set]{fullShare} L10) ∗ owns (c : Thread nD τ) arg11 fullShare xs11 ∗ (∃ d, owns (c : Thread nD τ) arg12 fullShare d) ∗ (∃ d, owns (c : Thread nD τ) arg13 fullShare d)) -∗ K ⟨⟩))
          ⊢ wp frame (wpE (defs₀ (F := F)) Variants.none c none) Set.univ (cc0_mla_attn_bwd i arg3 harg3 arg4 harg4 arg5 harg5 arg6 harg6 arg7 harg7 arg8 harg8 arg9 harg9 arg10 harg10 arg11 harg11 arg12 harg12 arg13 harg13) K } := by
  refine ⟨?_, ?_, fun xi8 K => ?run⟩
  case run =>
    simp only [cc0_mla_attn_bwd_eq_skeleton]; unfold cc0_mla_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11
    sl_exec (disch := first | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexact H10
    isplitl [H11]
    · iexists _; isplitr; · ipureintro; exact harg11.read_unread _
      iexact H11
    isplitl [H12]
    · iapply (any_of c arg12 _)
      iexact H12
    iapply (any_of c arg13 _)
    iexact H13

end Cert.Attn.Ideal

end
-- ==== Proof.Attn.IdealRun3.lean ====
module

public import proofs.«01_k».proof.Proof.Attn.IdealRun1

@[expose] public section

set_option maxRecDepth 16384

noncomputable section

namespace Cert.Attn.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at the last key block of a pair: the pieces it leaves in each result's staging memref and in the
    carried scratch. -/
noncomputable def run3 (c : Dev nD) (i : grid0.Coords) (arg3 : Memref sig .tc .vmem S2048x256 .bf16) (harg3 : arg3.IsWhole) (arg4 : Memref sig .tc .vmem S512x384 .bf16) (harg4 : arg4.IsWhole) (arg5 : Memref sig .tc .vmem S2048x128 .bf16) (harg5 : arg5.IsWhole) (arg6 : Memref sig .tc .vmem S8x1x8x256 .f32) (harg6 : arg6.IsWhole) (arg7 : Memref sig .tc .vmem S2048x128 .bf16) (harg7 : arg7.IsWhole) (arg8 : Memref sig .tc .vmem S2048x256 .bf16) (harg8 : arg8.IsWhole) (arg9 : Memref sig .tc .vmem S512x384 .bf16) (harg9 : arg9.IsWhole) (arg10 : Memref sig .tc .vmem S2048x256 .f32) (harg10 : arg10.IsWhole) (arg11 : Memref sig .tc .vmem S8x8x256 .f32) (harg11 : arg11.IsWhole) (arg12 : Memref sig .tc .vmem S2x512x256 .f32) (harg12 : arg12.IsWhole) (arg13 : Memref sig .tc .vmem S2x512x128 .f32) (harg13 : arg13.IsWhole) (hc1 : ¬ kj0 i) (hc2 : k0_cond2 i = 1#1) (hc3 : ¬ k0_cond3 i = 1#1) (hc4 : k0_cond4 i = 1#1)
    (x3 : Vec F S2048x256 .bf16) (x4 : Vec F S512x384 .bf16) (x5 : Vec F S2048x128 .bf16) (x6 : Vec F S8x1x8x256 .f32) (x7 : Vec F S2048x128 .bf16) (xs10 : Vec F S2048x256 .f32) (xs11 : Vec F S8x8x256 .f32) :
    Σ' (L8 : List (View.Piece (Elt F) S2048x256 .bf16)) (L9 : List (View.Piece (Elt F) S512x384 .bf16)), { L10 : Buf (Elt F) (arg10.view.loc (c : Thread nD τ)) //
      ∀ (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ (∃ d, owns (c : Thread nD τ) arg8 fullShare d)
            ∗ (∃ d, owns (c : Thread nD τ) arg9 fullShare d)
            ∗ owns (c : Thread nD τ) arg10 fullShare xs10
            ∗ owns (c : Thread nD τ) arg11 fullShare xs11
            ∗ (∃ d, owns (c : Thread nD τ) arg12 fullShare d)
            ∗ (∃ d, owns (c : Thread nD τ) arg13 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (arg10.view.loc (c : Thread nD τ) ↦[arg10.view.set]{fullShare} L10) ∗ owns (c : Thread nD τ) arg11 fullShare xs11 ∗ (∃ d, owns (c : Thread nD τ) arg12 fullShare d) ∗ (∃ d, owns (c : Thread nD τ) arg13 fullShare d)) -∗ K ⟨⟩))
          ⊢ wp frame (wpE (defs₀ (F := F)) Variants.none c none) Set.univ (cc0_mla_attn_bwd i arg3 harg3 arg4 harg4 arg5 harg5 arg6 harg6 arg7 harg7 arg8 harg8 arg9 harg9 arg10 harg10 arg11 harg11 arg12 harg12 arg13 harg13) K } := by
  refine ⟨?_, ?_, ?_, fun K => ?run⟩
  case run =>
    simp only [cc0_mla_attn_bwd_eq_skeleton]; unfold cc0_mla_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11
    sl_exec (disch := first | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    isplitl [H10]
    · iexact H10
    isplitl [H11]
    · iexists _; isplitr; · ipureintro; exact harg11.read_unread _
      iexact H11
    isplitl [H12]
    · iapply (any_of c arg12 _)
      iexact H12
    iapply (any_of c arg13 _)
    iexact H13

end Cert.Attn.Ideal

end
-- ==== Proof.Attn.IdealFrame.lean ====
module

public import proofs.«01_k».proof.Proof.Attn.IdealRun2
public import proofs.«01_k».proof.Proof.Attn.IdealRun3
public import Idealize.ShloMosaic.Lib.Claim

@[expose] public section

set_option maxRecDepth 16384

noncomputable section

namespace Cert.Attn.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's conditions at a point: the third grid coordinate is the point modulo 4 -/

theorem kj0_iff : ∀ t : Fin cfg0.N, kj0 (grid0.coords t) ↔ t.val % 4 = 0 :=
  (by decide +kernel : ∀ t : Fin grid0.N, kj0 (grid0.coords t) ↔ t.val % 4 = 0)
theorem cond2_iff : ∀ t : Fin cfg0.N, k0_cond2 (grid0.coords t) = 1#1 ↔ t.val % 2 = 1 :=
  (by decide +kernel : ∀ t : Fin grid0.N, k0_cond2 (grid0.coords t) = 1#1 ↔ t.val % 2 = 1)
theorem cond3_iff : ∀ t : Fin cfg0.N, k0_cond3 (grid0.coords t) = 1#1 ↔ t.val % 2 = 0 :=
  (by decide +kernel : ∀ t : Fin grid0.N, k0_cond3 (grid0.coords t) = 1#1 ↔ t.val % 2 = 0)
theorem cond4_iff : ∀ t : Fin cfg0.N, k0_cond4 (grid0.coords t) = 1#1 ↔ t.val % 4 = 3 :=
  (by decide +kernel : ∀ t : Fin grid0.N, k0_cond4 (grid0.coords t) = 1#1 ↔ t.val % 4 = 3)
theorem idle5 : ∀ t : Fin cfg0.N, t.val % 4 ≠ 3 → cfg0.idle 5 (grid0.coords t) = true :=
  (by decide +kernel : ∀ t : Fin grid0.N, t.val % 4 ≠ 3 → cfg0.idle 5 (grid0.coords t) = true)
theorem live5 : ∀ t : Fin cfg0.N, t.val % 4 = 3 → cfg0.idle 5 (grid0.coords t) = false :=
  (by decide +kernel : ∀ t : Fin grid0.N, t.val % 4 = 3 → cfg0.idle 5 (grid0.coords t) = false)
theorem noFlush5 : ∀ t : Fin cfg0.N, t.val % 4 ≠ 3 → (cfg0.win 5).flush t = false :=
  (by decide +kernel : ∀ t : Fin grid0.N, t.val % 4 ≠ 3 → win0_5.flush t = false)

/-! ## The memrefs at a point -/

abbrev ms0 (t : Fin cfg0.N) : Memref sig .tc .vmem S2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x384 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1x8x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x384 .bf16 := win0_6.stage (cfg0.slots t 6)
abbrev hs6 (t : Fin cfg0.N) : (ms6 t).IsWhole := hstage0_6 ((cfg0.slots t 6).cast nbuf0_6)
abbrev sc0 : Memref sig .tc .vmem S2048x256 .f32 := Memref.whole cc0_scratch0
abbrev hsc0 : sc0.IsWhole := Memref.isWhole_whole _
abbrev sc1 : Memref sig .tc .vmem S8x8x256 .f32 := Memref.whole cc0_scratch1
abbrev hsc1 : sc1.IsWhole := Memref.isWhole_whole _
abbrev sc2 : Memref sig .tc .vmem S2x512x256 .f32 := Memref.whole cc0_scratch2
abbrev hsc2 : sc2.IsWhole := Memref.isWhole_whole _
abbrev sc3 : Memref sig .tc .vmem S2x512x128 .f32 := Memref.whole cc0_scratch3
abbrev hsc3 : sc3.IsWhole := Memref.isWhole_whole _

/-- The launch's invariant with the scratch as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## What a point leaves: in the two results' staging memrefs and the two carried scratch buffers -/

abbrev Out (F : FTy → Type) : Type := Vec F S2048x256 .bf16 × Vec F S512x384 .bf16 × Vec F S2048x256 .f32 × Vec F S8x8x256 .f32

/-- The run at a point of a pair's first key block. -/
def at0 (c : Dev nD) (t : Fin cfg0.N) (h : t.val % 4 = 0) :=
  run0 c (grid0.coords t) (ms0 t) (hs0 t) (ms1 t) (hs1 t) (ms2 t) (hs2 t) (ms3 t) (hs3 t) (ms4 t) (hs4 t) (ms5 t) (hs5 t) (ms6 t) (hs6 t) sc0 hsc0 sc1 hsc1 sc2 hsc2 sc3 hsc3
    ((kj0_iff t).mpr h) (fun e => by have := (cond2_iff t).mp e; omega) ((cond3_iff t).mpr (by omega)) (fun e => by have := (cond4_iff t).mp e; omega) (iblk m c 0 t) (iblk m c 1 t) (iblk m c 2 t) (iblk m c 3 t) (iblk m c 4 t)

/-- What it leaves. -/
def out0 (c : Dev nD) (t : Fin cfg0.N) (h : t.val % 4 = 0) : Out F :=
  ((ms5 t).view.read (Elt F) (ms5 t).view.junk,
   (ms6 t).view.read (Elt F) ((ms6 t).view.writes (Elt F) (ms6 t).view.junk (at0 m c t h).1),
   sc0.view.read (Elt F) (at0 m c t h).2.1,
   sc1.view.read (Elt F) (sc1.view.writes (Elt F) sc1.view.junk (at0 m c t h).2.2.1))

theorem cover9_0 (c : Dev nD) (t : Fin cfg0.N) (h : t.val % 4 = 0) (y : S512x384.Idx) : ∃ pc ∈ (at0 m c t h).1, y ∈ pc.1.set :=
  View.cover_of_tiledBy (at0 m c t h).1 ![512, 128] (by sl_kernel_rfl) y

theorem cover11_0 (c : Dev nD) (t : Fin cfg0.N) (h : t.val % 4 = 0) (y : S8x8x256.Idx) : ∃ pc ∈ (at0 m c t h).2.2.1, y ∈ pc.1.set :=
  View.cover_of_tiledL (at0 m c t h).2.2.1 ![1, 8, 256] (by sl_kernel_rfl) y

set_option maxHeartbeats 1600000 in
theorem triple0 (c : Dev nD) (t : Fin cfg0.N) (h : t.val % 4 = 0) (d5 : Vec F S2048x256 .bf16) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare d5 ∗ (∃ d, owns (c : Thread nD τ) (ms6 t) fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)
      ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare d5 ∗ owns (c : Thread nD τ) (ms6 t) fullShare (out0 m c t h).2.1
          ∗ owns (c : Thread nD τ) sc0 fullShare (out0 m c t h).2.2.1 ∗ owns (c : Thread nD τ) sc1 fullShare (out0 m c t h).2.2.2 ∗ (∃ d, owns (c : Thread nD τ) sc2 fullShare d) ∗ (∃ d, owns (c : Thread nD τ) sc3 fullShare d)) -∗ K ⟨⟩))
      ⊢ wp frame (wpE (defs₀ (F := F)) Variants.none c none) Set.univ (bodyAt0 t) K := by
  unfold bodyAt0 out0
  dsimp only
  iintro ⟨H0, H1, H2, H3, H4, H5, H6, S0, S1, S2, S3, Hk⟩
  iapply ((at0 m c t h).2.2.2 d5 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, ⟨%e6, H6⟩, S0, ⟨%e1, S1⟩, S2, S3⟩
  iapply Hk
  isplitl [H0]; · iexact H0
  isplitl [H1]; · iexact H1
  isplitl [H2]; · iexact H2
  isplitl [H3]; · iexact H3
  isplitl [H4]; · iexact H4
  isplitl [H5]
  · iexact H5
  isplitl [H6]
  · unfold owns; iexists _; isplitr
    swap; · iexact H6
    ipureintro; exact View.read_writes_of_cover _ _ _ _ _ (cover9_0 m c t h)
  isplitl [S0]
  · unfold owns; iexists _; isplitr
    swap; · iexact S0
    ipureintro; rfl
  isplitl [S1]
  · unfold owns; iexists _; isplitr
    swap; · iexact S1
    ipureintro; exact View.read_writes_of_cover _ _ _ _ _ (cover11_0 m c t h)
  isplitl [S2]; · iexact S2
  iexact S3

/-- The run at a point of a pair's second key block. -/
def at1 (c : Dev nD) (t : Fin cfg0.N) (h : t.val % 4 = 1) (p : Out F) :=
  run1 c (grid0.coords t) (ms0 t) (hs0 t) (ms1 t) (hs1 t) (ms2 t) (hs2 t) (ms3 t) (hs3 t) (ms4 t) (hs4 t) (ms5 t) (hs5 t) (ms6 t) (hs6 t) sc0 hsc0 sc1 hsc1 sc2 hsc2 sc3 hsc3
    (fun e => by have := (kj0_iff t).mp e; omega) ((cond2_iff t).mpr (by omega)) (fun e => by have := (cond3_iff t).mp e; omega) (fun e => by have := (cond4_iff t).mp e; omega) (iblk m c 0 t) (iblk m c 1 t) (iblk m c 2 t) (iblk m c 3 t) (iblk m c 4 t) p.2.2.1 p.2.2.2

/-- What it leaves. -/
def out1 (c : Dev nD) (t : Fin cfg0.N) (h : t.val % 4 = 1) (p : Out F) : Out F :=
  ((ms5 t).view.read (Elt F) (ms5 t).view.junk,
   (ms6 t).view.read (Elt F) ((ms6 t).view.writes (Elt F) (ms6 t).view.junk (at1 m c t h p).1),
   sc0.view.read (Elt F) (at1 m c t h p).2.1,
   p.2.2.2)

theorem cover9_1 (c : Dev nD) (t : Fin cfg0.N) (h : t.val % 4 = 1) (p : Out F) (y : S512x384.Idx) : ∃ pc ∈ (at1 m c t h p).1, y ∈ pc.1.set :=
  View.cover_of_tiledBy (at1 m c t h p).1 ![512, 128] (by sl_kernel_rfl) y

set_option maxHeartbeats 1600000 in
theorem triple1 (c : Dev nD) (t : Fin cfg0.N) (h : t.val % 4 = 1) (p : Out F) (d5 : Vec F S2048x256 .bf16) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare d5 ∗ (∃ d, owns (c : Thread nD τ) (ms6 t) fullShare d) ∗ owns (c : Thread nD τ) sc0 fullShare p.2.2.1 ∗ owns (c : Thread nD τ) sc1 fullShare p.2.2.2 ∗ (∃ d, owns (c : Thread nD τ) sc2 fullShare d) ∗ (∃ d, owns (c : Thread nD τ) sc3 fullShare d)
      ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare d5 ∗ owns (c : Thread nD τ) (ms6 t) fullShare (out1 m c t h p).2.1
          ∗ owns (c : Thread nD τ) sc0 fullShare (out1 m c t h p).2.2.1 ∗ owns (c : Thread nD τ) sc1 fullShare (out1 m c t h p).2.2.2 ∗ (∃ d, owns (c : Thread nD τ) sc2 fullShare d) ∗ (∃ d, owns (c : Thread nD τ) sc3 fullShare d)) -∗ K ⟨⟩))
      ⊢ wp frame (wpE (defs₀ (F := F)) Variants.none c none) Set.univ (bodyAt0 t) K := by
  unfold bodyAt0 out1
  dsimp only
  iintro ⟨H0, H1, H2, H3, H4, H5, H6, S0, S1, S2, S3, Hk⟩
  iapply ((at1 m c t h p).2.2 d5 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, ⟨%e6, H6⟩, S0, S1, S2, S3⟩
  iapply Hk
  isplitl [H0]; · iexact H0
  isplitl [H1]; · iexact H1
  isplitl [H2]; · iexact H2
  isplitl [H3]; · iexact H3
  isplitl [H4]; · iexact H4
  isplitl [H5]
  · iexact H5
  isplitl [H6]
  · unfold owns; iexists _; isplitr
    swap; · iexact H6
    ipureintro; exact View.read_writes_of_cover _ _ _ _ _ (cover9_1 m c t h p)
  isplitl [S0]
  · unfold owns; iexists _; isplitr
    swap; · iexact S0
    ipureintro; rfl
  isplitl [S1]
  · iexact S1
  isplitl [S2]; · iexact S2
  iexact S3

/-- The run at a point of a pair's third key block. -/
def at2 (c : Dev nD) (t : Fin cfg0.N) (h : t.val % 4 = 2) (p : Out F) :=
  run2 c (grid0.coords t) (ms0 t) (hs0 t) (ms1 t) (hs1 t) (ms2 t) (hs2 t) (ms3 t) (hs3 t) (ms4 t) (hs4 t) (ms5 t) (hs5 t) (ms6 t) (hs6 t) sc0 hsc0 sc1 hsc1 sc2 hsc2 sc3 hsc3
    (fun e => by have := (kj0_iff t).mp e; omega) (fun e => by have := (cond2_iff t).mp e; omega) ((cond3_iff t).mpr (by omega)) (fun e => by have := (cond4_iff t).mp e; omega) (iblk m c 0 t) (iblk m c 1 t) (iblk m c 2 t) (iblk m c 3 t) (iblk m c 4 t) p.2.2.1 p.2.2.2

/-- What it leaves. -/
def out2 (c : Dev nD) (t : Fin cfg0.N) (h : t.val % 4 = 2) (p : Out F) : Out F :=
  ((ms5 t).view.read (Elt F) (ms5 t).view.junk,
   (ms6 t).view.read (Elt F) ((ms6 t).view.writes (Elt F) (ms6 t).view.junk (at2 m c t h p).1),
   sc0.view.read (Elt F) (at2 m c t h p).2.1,
   p.2.2.2)

theorem cover9_2 (c : Dev nD) (t : Fin cfg0.N) (h : t.val % 4 = 2) (p : Out F) (y : S512x384.Idx) : ∃ pc ∈ (at2 m c t h p).1, y ∈ pc.1.set :=
  View.cover_of_tiledBy (at2 m c t h p).1 ![512, 128] (by sl_kernel_rfl) y

set_option maxHeartbeats 1600000 in
theorem triple2 (c : Dev nD) (t : Fin cfg0.N) (h : t.val % 4 = 2) (p : Out F) (d5 : Vec F S2048x256 .bf16) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare d5 ∗ (∃ d, owns (c : Thread nD τ) (ms6 t) fullShare d) ∗ owns (c : Thread nD τ) sc0 fullShare p.2.2.1 ∗ owns (c : Thread nD τ) sc1 fullShare p.2.2.2 ∗ (∃ d, owns (c : Thread nD τ) sc2 fullShare d) ∗ (∃ d, owns (c : Thread nD τ) sc3 fullShare d)
      ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare d5 ∗ owns (c : Thread nD τ) (ms6 t) fullShare (out2 m c t h p).2.1
          ∗ owns (c : Thread nD τ) sc0 fullShare (out2 m c t h p).2.2.1 ∗ owns (c : Thread nD τ) sc1 fullShare (out2 m c t h p).2.2.2 ∗ (∃ d, owns (c : Thread nD τ) sc2 fullShare d) ∗ (∃ d, owns (c : Thread nD τ) sc3 fullShare d)) -∗ K ⟨⟩))
      ⊢ wp frame (wpE (defs₀ (F := F)) Variants.none c none) Set.univ (bodyAt0 t) K := by
  unfold bodyAt0 out2
  dsimp only
  iintro ⟨H0, H1, H2, H3, H4, H5, H6, S0, S1, S2, S3, Hk⟩
  iapply ((at2 m c t h p).2.2 d5 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, ⟨%e6, H6⟩, S0, S1, S2, S3⟩
  iapply Hk
  isplitl [H0]; · iexact H0
  isplitl [H1]; · iexact H1
  isplitl [H2]; · iexact H2
  isplitl [H3]; · iexact H3
  isplitl [H4]; · iexact H4
  isplitl [H5]
  · iexact H5
  isplitl [H6]
  · unfold owns; iexists _; isplitr
    swap; · iexact H6
    ipureintro; exact View.read_writes_of_cover _ _ _ _ _ (cover9_2 m c t h p)
  isplitl [S0]
  · unfold owns; iexists _; isplitr
    swap; · iexact S0
    ipureintro; rfl
  isplitl [S1]
  · iexact S1
  isplitl [S2]; · iexact S2
  iexact S3

/-- The run at a point of a pair's last key block. -/
def at3 (c : Dev nD) (t : Fin cfg0.N) (h : t.val % 4 = 3) (p : Out F) :=
  run3 c (grid0.coords t) (ms0 t) (hs0 t) (ms1 t) (hs1 t) (ms2 t) (hs2 t) (ms3 t) (hs3 t) (ms4 t) (hs4 t) (ms5 t) (hs5 t) (ms6 t) (hs6 t) sc0 hsc0 sc1 hsc1 sc2 hsc2 sc3 hsc3
    (fun e => by have := (kj0_iff t).mp e; omega) ((cond2_iff t).mpr (by omega)) (fun e => by have := (cond3_iff t).mp e; omega) ((cond4_iff t).mpr h) (iblk m c 0 t) (iblk m c 1 t) (iblk m c 2 t) (iblk m c 3 t) (iblk m c 4 t) p.2.2.1 p.2.2.2

/-- What it leaves. -/
def out3 (c : Dev nD) (t : Fin cfg0.N) (h : t.val % 4 = 3) (p : Out F) : Out F :=
  ((ms5 t).view.read (Elt F) ((ms5 t).view.writes (Elt F) (ms5 t).view.junk (at3 m c t h p).1),
   (ms6 t).view.read (Elt F) ((ms6 t).view.writes (Elt F) (ms6 t).view.junk (at3 m c t h p).2.1),
   sc0.view.read (Elt F) (at3 m c t h p).2.2.1,
   p.2.2.2)

theorem cover9_3 (c : Dev nD) (t : Fin cfg0.N) (h : t.val % 4 = 3) (p : Out F) (y : S512x384.Idx) : ∃ pc ∈ (at3 m c t h p).2.1, y ∈ pc.1.set :=
  View.cover_of_tiledBy (at3 m c t h p).2.1 ![512, 128] (by sl_kernel_rfl) y

theorem cover8_3 (c : Dev nD) (t : Fin cfg0.N) (h : t.val % 4 = 3) (p : Out F) (y : S2048x256.Idx) : ∃ pc ∈ (at3 m c t h p).1, y ∈ pc.1.set :=
  View.cover_of_tiledL (at3 m c t h p).1 ![2048, 256] (by sl_kernel_rfl) y

set_option maxHeartbeats 1600000 in
theorem triple3 (c : Dev nD) (t : Fin cfg0.N) (h : t.val % 4 = 3) (p : Out F) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ (∃ d, owns (c : Thread nD τ) (ms5 t) fullShare d) ∗ (∃ d, owns (c : Thread nD τ) (ms6 t) fullShare d) ∗ owns (c : Thread nD τ) sc0 fullShare p.2.2.1 ∗ owns (c : Thread nD τ) sc1 fullShare p.2.2.2 ∗ (∃ d, owns (c : Thread nD τ) sc2 fullShare d) ∗ (∃ d, owns (c : Thread nD τ) sc3 fullShare d)
      ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (out3 m c t h p).1 ∗ owns (c : Thread nD τ) (ms6 t) fullShare (out3 m c t h p).2.1
          ∗ owns (c : Thread nD τ) sc0 fullShare (out3 m c t h p).2.2.1 ∗ owns (c : Thread nD τ) sc1 fullShare (out3 m c t h p).2.2.2 ∗ (∃ d, owns (c : Thread nD τ) sc2 fullShare d) ∗ (∃ d, owns (c : Thread nD τ) sc3 fullShare d)) -∗ K ⟨⟩))
      ⊢ wp frame (wpE (defs₀ (F := F)) Variants.none c none) Set.univ (bodyAt0 t) K := by
  unfold bodyAt0 out3
  dsimp only
  iintro ⟨H0, H1, H2, H3, H4, H5, H6, S0, S1, S2, S3, Hk⟩
  iapply ((at3 m c t h p).2.2.2 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, ⟨%e5, H5⟩, ⟨%e6, H6⟩, S0, S1, S2, S3⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover8_3 m c t h p)
  isplitl [H6]
  · unfold owns; iexists _; isplitr
    swap; · iexact H6
    ipureintro; exact View.read_writes_of_cover _ _ _ _ _ (cover9_3 m c t h p)
  isplitl [S0]
  · unfold owns; iexists _; isplitr
    swap; · iexact S0
    ipureintro; rfl
  isplitl [S1]
  · iexact S1
  isplitl [S2]; · iexact S2
  iexact S3

/-- What point `n` leaves, over what the point before left. -/
def stepAt (c : Dev nD) (t : Fin cfg0.N) (p : Out F) : Out F :=
  if h0 : t.val % 4 = 0 then out0 m c t h0
  else if h1 : t.val % 4 = 1 then out1 m c t h1 p
  else if h2 : t.val % 4 = 2 then out2 m c t h2 p
  else out3 m c t (by omega) p

/-- What the results' staging memrefs and the carried scratch hold after point `n`. -/
def outsAt (c : Dev nD) : (n : ℕ) → n < cfg0.N → Out F
  | 0, hn => out0 m c ⟨0, hn⟩ rfl
  | n + 1, hn => stepAt m c ⟨n + 1, hn⟩ (outsAt c n (Nat.lt_of_succ_lt hn))

/-- What the point before `t` left. -/
abbrev prev (c : Dev nD) (t : Fin cfg0.N) : Out F := outsAt m c (t.val - 1) (Nat.lt_of_le_of_lt (Nat.sub_le _ _) t.isLt)

theorem outsAt_0 (c : Dev nD) (t : Fin cfg0.N) (h : t.val % 4 = 0) : outsAt m c t.val t.isLt = out0 m c t h := by
  obtain ⟨n, hn⟩ := t
  cases n with
  | zero => rfl
  | succ n => exact dif_pos h
theorem outsAt_1 (c : Dev nD) (t : Fin cfg0.N) (h : t.val % 4 = 1) : outsAt m c t.val t.isLt = out1 m c t h (prev m c t) := by
  obtain ⟨n, hn⟩ := t
  cases n with
  | zero => exact absurd h (by show ¬ (0 % 4 = _); decide)
  | succ n => exact (dif_neg (by dsimp only at h ⊢; omega)).trans (dif_pos h)
theorem outsAt_2 (c : Dev nD) (t : Fin cfg0.N) (h : t.val % 4 = 2) : outsAt m c t.val t.isLt = out2 m c t h (prev m c t) := by
  obtain ⟨n, hn⟩ := t
  cases n with
  | zero => exact absurd h (by show ¬ (0 % 4 = _); decide)
  | succ n => exact (dif_neg (by dsimp only at h ⊢; omega)).trans ((dif_neg (by dsimp only at h ⊢; omega)).trans (dif_pos h))
theorem outsAt_3 (c : Dev nD) (t : Fin cfg0.N) (h : t.val % 4 = 3) : outsAt m c t.val t.isLt = out3 m c t h (prev m c t) := by
  obtain ⟨n, hn⟩ := t
  cases n with
  | zero => exact absurd h (by show ¬ (0 % 4 = _); decide)
  | succ n => exact (dif_neg (by dsimp only at h ⊢; omega)).trans ((dif_neg (by dsimp only at h ⊢; omega)).trans (dif_neg (by dsimp only at h ⊢; omega)))

/-- The invariant before position `n`: the carried scratch at what the point before left, the rest at anything. -/
def PhiS (c : Dev nD) : (n : ℕ) → n ≤ cfg0.N → sProp 𝕄
  | 0, _ => Pipeline.ΦA spec0 c
  | n + 1, hn => iprop(iprop(owns (c : Thread nD τ) sc0 fullShare ((outsAt m c n hn).2.2.1) ∗ owns (c : Thread nD τ) sc1 fullShare ((outsAt m c n hn).2.2.2)
      ∗ (∃ d, owns (c : Thread nD τ) sc2 fullShare d) ∗ (∃ d, owns (c : Thread nD τ) sc3 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare ((outsAt m c n hn).2.2.1) ∗ owns (c : Thread nD τ) sc1 fullShare ((outsAt m c n hn).2.2.2)
      ∗ (∃ d, owns (c : Thread nD τ) sc2 fullShare d) ∗ (∃ d, owns (c : Thread nD τ) sc3 fullShare d)) ∗ (∃ r, prngReg c r)) := rfl
theorem PhiS_pos (c : Dev nD) (n : ℕ) (h : n ≤ cfg0.N) (hz : n ≠ 0) :
    PhiS m c n h = iprop(iprop(owns (c : Thread nD τ) sc0 fullShare ((outsAt m c (n - 1) (by omega)).2.2.1) ∗ owns (c : Thread nD τ) sc1 fullShare ((outsAt m c (n - 1) (by omega)).2.2.2)
      ∗ (∃ d, owns (c : Thread nD τ) sc2 fullShare d) ∗ (∃ d, owns (c : Thread nD τ) sc3 fullShare d)) ∗ (∃ r, prngReg c r)) := by
  cases n with
  | zero => exact absurd rfl hz
  | succ n => rfl

/-- The named contents forgotten. -/
theorem PhiS_any (c : Dev nD) (n : ℕ) (h : n ≤ cfg0.N) : PhiS m c n h ⊢ (Pipeline.ΦA spec0 c : sProp 𝕄) := by
  cases n with
  | zero => exact Idealize.SL.BI.Entails.refl _
  | succ n =>
    rw [PhiS_succ, PhiA_eq]
    iintro ⟨⟨S0, S1, S2, S3⟩, Hg⟩
    isplitl [S0 S1 S2 S3]
    · isplitl [S0]; · iexists _; iexact S0
      isplitl [S1]; · iexists _; iexact S1
      isplitl [S2]; · iexact S2
      iexact S3
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]
theorem after6 (c : Dev nD) (t : Fin cfg0.N) : (dats m 0 c).after 6 t = (outsAt m c t.val t.isLt).2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem leaves0 (c : Dev nD) (t : Fin cfg0.N) : (dats m 0 c).leavesExact 0 t = owns (c : Thread nD τ) (ms0 t) fullShare ((dats m 0 c).after 0 t) := by
  unfold Dat.leavesExact; rw [show cfg0.idle 0 (grid0.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (grid0.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (grid0.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (grid0.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (grid0.coords t) = false from rfl]
theorem leaves6 (c : Dev nD) (t : Fin cfg0.N) : (dats m 0 c).leavesExact 6 t = owns (c : Thread nD τ) (ms6 t) fullShare ((dats m 0 c).after 6 t) := by
  unfold Dat.leavesExact; rw [show cfg0.idle 6 (grid0.coords t) = false from rfl]
theorem leaves5 (c : Dev nD) (t : Fin cfg0.N) (h : t.val % 4 = 3) : (dats m 0 c).leavesExact 5 t = owns (c : Thread nD τ) (ms5 t) fullShare ((dats m 0 c).after 5 t) := by
  unfold Dat.leavesExact; rw [live5 t h]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ, PhiS_castSucc m c t,
    leaves0, leaves1, leaves2, leaves3, leaves4, leaves6, after0, after1, after2, after3, after4, after6]
  have hcase : t.val % 4 = 0 ∨ t.val % 4 = 1 ∨ t.val % 4 = 2 ∨ t.val % 4 = 3 := by omega
  rcases hcase with h | h | h | h
  · rw [outsAt_0 m c t h]
    rw [Dat.leavesExact_idle (dats m 0 c) 5 t (idle5 t (by omega)) (noFlush5 t (by omega))]
    have hΦ := PhiS_any m c t.val (Nat.le_of_lt t.isLt)
    rw [PhiA_eq] at hΦ
    iintro ⟨HΦ, Ho, ⟨%d0, H0⟩, ⟨%d1, H1⟩, ⟨%d2, H2⟩, ⟨%d3, H3⟩, ⟨%d4, H4⟩, ⟨%d5, H5⟩, ⟨%d6, H6⟩⟩
    ihave ⟨⟨S0, S1, S2, S3⟩, Hg⟩ := hΦ $$ HΦ
    iapply (triple0 m c t h _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    isplitl [S3]; · iexact S3
    iintro ⟨H0, H1, H2, H3, H4, H5, H6, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexact H6
  · rw [outsAt_1 m c t h]
    rw [Dat.leavesExact_idle (dats m 0 c) 5 t (idle5 t (by omega)) (noFlush5 t (by omega))]
    rw [PhiS_pos m c _ _ (by omega)]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
    iapply (triple1 m c t h (prev m c t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    isplitl [S3]; · iexact S3
    iintro ⟨H0, H1, H2, H3, H4, H5, H6, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexact H6
  · rw [outsAt_2 m c t h]
    rw [Dat.leavesExact_idle (dats m 0 c) 5 t (idle5 t (by omega)) (noFlush5 t (by omega))]
    rw [PhiS_pos m c _ _ (by omega)]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
    iapply (triple2 m c t h (prev m c t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    isplitl [S3]; · iexact S3
    iintro ⟨H0, H1, H2, H3, H4, H5, H6, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexact H6
  · rw [outsAt_3 m c t h]
    rw [leaves5 m c t h, after5, outsAt_3 m c t h]
    rw [PhiS_pos m c _ _ (by omega)]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
    iapply (triple3 m c t h (prev m c t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [S0]; · iexact S0
    isplitl [S1]; · iexact S1
    isplitl [S2]; · iexact S2
    isplitl [S3]; · iexact S3
    iintro ⟨H0, H1, H2, H3, H4, H5, H6, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl]
  exact PhiS_any m c _ _

/-! ## The run and the frame -/

set_option backward.isDefEq.respectTransparency.types false in
/-- The launch: every fair execution ends, with the pipeline's arrays at what the proof data say, everything else as it
    was, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments unchanged and every semaphore at zero. -/
theorem frame_ok : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Attn.Ideal

end
-- ==== Proof.Mm.Common.lean ====
module

public import Idealize.ShloMosaic.Lib.Pointwise
public import Idealize.ShloMosaic.Lib.IdealHost

/-! Facts about the extended reals that the products of the perceptron share. -/

@[expose] public section

noncomputable section

namespace Cert.Mm

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The literal 2. -/
theorem lit_two : Ideal.ofBits .f32 0x40000000#32 = 2 := by
  rw [show (2 : EReal) = ((2 : ℝ) : EReal) by norm_cast]
  simp [Ideal.ofBits, Ideal.ieee, -EReal.coe_mul]; norm_num

theorem add_self (x : EReal) : x + x = 2 * x := by
  rw [← one_add_one_eq_two, EReal.right_distrib_of_nonneg zero_le_one zero_le_one, one_mul]

/-- The derivative of the squared positive part, as the derivative of a product of two equal factors. -/
theorem relu2 (p x : EReal) : (if 0 < p then max p 0 * x + x * max p 0 else 0) = x * (2 * max p 0) := by
  split
  · rename_i h
    rw [mul_comm (max p 0) x, add_self, mul_left_comm]
  · rename_i h
    rw [max_eq_right (not_lt.mp h), mul_zero, mul_zero]

/-- The optimiser's new first moment, of a gradient and the old moment. -/
def newM (g m : EReal) : EReal := Ideal.ofBits .f32 0x3F666666#32 * m + Ideal.ofBits .f32 0x3DCCCCCD#32 * g

/-- The optimiser's new second moment. -/
def newV (g v : EReal) : EReal := Ideal.ofBits .f32 0x3F7FBE77#32 * v + Ideal.ofBits .f32 0x3A83126F#32 * (g * g)

/-- The optimiser's step: the first moment over the root of the second, both with their bias corrected, with weight decay. -/
def delta (w g m v : EReal) : EReal :=
  Ideal.ofBits .f32 0xBA83126F#32 * (Ideal.div (Ideal.div (newM g m) (Ideal.ofBits .f32 0x3F26BD02#32)) (Ideal.sqrt (Ideal.div (newV g v) (Ideal.ofBits .f32 0x3C231ACC#32)) + Ideal.ofBits .f32 0x322BCC77#32) + Ideal.ofBits .f32 0x3C23D70A#32 * w)

end Cert.Mm

end
-- ==== Proof.Mm.K2.lean ====
module

public import proofs.«01_k».proof.Proof.Mm.Common
public import proofs.«01_k».proof.Proof.Gen.Kernel2Ideal.Value
public import proofs.«01_k».proof.Proof.Gen.Reference2Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The gradient of the second matrix of the perceptron: the value of its call. -/

@[expose] public section

set_option maxRecDepth 16384

noncomputable section

namespace Cert.Mm.K2

open Cert.Kernel2Ideal Cert.Kernel2Ideal.Gen
open Idealize.ShloMosaic Idealize.ShloMosaic.TcCoe Idealize.SL.Sem
open Idealize.ShloMosaic.Pipeline (Dat)

section

variable {F : FTy → Type} [FloatOps F]
variable (m : (ℓ : Loc nD τ sig) → Buf (Elt F) ℓ)

/-- The first step of a block's contraction leaves the first partial product in the accumulator. -/
theorem sout_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i) (hc2 : ¬cond0_2 i)
    (x0 : Vec F S1024x2048 .bf16) (x1 : Vec F S2048x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, View.ld_unit_zero (S := S1024x2048) hz2, View.ld_unit_zero (S := S2048x1024) hz2]

/-- The second step adds the second partial product and writes the sum out. -/
theorem out_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (hc2 : cond0_2 i)
    (x0 : Vec F S1024x2048 .bf16) (x1 : Vec F S2048x1024 .bf16) (xs0 : Vec F S1024x1024 .f32) :
    out0_B_2 c i arg3 harg3 arg4 harg4 arg5 harg5 arg6 harg6 hc0 hc1 hc2 x0 x1 xs0 = k0_pay4 (k0_pay3 x0 x1 xs0) := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz3]
  simp only [View.readAt_eq_ld, harg3.read_unread, harg4.read_unread, harg6.read_unread, View.ld_unit_zero (S := S1024x2048) hz2, View.ld_unit_zero (S := S2048x1024) hz2, View.ld_unit_zero (S := S1024x1024) hz2, View.readCov_unit_zero (S := S1024x1024) _ hz2]

/-- The result as one contraction of the two operands. -/
def prod (A : Vec Ideal S4096x4096 .bf16) (B : Vec Ideal S4096x1024 .bf16) : Vec Ideal S1x4096x1024 .f32 :=
  fun i => ∑ k : Fin 4096, A (ix2 (i 1) k) * B (ix2 k (i 2))

theorem idx : ∀ t : Fin cfg0.N, win0_0.index t = ![t.val / 2, t.val % 2] ∧ win0_1.index t = ![t.val % 2, 0] ∧ win0_2.index t = ![0, t.val / 2, 0] :=
  (by decide +kernel : ∀ t : Fin grid0.N, win0_0.index t = ![t.val / 2, t.val % 2] ∧ win0_1.index t = ![t.val % 2, 0] ∧ win0_2.index t = ![0, t.val / 2, 0])

theorem read0 (t : Fin cfg0.N) (X : Vec Ideal S4096x4096 .bf16) (a : Fin 1024) (b : Fin 2048) (r k : Fin 4096)
    (hr : r.val = 1024 * (t.val / 2) + a.val) (hk : k.val = 2048 * (t.val % 2) + b.val) :
    ((cfg0.win 0).blk t).view.read (Elt Ideal) X (ix2 a b) = X (ix2 r k) := by
  have e := (idx t).1
  rw [View.read_apply]
  refine congrArg X ?_
  funext d
  apply Fin.ext
  match d with
  | ⟨0, _⟩ => show win0_0.index t 0 * 1024 + 1 * a.val = r.val; rw [e, hr]; show t.val / 2 * 1024 + 1 * a.val = _; omega
  | ⟨1, _⟩ => show win0_0.index t 1 * 2048 + 1 * b.val = k.val; rw [e, hk]; show t.val % 2 * 2048 + 1 * b.val = _; omega

theorem read1 (t : Fin cfg0.N) (X : Vec Ideal S4096x1024 .bf16) (b : Fin 2048) (a : Fin 1024) (k : Fin 4096) (n : Fin 1024)
    (hk : k.val = 2048 * (t.val % 2) + b.val) (hn : n.val = a.val) :
    ((cfg0.win 1).blk t).view.read (Elt Ideal) X (ix2 b a) = X (ix2 k n) := by
  have e := (idx t).2.1
  rw [View.read_apply]
  refine congrArg X ?_
  funext d
  apply Fin.ext
  match d with
  | ⟨0, _⟩ => show win0_1.index t 0 * 2048 + 1 * b.val = k.val; rw [e, hk]; show t.val % 2 * 2048 + 1 * b.val = _; omega
  | ⟨1, _⟩ => show win0_1.index t 1 * 1024 + 1 * a.val = n.val; rw [e, hn]; show 0 * 1024 + 1 * a.val = _; omega

theorem emb2 (t : Fin cfg0.N) (y : S1x1024x1024.Idx) :
    (((cfg0.win 2).blk t).view.emb y 1).val = 1024 * (t.val / 2) + (y 1).val ∧ (((cfg0.win 2).blk t).view.emb y 2).val = (y 2).val := by
  have e := (idx t).2.2
  constructor
  · show win0_2.index t 1 * 1024 + 1 * (y 1).val = _; rw [e]; show t.val / 2 * 1024 + 1 * (y 1).val = _; omega
  · show win0_2.index t 2 * 1024 + 1 * (y 2).val = _; rw [e]; show 0 * 1024 + 1 * (y 2).val = _; omega

/-- Two blocks of the contraction, one added to the other, are the contraction. -/
theorem pay (x0 x0' : Vec Ideal S1024x2048 .bf16) (x1 x1' : Vec Ideal S2048x1024 .bf16) (A : Vec Ideal S4096x4096 .bf16) (B : Vec Ideal S4096x1024 .bf16)
    (y : S1x1024x1024.Idx) (i : S1x4096x1024.Idx)
    (h0 : ∀ (b : Fin 2048) (k : Fin 4096), k.val = b.val → x0 (ix2 (y 1) b) = A (ix2 (i 1) k) ∧ x1 (ix2 b (y 2)) = B (ix2 k (i 2)))
    (h1 : ∀ (b : Fin 2048) (k : Fin 4096), k.val = 2048 + b.val → x0' (ix2 (y 1) b) = A (ix2 (i 1) k) ∧ x1' (ix2 b (y 2)) = B (ix2 k (i 2))) :
    k0_pay4 (k0_pay3 x0' x1' (k0_pay2 x0 x1)) y = prod A B i := by
  unfold prod
  pointwise [k0_pay4, k0_pay3, k0_pay2, k0_pay1]
  rw [Fin.sum_univ_two_halves 2048 2048 rfl]
  congr 1 <;> refine Finset.sum_congr rfl fun k _ => ?_
  · exact congrArg₂ (· * ·) (h0 k _ rfl).1 (h0 k _ rfl).2
  · exact congrArg₂ (· * ·) (h1 k ⟨2048 + k.val, _⟩ rfl).1 (h1 k ⟨2048 + k.val, _⟩ rfl).2

theorem outs_congr (c : Dev nD) (n n' : ℕ) (h : n < cfg0.N) (h' : n' < cfg0.N) (e : n = n') : outsAt0 m c n h = outsAt0 m c n' h' := by
  subst e; rfl

theorem acc_A (c : Dev nD) (u : Fin cfg0.N) (h : u.val % 2 = 0) : (outsAt0 m c u.val u.isLt).2 = k0_pay2 (iblk m c 0 u) (iblk m c 1 u) := by
  rw [outsAt0_A m c u h (by omega) (by omega)]
  dsimp only
  rw [sout_A]

theorem out_at (c : Dev nD) (t u : Fin cfg0.N) (h : t.val % 2 = 1) (hu : t.val = u.val + 1) :
    (outsAt0 m c t.val t.isLt).1 = k0_pay4 (k0_pay3 (iblk m c 0 t) (iblk m c 1 t) (k0_pay2 (iblk m c 0 u) (iblk m c 1 u))) := by
  rw [outsAt0_B m c t (by omega) h h]
  dsimp only
  rw [out_B, outs_congr m c (t.val - 1) u.val _ u.isLt (by omega), acc_A m c u (by omega)]

end

variable (mI : (ℓ : Loc nD τ sig) → Buf (Elt Ideal) ℓ)

theorem final (c : Dev nD) : (dats (F := Ideal) mI 0 c).arrAt 2 cfg0.N = prod (V mI c main_v5) (V mI c main_v6) := by
  refine (dats (F := Ideal) mI 0 c).arrAt_eq_of_covers 2 _ (by decide +kernel) fun t hf y => ?_
  have h1 : t.val % 2 = 1 := by have := (flush0_2 t).mp hf; omega
  obtain ⟨u, hu⟩ : ∃ u : Fin cfg0.N, t.val = u.val + 1 := ⟨⟨t.val - 1, Nat.lt_of_le_of_lt (Nat.sub_le _ _) t.isLt⟩, by dsimp only; omega⟩
  obtain ⟨e1, e2⟩ := emb2 t y
  have hc : (dats (F := Ideal) mI 0 c).flushed 2 t y = (outsAt0 mI c t.val t.isLt).1 y := by
    show (dats (F := Ideal) mI 0 c).after 2 t y = _
    rw [after0_2]
  refine hc.trans ?_
  rw [out_at mI c t u h1 hu]
  generalize hX : V mI c main_v5 = A
  generalize hY : V mI c main_v6 = B
  have hA (u : Fin cfg0.N) : iblk mI c 0 u = ((cfg0.win 0).blk u).view.read (Elt Ideal) A := by rw [← hX]; rfl
  have hB (u : Fin cfg0.N) : iblk mI c 1 u = ((cfg0.win 1).blk u).view.read (Elt Ideal) B := by rw [← hY]; rfl
  refine pay _ _ _ _ A B y _ (fun b k hk => ⟨?_, ?_⟩) (fun b k hk => ⟨?_, ?_⟩)
  · rw [hA]; exact read0 _ A _ _ _ _ (by rw [e1]; omega) (by omega)
  · rw [hB]; exact read1 _ B _ _ _ _ (by omega) (by rw [e2])
  · rw [hA]; exact read0 _ A _ _ _ _ (by rw [e1]) (by omega)
  · rw [hB]; exact read1 _ B _ _ _ _ (by omega) (by rw [e2])

/-- The activations: a projection, its negative part cut off, squared. -/
def act (x : FVec Ideal S4096x1024 .f32) (w : FVec Ideal S1024x4096 .f32) : FVec Ideal S4096x4096 .f32 :=
  mulf (F := Ideal) (φ := .f32) (maximumf (Host.dotGeneral dot_S4096x1024_S1024x4096_S4096x4096_1_0_0_1_n_n none x w) (broadcastInDim S4096x4096 ![] bcast_S_S4096x4096 (constant S_ .f32 0x00000000#32)))
    (maximumf (Host.dotGeneral dot_S4096x1024_S1024x4096_S4096x4096_1_0_0_1_n_n none x w) (broadcastInDim S4096x4096 ![] bcast_S_S4096x4096 (constant S_ .f32 0x00000000#32)))

theorem entry5 (m : (ℓ : Loc nD τ sig) → Buf (Elt Ideal) ℓ) (c : Dev nD) : V m c main_v5 = truncf (F := Ideal) (φ := .f32) .bf16 (transpose S4096x4096 [1, 0] (act (m (c.tc.loc main_arg0)) (m (c.tc.loc main_arg1))) transposes_S4096x4096_S4096x4096_1_0) bitsLt_bf16_f32 := by
  show StableHlo.after hostOps0 _ main_v5 = _
  after_results
  rfl

theorem entry6 (m : (ℓ : Loc nD τ sig) → Buf (Elt Ideal) ℓ) (c : Dev nD) : V m c main_v6 = truncf (F := Ideal) (φ := .f32) .bf16 (m (c.tc.loc main_arg3) : Vec Ideal S4096x1024 .f32) bitsLt_bf16_f32 := by
  show StableHlo.after hostOps0 _ main_v6 = _
  after_results

theorem alg : Cert.algebraic_Kernel2Ideal_Reference2Ideal (hKernel2Ideal := Cert.Kernel2Ideal.Gen.facts) (hReference2Ideal := Cert.Reference2Ideal.Gen.facts) := by
  intro m g m' g' _ hag
  refine ⟨fun c => prod (V m c main_v5) (V m c main_v6), ?_, ?_⟩
  · exact (θ_run defs _ _).mono (fun r h c => ⟨(Cert.Kernel2Ideal.Value.post2 m r h c).trans (final m c), Cert.Kernel2Ideal.Value.kept_main_arg0 m r h c, Cert.Kernel2Ideal.Value.kept_main_arg1 m r h c, Cert.Kernel2Ideal.Value.kept_main_arg2 m r h c, Cert.Kernel2Ideal.Value.kept_main_arg3 m r h c⟩) (run_main m g)
  · refine (θ_run Cert.Reference2Ideal.defs _ _).mono (fun r h c => ⟨(h c).1.trans ?_, (h c).2⟩) (Cert.Reference2Ideal.Value.run m' g')
    rw [(hag c).1, (hag c).2.1, (hag c).2.2.2]
    show _ = prod (V m c main_v5) (V m c main_v6)
    rw [entry5, entry6]
    funext i
    idx_vars i
    pointwise [prod, act]
    exact Finset.sum_congr rfl fun k _ => mul_comm _ _

end Cert.Mm.K2

end
-- ==== Proof.Mm.K3.lean ====
module

public import proofs.«01_k».proof.Proof.Mm.Common
public import proofs.«01_k».proof.Proof.Gen.Kernel3Ideal.Value
public import proofs.«01_k».proof.Proof.Gen.Reference3Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The gradient of the hidden layer's pre-activation: the value of its call. -/

@[expose] public section

set_option maxRecDepth 16384

noncomputable section

namespace Cert.Mm.K3

open Cert.Kernel3Ideal Cert.Kernel3Ideal.Gen
open Idealize.ShloMosaic Idealize.ShloMosaic.TcCoe Idealize.SL.Sem
open Idealize.ShloMosaic.Pipeline (Dat)

/-- One block of the result is the body's value at the three blocks it reads. -/
theorem out_eq {F : FTy → Type} [FloatOps F] (x0 : Vec F S1024x1024 .bf16) (x1 : Vec F S1x1024x1024 .bf16) (x2 : Vec F S1024x1024 .bf16) :
    out0_3 x0 x1 x2 = k0_pay1 x0 x1 x2 := by
  unfold out0_3
  rw [View.canon_unit_zero hz2]
  simp only [View.ld_unit_zero (S := S1024x1024) hz2, View.ld_unit_zero (S := S1x1024x1024) hz3]

/-- The gradient that reaches the pre-activation `P`: the gradient of the output against the rows of the second matrix,
    times the derivative of the squared positive part. -/
def grad (A : Vec Ideal S4096x1024 .bf16) (B : Vec Ideal S1x4096x1024 .bf16) (P : Vec Ideal S4096x4096 .bf16) : Vec Ideal S4096x4096 .bf16 :=
  fun i => (∑ k : Fin 1024, A (ix2 (i 0) k) * B (ix3 0 (i 1) k)) * (2 * max (P i) 0)

theorem idx : ∀ t : Fin cfg0.N, win0_0.index t = ![t.val / 4, 0] ∧ win0_1.index t = ![0, t.val % 4, 0] ∧ win0_2.index t = ![t.val / 4, t.val % 4] ∧ win0_3.index t = ![t.val / 4, t.val % 4] :=
  (by decide +kernel : ∀ t : Fin grid0.N, win0_0.index t = ![t.val / 4, 0] ∧ win0_1.index t = ![0, t.val % 4, 0] ∧ win0_2.index t = ![t.val / 4, t.val % 4] ∧ win0_3.index t = ![t.val / 4, t.val % 4])

theorem read0 (t : Fin cfg0.N) (X : Vec Ideal S4096x1024 .bf16) (a b : Fin 1024) (r : Fin 4096) (hr : r.val = 1024 * (t.val / 4) + a.val) :
    ((cfg0.win 0).blk t).view.read (Elt Ideal) X (ix2 a b) = X (ix2 r b) := by
  have e := (idx t).1
  rw [View.read_apply]
  refine congrArg X (funext fun d => Fin.ext ?_)
  match d with
  | ⟨0, _⟩ => show win0_0.index t 0 * 1024 + 1 * a.val = r.val; rw [e, hr]; show t.val / 4 * 1024 + 1 * a.val = _; omega
  | ⟨1, _⟩ => show win0_0.index t 1 * 1024 + 1 * b.val = b.val; rw [e]; show 0 * 1024 + 1 * b.val = _; omega

theorem read1 (t : Fin cfg0.N) (X : Vec Ideal S1x4096x1024 .bf16) (a b : Fin 1024) (r : Fin 4096) (hr : r.val = 1024 * (t.val % 4) + a.val) :
    ((cfg0.win 1).blk t).view.read (Elt Ideal) X (ix3 0 a b) = X (ix3 0 r b) := by
  have e := (idx t).2.1
  rw [View.read_apply]
  refine congrArg X (funext fun d => Fin.ext ?_)
  match d with
  | ⟨0, _⟩ => show win0_1.index t 0 * 1 + 1 * 0 = 0; rw [e]; rfl
  | ⟨1, _⟩ => show win0_1.index t 1 * 1024 + 1 * a.val = r.val; rw [e, hr]; show t.val % 4 * 1024 + 1 * a.val = _; omega
  | ⟨2, _⟩ => show win0_1.index t 2 * 1024 + 1 * b.val = b.val; rw [e]; show 0 * 1024 + 1 * b.val = _; omega

theorem emb3 (t : Fin cfg0.N) (y : S1024x1024.Idx) :
    (((cfg0.win 3).blk t).view.emb y 0).val = 1024 * (t.val / 4) + (y 0).val ∧ (((cfg0.win 3).blk t).view.emb y 1).val = 1024 * (t.val % 4) + (y 1).val := by
  have e := (idx t).2.2.2
  constructor
  · show win0_3.index t 0 * 1024 + 1 * (y 0).val = _; rw [e]; show t.val / 4 * 1024 + 1 * (y 0).val = _; omega
  · show win0_3.index t 1 * 1024 + 1 * (y 1).val = _; rw [e]; show t.val % 4 * 1024 + 1 * (y 1).val = _; omega

/-- The saved pre-activation is read through the same blocks as the result is written. -/
theorem read2 (t : Fin cfg0.N) (X : Vec Ideal S4096x4096 .bf16) (y : S1024x1024.Idx) :
    ((cfg0.win 2).blk t).view.read (Elt Ideal) X y = X (((cfg0.win 3).blk t).view.emb y) := by
  have e := (idx t).2.2.1
  have e' := (idx t).2.2.2
  rw [View.read_apply]
  refine congrArg X (funext fun d => Fin.ext ?_)
  match d with
  | ⟨0, _⟩ => show win0_2.index t 0 * 1024 + 1 * (y 0).val = win0_3.index t 0 * 1024 + 1 * (y 0).val; rw [e, e']
  | ⟨1, _⟩ => show win0_2.index t 1 * 1024 + 1 * (y 1).val = win0_3.index t 1 * 1024 + 1 * (y 1).val; rw [e, e']

theorem pay (x0 : Vec Ideal S1024x1024 .bf16) (x1 : Vec Ideal S1x1024x1024 .bf16) (x2 : Vec Ideal S1024x1024 .bf16)
    (A : Vec Ideal S4096x1024 .bf16) (B : Vec Ideal S1x4096x1024 .bf16) (P : Vec Ideal S4096x4096 .bf16) (y : S1024x1024.Idx) (i : S4096x4096.Idx)
    (h0 : ∀ k : Fin 1024, x0 (ix2 (y 0) k) = A (ix2 (i 0) k)) (h1 : ∀ k : Fin 1024, x1 (ix3 0 (y 1) k) = B (ix3 0 (i 1) k)) (h2 : x2 y = P i) :
    k0_pay1 x0 x1 x2 y = grad A B P i := by
  unfold grad
  rw [← h2]
  simp only [← h0, ← h1]
  idx_vars y
  pointwise [k0_pay1]
  rw [lit_two]

variable (m : (ℓ : Loc nD τ sig) → Buf (Elt Ideal) ℓ)

theorem final (c : Dev nD) : (dats (F := Ideal) m 0 c).arrAt 3 cfg0.N = grad (V m c main_v1) (V m c main_v3) (V m c main_v4) := by
  refine (dats (F := Ideal) m 0 c).arrAt_eq_of_covers 3 _ (by decide +kernel) fun t hf y => ?_
  obtain ⟨e1, e2⟩ := emb3 t y
  have hc : (dats (F := Ideal) m 0 c).flushed 3 t y = out0_3 (iblk m c 0 t) (iblk m c 1 t) (iblk m c 2 t) y := by
    show (dats (F := Ideal) m 0 c).after 3 t y = _
    rw [after0_3]
  refine hc.trans ?_
  rw [out_eq]
  generalize hX : V m c main_v1 = A
  generalize hY : V m c main_v3 = B
  generalize hZ : V m c main_v4 = P
  have hA : iblk m c 0 t = ((cfg0.win 0).blk t).view.read (Elt Ideal) A := by rw [← hX]; rfl
  have hB : iblk m c 1 t = ((cfg0.win 1).blk t).view.read (Elt Ideal) B := by rw [← hY]; rfl
  have hP : iblk m c 2 t = ((cfg0.win 2).blk t).view.read (Elt Ideal) P := by rw [← hZ]; rfl
  refine pay _ _ _ A B P y _ (fun k => ?_) (fun k => ?_) ?_
  · rw [hA]; exact read0 _ A _ _ _ e1
  · rw [hB]; exact read1 _ B _ _ _ e2
  · rw [hP]; exact read2 _ P y

theorem entry1 (c : Dev nD) : V m c main_v1 = truncf (F := Ideal) (φ := .f32) .bf16 (m (c.tc.loc main_arg3)) bitsLt_bf16_f32 := by
  show StableHlo.after hostOps0 _ main_v1 = _
  after_results

theorem entry3 (c : Dev nD) : V m c main_v3 = broadcastInDim S1x4096x1024 ![1, 2] bcast_S4096x1024_S1x4096x1024_1_2 (truncf (F := Ideal) (φ := .f32) .bf16 (m (c.tc.loc main_arg2)) bitsLt_bf16_f32) := by
  show StableHlo.after hostOps0 _ main_v3 = _
  after_results

theorem entry4 (c : Dev nD) : V m c main_v4 = truncf (F := Ideal) (φ := .f32) .bf16 (Host.dotGeneral (F := Ideal) (φ₁ := .f32) (φ₂ := .f32) dot_S4096x1024_S1024x4096_S4096x4096_1_0_0_1_n_n none (m (c.tc.loc main_arg0)) (m (c.tc.loc main_arg1))) bitsLt_bf16_f32 := by
  show StableHlo.after hostOps0 _ main_v4 = _
  after_results

theorem alg : Cert.algebraic_Kernel3Ideal_Reference3Ideal (hKernel3Ideal := Cert.Kernel3Ideal.Gen.facts) (hReference3Ideal := Cert.Reference3Ideal.Gen.facts) := by
  intro m g m' g' _ hag
  refine ⟨fun c => grad (V m c main_v1) (V m c main_v3) (V m c main_v4), ?_, ?_⟩
  · exact (θ_run defs _ _).mono (fun r h c => ⟨(Cert.Kernel3Ideal.Value.post3 m r h c).trans (final m c), Cert.Kernel3Ideal.Value.kept_main_arg0 m r h c, Cert.Kernel3Ideal.Value.kept_main_arg1 m r h c, Cert.Kernel3Ideal.Value.kept_main_arg2 m r h c, Cert.Kernel3Ideal.Value.kept_main_arg3 m r h c⟩) (run_main m g)
  · refine (θ_run Cert.Reference3Ideal.defs _ _).mono (fun r h c => ⟨(h c).1.trans ?_, (h c).2⟩) (Cert.Reference3Ideal.Value.run m' g')
    rw [(hag c).1, (hag c).2.1, (hag c).2.2.1, (hag c).2.2.2]
    show _ = grad (V m c main_v1) (V m c main_v3) (V m c main_v4)
    rw [entry1, entry3, entry4]
    funext i
    idx_vars i
    pointwise [grad]
    exact relu2 _ _

end Cert.Mm.K3

end
-- ==== Proof.Mm.K4.lean ====
module

public import proofs.«01_k».proof.Proof.Mm.Common
public import proofs.«01_k».proof.Proof.Gen.Kernel4Ideal.Value
public import proofs.«01_k».proof.Proof.Gen.Reference4Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The gradient of the first matrix of the perceptron: the value of its call. -/

@[expose] public section

set_option maxRecDepth 16384

noncomputable section

namespace Cert.Mm.K4

open Cert.Kernel4Ideal Cert.Kernel4Ideal.Gen
open Idealize.ShloMosaic Idealize.ShloMosaic.TcCoe Idealize.SL.Sem
open Idealize.ShloMosaic.Pipeline (Dat)

section

variable {F : FTy → Type} [FloatOps F]
variable (m : (ℓ : Loc nD τ sig) → Buf (Elt F) ℓ)

/-- The first step of a block's contraction leaves the first partial product in the accumulator. -/
theorem sout_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1x1024x1024 .f32) (harg5 : arg5.IsWhole) (arg6 : Memref sig .tc .vmem S1024x1024 .f32) (harg6 : arg6.IsWhole) (hc0 : cond0_0 i) (hc1 : ¬cond0_1 i) (hc2 : ¬cond0_2 i)
    (x0 : Vec F S1024x2048 .bf16) (x1 : Vec F S2048x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, View.ld_unit_zero (S := S1024x2048) hz2, View.ld_unit_zero (S := S2048x1024) hz2]

/-- The second step adds the second partial product and writes the sum out. -/
theorem out_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1x1024x1024 .f32) (harg5 : arg5.IsWhole) (arg6 : Memref sig .tc .vmem S1024x1024 .f32) (harg6 : arg6.IsWhole) (hc0 : ¬cond0_0 i) (hc1 : cond0_1 i) (hc2 : cond0_2 i)
    (x0 : Vec F S1024x2048 .bf16) (x1 : Vec F S2048x1024 .bf16) (xs0 : Vec F S1024x1024 .f32) :
    out0_B_2 c i arg3 harg3 arg4 harg4 arg5 harg5 arg6 harg6 hc0 hc1 hc2 x0 x1 xs0 = k0_pay4 (k0_pay3 x0 x1 xs0) := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz4]
  simp only [View.readAt_eq_ld, harg3.read_unread, harg4.read_unread, harg6.read_unread, View.ld_unit_zero (S := S1024x2048) hz2, View.ld_unit_zero (S := S2048x1024) hz2, View.ld_unit_zero (S := S1024x1024) hz2, View.readCov_unit_zero (S := S1024x1024) _ hz2]

theorem outs_congr (c : Dev nD) (n n' : ℕ) (h : n < cfg0.N) (h' : n' < cfg0.N) (e : n = n') : outsAt0 m c n h = outsAt0 m c n' h' := by
  subst e; rfl

theorem acc_A (c : Dev nD) (u : Fin cfg0.N) (h : u.val % 2 = 0) : (outsAt0 m c u.val u.isLt).2 = k0_pay2 (iblk m c 0 u) (iblk m c 1 u) := by
  rw [outsAt0_A m c u h (by omega) (by omega)]
  dsimp only
  rw [sout_A]

theorem out_at (c : Dev nD) (t u : Fin cfg0.N) (h : t.val % 2 = 1) (hu : t.val = u.val + 1) :
    (outsAt0 m c t.val t.isLt).1 = k0_pay4 (k0_pay3 (iblk m c 0 t) (iblk m c 1 t) (k0_pay2 (iblk m c 0 u) (iblk m c 1 u))) := by
  rw [outsAt0_B m c t (by omega) h h]
  dsimp only
  rw [out_B, outs_congr m c (t.val - 1) u.val _ u.isLt (by omega), acc_A m c u (by omega)]

end

/-- Column `b` of group `a`, of the four groups in which the matrix is held. -/
def col (a : Fin 4) (b : Fin 1024) : Fin 4096 := ⟨a.val * 1024 + b.val, by omega⟩

/-- The result as one contraction of the two operands. -/
def prod (A : Vec Ideal S1024x4096 .bf16) (B : Vec Ideal S4096x4096 .bf16) : Vec Ideal S1x4x1024x1024 .f32 :=
  fun i => ∑ k : Fin 4096, A (ix2 (i 2) k) * B (ix2 k (col (i 1) (i 3)))

theorem idx : ∀ t : Fin cfg0.N, win0_0.index t = ![0, t.val % 2] ∧ win0_1.index t = ![t.val % 2, t.val / 2] ∧ win0_2.index t = ![0, t.val / 2, 0, 0] :=
  (by decide +kernel : ∀ t : Fin grid0.N, win0_0.index t = ![0, t.val % 2] ∧ win0_1.index t = ![t.val % 2, t.val / 2] ∧ win0_2.index t = ![0, t.val / 2, 0, 0])

theorem read0 (t : Fin cfg0.N) (X : Vec Ideal S1024x4096 .bf16) (a : Fin 1024) (b : Fin 2048) (r : Fin 1024) (k : Fin 4096)
    (hr : r.val = a.val) (hk : k.val = 2048 * (t.val % 2) + b.val) :
    ((cfg0.win 0).blk t).view.read (Elt Ideal) X (ix2 a b) = X (ix2 r k) := by
  have e := (idx t).1
  rw [View.read_apply]
  refine congrArg X (funext fun d => Fin.ext ?_)
  match d with
  | ⟨0, _⟩ => show win0_0.index t 0 * 1024 + 1 * a.val = r.val; rw [e, hr]; show 0 * 1024 + 1 * a.val = _; omega
  | ⟨1, _⟩ => show win0_0.index t 1 * 2048 + 1 * b.val = k.val; rw [e, hk]; show t.val % 2 * 2048 + 1 * b.val = _; omega

theorem read1 (t : Fin cfg0.N) (X : Vec Ideal S4096x4096 .bf16) (b : Fin 2048) (a : Fin 1024) (k n : Fin 4096)
    (hk : k.val = 2048 * (t.val % 2) + b.val) (hn : n.val = 1024 * (t.val / 2) + a.val) :
    ((cfg0.win 1).blk t).view.read (Elt Ideal) X (ix2 b a) = X (ix2 k n) := by
  have e := (idx t).2.1
  rw [View.read_apply]
  refine congrArg X (funext fun d => Fin.ext ?_)
  match d with
  | ⟨0, _⟩ => show win0_1.index t 0 * 2048 + 1 * b.val = k.val; rw [e, hk]; show t.val % 2 * 2048 + 1 * b.val = _; omega
  | ⟨1, _⟩ => show win0_1.index t 1 * 1024 + 1 * a.val = n.val; rw [e, hn]; show t.val / 2 * 1024 + 1 * a.val = _; omega

theorem emb2 (t : Fin cfg0.N) (y : S1x1x1024x1024.Idx) :
    (((cfg0.win 2).blk t).view.emb y 1).val = t.val / 2 ∧ (((cfg0.win 2).blk t).view.emb y 2).val = (y 2).val ∧ (((cfg0.win 2).blk t).view.emb y 3).val = (y 3).val := by
  have e := (idx t).2.2
  have h1 : (y 1).val < 1 := (y 1).isLt
  refine ⟨?_, ?_, ?_⟩
  · show win0_2.index t 1 * 1 + 1 * (y 1).val = _; rw [e]; show t.val / 2 * 1 + 1 * (y 1).val = _; omega
  · show win0_2.index t 2 * 1024 + 1 * (y 2).val = _; rw [e]; show 0 * 1024 + 1 * (y 2).val = _; omega
  · show win0_2.index t 3 * 1024 + 1 * (y 3).val = _; rw [e]; show 0 * 1024 + 1 * (y 3).val = _; omega

/-- Two blocks of the contraction, one added to the other, are the contraction. -/
theorem pay (x0 x0' : Vec Ideal S1024x2048 .bf16) (x1 x1' : Vec Ideal S2048x1024 .bf16) (A : Vec Ideal S1024x4096 .bf16) (B : Vec Ideal S4096x4096 .bf16)
    (y : S1x1x1024x1024.Idx) (i : S1x4x1024x1024.Idx)
    (h0 : ∀ (b : Fin 2048) (k : Fin 4096), k.val = b.val → x0 (ix2 (y 2) b) = A (ix2 (i 2) k) ∧ x1 (ix2 b (y 3)) = B (ix2 k (col (i 1) (i 3))))
    (h1 : ∀ (b : Fin 2048) (k : Fin 4096), k.val = 2048 + b.val → x0' (ix2 (y 2) b) = A (ix2 (i 2) k) ∧ x1' (ix2 b (y 3)) = B (ix2 k (col (i 1) (i 3)))) :
    k0_pay4 (k0_pay3 x0' x1' (k0_pay2 x0 x1)) y = prod A B i := by
  unfold prod
  idx_vars y
  pointwise [k0_pay4, k0_pay3, k0_pay2, k0_pay1]
  rw [Fin.sum_univ_two_halves 2048 2048 rfl]
  congr 1 <;> refine Finset.sum_congr rfl fun k _ => ?_
  · exact congrArg₂ (· * ·) (h0 k _ rfl).1 (h0 k _ rfl).2
  · exact congrArg₂ (· * ·) (h1 k ⟨2048 + k.val, _⟩ rfl).1 (h1 k ⟨2048 + k.val, _⟩ rfl).2

variable (m : (ℓ : Loc nD τ sig) → Buf (Elt Ideal) ℓ)

theorem final (c : Dev nD) : (dats (F := Ideal) m 0 c).arrAt 2 cfg0.N = prod (V m c main_v9) (V m c main_v10) := by
  refine (dats (F := Ideal) m 0 c).arrAt_eq_of_covers 2 _ (by decide +kernel) fun t hf y => ?_
  have h1 : t.val % 2 = 1 := by have := (flush0_2 t).mp hf; omega
  obtain ⟨u, hu⟩ : ∃ u : Fin cfg0.N, t.val = u.val + 1 := ⟨⟨t.val - 1, Nat.lt_of_le_of_lt (Nat.sub_le _ _) t.isLt⟩, by dsimp only; omega⟩
  obtain ⟨e1, e2, e3⟩ := emb2 t y
  have hc : (dats (F := Ideal) m 0 c).flushed 2 t y = (outsAt0 m c t.val t.isLt).1 y := by
    show (dats (F := Ideal) m 0 c).after 2 t y = _
    rw [after0_2]
  refine hc.trans ?_
  rw [out_at m c t u h1 hu]
  generalize hX : V m c main_v9 = A
  generalize hY : V m c main_v10 = B
  have hA (u : Fin cfg0.N) : iblk m c 0 u = ((cfg0.win 0).blk u).view.read (Elt Ideal) A := by rw [← hX]; rfl
  have hB (u : Fin cfg0.N) : iblk m c 1 u = ((cfg0.win 1).blk u).view.read (Elt Ideal) B := by rw [← hY]; rfl
  have hcol (v : Fin cfg0.N) (h : v.val / 2 = t.val / 2) : (col (((cfg0.win 2).blk t).view.emb y 1) (((cfg0.win 2).blk t).view.emb y 3)).val = 1024 * (v.val / 2) + (y 3).val := by
    show (((cfg0.win 2).blk t).view.emb y 1).val * 1024 + (((cfg0.win 2).blk t).view.emb y 3).val = _
    rw [e1, e3, h, mul_comm]
  refine pay _ _ _ _ A B y _ (fun b k hk => ⟨?_, ?_⟩) (fun b k hk => ⟨?_, ?_⟩)
  · rw [hA]; exact read0 _ A _ _ _ _ (by rw [e2]) (by omega)
  · rw [hB]; exact read1 _ B _ _ _ _ (by omega) (hcol u (by omega))
  · rw [hA]; exact read0 _ A _ _ _ _ (by rw [e2]) (by omega)
  · rw [hB]; exact read1 _ B _ _ _ _ (by omega) (hcol t rfl)

/-- The gradient that reaches the pre-activation. -/
def gradP (h : FVec Ideal S4096x1024 .f32) (w1 : FVec Ideal S1024x4096 .f32) (w2 z : FVec Ideal S4096x1024 .f32) : FVec Ideal S4096x4096 .f32 :=
  mulf (F := Ideal) (φ := .f32) (Host.dotGeneral dot_S4096x1024_S1024x4096_S4096x4096_1_0_0_1_n_n none z (transpose S1024x4096 [1, 0] w2 transposes_S4096x1024_S1024x4096_1_0))
    (mulf (F := Ideal) (φ := .f32) (broadcastInDim S4096x4096 ![] bcast_S_S4096x4096 (constant S_ .f32 0x40000000#32))
      (maximumf (Host.dotGeneral dot_S4096x1024_S1024x4096_S4096x4096_1_0_0_1_n_n none h w1) (broadcastInDim S4096x4096 ![] bcast_S_S4096x4096 (constant S_ .f32 0x00000000#32))))

theorem entry9 (c : Dev nD) : V m c main_v9 = truncf (F := Ideal) (φ := .f32) .bf16 (transpose S1024x4096 [1, 0] (m (c.tc.loc main_arg0)) transposes_S4096x1024_S1024x4096_1_0) bitsLt_bf16_f32 := by
  show StableHlo.after hostOps0 _ main_v9 = _
  after_results

theorem entry10 (c : Dev nD) : V m c main_v10 = truncf (F := Ideal) (φ := .f32) .bf16 (gradP (m (c.tc.loc main_arg0)) (m (c.tc.loc main_arg1)) (m (c.tc.loc main_arg2)) (m (c.tc.loc main_arg3))) bitsLt_bf16_f32 := by
  show StableHlo.after hostOps0 _ main_v10 = _
  after_results
  rfl

theorem alg : Cert.algebraic_Kernel4Ideal_Reference4Ideal (hKernel4Ideal := Cert.Kernel4Ideal.Gen.facts) (hReference4Ideal := Cert.Reference4Ideal.Gen.facts) := by
  intro m g m' g' _ hag
  refine ⟨fun c => prod (V m c main_v9) (V m c main_v10), ?_, ?_⟩
  · exact (θ_run defs _ _).mono (fun r h c => ⟨(Cert.Kernel4Ideal.Value.post2 m r h c).trans (final m c), Cert.Kernel4Ideal.Value.kept_main_arg0 m r h c, Cert.Kernel4Ideal.Value.kept_main_arg1 m r h c, Cert.Kernel4Ideal.Value.kept_main_arg2 m r h c, Cert.Kernel4Ideal.Value.kept_main_arg3 m r h c⟩) (run_main m g)
  · refine (θ_run Cert.Reference4Ideal.defs _ _).mono (fun r h c => ⟨(h c).1.trans ?_, (h c).2⟩) (Cert.Reference4Ideal.Value.run m' g')
    rw [(hag c).1, (hag c).2.1, (hag c).2.2.1, (hag c).2.2.2]
    show _ = prod (V m c main_v9) (V m c main_v10)
    rw [entry9, entry10]
    funext i
    idx_vars i
    pointwise [prod, gradP]
    simp only [relu2, lit_two]
    exact Finset.sum_congr rfl fun k _ => mul_comm _ _

end Cert.Mm.K4

end
-- ==== Proof.Mm.K5.lean ====
module

public import proofs.«01_k».proof.Proof.Mm.Common
public import proofs.«01_k».proof.Proof.Gen.Kernel5Ideal.Value
public import proofs.«01_k».proof.Proof.Gen.Reference5Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The gradient of the perceptron's input: the value of its call. -/

@[expose] public section

set_option maxRecDepth 16384

noncomputable section

namespace Cert.Mm.K5

open Cert.Kernel5Ideal Cert.Kernel5Ideal.Gen
open Idealize.ShloMosaic Idealize.ShloMosaic.TcCoe Idealize.SL.Sem
open Idealize.ShloMosaic.Pipeline (Dat)

section

variable {F : FTy → Type} [FloatOps F]
variable (m : (ℓ : Loc nD τ sig) → Buf (Elt F) ℓ)

/-- The first step of a block's contraction leaves the first partial product in the accumulator. -/
theorem sout_A (c : Dev nD) (i : grid0.Coords) (arg3 : Memref sig .tc .vmem S1024x1024 .bf16) (harg3 : arg3.IsWhole) (arg4 : Memref sig .tc .vmem S1x1x1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S1024x1024 .bf16) (x1 : Vec F S1x1x1024x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, View.ld_unit_zero (S := S1024x1024) hz2, View.ld_unit_zero (S := S1x1x1024x1024) hz4]

/-- A later step adds its partial product to the accumulator. -/
theorem sout_B (c : Dev nD) (i : grid0.Coords) (arg3 : Memref sig .tc .vmem S1024x1024 .bf16) (harg3 : arg3.IsWhole) (arg4 : Memref sig .tc .vmem S1x1x1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec F S1024x1024 .bf16) (x1 : Vec F S1x1x1024x1024 .bf16) (xs0 : Vec F S1024x1024 .f32) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz2]
  simp only [View.readAt_eq_ld, harg3.read_unread, harg4.read_unread, harg6.read_unread, View.ld_unit_zero (S := S1024x1024) hz2, View.ld_unit_zero (S := S1x1x1024x1024) hz4, View.readCov_unit_zero (S := S1024x1024) _ hz2]

/-- The last step adds the last partial product and writes the sum out. -/
theorem out_C (c : Dev nD) (i : grid0.Coords) (arg3 : Memref sig .tc .vmem S1024x1024 .bf16) (harg3 : arg3.IsWhole) (arg4 : Memref sig .tc .vmem S1x1x1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec F S1024x1024 .bf16) (x1 : Vec F S1x1x1024x1024 .bf16) (xs0 : Vec F S1024x1024 .f32) :
    out0_C_2 c i arg3 harg3 arg4 harg4 arg5 harg5 arg6 harg6 hc0 hc1 hc2 x0 x1 xs0 = k0_pay4 (k0_pay3 x0 x1 xs0) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz2]
  simp only [View.readAt_eq_ld, harg3.read_unread, harg4.read_unread, harg6.read_unread, View.ld_unit_zero (S := S1024x1024) hz2, View.ld_unit_zero (S := S1x1x1024x1024) hz4, View.readCov_unit_zero (S := S1024x1024) _ hz2]

theorem outs_congr (c : Dev nD) (n n' : ℕ) (h : n < cfg0.N) (h' : n' < cfg0.N) (e : n = n') : outsAt0 m c n h = outsAt0 m c n' h' := by
  subst e; rfl

theorem acc_A (c : Dev nD) (u : Fin cfg0.N) (h : u.val % 4 = 0) : (outsAt0 m c u.val u.isLt).2 = k0_pay2 (iblk m c 0 u) (iblk m c 1 u) := by
  rw [outsAt0_A m c u h (by omega) (by omega)]
  dsimp only
  rw [sout_A]

theorem acc_B (c : Dev nD) (t u : Fin cfg0.N) (h : 1 ≤ t.val % 4) (h' : t.val % 4 ≤ 2) (hu : t.val = u.val + 1) :
    (outsAt0 m c t.val t.isLt).2 = k0_pay3 (iblk m c 0 t) (iblk m c 1 t) (outsAt0 m c u.val u.isLt).2 := by
  rw [outsAt0_B m c t (by omega) h (by omega)]
  dsimp only
  rw [sout_B, outs_congr m c (t.val - 1) u.val _ u.isLt (by omega)]

theorem out_at (c : Dev nD) (t u : Fin cfg0.N) (h : t.val % 4 = 3) (hu : t.val = u.val + 1) :
    (outsAt0 m c t.val t.isLt).1 = k0_pay4 (k0_pay3 (iblk m c 0 t) (iblk m c 1 t) (outsAt0 m c u.val u.isLt).2) := by
  rw [outsAt0_C m c t (by omega) (by omega) h]
  dsimp only
  rw [out_C, outs_congr m c (t.val - 1) u.val _ u.isLt (by omega)]

end

/-- Column `b` of group `a`, of the four groups in which the matrix is held. -/
def col (a : Fin 4) (b : Fin 1024) : Fin 4096 := ⟨a.val * 1024 + b.val, by omega⟩

/-- A sum over the columns, group by group. -/
theorem sum_col (f : Fin 4096 → EReal) : ∑ x, f x = ∑ a : Fin 4, ∑ k : Fin 1024, f (col a k) := by
  rw [← (finProdFinEquiv (m := 4) (n := 1024)).sum_comp f, Fintype.sum_prod_type]
  refine Finset.sum_congr rfl fun a _ => Finset.sum_congr rfl fun k _ => congrArg f (Fin.ext ?_)
  show k.val + 1024 * a.val = a.val * 1024 + k.val
  omega

/-- The result as one contraction of the two operands, group by group of the second. -/
def prod (A : Vec Ideal S4096x4096 .bf16) (B : Vec Ideal S1x4x1024x1024 .bf16) : Vec Ideal S4096x1024 .bf16 :=
  fun i => ∑ a : Fin 4, ∑ k : Fin 1024, A (ix2 (i 0) (col a k)) * B (ix4 0 a (i 1) k)

theorem idx : ∀ t : Fin cfg0.N, win0_0.index t = ![t.val / 4, t.val % 4] ∧ win0_1.index t = ![0, t.val % 4, 0, 0] ∧ win0_2.index t = ![t.val / 4, 0] :=
  (by decide +kernel : ∀ t : Fin grid0.N, win0_0.index t = ![t.val / 4, t.val % 4] ∧ win0_1.index t = ![0, t.val % 4, 0, 0] ∧ win0_2.index t = ![t.val / 4, 0])

theorem read0 (t : Fin cfg0.N) (X : Vec Ideal S4096x4096 .bf16) (a b : Fin 1024) (r : Fin 4096) (j : Fin 4)
    (hr : r.val = 1024 * (t.val / 4) + a.val) (hk : t.val % 4 = j.val) :
    ((cfg0.win 0).blk t).view.read (Elt Ideal) X (ix2 a b) = X (ix2 r (col j b)) := by
  have e := (idx t).1
  rw [View.read_apply]
  refine congrArg X (funext fun d => Fin.ext ?_)
  match d with
  | ⟨0, _⟩ => show win0_0.index t 0 * 1024 + 1 * a.val = r.val; rw [e, hr]; show t.val / 4 * 1024 + 1 * a.val = _; omega
  | ⟨1, _⟩ => show win0_0.index t 1 * 1024 + 1 * b.val = j.val * 1024 + b.val; rw [e]; show t.val % 4 * 1024 + 1 * b.val = _; omega

theorem read1 (t : Fin cfg0.N) (X : Vec Ideal S1x4x1024x1024 .bf16) (b a : Fin 1024) (j : Fin 4) (n : Fin 1024)
    (hk : t.val % 4 = j.val) (hn : n.val = b.val) :
    ((cfg0.win 1).blk t).view.read (Elt Ideal) X (ix4 0 0 b a) = X (ix4 0 j n a) := by
  have e := (idx t).2.1
  rw [View.read_apply]
  refine congrArg X (funext fun d => Fin.ext ?_)
  match d with
  | ⟨0, _⟩ => show win0_1.index t 0 * 1 + 1 * 0 = 0; rw [e]; rfl
  | ⟨1, _⟩ => show win0_1.index t 1 * 1 + 1 * 0 = j.val; rw [e]; show t.val % 4 * 1 + 1 * 0 = _; omega
  | ⟨2, _⟩ => show win0_1.index t 2 * 1024 + 1 * b.val = n.val; rw [e]; show 0 * 1024 + 1 * b.val = _; omega
  | ⟨3, _⟩ => show win0_1.index t 3 * 1024 + 1 * a.val = a.val; rw [e]; show 0 * 1024 + 1 * a.val = _; omega

theorem emb2 (t : Fin cfg0.N) (y : S1024x1024.Idx) :
    (((cfg0.win 2).blk t).view.emb y 0).val = 1024 * (t.val / 4) + (y 0).val ∧ (((cfg0.win 2).blk t).view.emb y 1).val = (y 1).val := by
  have e := (idx t).2.2
  constructor
  · show win0_2.index t 0 * 1024 + 1 * (y 0).val = _; rw [e]; show t.val / 4 * 1024 + 1 * (y 0).val = _; omega
  · show win0_2.index t 1 * 1024 + 1 * (y 1).val = _; rw [e]; show 0 * 1024 + 1 * (y 1).val = _; omega

/-- Four groups' partial products, one added to the other, are the contraction. -/
theorem pay (x : Fin 4 → Vec Ideal S1024x1024 .bf16) (z : Fin 4 → Vec Ideal S1x1x1024x1024 .bf16) (A : Vec Ideal S4096x4096 .bf16) (B : Vec Ideal S1x4x1024x1024 .bf16)
    (y : S1024x1024.Idx) (i : S4096x1024.Idx)
    (h : ∀ (a : Fin 4) (k : Fin 1024), x a (ix2 (y 0) k) = A (ix2 (i 0) (col a k)) ∧ z a (ix4 0 0 (y 1) k) = B (ix4 0 a (i 1) k)) :
    k0_pay4 (k0_pay3 (x 3) (z 3) (k0_pay3 (x 2) (z 2) (k0_pay3 (x 1) (z 1) (k0_pay2 (x 0) (z 0))))) y = prod A B i := by
  unfold prod
  simp only [fun a k => (h a k).1.symm, fun a k => (h a k).2.symm]
  rw [Fin.sum_univ_four]
  idx_vars y
  pointwise [k0_pay4, k0_pay3, k0_pay2, k0_pay1]

variable (m : (ℓ : Loc nD τ sig) → Buf (Elt Ideal) ℓ)

theorem final (c : Dev nD) : (dats (F := Ideal) m 0 c).arrAt 2 cfg0.N = prod (V m c main_v8) (V m c main_v12) := by
  refine (dats (F := Ideal) m 0 c).arrAt_eq_of_covers 2 _ (by decide +kernel) fun t hf y => ?_
  have h1 : t.val % 4 = 3 := by have := (flush0_2 t).mp hf; omega
  obtain ⟨u, hu⟩ : ∃ u : Fin 4 → Fin cfg0.N, ∀ a, (u a).val = t.val - 3 + a.val :=
    ⟨fun a => ⟨t.val - 3 + a.val, Nat.lt_of_le_of_lt (by omega : t.val - 3 + a.val ≤ t.val) t.isLt⟩, fun _ => rfl⟩
  have hu0 : (u 0).val = t.val - 3 := hu 0
  have hu1 : (u 1).val = t.val - 3 + 1 := hu 1
  have hu2 : (u 2).val = t.val - 3 + 2 := hu 2
  have hu3 : t = u 3 := Fin.ext (by have : (u 3).val = t.val - 3 + 3 := hu 3; omega)
  obtain ⟨e1, e2⟩ := emb2 t y
  have hc : (dats (F := Ideal) m 0 c).flushed 2 t y = (outsAt0 m c t.val t.isLt).1 y := by
    show (dats (F := Ideal) m 0 c).after 2 t y = _
    rw [after0_2]
  refine hc.trans ?_
  rw [out_at m c t (u 2) h1 (by omega), acc_B m c (u 2) (u 1) (by omega) (by omega) (by omega), acc_B m c (u 1) (u 0) (by omega) (by omega) (by omega), acc_A m c (u 0) (by omega)]
  generalize hX : V m c main_v8 = A
  generalize hY : V m c main_v12 = B
  have hA (v : Fin cfg0.N) : iblk m c 0 v = ((cfg0.win 0).blk v).view.read (Elt Ideal) A := by rw [← hX]; rfl
  have hB (v : Fin cfg0.N) : iblk m c 1 v = ((cfg0.win 1).blk v).view.read (Elt Ideal) B := by rw [← hY]; rfl
  refine Eq.trans (congrArg (fun v => k0_pay4 (F := Ideal) (k0_pay3 (iblk m c 0 v) (iblk m c 1 v) _) y) hu3) ?_
  refine pay (fun a => iblk m c 0 (u a)) (fun a => iblk m c 1 (u a)) A B y _ (fun a k => ⟨?_, ?_⟩)
  · have := hu a
    show iblk m c 0 (u a) _ = _
    rw [hA]; exact read0 _ A _ _ _ _ (by omega) (by omega)
  · have := hu a
    show iblk m c 1 (u a) _ = _
    rw [hB]; exact read1 _ B _ _ _ _ (by omega) (by omega)

/-- The gradient that reaches the pre-activation. -/
def gradP (h : FVec Ideal S4096x1024 .f32) (w1 : FVec Ideal S1024x4096 .f32) (w2 z : FVec Ideal S4096x1024 .f32) : FVec Ideal S4096x4096 .f32 :=
  mulf (F := Ideal) (φ := .f32) (Host.dotGeneral dot_S4096x1024_S1024x4096_S4096x4096_1_0_0_1_n_n none z (transpose S1024x4096 [1, 0] w2 transposes_S4096x1024_S1024x4096_1_0))
    (mulf (F := Ideal) (φ := .f32) (broadcastInDim S4096x4096 ![] bcast_S_S4096x4096 (constant S_ .f32 0x40000000#32))
      (maximumf (Host.dotGeneral dot_S4096x1024_S1024x4096_S4096x4096_1_0_0_1_n_n none h w1) (broadcastInDim S4096x4096 ![] bcast_S_S4096x4096 (constant S_ .f32 0x00000000#32))))

theorem entry8 (c : Dev nD) : V m c main_v8 = truncf (F := Ideal) (φ := .f32) .bf16 (gradP (m (c.tc.loc main_arg0)) (m (c.tc.loc main_arg1)) (m (c.tc.loc main_arg2)) (m (c.tc.loc main_arg3))) bitsLt_bf16_f32 := by
  show StableHlo.after hostOps0 _ main_v8 = _
  after_results
  rfl

/-- The first matrix's columns in four groups. -/
def groups (w : FVec Ideal S1024x4096 .f32) : FVec Ideal S1x4x1024x1024 .f32 :=
  broadcastInDim S1x4x1024x1024 ![1, 2, 3] bcast_S4x1024x1024_S1x4x1024x1024_1_2_3 (transpose S4x1024x1024 [1, 0, 2] (shapeCast S1024x4x1024 w shapeCasts_S1024x4096_S1024x4x1024) transposes_S1024x4x1024_S4x1024x1024_1_0_2)

theorem entry12 (c : Dev nD) : V m c main_v12 = truncf (F := Ideal) (φ := .f32) .bf16 (groups (m (c.tc.loc main_arg1))) bitsLt_bf16_f32 := by
  show StableHlo.after hostOps0 _ main_v12 = _
  after_results
  rfl

theorem alg : Cert.algebraic_Kernel5Ideal_Reference5Ideal (hKernel5Ideal := Cert.Kernel5Ideal.Gen.facts) (hReference5Ideal := Cert.Reference5Ideal.Gen.facts) := by
  intro m g m' g' _ hag
  refine ⟨fun c => prod (V m c main_v8) (V m c main_v12), ?_, ?_⟩
  · exact (θ_run defs _ _).mono (fun r h c => ⟨(Cert.Kernel5Ideal.Value.post2 m r h c).trans (final m c), Cert.Kernel5Ideal.Value.kept_main_arg0 m r h c, Cert.Kernel5Ideal.Value.kept_main_arg1 m r h c, Cert.Kernel5Ideal.Value.kept_main_arg2 m r h c, Cert.Kernel5Ideal.Value.kept_main_arg3 m r h c⟩) (run_main m g)
  · refine (θ_run Cert.Reference5Ideal.defs _ _).mono (fun r h c => ⟨(h c).1.trans ?_, (h c).2⟩) (Cert.Reference5Ideal.Value.run m' g')
    rw [(hag c).1, (hag c).2.1, (hag c).2.2.1, (hag c).2.2.2]
    show _ = prod (V m c main_v8) (V m c main_v12)
    rw [entry8, entry12]
    funext i
    idx_vars i
    pointwise [prod, gradP, groups]
    simp only [relu2, lit_two]
    exact sum_col _

end Cert.Mm.K5

end
-- ==== Proof.Mm.K6.lean ====
module

public import proofs.«01_k».proof.Proof.Mm.Common
public import proofs.«01_k».proof.Proof.Gen.Kernel6Ideal.Value
public import proofs.«01_k».proof.Proof.Gen.Reference6Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The first product of the perceptron in the forward pass: the values of its call. -/

@[expose] public section

set_option maxRecDepth 16384

noncomputable section

namespace Cert.Mm.K6

open Cert.Kernel6Ideal Cert.Kernel6Ideal.Gen
open Idealize.ShloMosaic Idealize.ShloMosaic.TcCoe Idealize.SL.Sem
open Idealize.ShloMosaic.Pipeline (Dat)

/-- Column `n` of the first matrix, held in four groups of 1024 columns. -/
def col (B : Vec Ideal S1x4x1024x1024 .bf16) (k : Fin 1024) (n : Fin 4096) : EReal :=
  B (ix4 0 ⟨n.val / 1024, by omega⟩ k ⟨n.val % 1024, by omega⟩)

/-- The pre-activation of the hidden layer. -/
def hidden (A : Vec Ideal S4096x1024 .bf16) (B : Vec Ideal S1x4x1024x1024 .bf16) (r n : Fin 4096) : EReal :=
  ∑ k : Fin 1024, A (ix2 r k) * col B k n

/-- The three results: the pre-activation, its squared positive part, and that transposed. -/
def pre (A : Vec Ideal S4096x1024 .bf16) (B : Vec Ideal S1x4x1024x1024 .bf16) : Vec Ideal S4096x4096 .bf16 := fun i => hidden A B (i 0) (i 1)
def act (A : Vec Ideal S4096x1024 .bf16) (B : Vec Ideal S1x4x1024x1024 .bf16) : Vec Ideal S4096x4096 .bf16 := fun i => max (hidden A B (i 0) (i 1)) 0 * max (hidden A B (i 0) (i 1)) 0
def actT (A : Vec Ideal S4096x1024 .bf16) (B : Vec Ideal S1x4x1024x1024 .bf16) : Vec Ideal S4096x4096 .bf16 := fun i => max (hidden A B (i 1) (i 0)) 0 * max (hidden A B (i 1) (i 0)) 0

theorem out_eq2 {F : FTy → Type} [FloatOps F] (x0 : Vec F S1024x1024 .bf16) (x1 : Vec F S1x1x1024x1024 .bf16) : out0_2 x0 x1 = k0_pay3 x0 x1 := by
  unfold out0_2
  rw [View.canon_unit_zero hz2]
  simp only [View.ld_unit_zero (S := S1024x1024) hz2, View.ld_unit_zero (S := S1x1x1024x1024) hz4]

theorem out_eq3 {F : FTy → Type} [FloatOps F] (x0 : Vec F S1024x1024 .bf16) (x1 : Vec F S1x1x1024x1024 .bf16) : out0_3 x0 x1 = k0_pay4 x0 x1 := by
  unfold out0_3
  rw [View.canon_unit_zero hz2]
  simp only [View.ld_unit_zero (S := S1024x1024) hz2, View.ld_unit_zero (S := S1x1x1024x1024) hz4]

theorem out_eq4 {F : FTy → Type} [FloatOps F] (x0 : Vec F S1024x1024 .bf16) (x1 : Vec F S1x1x1024x1024 .bf16) : out0_4 x0 x1 = k0_pay5 x0 x1 := by
  unfold out0_4
  rw [View.canon_unit_zero hz2]
  simp only [View.ld_unit_zero (S := S1024x1024) hz2, View.ld_unit_zero (S := S1x1x1024x1024) hz4]

theorem idx : ∀ t : Fin cfg0.N, win0_0.index t = ![t.val / 4, 0] ∧ win0_1.index t = ![0, t.val % 4, 0, 0] ∧ win0_2.index t = ![t.val / 4, t.val % 4] ∧ win0_3.index t = ![t.val / 4, t.val % 4] ∧ win0_4.index t = ![t.val % 4, t.val / 4] :=
  (by decide +kernel : ∀ t : Fin grid0.N, win0_0.index t = ![t.val / 4, 0] ∧ win0_1.index t = ![0, t.val % 4, 0, 0] ∧ win0_2.index t = ![t.val / 4, t.val % 4] ∧ win0_3.index t = ![t.val / 4, t.val % 4] ∧ win0_4.index t = ![t.val % 4, t.val / 4])

theorem read0 (t : Fin cfg0.N) (X : Vec Ideal S4096x1024 .bf16) (a b : Fin 1024) (r : Fin 4096) (hr : r.val = 1024 * (t.val / 4) + a.val) :
    ((cfg0.win 0).blk t).view.read (Elt Ideal) X (ix2 a b) = X (ix2 r b) := by
  have e := (idx t).1
  rw [View.read_apply]
  refine congrArg X (funext fun d => Fin.ext ?_)
  match d with
  | ⟨0, _⟩ => show win0_0.index t 0 * 1024 + 1 * a.val = r.val; rw [e, hr]; show t.val / 4 * 1024 + 1 * a.val = _; omega
  | ⟨1, _⟩ => show win0_0.index t 1 * 1024 + 1 * b.val = b.val; rw [e]; show 0 * 1024 + 1 * b.val = _; omega

theorem read1 (t : Fin cfg0.N) (X : Vec Ideal S1x4x1024x1024 .bf16) (a b : Fin 1024) (r : Fin 4096) (hr : r.val = 1024 * (t.val % 4) + b.val) :
    ((cfg0.win 1).blk t).view.read (Elt Ideal) X (ix4 0 0 a b) = col X a r := by
  have e := (idx t).2.1
  unfold col
  rw [View.read_apply]
  refine congrArg X (funext fun d => Fin.ext ?_)
  match d with
  | ⟨0, _⟩ => show win0_1.index t 0 * 1 + 1 * 0 = 0; rw [e]; rfl
  | ⟨1, _⟩ => show win0_1.index t 1 * 1 + 1 * 0 = r.val / 1024; rw [e, hr]; show t.val % 4 * 1 + 1 * 0 = _; omega
  | ⟨2, _⟩ => show win0_1.index t 2 * 1024 + 1 * a.val = a.val; rw [e]; show 0 * 1024 + 1 * a.val = _; omega
  | ⟨3, _⟩ => show win0_1.index t 3 * 1024 + 1 * b.val = r.val % 1024; rw [e, hr]; show 0 * 1024 + 1 * b.val = _; omega

theorem emb2 (t : Fin cfg0.N) (y : S1024x1024.Idx) :
    (((cfg0.win 2).blk t).view.emb y 0).val = 1024 * (t.val / 4) + (y 0).val ∧ (((cfg0.win 2).blk t).view.emb y 1).val = 1024 * (t.val % 4) + (y 1).val := by
  have e := (idx t).2.2.1
  constructor
  · show win0_2.index t 0 * 1024 + 1 * (y 0).val = _; rw [e]; show t.val / 4 * 1024 + 1 * (y 0).val = _; omega
  · show win0_2.index t 1 * 1024 + 1 * (y 1).val = _; rw [e]; show t.val % 4 * 1024 + 1 * (y 1).val = _; omega

theorem emb3 (t : Fin cfg0.N) (y : S1024x1024.Idx) :
    (((cfg0.win 3).blk t).view.emb y 0).val = 1024 * (t.val / 4) + (y 0).val ∧ (((cfg0.win 3).blk t).view.emb y 1).val = 1024 * (t.val % 4) + (y 1).val := by
  have e := (idx t).2.2.2.1
  constructor
  · show win0_3.index t 0 * 1024 + 1 * (y 0).val = _; rw [e]; show t.val / 4 * 1024 + 1 * (y 0).val = _; omega
  · show win0_3.index t 1 * 1024 + 1 * (y 1).val = _; rw [e]; show t.val % 4 * 1024 + 1 * (y 1).val = _; omega

theorem emb4 (t : Fin cfg0.N) (y : S1024x1024.Idx) :
    (((cfg0.win 4).blk t).view.emb y 0).val = 1024 * (t.val % 4) + (y 0).val ∧ (((cfg0.win 4).blk t).view.emb y 1).val = 1024 * (t.val / 4) + (y 1).val := by
  have e := (idx t).2.2.2.2
  constructor
  · show win0_4.index t 0 * 1024 + 1 * (y 0).val = _; rw [e]; show t.val % 4 * 1024 + 1 * (y 0).val = _; omega
  · show win0_4.index t 1 * 1024 + 1 * (y 1).val = _; rw [e]; show t.val / 4 * 1024 + 1 * (y 1).val = _; omega

theorem pay2 (x0 : Vec Ideal S1024x1024 .bf16) (x1 : Vec Ideal S1x1x1024x1024 .bf16) (A : Vec Ideal S4096x1024 .bf16) (B : Vec Ideal S1x4x1024x1024 .bf16)
    (y : S1024x1024.Idx) (i : S4096x4096.Idx) (h0 : ∀ k : Fin 1024, x0 (ix2 (y 0) k) = A (ix2 (i 0) k)) (h1 : ∀ k : Fin 1024, x1 (ix4 0 0 k (y 1)) = col B k (i 1)) :
    k0_pay3 x0 x1 y = pre A B i := by
  simp only [pre, hidden, ← h0, ← h1]
  idx_vars y
  pointwise [k0_pay3, k0_pay1]

theorem pay3 (x0 : Vec Ideal S1024x1024 .bf16) (x1 : Vec Ideal S1x1x1024x1024 .bf16) (A : Vec Ideal S4096x1024 .bf16) (B : Vec Ideal S1x4x1024x1024 .bf16)
    (y : S1024x1024.Idx) (i : S4096x4096.Idx) (h0 : ∀ k : Fin 1024, x0 (ix2 (y 0) k) = A (ix2 (i 0) k)) (h1 : ∀ k : Fin 1024, x1 (ix4 0 0 k (y 1)) = col B k (i 1)) :
    k0_pay4 x0 x1 y = act A B i := by
  simp only [act, hidden, ← h0, ← h1]
  idx_vars y
  pointwise [k0_pay4, k0_pay2, k0_pay1]

theorem pay4 (x0 : Vec Ideal S1024x1024 .bf16) (x1 : Vec Ideal S1x1x1024x1024 .bf16) (A : Vec Ideal S4096x1024 .bf16) (B : Vec Ideal S1x4x1024x1024 .bf16)
    (y : S1024x1024.Idx) (i : S4096x4096.Idx) (h0 : ∀ k : Fin 1024, x0 (ix2 (y 1) k) = A (ix2 (i 1) k)) (h1 : ∀ k : Fin 1024, x1 (ix4 0 0 k (y 0)) = col B k (i 0)) :
    k0_pay5 x0 x1 y = actT A B i := by
  simp only [actT, hidden, ← h0, ← h1]
  idx_vars y
  pointwise [k0_pay5, k0_pay2, k0_pay1]

variable (m : (ℓ : Loc nD τ sig) → Buf (Elt Ideal) ℓ)

theorem final2 (c : Dev nD) : (dats (F := Ideal) m 0 c).arrAt 2 cfg0.N = pre (V m c main_v0) (V m c main_v4) := by
  refine (dats (F := Ideal) m 0 c).arrAt_eq_of_covers 2 _ (by decide +kernel) fun t hf y => ?_
  obtain ⟨e1, e2⟩ := emb2 t y
  have hc : (dats (F := Ideal) m 0 c).flushed 2 t y = out0_2 (iblk m c 0 t) (iblk m c 1 t) y := by
    show (dats (F := Ideal) m 0 c).after 2 t y = _
    rw [after0_2]
  refine hc.trans ?_
  rw [out_eq2]
  generalize hX : V m c main_v0 = A
  generalize hY : V m c main_v4 = B
  have hA : iblk m c 0 t = ((cfg0.win 0).blk t).view.read (Elt Ideal) A := by rw [← hX]; rfl
  have hB : iblk m c 1 t = ((cfg0.win 1).blk t).view.read (Elt Ideal) B := by rw [← hY]; rfl
  refine pay2 _ _ A B y _ (fun k => ?_) (fun k => ?_)
  · rw [hA]; exact read0 _ A _ _ _ e1
  · rw [hB]; exact read1 _ B _ _ _ e2

theorem final3 (c : Dev nD) : (dats (F := Ideal) m 0 c).arrAt 3 cfg0.N = act (V m c main_v0) (V m c main_v4) := by
  refine (dats (F := Ideal) m 0 c).arrAt_eq_of_covers 3 _ (by decide +kernel) fun t hf y => ?_
  obtain ⟨e1, e2⟩ := emb3 t y
  have hc : (dats (F := Ideal) m 0 c).flushed 3 t y = out0_3 (iblk m c 0 t) (iblk m c 1 t) y := by
    show (dats (F := Ideal) m 0 c).after 3 t y = _
    rw [after0_3]
  refine hc.trans ?_
  rw [out_eq3]
  generalize hX : V m c main_v0 = A
  generalize hY : V m c main_v4 = B
  have hA : iblk m c 0 t = ((cfg0.win 0).blk t).view.read (Elt Ideal) A := by rw [← hX]; rfl
  have hB : iblk m c 1 t = ((cfg0.win 1).blk t).view.read (Elt Ideal) B := by rw [← hY]; rfl
  refine pay3 _ _ A B y _ (fun k => ?_) (fun k => ?_)
  · rw [hA]; exact read0 _ A _ _ _ e1
  · rw [hB]; exact read1 _ B _ _ _ e2

theorem final4 (c : Dev nD) : (dats (F := Ideal) m 0 c).arrAt 4 cfg0.N = actT (V m c main_v0) (V m c main_v4) := by
  refine (dats (F := Ideal) m 0 c).arrAt_eq_of_covers 4 _ (by decide +kernel) fun t hf y => ?_
  obtain ⟨e1, e2⟩ := emb4 t y
  have hc : (dats (F := Ideal) m 0 c).flushed 4 t y = out0_4 (iblk m c 0 t) (iblk m c 1 t) y := by
    show (dats (F := Ideal) m 0 c).after 4 t y = _
    rw [after0_4]
  refine hc.trans ?_
  rw [out_eq4]
  generalize hX : V m c main_v0 = A
  generalize hY : V m c main_v4 = B
  have hA : iblk m c 0 t = ((cfg0.win 0).blk t).view.read (Elt Ideal) A := by rw [← hX]; rfl
  have hB : iblk m c 1 t = ((cfg0.win 1).blk t).view.read (Elt Ideal) B := by rw [← hY]; rfl
  refine pay4 _ _ A B y _ (fun k => ?_) (fun k => ?_)
  · rw [hA]; exact read0 _ A _ _ _ e2
  · rw [hB]; exact read1 _ B _ _ _ e1

theorem entry0 (c : Dev nD) : V m c main_v0 = truncf (F := Ideal) (φ := .f32) .bf16 (m (c.tc.loc main_arg0)) bitsLt_bf16_f32 := by
  show StableHlo.after hostOps0 _ main_v0 = _
  after_results

/-- The first matrix as the call is handed it: its columns in four groups. -/
def groups (w : FVec Ideal S1024x4096 .f32) : Vec Ideal S1x4x1024x1024 .bf16 :=
  truncf (F := Ideal) (φ := .f32) .bf16 (broadcastInDim S1x4x1024x1024 ![1, 2, 3] bcast_S4x1024x1024_S1x4x1024x1024_1_2_3 (transpose S4x1024x1024 [1, 0, 2] (shapeCast S1024x4x1024 w shapeCasts_S1024x4096_S1024x4x1024) transposes_S1024x4x1024_S4x1024x1024_1_0_2)) bitsLt_bf16_f32

theorem entry4 (c : Dev nD) : V m c main_v4 = groups (m (c.tc.loc main_arg1)) := by
  show StableHlo.after hostOps0 _ main_v4 = _
  after_results
  rfl

theorem col_groups (w : FVec Ideal S1024x4096 .f32) (k : Fin 1024) (n : Fin 4096) : col (groups w) k n = w (ix2 k n) := by
  unfold col
  pointwise [groups]

theorem alg : Cert.algebraic_Kernel6Ideal_Reference6Ideal (hKernel6Ideal := Cert.Kernel6Ideal.Gen.facts) (hReference6Ideal := Cert.Reference6Ideal.Gen.facts) := by
  intro m g m' g' _ hag
  refine ⟨fun c => pre (V m c main_v0) (V m c main_v4), fun c => act (V m c main_v0) (V m c main_v4), fun c => actT (V m c main_v0) (V m c main_v4), ?_, ?_⟩
  · exact (θ_run defs _ _).mono (fun r h c => ⟨(Cert.Kernel6Ideal.Value.post2 m r h c).trans (final2 m c), (Cert.Kernel6Ideal.Value.post3 m r h c).trans (final3 m c), (Cert.Kernel6Ideal.Value.post4 m r h c).trans (final4 m c), Cert.Kernel6Ideal.Value.kept_main_arg0 m r h c, Cert.Kernel6Ideal.Value.kept_main_arg1 m r h c⟩) (run_main m g)
  · refine (θ_run Cert.Reference6Ideal.defs _ _).mono (fun r h c => ⟨(h c).1.trans ?_, (h c).2.1.trans ?_, (h c).2.2.1.trans ?_, (h c).2.2.2⟩) (Cert.Reference6Ideal.Value.run m' g')
    all_goals rw [(hag c).1, (hag c).2]
    · show _ = pre (V m c main_v0) (V m c main_v4)
      rw [entry0, entry4]; funext i; idx_vars i
      simp only [pre, hidden]
      pointwise [col_groups]
    · show _ = act (V m c main_v0) (V m c main_v4)
      rw [entry0, entry4]; funext i; idx_vars i
      simp only [act, hidden]
      pointwise [col_groups]
    · show _ = actT (V m c main_v0) (V m c main_v4)
      rw [entry0, entry4]; funext i; idx_vars i
      simp only [actT, hidden]
      pointwise [col_groups]

end Cert.Mm.K6

end
-- ==== Proof.Mm.K7.lean ====
module

public import proofs.«01_k».proof.Proof.Mm.Common
public import proofs.«01_k».proof.Proof.Gen.Kernel7Ideal.Value
public import proofs.«01_k».proof.Proof.Gen.Reference7Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The second product of the perceptron with the residual and the next norm: the values of its call. -/

@[expose] public section

set_option maxRecDepth 16384

noncomputable section

namespace Cert.Mm.K7

open Cert.Kernel7Ideal Cert.Kernel7Ideal.Gen
open Idealize.ShloMosaic Idealize.ShloMosaic.TcCoe Idealize.SL.Sem
open Idealize.ShloMosaic.Pipeline (Dat)

/-- The sequence a row belongs to. -/
def seq (r : Fin 4096) : Fin 2 := ⟨r.val / 2048, by omega⟩

section

variable (U : Vec Ideal S4096x4096 .bf16) (W : Vec Ideal S1x4096x1024 .bf16) (X : Vec Ideal S4096x1024 .f32) (G N S B : Vec Ideal S2x1x1024 .f32)

/-- The perceptron's second product. -/
def feed (r : Fin 4096) (n : Fin 1024) : EReal := ∑ k : Fin 4096, U (ix2 r k) * W (ix3 0 k n)

/-- The residual row with the gated product added to it, and the sum of its squares. -/
def resid (r : Fin 4096) (n : Fin 1024) : EReal := X (ix2 r n) + G (ix3 (seq r) 0 n) * feed U W r n
def sq (r : Fin 4096) : EReal := ∑ n : Fin 1024, resid U W X G r n * resid U W X G r n

/-- The row normalised by its root mean square, with the gain, scale and shift of the next part of the layer. -/
def normed (r : Fin 4096) (n : Fin 1024) : EReal :=
  resid U W X G r n * Ideal.rsqrt (Ideal.div (sq U W X G r) (Ideal.ofBits .f32 0x44800000#32) + Ideal.ofBits .f32 0x358637BD#32) * N (ix3 (seq r) 0 n) * (1 + S (ix3 (seq r) 0 n)) + B (ix3 (seq r) 0 n)

/-- The four results as whole arrays. -/
def residA : Vec Ideal S4096x1024 .f32 := fun i => resid U W X G (i 0) (i 1)
def feedA : Vec Ideal S4096x1024 .bf16 := fun i => feed U W (i 0) (i 1)
def normedA : Vec Ideal S4096x1024 .bf16 := fun i => normed U W X G N S B (i 0) (i 1)
def normedT : Vec Ideal S1024x4096 .bf16 := fun i => normed U W X G N S B (i 1) (i 0)

end

/-- Row `a` of the blocks is row `r` of the arrays. -/
structure Row (x0 : Vec Ideal S512x4096 .bf16) (x1 : Vec Ideal S1x4096x1024 .bf16) (x2 : Vec Ideal S512x1024 .f32) (x3 x4 x5 x6 : Vec Ideal S1x1x1024 .f32) (U : Vec Ideal S4096x4096 .bf16) (W : Vec Ideal S1x4096x1024 .bf16) (X : Vec Ideal S4096x1024 .f32) (G N S B : Vec Ideal S2x1x1024 .f32) (a : Fin 512) (r : Fin 4096) : Prop where
  h0 : ∀ k : Fin 4096, x0 (ix2 a k) = U (ix2 r k)
  h1 : ∀ (k : Fin 4096) (n : Fin 1024), x1 (ix3 0 k n) = W (ix3 0 k n)
  h2 : ∀ n : Fin 1024, x2 (ix2 a n) = X (ix2 r n)
  h3 : ∀ n : Fin 1024, x3 (ix3 0 0 n) = G (ix3 (seq r) 0 n)
  h4 : ∀ n : Fin 1024, x4 (ix3 0 0 n) = N (ix3 (seq r) 0 n)
  h5 : ∀ n : Fin 1024, x5 (ix3 0 0 n) = S (ix3 (seq r) 0 n)
  h6 : ∀ n : Fin 1024, x6 (ix3 0 0 n) = B (ix3 (seq r) 0 n)

theorem out_eq7 {F : FTy → Type} [FloatOps F] (x0 : Vec F S512x4096 .bf16) (x1 : Vec F S1x4096x1024 .bf16) (x2 : Vec F S512x1024 .f32) (x3 x4 x5 x6 : Vec F S1x1x1024 .f32) : out0_7 x0 x1 x2 x3 x4 x5 x6 = k0_pay7 x0 x1 x2 x3 := by
  unfold out0_7
  rw [View.canon_unit_zero hz2]
  simp only [View.ld_unit_zero (S := S512x4096) hz2, View.ld_unit_zero (S := S1x4096x1024) hz3, View.ld_unit_zero (S := S512x1024) hz2, View.ld_unit_zero (S := S1x1x1024) hz3]

theorem out_eq8 {F : FTy → Type} [FloatOps F] (x0 : Vec F S512x4096 .bf16) (x1 : Vec F S1x4096x1024 .bf16) (x2 : Vec F S512x1024 .f32) (x3 x4 x5 x6 : Vec F S1x1x1024 .f32) : out0_8 x0 x1 x2 x3 x4 x5 x6 = k0_pay2 (k0_pay5 x0 x1) := by
  unfold out0_8
  rw [View.canon_unit_zero hz2]
  simp only [View.ld_unit_zero (S := S512x4096) hz2, View.ld_unit_zero (S := S1x4096x1024) hz3, View.ld_unit_zero (S := S512x1024) hz2, View.ld_unit_zero (S := S1x1x1024) hz3]

theorem out_eq9 {F : FTy → Type} [FloatOps F] (x0 : Vec F S512x4096 .bf16) (x1 : Vec F S1x4096x1024 .bf16) (x2 : Vec F S512x1024 .f32) (x3 x4 x5 x6 : Vec F S1x1x1024 .f32) : out0_9 x0 x1 x2 x3 x4 x5 x6 = k0_pay3 (k0_pay6 x6) (k0_pay8 x0 x1 x2 x3 x4 x5) := by
  unfold out0_9 k0_pay9 k0_pay10
  rw [View.canon_unit_zero hz2]
  simp only [View.ld_unit_zero (S := S512x4096) hz2, View.ld_unit_zero (S := S1x4096x1024) hz3, View.ld_unit_zero (S := S512x1024) hz2, View.ld_unit_zero (S := S1x1x1024) hz3]

theorem out_eq10 {F : FTy → Type} [FloatOps F] (x0 : Vec F S512x4096 .bf16) (x1 : Vec F S1x4096x1024 .bf16) (x2 : Vec F S512x1024 .f32) (x3 x4 x5 x6 : Vec F S1x1x1024 .f32) : out0_10 x0 x1 x2 x3 x4 x5 x6 = k0_pay4 (k0_pay6 x6) (k0_pay8 x0 x1 x2 x3 x4 x5) := by
  unfold out0_10 k0_pay9 k0_pay10
  rw [View.canon_unit_zero hz2]
  simp only [View.ld_unit_zero (S := S512x4096) hz2, View.ld_unit_zero (S := S1x4096x1024) hz3, View.ld_unit_zero (S := S512x1024) hz2, View.ld_unit_zero (S := S1x1x1024) hz3]

theorem pay7 (x0 : Vec Ideal S512x4096 .bf16) (x1 : Vec Ideal S1x4096x1024 .bf16) (x2 : Vec Ideal S512x1024 .f32) (x3 x4 x5 x6 : Vec Ideal S1x1x1024 .f32) (U : Vec Ideal S4096x4096 .bf16) (W : Vec Ideal S1x4096x1024 .bf16) (X : Vec Ideal S4096x1024 .f32) (G N S B : Vec Ideal S2x1x1024 .f32) (y : S512x1024.Idx) (r : Fin 4096) (h : Row x0 x1 x2 x3 x4 x5 x6 U W X G N S B (y 0) r) :
    k0_pay7 x0 x1 x2 x3 y = resid U W X G r (y 1) := by
  obtain ⟨h0, h1, h2, h3, h4, h5, h6⟩ := h
  idx_vars y
  pointwise [k0_pay7, k0_pay5]
  simp only [normed, sq, resid, feed, h0, h1, h2, h3, h4, h5, h6]

theorem pay8 (x0 : Vec Ideal S512x4096 .bf16) (x1 : Vec Ideal S1x4096x1024 .bf16) (x2 : Vec Ideal S512x1024 .f32) (x3 x4 x5 x6 : Vec Ideal S1x1x1024 .f32) (U : Vec Ideal S4096x4096 .bf16) (W : Vec Ideal S1x4096x1024 .bf16) (X : Vec Ideal S4096x1024 .f32) (G N S B : Vec Ideal S2x1x1024 .f32) (y : S512x1024.Idx) (r : Fin 4096) (h : Row x0 x1 x2 x3 x4 x5 x6 U W X G N S B (y 0) r) :
    k0_pay2 (k0_pay5 x0 x1) y = feed U W r (y 1) := by
  obtain ⟨h0, h1, h2, h3, h4, h5, h6⟩ := h
  idx_vars y
  pointwise [k0_pay2, k0_pay5]
  simp only [normed, sq, resid, feed, h0, h1, h2, h3, h4, h5, h6]

theorem pay9 (x0 : Vec Ideal S512x4096 .bf16) (x1 : Vec Ideal S1x4096x1024 .bf16) (x2 : Vec Ideal S512x1024 .f32) (x3 x4 x5 x6 : Vec Ideal S1x1x1024 .f32) (U : Vec Ideal S4096x4096 .bf16) (W : Vec Ideal S1x4096x1024 .bf16) (X : Vec Ideal S4096x1024 .f32) (G N S B : Vec Ideal S2x1x1024 .f32) (y : S512x1024.Idx) (r : Fin 4096) (h : Row x0 x1 x2 x3 x4 x5 x6 U W X G N S B (y 0) r) :
    k0_pay3 (k0_pay6 x6) (k0_pay8 x0 x1 x2 x3 x4 x5) y = normed U W X G N S B r (y 1) := by
  obtain ⟨h0, h1, h2, h3, h4, h5, h6⟩ := h
  idx_vars y
  pointwise [k0_pay3, k0_pay1, k0_pay6, k0_pay8, k0_pay7, k0_pay5]
  simp only [normed, sq, resid, feed, h0, h1, h2, h3, h4, h5, h6]

theorem pay10 (x0 : Vec Ideal S512x4096 .bf16) (x1 : Vec Ideal S1x4096x1024 .bf16) (x2 : Vec Ideal S512x1024 .f32) (x3 x4 x5 x6 : Vec Ideal S1x1x1024 .f32) (U : Vec Ideal S4096x4096 .bf16) (W : Vec Ideal S1x4096x1024 .bf16) (X : Vec Ideal S4096x1024 .f32) (G N S B : Vec Ideal S2x1x1024 .f32) (y : S1024x512.Idx) (r : Fin 4096) (h : Row x0 x1 x2 x3 x4 x5 x6 U W X G N S B (y 1) r) :
    k0_pay4 (k0_pay6 x6) (k0_pay8 x0 x1 x2 x3 x4 x5) y = normed U W X G N S B r (y 0) := by
  obtain ⟨h0, h1, h2, h3, h4, h5, h6⟩ := h
  idx_vars y
  pointwise [k0_pay4, k0_pay1, k0_pay6, k0_pay8, k0_pay7, k0_pay5]
  simp only [normed, sq, resid, feed, h0, h1, h2, h3, h4, h5, h6]

theorem idx : ∀ t : Fin cfg0.N, win0_0.index t = ![t.val, 0] ∧ win0_1.index t = ![0, 0, 0] ∧ win0_2.index t = ![t.val, 0] ∧ win0_3.index t = ![t.val / 4, 0, 0] ∧ win0_4.index t = ![t.val / 4, 0, 0] ∧ win0_5.index t = ![t.val / 4, 0, 0] ∧ win0_6.index t = ![t.val / 4, 0, 0] ∧ win0_7.index t = ![t.val, 0] ∧ win0_8.index t = ![t.val, 0] ∧ win0_9.index t = ![t.val, 0] ∧ win0_10.index t = ![0, t.val] :=
  (by decide +kernel : ∀ t : Fin grid0.N, win0_0.index t = ![t.val, 0] ∧ win0_1.index t = ![0, 0, 0] ∧ win0_2.index t = ![t.val, 0] ∧ win0_3.index t = ![t.val / 4, 0, 0] ∧ win0_4.index t = ![t.val / 4, 0, 0] ∧ win0_5.index t = ![t.val / 4, 0, 0] ∧ win0_6.index t = ![t.val / 4, 0, 0] ∧ win0_7.index t = ![t.val, 0] ∧ win0_8.index t = ![t.val, 0] ∧ win0_9.index t = ![t.val, 0] ∧ win0_10.index t = ![0, t.val])

theorem read0 (t : Fin cfg0.N) (X : Vec Ideal S4096x4096 .bf16) (a : Fin 512) (k : Fin 4096) (r : Fin 4096) (hr : r.val = 512 * t.val + a.val) :
    ((cfg0.win 0).blk t).view.read (Elt Ideal) X (ix2 a k) = X (ix2 r k) := by
  have e := (idx t).1
  rw [View.read_apply]
  refine congrArg X (funext fun d => Fin.ext ?_)
  match d with
  | ⟨0, _⟩ => show win0_0.index t 0 * 512 + 1 * a.val = r.val; rw [e, hr]; show t.val * 512 + 1 * a.val = _; omega
  | ⟨1, _⟩ => show win0_0.index t 1 * 4096 + 1 * k.val = k.val; rw [e]; show 0 * 4096 + 1 * k.val = _; omega

theorem read1 (t : Fin cfg0.N) (X : Vec Ideal S1x4096x1024 .bf16) (k : Fin 4096) (n : Fin 1024) :
    ((cfg0.win 1).blk t).view.read (Elt Ideal) X (ix3 0 k n) = X (ix3 0 k n) := by
  have e := (idx t).2.1
  rw [View.read_apply]
  refine congrArg X (funext fun d => Fin.ext ?_)
  match d with
  | ⟨0, _⟩ => show win0_1.index t 0 * 1 + 1 * 0 = 0; rw [e]; rfl
  | ⟨1, _⟩ => show win0_1.index t 1 * 4096 + 1 * k.val = k.val; rw [e]; show 0 * 4096 + 1 * k.val = _; omega
  | ⟨2, _⟩ => show win0_1.index t 2 * 1024 + 1 * n.val = n.val; rw [e]; show 0 * 1024 + 1 * n.val = _; omega

theorem read2 (t : Fin cfg0.N) (X : Vec Ideal S4096x1024 .f32) (a : Fin 512) (k : Fin 1024) (r : Fin 4096) (hr : r.val = 512 * t.val + a.val) :
    ((cfg0.win 2).blk t).view.read (Elt Ideal) X (ix2 a k) = X (ix2 r k) := by
  have e := (idx t).2.2.1
  rw [View.read_apply]
  refine congrArg X (funext fun d => Fin.ext ?_)
  match d with
  | ⟨0, _⟩ => show win0_2.index t 0 * 512 + 1 * a.val = r.val; rw [e, hr]; show t.val * 512 + 1 * a.val = _; omega
  | ⟨1, _⟩ => show win0_2.index t 1 * 1024 + 1 * k.val = k.val; rw [e]; show 0 * 1024 + 1 * k.val = _; omega

theorem read3 (t : Fin cfg0.N) (X : Vec Ideal S2x1x1024 .f32) (n : Fin 1024) (s : Fin 2) (hs : s.val = t.val / 4) :
    ((cfg0.win 3).blk t).view.read (Elt Ideal) X (ix3 0 0 n) = X (ix3 s 0 n) := by
  have e := (idx t).2.2.2.1
  rw [View.read_apply]
  refine congrArg X (funext fun d => Fin.ext ?_)
  match d with
  | ⟨0, _⟩ => show win0_3.index t 0 * 1 + 1 * 0 = s.val; rw [e, hs]; show t.val / 4 * 1 + 1 * 0 = _; omega
  | ⟨1, _⟩ => show win0_3.index t 1 * 1 + 1 * 0 = 0; rw [e]; rfl
  | ⟨2, _⟩ => show win0_3.index t 2 * 1024 + 1 * n.val = n.val; rw [e]; show 0 * 1024 + 1 * n.val = _; omega

theorem read4 (t : Fin cfg0.N) (X : Vec Ideal S2x1x1024 .f32) (n : Fin 1024) (s : Fin 2) (hs : s.val = t.val / 4) :
    ((cfg0.win 4).blk t).view.read (Elt Ideal) X (ix3 0 0 n) = X (ix3 s 0 n) := by
  have e := (idx t).2.2.2.2.1
  rw [View.read_apply]
  refine congrArg X (funext fun d => Fin.ext ?_)
  match d with
  | ⟨0, _⟩ => show win0_4.index t 0 * 1 + 1 * 0 = s.val; rw [e, hs]; show t.val / 4 * 1 + 1 * 0 = _; omega
  | ⟨1, _⟩ => show win0_4.index t 1 * 1 + 1 * 0 = 0; rw [e]; rfl
  | ⟨2, _⟩ => show win0_4.index t 2 * 1024 + 1 * n.val = n.val; rw [e]; show 0 * 1024 + 1 * n.val = _; omega

theorem read5 (t : Fin cfg0.N) (X : Vec Ideal S2x1x1024 .f32) (n : Fin 1024) (s : Fin 2) (hs : s.val = t.val / 4) :
    ((cfg0.win 5).blk t).view.read (Elt Ideal) X (ix3 0 0 n) = X (ix3 s 0 n) := by
  have e := (idx t).2.2.2.2.2.1
  rw [View.read_apply]
  refine congrArg X (funext fun d => Fin.ext ?_)
  match d with
  | ⟨0, _⟩ => show win0_5.index t 0 * 1 + 1 * 0 = s.val; rw [e, hs]; show t.val / 4 * 1 + 1 * 0 = _; omega
  | ⟨1, _⟩ => show win0_5.index t 1 * 1 + 1 * 0 = 0; rw [e]; rfl
  | ⟨2, _⟩ => show win0_5.index t 2 * 1024 + 1 * n.val = n.val; rw [e]; show 0 * 1024 + 1 * n.val = _; omega

theorem read6 (t : Fin cfg0.N) (X : Vec Ideal S2x1x1024 .f32) (n : Fin 1024) (s : Fin 2) (hs : s.val = t.val / 4) :
    ((cfg0.win 6).blk t).view.read (Elt Ideal) X (ix3 0 0 n) = X (ix3 s 0 n) := by
  have e := (idx t).2.2.2.2.2.2.1
  rw [View.read_apply]
  refine congrArg X (funext fun d => Fin.ext ?_)
  match d with
  | ⟨0, _⟩ => show win0_6.index t 0 * 1 + 1 * 0 = s.val; rw [e, hs]; show t.val / 4 * 1 + 1 * 0 = _; omega
  | ⟨1, _⟩ => show win0_6.index t 1 * 1 + 1 * 0 = 0; rw [e]; rfl
  | ⟨2, _⟩ => show win0_6.index t 2 * 1024 + 1 * n.val = n.val; rw [e]; show 0 * 1024 + 1 * n.val = _; omega

theorem emb7 (t : Fin cfg0.N) (y : S512x1024.Idx) :
    (((cfg0.win 7).blk t).view.emb y 0).val = 512 * (t.val) + (y 0).val ∧ (((cfg0.win 7).blk t).view.emb y 1).val = (y 1).val := by
  have e := (idx t).2.2.2.2.2.2.2.1
  constructor
  · show win0_7.index t 0 * 512 + 1 * (y 0).val = _; rw [e]; show t.val * 512 + 1 * (y 0).val = _; omega
  · show win0_7.index t 1 * 1024 + 1 * (y 1).val = _; rw [e]; show 0 * 1024 + 1 * (y 1).val = _; omega

theorem emb8 (t : Fin cfg0.N) (y : S512x1024.Idx) :
    (((cfg0.win 8).blk t).view.emb y 0).val = 512 * (t.val) + (y 0).val ∧ (((cfg0.win 8).blk t).view.emb y 1).val = (y 1).val := by
  have e := (idx t).2.2.2.2.2.2.2.2.1
  constructor
  · show win0_8.index t 0 * 512 + 1 * (y 0).val = _; rw [e]; show t.val * 512 + 1 * (y 0).val = _; omega
  · show win0_8.index t 1 * 1024 + 1 * (y 1).val = _; rw [e]; show 0 * 1024 + 1 * (y 1).val = _; omega

theorem emb9 (t : Fin cfg0.N) (y : S512x1024.Idx) :
    (((cfg0.win 9).blk t).view.emb y 0).val = 512 * (t.val) + (y 0).val ∧ (((cfg0.win 9).blk t).view.emb y 1).val = (y 1).val := by
  have e := (idx t).2.2.2.2.2.2.2.2.2.1
  constructor
  · show win0_9.index t 0 * 512 + 1 * (y 0).val = _; rw [e]; show t.val * 512 + 1 * (y 0).val = _; omega
  · show win0_9.index t 1 * 1024 + 1 * (y 1).val = _; rw [e]; show 0 * 1024 + 1 * (y 1).val = _; omega

theorem emb10 (t : Fin cfg0.N) (y : S1024x512.Idx) :
    (((cfg0.win 10).blk t).view.emb y 0).val = (y 0).val ∧ (((cfg0.win 10).blk t).view.emb y 1).val = 512 * (t.val) + (y 1).val := by
  have e := (idx t).2.2.2.2.2.2.2.2.2.2
  constructor
  · show win0_10.index t 0 * 1024 + 1 * (y 0).val = _; rw [e]; show 0 * 1024 + 1 * (y 0).val = _; omega
  · show win0_10.index t 1 * 512 + 1 * (y 1).val = _; rw [e]; show t.val * 512 + 1 * (y 1).val = _; omega

variable (m : (ℓ : Loc nD τ sig) → Buf (Elt Ideal) ℓ)

theorem row (c : Dev nD) (t : Fin cfg0.N) (a : Fin 512) (r : Fin 4096) (hr : r.val = 512 * t.val + a.val) :
    Row (iblk m c 0 t) (iblk m c 1 t) (iblk m c 2 t) (iblk m c 3 t) (iblk m c 4 t) (iblk m c 5 t) (iblk m c 6 t) (V m c main_v6) (V m c main_v8) (V m c main_arg3) (V m c main_v9) (V m c main_v4) (V m c main_v10) (V m c main_v11) a r := by
  have hs : (seq r).val = t.val / 4 := by show r.val / 2048 = _; omega
  exact ⟨fun k => read0 t (V m c main_v6) a k r hr, fun k n => read1 t (V m c main_v8) k n, fun n => read2 t (V m c main_arg3) a n r hr,
    fun n => read3 t (V m c main_v9) n _ hs, fun n => read4 t (V m c main_v4) n _ hs, fun n => read5 t (V m c main_v10) n _ hs, fun n => read6 t (V m c main_v11) n _ hs⟩

theorem final7 (c : Dev nD) : (dats (F := Ideal) m 0 c).arrAt 7 cfg0.N = residA (V m c main_v6) (V m c main_v8) (V m c main_arg3) (V m c main_v9) := by
  refine (dats (F := Ideal) m 0 c).arrAt_eq_of_covers 7 _ (by decide +kernel) fun t hf y => ?_
  have hc : (dats (F := Ideal) m 0 c).flushed 7 t y = out0_7 (iblk m c 0 t) (iblk m c 1 t) (iblk m c 2 t) (iblk m c 3 t) (iblk m c 4 t) (iblk m c 5 t) (iblk m c 6 t) y := by
    show (dats (F := Ideal) m 0 c).after 7 t y = _
    rw [after0_7]
  refine hc.trans ?_
  rw [out_eq7]
  obtain ⟨e1, e2⟩ := emb7 t y
  refine (pay7 (iblk m c 0 t) (iblk m c 1 t) (iblk m c 2 t) (iblk m c 3 t) (iblk m c 4 t) (iblk m c 5 t) (iblk m c 6 t) (V m c main_v6) (V m c main_v8) (V m c main_arg3) (V m c main_v9) (V m c main_v4) (V m c main_v10) (V m c main_v11) y _ (row m c t (y 0) ((((cfg0.win 7).blk t).view.emb y) 0) e1)).trans ?_
  show _ = residA (V m c main_v6) (V m c main_v8) (V m c main_arg3) (V m c main_v9) _
  unfold residA
  exact congrArg _ (Fin.ext e2.symm)

theorem final8 (c : Dev nD) : (dats (F := Ideal) m 0 c).arrAt 8 cfg0.N = feedA (V m c main_v6) (V m c main_v8) := by
  refine (dats (F := Ideal) m 0 c).arrAt_eq_of_covers 8 _ (by decide +kernel) fun t hf y => ?_
  have hc : (dats (F := Ideal) m 0 c).flushed 8 t y = out0_8 (iblk m c 0 t) (iblk m c 1 t) (iblk m c 2 t) (iblk m c 3 t) (iblk m c 4 t) (iblk m c 5 t) (iblk m c 6 t) y := by
    show (dats (F := Ideal) m 0 c).after 8 t y = _
    rw [after0_8]
  refine hc.trans ?_
  rw [out_eq8]
  obtain ⟨e1, e2⟩ := emb8 t y
  refine (pay8 (iblk m c 0 t) (iblk m c 1 t) (iblk m c 2 t) (iblk m c 3 t) (iblk m c 4 t) (iblk m c 5 t) (iblk m c 6 t) (V m c main_v6) (V m c main_v8) (V m c main_arg3) (V m c main_v9) (V m c main_v4) (V m c main_v10) (V m c main_v11) y _ (row m c t (y 0) ((((cfg0.win 8).blk t).view.emb y) 0) e1)).trans ?_
  show _ = feedA (V m c main_v6) (V m c main_v8) _
  unfold feedA
  exact congrArg _ (Fin.ext e2.symm)

theorem final9 (c : Dev nD) : (dats (F := Ideal) m 0 c).arrAt 9 cfg0.N = normedA (V m c main_v6) (V m c main_v8) (V m c main_arg3) (V m c main_v9) (V m c main_v4) (V m c main_v10) (V m c main_v11) := by
  refine (dats (F := Ideal) m 0 c).arrAt_eq_of_covers 9 _ (by decide +kernel) fun t hf y => ?_
  have hc : (dats (F := Ideal) m 0 c).flushed 9 t y = out0_9 (iblk m c 0 t) (iblk m c 1 t) (iblk m c 2 t) (iblk m c 3 t) (iblk m c 4 t) (iblk m c 5 t) (iblk m c 6 t) y := by
    show (dats (F := Ideal) m 0 c).after 9 t y = _
    rw [after0_9]
  refine hc.trans ?_
  rw [out_eq9]
  obtain ⟨e1, e2⟩ := emb9 t y
  refine (pay9 (iblk m c 0 t) (iblk m c 1 t) (iblk m c 2 t) (iblk m c 3 t) (iblk m c 4 t) (iblk m c 5 t) (iblk m c 6 t) (V m c main_v6) (V m c main_v8) (V m c main_arg3) (V m c main_v9) (V m c main_v4) (V m c main_v10) (V m c main_v11) y _ (row m c t (y 0) ((((cfg0.win 9).blk t).view.emb y) 0) e1)).trans ?_
  show _ = normedA (V m c main_v6) (V m c main_v8) (V m c main_arg3) (V m c main_v9) (V m c main_v4) (V m c main_v10) (V m c main_v11) _
  unfold normedA
  exact congrArg _ (Fin.ext e2.symm)

theorem final10 (c : Dev nD) : (dats (F := Ideal) m 0 c).arrAt 10 cfg0.N = normedT (V m c main_v6) (V m c main_v8) (V m c main_arg3) (V m c main_v9) (V m c main_v4) (V m c main_v10) (V m c main_v11) := by
  refine (dats (F := Ideal) m 0 c).arrAt_eq_of_covers 10 _ (by decide +kernel) fun t hf y => ?_
  have hc : (dats (F := Ideal) m 0 c).flushed 10 t y = out0_10 (iblk m c 0 t) (iblk m c 1 t) (iblk m c 2 t) (iblk m c 3 t) (iblk m c 4 t) (iblk m c 5 t) (iblk m c 6 t) y := by
    show (dats (F := Ideal) m 0 c).after 10 t y = _
    rw [after0_10]
  refine hc.trans ?_
  rw [out_eq10]
  obtain ⟨e1, e2⟩ := emb10 t y
  refine (pay10 (iblk m c 0 t) (iblk m c 1 t) (iblk m c 2 t) (iblk m c 3 t) (iblk m c 4 t) (iblk m c 5 t) (iblk m c 6 t) (V m c main_v6) (V m c main_v8) (V m c main_arg3) (V m c main_v9) (V m c main_v4) (V m c main_v10) (V m c main_v11) y _ (row m c t (y 1) ((((cfg0.win 10).blk t).view.emb y) 1) e2)).trans ?_
  show _ = normedT (V m c main_v6) (V m c main_v8) (V m c main_arg3) (V m c main_v9) (V m c main_v4) (V m c main_v10) (V m c main_v11) _
  unfold normedT
  exact congrArg _ (Fin.ext e1.symm)

/-- The hidden layer's activation, as both programs compute it on the host. -/
def act (h : FVec Ideal S4096x1024 .f32) (w : FVec Ideal S1024x4096 .f32) : FVec Ideal S4096x4096 .f32 :=
  mulf (maximumf (Host.dotGeneral dot_S4096x1024_S1024x4096_S4096x4096_1_0_0_1_n_n none h w) (broadcastInDim S4096x4096 ![] bcast_S_S4096x4096 (constant S_ .f32 0x00000000#32)))
    (maximumf (Host.dotGeneral dot_S4096x1024_S1024x4096_S4096x4096_1_0_0_1_n_n none h w) (broadcastInDim S4096x4096 ![] bcast_S_S4096x4096 (constant S_ .f32 0x00000000#32)))

theorem entry0 (c : Dev nD) : V m c main_v6 = truncf (F := Ideal) (φ := .f32) .bf16 (act (m (c.tc.loc main_arg0)) (m (c.tc.loc main_arg1))) bitsLt_bf16_f32 := by
  show StableHlo.after hostOps0 _ main_v6 = _
  after_results
  rfl

theorem entry1 (c : Dev nD) : V m c main_v8 = broadcastInDim S1x4096x1024 ![1, 2] bcast_S4096x1024_S1x4096x1024_1_2 (truncf (F := Ideal) (φ := .f32) .bf16 (m (c.tc.loc main_arg2)) bitsLt_bf16_f32) := by
  show StableHlo.after hostOps0 _ main_v8 = _
  after_results

theorem entry2 (c : Dev nD) : V m c main_arg3 = m (c.tc.loc main_arg3) := by
  show StableHlo.after hostOps0 _ main_arg3 = _
  after_results

theorem entry3 (c : Dev nD) : V m c main_v9 = broadcastInDim S2x1x1024 ![0, 2] bcast_S2x1024_S2x1x1024_0_2 (m (c.tc.loc main_arg4)) := by
  show StableHlo.after hostOps0 _ main_v9 = _
  after_results

theorem entry4 (c : Dev nD) : V m c main_v4 = broadcastInDim S2x1x1024 ![0, 1, 2] bcast_S1x1x1024_S2x1x1024_0_1_2 (broadcastInDim S1x1x1024 ![2] bcast_S1024_S1x1x1024_2 (m (c.tc.loc main_arg5))) := by
  show StableHlo.after hostOps0 _ main_v4 = _
  after_results

theorem entry5 (c : Dev nD) : V m c main_v10 = broadcastInDim S2x1x1024 ![0, 2] bcast_S2x1024_S2x1x1024_0_2 (m (c.tc.loc main_arg6)) := by
  show StableHlo.after hostOps0 _ main_v10 = _
  after_results

theorem entry6 (c : Dev nD) : V m c main_v11 = broadcastInDim S2x1x1024 ![0, 2] bcast_S2x1024_S2x1x1024_0_2 (m (c.tc.loc main_arg7)) := by
  show StableHlo.after hostOps0 _ main_v11 = _
  after_results

/-- The row within its sequence. -/
def pos (r : Fin 4096) : Fin 2048 := ⟨r.val % 2048, by omega⟩

theorem out_row (v : FVec Ideal Cert.Reference7Ideal.S2x2048x1024 .f32) (r : Fin 4096) (n : Fin 1024) : shapeCast Cert.Reference7Ideal.S4096x1024 v Cert.Reference7Ideal.Gen.shapeCasts_S2x2048x1024_S4096x1024 (ix2 r n) = v (ix3 (seq r) (pos r) n) := by
  refine shapeCast_apply _ _ _ _ ?_
  rw [rowMajor_val3 _ (2048 * 1024) 1024 rfl rfl, rowMajor_val2 _ 1024 rfl]
  show r.val / 2048 * (2048 * 1024) + r.val % 2048 * 1024 + n.val = r.val * 1024 + n.val
  omega

theorem in_row (x : FVec Ideal Cert.Reference7Ideal.S4096x1024 .f32) (r : Fin 4096) (n : Fin 1024) : shapeCast Cert.Reference7Ideal.S2x2048x1024 x Cert.Reference7Ideal.Gen.shapeCasts_S4096x1024_S2x2048x1024 (ix3 (seq r) (pos r) n) = x (ix2 r n) := by
  refine shapeCast_apply _ _ _ _ ?_
  rw [rowMajor_val3 _ (2048 * 1024) 1024 rfl rfl, rowMajor_val2 _ 1024 rfl]
  show r.val * 1024 + n.val = r.val / 2048 * (2048 * 1024) + r.val % 2048 * 1024 + n.val
  omega

/-- The reference's second product, its gated residual and its norm, sequence by sequence. -/
def feedR (u : FVec Ideal Cert.Reference7Ideal.S4096x4096 .f32) (w : FVec Ideal Cert.Reference7Ideal.S4096x1024 .f32) : FVec Ideal Cert.Reference7Ideal.S4096x1024 .f32 :=
  Host.dotGeneral Cert.Reference7Ideal.dot_S4096x4096_S4096x1024_S4096x1024_1_0_0_1_n_n none u w

def residR (x y : FVec Ideal Cert.Reference7Ideal.S2x2048x1024 .f32) (gate : FVec Ideal Cert.Reference7Ideal.S2x1024 .f32) : FVec Ideal Cert.Reference7Ideal.S2x2048x1024 .f32 :=
  addf x (mulf (broadcastInDim Cert.Reference7Ideal.S2x2048x1024 ![0, 1, 2] Cert.Reference7Ideal.Gen.bcast_S2x1x1024_S2x2048x1024_0_1_2 (broadcastInDim Cert.Reference7Ideal.S2x1x1024 ![0, 2] Cert.Reference7Ideal.Gen.bcast_S2x1024_S2x1x1024_0_2 gate)) y)

def normedR (v : FVec Ideal Cert.Reference7Ideal.S2x2048x1024 .f32) (gain : FVec Ideal Cert.Reference7Ideal.S1024 .f32) (scale shift : FVec Ideal Cert.Reference7Ideal.S2x1024 .f32) : FVec Ideal Cert.Reference7Ideal.S2x2048x1024 .f32 :=
  addf (mulf (mulf (mulf v (broadcastInDim Cert.Reference7Ideal.S2x2048x1024 ![0, 1, 2] Cert.Reference7Ideal.Gen.bcast_S2x2048x1_S2x2048x1024_0_1_2 (Host.rsqrt (addf (Host.divf (broadcastInDim Cert.Reference7Ideal.S2x2048x1 ![0, 1] Cert.Reference7Ideal.Gen.bcast_S2x2048_S2x2048x1_0_1 (Host.reduceAdd (mulf v v) (constant Cert.Reference7Ideal.S_ .f32 0x00000000#32) Cert.Reference7Ideal.Gen.reducesTo_S2x2048x1024_S2x2048_d2 Cert.Reference7Ideal.Gen.h_S_)) (broadcastInDim Cert.Reference7Ideal.S2x2048x1 ![] Cert.Reference7Ideal.Gen.bcast_S_S2x2048x1 (constant Cert.Reference7Ideal.S_ .f32 0x44800000#32))) (broadcastInDim Cert.Reference7Ideal.S2x2048x1 ![] Cert.Reference7Ideal.Gen.bcast_S_S2x2048x1 (constant Cert.Reference7Ideal.S_ .f32 0x358637BD#32)))))) (broadcastInDim Cert.Reference7Ideal.S2x2048x1024 ![0, 1, 2] Cert.Reference7Ideal.Gen.bcast_S1x1x1024_S2x2048x1024_0_1_2 (broadcastInDim Cert.Reference7Ideal.S1x1x1024 ![2] Cert.Reference7Ideal.Gen.bcast_S1024_S1x1x1024_2 gain))) (broadcastInDim Cert.Reference7Ideal.S2x2048x1024 ![0, 1, 2] Cert.Reference7Ideal.Gen.bcast_S2x1x1024_S2x2048x1024_0_1_2 (addf (broadcastInDim Cert.Reference7Ideal.S2x1x1024 ![] Cert.Reference7Ideal.Gen.bcast_S_S2x1x1024 (constant Cert.Reference7Ideal.S_ .f32 0x3F800000#32)) (broadcastInDim Cert.Reference7Ideal.S2x1x1024 ![0, 2] Cert.Reference7Ideal.Gen.bcast_S2x1024_S2x1x1024_0_2 scale)))) (broadcastInDim Cert.Reference7Ideal.S2x2048x1024 ![0, 1, 2] Cert.Reference7Ideal.Gen.bcast_S2x1x1024_S2x2048x1024_0_1_2 (broadcastInDim Cert.Reference7Ideal.S2x1x1024 ![0, 2] Cert.Reference7Ideal.Gen.bcast_S2x1024_S2x1x1024_0_2 shift))

theorem residR_at (x y : FVec Ideal Cert.Reference7Ideal.S2x2048x1024 .f32) (gate : FVec Ideal Cert.Reference7Ideal.S2x1024 .f32) (s : Fin 2) (q : Fin 2048) (n : Fin 1024) :
    residR x y gate (ix3 s q n) = x (ix3 s q n) + gate (ix2 s n) * y (ix3 s q n) := by
  pointwise [residR]

theorem normedR_at (v : FVec Ideal Cert.Reference7Ideal.S2x2048x1024 .f32) (gain : FVec Ideal Cert.Reference7Ideal.S1024 .f32) (scale shift : FVec Ideal Cert.Reference7Ideal.S2x1024 .f32) (s : Fin 2) (q : Fin 2048) (n : Fin 1024) :
    normedR v gain scale shift (ix3 s q n) = v (ix3 s q n) * Ideal.rsqrt (Ideal.div (∑ k : Fin 1024, v (ix3 s q k) * v (ix3 s q k)) (Ideal.ofBits .f32 0x44800000#32) + Ideal.ofBits .f32 0x358637BD#32) * gain (ix1 n) * (1 + scale (ix2 s n)) + shift (ix2 s n) := by
  pointwise [normedR]

/-- The reference's arrays in those terms. -/
def resid3 (h x : FVec Ideal Cert.Reference7Ideal.S4096x1024 .f32) (w1 : FVec Ideal Cert.Reference7Ideal.S1024x4096 .f32) (w2 : FVec Ideal Cert.Reference7Ideal.S4096x1024 .f32) (gate : FVec Ideal Cert.Reference7Ideal.S2x1024 .f32) : FVec Ideal Cert.Reference7Ideal.S2x2048x1024 .f32 :=
  residR (shapeCast Cert.Reference7Ideal.S2x2048x1024 x Cert.Reference7Ideal.Gen.shapeCasts_S4096x1024_S2x2048x1024) (shapeCast Cert.Reference7Ideal.S2x2048x1024 (feedR (act h w1) w2) Cert.Reference7Ideal.Gen.shapeCasts_S4096x1024_S2x2048x1024) gate

theorem resid3_at (h x : FVec Ideal Cert.Reference7Ideal.S4096x1024 .f32) (w1 : FVec Ideal Cert.Reference7Ideal.S1024x4096 .f32) (w2 : FVec Ideal Cert.Reference7Ideal.S4096x1024 .f32) (gate : FVec Ideal Cert.Reference7Ideal.S2x1024 .f32) (r : Fin 4096) (n : Fin 1024) :
    resid3 h x w1 w2 gate (ix3 (seq r) (pos r) n) = x (ix2 r n) + gate (ix2 (seq r) n) * ∑ k : Fin 4096, act h w1 (ix2 r k) * w2 (ix2 k n) := by
  unfold resid3
  rw [residR_at, in_row, in_row]
  congr 2
  generalize act h w1 = u
  pointwise [feedR]

theorem norm_row (c : Dev nD) (r : Fin 4096) (n : Fin 1024) : (shapeCast Cert.Reference7Ideal.S4096x1024 (normedR (resid3 (m (c.tc.loc main_arg0)) (m (c.tc.loc main_arg3)) (m (c.tc.loc main_arg1)) (m (c.tc.loc main_arg2)) (m (c.tc.loc main_arg4))) (m (c.tc.loc main_arg5)) (m (c.tc.loc main_arg6)) (m (c.tc.loc main_arg7))) Cert.Reference7Ideal.Gen.shapeCasts_S2x2048x1024_S4096x1024) (ix2 r n) = normed (V m c main_v6) (V m c main_v8) (V m c main_arg3) (V m c main_v9) (V m c main_v4) (V m c main_v10) (V m c main_v11) r n := by
  rw [out_row, normedR_at]
  simp only [resid3_at, normed, sq, resid, feed]
  rw [entry0, entry1, entry2, entry3, entry4, entry5, entry6]
  generalize act (m (c.tc.loc main_arg0)) (m (c.tc.loc main_arg1)) = u
  pointwise []

theorem alg : Cert.algebraic_Kernel7Ideal_Reference7Ideal (hKernel7Ideal := Cert.Kernel7Ideal.Gen.facts) (hReference7Ideal := Cert.Reference7Ideal.Gen.facts) := by
  intro m g m' g' _ hag
  refine ⟨fun c => residA (V m c main_v6) (V m c main_v8) (V m c main_arg3) (V m c main_v9), fun c => feedA (V m c main_v6) (V m c main_v8), fun c => normedA (V m c main_v6) (V m c main_v8) (V m c main_arg3) (V m c main_v9) (V m c main_v4) (V m c main_v10) (V m c main_v11), fun c => normedT (V m c main_v6) (V m c main_v8) (V m c main_arg3) (V m c main_v9) (V m c main_v4) (V m c main_v10) (V m c main_v11), ?_, ?_⟩
  · exact (θ_run defs _ _).mono (fun r h c => ⟨(Cert.Kernel7Ideal.Value.post7 m r h c).trans (final7 m c), (Cert.Kernel7Ideal.Value.post8 m r h c).trans (final8 m c), (Cert.Kernel7Ideal.Value.post9 m r h c).trans (final9 m c), (Cert.Kernel7Ideal.Value.post10 m r h c).trans (final10 m c), Cert.Kernel7Ideal.Value.kept_main_arg0 m r h c, Cert.Kernel7Ideal.Value.kept_main_arg1 m r h c, Cert.Kernel7Ideal.Value.kept_main_arg2 m r h c, Cert.Kernel7Ideal.Value.kept_main_arg3 m r h c, Cert.Kernel7Ideal.Value.kept_main_arg4 m r h c, Cert.Kernel7Ideal.Value.kept_main_arg5 m r h c, Cert.Kernel7Ideal.Value.kept_main_arg6 m r h c, Cert.Kernel7Ideal.Value.kept_main_arg7 m r h c⟩) (run_main m g)
  · refine (θ_run Cert.Reference7Ideal.defs _ _).mono (fun r h c => ⟨(h c).1.trans ?_, (h c).2.1.trans ?_, (h c).2.2.1.trans ?_, (h c).2.2.2.1.trans ?_, (h c).2.2.2.2⟩) (Cert.Reference7Ideal.Value.run m' g')
    all_goals (try unfold Cert.Reference7Ideal.Value.res_main_v34); (try unfold Cert.Reference7Ideal.Value.res_main_v36); rw [(hag c).1, (hag c).2.1, (hag c).2.2.1]
    all_goals (try rw [(hag c).2.2.2.1, (hag c).2.2.2.2.1]); (try rw [(hag c).2.2.2.2.2.1, (hag c).2.2.2.2.2.2.1, (hag c).2.2.2.2.2.2.2])
    · show _ = residA (V m c main_v6) (V m c main_v8) (V m c main_arg3) (V m c main_v9)
      refine Eq.trans (show _ = shapeCast Cert.Reference7Ideal.S4096x1024 (resid3 (m (c.tc.loc main_arg0)) (m (c.tc.loc main_arg3)) (m (c.tc.loc main_arg1)) (m (c.tc.loc main_arg2)) (m (c.tc.loc main_arg4))) Cert.Reference7Ideal.Gen.shapeCasts_S2x2048x1024_S4096x1024 from rfl) ?_
      rw [entry0, entry1, entry2, entry3]; funext i; idx_vars i
      rw [out_row, resid3_at]
      simp only [residA, resid, feed]
      generalize act (m (c.tc.loc main_arg0)) (m (c.tc.loc main_arg1)) = u
      pointwise []
    · show _ = feedA (V m c main_v6) (V m c main_v8)
      refine Eq.trans (show _ = truncf (F := Ideal) (φ := .f32) .bf16 (feedR (act (m (c.tc.loc main_arg0)) (m (c.tc.loc main_arg1))) (m (c.tc.loc main_arg2))) bitsLt_bf16_f32 from rfl) ?_
      rw [entry0, entry1]; funext i; idx_vars i
      simp only [feedA, feed]
      generalize act (m (c.tc.loc main_arg0)) (m (c.tc.loc main_arg1)) = u
      pointwise [feedR]
    · show _ = normedA (V m c main_v6) (V m c main_v8) (V m c main_arg3) (V m c main_v9) (V m c main_v4) (V m c main_v10) (V m c main_v11)
      refine Eq.trans (show _ = truncf (F := Ideal) (φ := .f32) .bf16 (shapeCast Cert.Reference7Ideal.S4096x1024 (normedR (resid3 (m (c.tc.loc main_arg0)) (m (c.tc.loc main_arg3)) (m (c.tc.loc main_arg1)) (m (c.tc.loc main_arg2)) (m (c.tc.loc main_arg4))) (m (c.tc.loc main_arg5)) (m (c.tc.loc main_arg6)) (m (c.tc.loc main_arg7))) Cert.Reference7Ideal.Gen.shapeCasts_S2x2048x1024_S4096x1024) bitsLt_bf16_f32 from rfl) ?_
      funext i; idx_vars i
      exact norm_row m c _ _
    · show _ = normedT (V m c main_v6) (V m c main_v8) (V m c main_arg3) (V m c main_v9) (V m c main_v4) (V m c main_v10) (V m c main_v11)
      refine Eq.trans (show _ = truncf (F := Ideal) (φ := .f32) .bf16 (transpose Cert.Reference7Ideal.S1024x4096 [1, 0] (shapeCast Cert.Reference7Ideal.S4096x1024 (normedR (resid3 (m (c.tc.loc main_arg0)) (m (c.tc.loc main_arg3)) (m (c.tc.loc main_arg1)) (m (c.tc.loc main_arg2)) (m (c.tc.loc main_arg4))) (m (c.tc.loc main_arg5)) (m (c.tc.loc main_arg6)) (m (c.tc.loc main_arg7))) Cert.Reference7Ideal.Gen.shapeCasts_S2x2048x1024_S4096x1024) Cert.Reference7Ideal.Gen.transposes_S4096x1024_S1024x4096_1_0) bitsLt_bf16_f32 from rfl) ?_
      funext i; idx_vars i
      exact norm_row m c _ _

end Cert.Mm.K7

end
-- ==== Proof.Mm.K8.lean ====
module

public import proofs.«01_k».proof.Proof.Mm.Common
public import proofs.«01_k».proof.Proof.Gen.Kernel8Ideal.Value
public import proofs.«01_k».proof.Proof.Gen.Reference8Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The gradient of the mixer’s output projection: the values of its call. -/

@[expose] public section

set_option maxRecDepth 16384

noncomputable section

namespace Cert.Mm.K8

open Cert.Kernel8Ideal Cert.Kernel8Ideal.Gen
open Idealize.ShloMosaic Idealize.ShloMosaic.TcCoe Idealize.SL.Sem
open Idealize.ShloMosaic.Pipeline (Dat)

section

variable {F : FTy → Type} [FloatOps F]
variable (m : (ℓ : Loc nD τ sig) → Buf (Elt F) ℓ)

/-- The first step of a block's contraction leaves the first partial product in the accumulator. -/
theorem sout_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i) (hc2 : ¬cond0_2 i)
    (x0 : Vec F S1024x2048 .bf16) (x1 : Vec F S2048x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, View.ld_unit_zero (S := S1024x2048) hz2, View.ld_unit_zero (S := S2048x1024) hz2]

/-- The second step adds the second partial product and writes the sum out. -/
theorem out_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (hc2 : cond0_2 i)
    (x0 : Vec F S1024x2048 .bf16) (x1 : Vec F S2048x1024 .bf16) (xs0 : Vec F S1024x1024 .f32) :
    out0_B_2 c i arg3 harg3 arg4 harg4 arg5 harg5 arg6 harg6 hc0 hc1 hc2 x0 x1 xs0 = k0_pay4 (k0_pay3 x0 x1 xs0) := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz3]
  simp only [View.readAt_eq_ld, harg3.read_unread, harg4.read_unread, harg6.read_unread, View.ld_unit_zero (S := S1024x2048) hz2, View.ld_unit_zero (S := S2048x1024) hz2, View.ld_unit_zero (S := S1024x1024) hz2, View.readCov_unit_zero (S := S1024x1024) _ hz2]

/-- The result as one contraction of the two operands. -/
def prod (A : Vec Ideal S1024x4096 .bf16) (B : Vec Ideal S4096x1024 .bf16) : Vec Ideal S1x1024x1024 .f32 :=
  fun i => ∑ k : Fin 4096, A (ix2 (i 1) k) * B (ix2 k (i 2))

theorem idx : ∀ t : Fin cfg0.N, win0_0.index t = ![t.val / 2, t.val % 2] ∧ win0_1.index t = ![t.val % 2, 0] ∧ win0_2.index t = ![0, t.val / 2, 0] :=
  (by decide +kernel : ∀ t : Fin grid0.N, win0_0.index t = ![t.val / 2, t.val % 2] ∧ win0_1.index t = ![t.val % 2, 0] ∧ win0_2.index t = ![0, t.val / 2, 0])

theorem read0 (t : Fin cfg0.N) (X : Vec Ideal S1024x4096 .bf16) (a : Fin 1024) (b : Fin 2048) (r : Fin 1024) (k : Fin 4096)
    (hr : r.val = 1024 * (t.val / 2) + a.val) (hk : k.val = 2048 * (t.val % 2) + b.val) :
    ((cfg0.win 0).blk t).view.read (Elt Ideal) X (ix2 a b) = X (ix2 r k) := by
  have e := (idx t).1
  rw [View.read_apply]
  refine congrArg X ?_
  funext d
  apply Fin.ext
  match d with
  | ⟨0, _⟩ => show win0_0.index t 0 * 1024 + 1 * a.val = r.val; rw [e, hr]; show t.val / 2 * 1024 + 1 * a.val = _; omega
  | ⟨1, _⟩ => show win0_0.index t 1 * 2048 + 1 * b.val = k.val; rw [e, hk]; show t.val % 2 * 2048 + 1 * b.val = _; omega

theorem read1 (t : Fin cfg0.N) (X : Vec Ideal S4096x1024 .bf16) (b : Fin 2048) (a : Fin 1024) (k : Fin 4096) (n : Fin 1024)
    (hk : k.val = 2048 * (t.val % 2) + b.val) (hn : n.val = a.val) :
    ((cfg0.win 1).blk t).view.read (Elt Ideal) X (ix2 b a) = X (ix2 k n) := by
  have e := (idx t).2.1
  rw [View.read_apply]
  refine congrArg X ?_
  funext d
  apply Fin.ext
  match d with
  | ⟨0, _⟩ => show win0_1.index t 0 * 2048 + 1 * b.val = k.val; rw [e, hk]; show t.val % 2 * 2048 + 1 * b.val = _; omega
  | ⟨1, _⟩ => show win0_1.index t 1 * 1024 + 1 * a.val = n.val; rw [e, hn]; show 0 * 1024 + 1 * a.val = _; omega

theorem emb2 (t : Fin cfg0.N) (y : S1x1024x1024.Idx) :
    (((cfg0.win 2).blk t).view.emb y 1).val = 1024 * (t.val / 2) + (y 1).val ∧ (((cfg0.win 2).blk t).view.emb y 2).val = (y 2).val := by
  have e := (idx t).2.2
  constructor
  · show win0_2.index t 1 * 1024 + 1 * (y 1).val = _; rw [e]; show t.val / 2 * 1024 + 1 * (y 1).val = _; omega
  · show win0_2.index t 2 * 1024 + 1 * (y 2).val = _; rw [e]; show 0 * 1024 + 1 * (y 2).val = _; omega

/-- Two blocks of the contraction, one added to the other, are the contraction. -/
theorem pay (x0 x0' : Vec Ideal S1024x2048 .bf16) (x1 x1' : Vec Ideal S2048x1024 .bf16) (A : Vec Ideal S1024x4096 .bf16) (B : Vec Ideal S4096x1024 .bf16)
    (y : S1x1024x1024.Idx) (i : S1x1024x1024.Idx)
    (h0 : ∀ (b : Fin 2048) (k : Fin 4096), k.val = b.val → x0 (ix2 (y 1) b) = A (ix2 (i 1) k) ∧ x1 (ix2 b (y 2)) = B (ix2 k (i 2)))
    (h1 : ∀ (b : Fin 2048) (k : Fin 4096), k.val = 2048 + b.val → x0' (ix2 (y 1) b) = A (ix2 (i 1) k) ∧ x1' (ix2 b (y 2)) = B (ix2 k (i 2))) :
    k0_pay4 (k0_pay3 x0' x1' (k0_pay2 x0 x1)) y = prod A B i := by
  unfold prod
  pointwise [k0_pay4, k0_pay3, k0_pay2, k0_pay1]
  rw [Fin.sum_univ_two_halves 2048 2048 rfl]
  congr 1 <;> refine Finset.sum_congr rfl fun k _ => ?_
  · exact congrArg₂ (· * ·) (h0 k _ rfl).1 (h0 k _ rfl).2
  · exact congrArg₂ (· * ·) (h1 k ⟨2048 + k.val, _⟩ rfl).1 (h1 k ⟨2048 + k.val, _⟩ rfl).2

theorem outs_congr (c : Dev nD) (n n' : ℕ) (h : n < cfg0.N) (h' : n' < cfg0.N) (e : n = n') : outsAt0 m c n h = outsAt0 m c n' h' := by
  subst e; rfl

theorem acc_A (c : Dev nD) (u : Fin cfg0.N) (h : u.val % 2 = 0) : (outsAt0 m c u.val u.isLt).2 = k0_pay2 (iblk m c 0 u) (iblk m c 1 u) := by
  rw [outsAt0_A m c u h (by omega) (by omega)]
  dsimp only
  rw [sout_A]

theorem out_at (c : Dev nD) (t u : Fin cfg0.N) (h : t.val % 2 = 1) (hu : t.val = u.val + 1) :
    (outsAt0 m c t.val t.isLt).1 = k0_pay4 (k0_pay3 (iblk m c 0 t) (iblk m c 1 t) (k0_pay2 (iblk m c 0 u) (iblk m c 1 u))) := by
  rw [outsAt0_B m c t (by omega) h h]
  dsimp only
  rw [out_B, outs_congr m c (t.val - 1) u.val _ u.isLt (by omega), acc_A m c u (by omega)]

end

variable (mI : (ℓ : Loc nD τ sig) → Buf (Elt Ideal) ℓ)

theorem final (c : Dev nD) : (dats (F := Ideal) mI 0 c).arrAt 2 cfg0.N = prod (V mI c main_v1) (V mI c main_v2) := by
  refine (dats (F := Ideal) mI 0 c).arrAt_eq_of_covers 2 _ (by decide +kernel) fun t hf y => ?_
  have h1 : t.val % 2 = 1 := by have := (flush0_2 t).mp hf; omega
  obtain ⟨u, hu⟩ : ∃ u : Fin cfg0.N, t.val = u.val + 1 := ⟨⟨t.val - 1, Nat.lt_of_le_of_lt (Nat.sub_le _ _) t.isLt⟩, by dsimp only; omega⟩
  obtain ⟨e1, e2⟩ := emb2 t y
  have hc : (dats (F := Ideal) mI 0 c).flushed 2 t y = (outsAt0 mI c t.val t.isLt).1 y := by
    show (dats (F := Ideal) mI 0 c).after 2 t y = _
    rw [after0_2]
  refine hc.trans ?_
  rw [out_at mI c t u h1 hu]
  generalize hX : V mI c main_v1 = A
  generalize hY : V mI c main_v2 = B
  have hA (u : Fin cfg0.N) : iblk mI c 0 u = ((cfg0.win 0).blk u).view.read (Elt Ideal) A := by rw [← hX]; rfl
  have hB (u : Fin cfg0.N) : iblk mI c 1 u = ((cfg0.win 1).blk u).view.read (Elt Ideal) B := by rw [← hY]; rfl
  refine pay _ _ _ _ A B y _ (fun b k hk => ⟨?_, ?_⟩) (fun b k hk => ⟨?_, ?_⟩)
  · rw [hA]; exact read0 _ A _ _ _ _ (by rw [e1]; omega) (by omega)
  · rw [hB]; exact read1 _ B _ _ _ _ (by omega) (by rw [e2])
  · rw [hA]; exact read0 _ A _ _ _ _ (by rw [e1]) (by omega)
  · rw [hB]; exact read1 _ B _ _ _ _ (by omega) (by rw [e2])

theorem entry1 (m : (ℓ : Loc nD τ sig) → Buf (Elt Ideal) ℓ) (c : Dev nD) : V m c main_v1 = truncf (F := Ideal) (φ := .f32) .bf16 (transpose S1024x4096 [1, 0] (m (c.tc.loc main_arg0)) transposes_S4096x1024_S1024x4096_1_0) bitsLt_bf16_f32 := by
  show StableHlo.after hostOps0 _ main_v1 = _
  after_results

theorem entry2 (m : (ℓ : Loc nD τ sig) → Buf (Elt Ideal) ℓ) (c : Dev nD) : V m c main_v2 = truncf (F := Ideal) (φ := .f32) .bf16 (m (c.tc.loc main_arg2) : Vec Ideal S4096x1024 .f32) bitsLt_bf16_f32 := by
  show StableHlo.after hostOps0 _ main_v2 = _
  after_results

theorem alg : Cert.algebraic_Kernel8Ideal_Reference8Ideal (hKernel8Ideal := Cert.Kernel8Ideal.Gen.facts) (hReference8Ideal := Cert.Reference8Ideal.Gen.facts) := by
  intro m g m' g' _ hag
  refine ⟨fun c => prod (V m c main_v1) (V m c main_v2), ?_, ?_⟩
  · exact (θ_run defs _ _).mono (fun r h c => ⟨(Cert.Kernel8Ideal.Value.post2 m r h c).trans (final m c), Cert.Kernel8Ideal.Value.kept_main_arg0 m r h c, Cert.Kernel8Ideal.Value.kept_main_arg1 m r h c, Cert.Kernel8Ideal.Value.kept_main_arg2 m r h c⟩) (run_main m g)
  · refine (θ_run Cert.Reference8Ideal.defs _ _).mono (fun r h c => ⟨(h c).1.trans ?_, (h c).2⟩) (Cert.Reference8Ideal.Value.run m' g')
    rw [(hag c).1, (hag c).2.2]
    show _ = prod (V m c main_v1) (V m c main_v2)
    rw [entry1, entry2]
    funext i
    idx_vars i
    pointwise [prod]
    exact Finset.sum_congr rfl fun k _ => mul_comm _ _

end Cert.Mm.K8

end
-- ==== Proof.Mm.K9.lean ====
module

public import proofs.«01_k».proof.Proof.Mm.Common
public import proofs.«01_k».proof.Proof.Gen.Kernel9Ideal.Value
public import proofs.«01_k».proof.Proof.Gen.Reference9Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The gradient of the mixer output at its projection: the values of its call. -/

@[expose] public section

set_option maxRecDepth 16384

noncomputable section

namespace Cert.Mm.K9

open Cert.Kernel9Ideal Cert.Kernel9Ideal.Gen
open Idealize.ShloMosaic Idealize.ShloMosaic.TcCoe Idealize.SL.Sem
open Idealize.ShloMosaic.Pipeline (Dat)

theorem out_eq {F : FTy → Type} [FloatOps F] (x0 : Vec F S1024x1024 .bf16) (x1 : Vec F S1x1024x1024 .bf16) : out0_2 x0 x1 = k0_pay1 x0 x1 := by
  unfold out0_2
  rw [View.canon_unit_zero hz2]
  simp only [View.ld_unit_zero (S := S1024x1024) hz2, View.ld_unit_zero (S := S1x1024x1024) hz3]

/-- The rows of the first operand against the rows of the second. -/
def prod (A : Vec Ideal S4096x1024 .bf16) (B : Vec Ideal S1x1024x1024 .bf16) : Vec Ideal S4096x1024 .bf16 :=
  fun i => ∑ k : Fin 1024, A (ix2 (i 0) k) * B (ix3 0 (i 1) k)

theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

theorem read0 (t : Fin cfg0.N) (X : Vec Ideal S4096x1024 .bf16) (a : Fin 1024) (b : Fin 1024) (r : Fin 4096) (hr : r.val = 1024 * (t.val) + a.val) :
    ((cfg0.win 0).blk t).view.read (Elt Ideal) X (ix2 a b) = X (ix2 r b) := by
  have e := (idx t).1
  rw [View.read_apply]
  refine congrArg X (funext fun d => Fin.ext ?_)
  match d with
  | ⟨0, _⟩ => show win0_0.index t 0 * 1024 + 1 * a.val = r.val; rw [e, hr]; show t.val * 1024 + 1 * a.val = _; omega
  | ⟨1, _⟩ => show win0_0.index t 1 * 1024 + 1 * b.val = b.val; rw [e]; show 0 * 1024 + 1 * b.val = _; omega

theorem read1 (t : Fin cfg0.N) (X : Vec Ideal S1x1024x1024 .bf16) (a : Fin 1024) (b : Fin 1024) (r : Fin 1024) (hr : r.val = 1024 * (0) + a.val) :
    ((cfg0.win 1).blk t).view.read (Elt Ideal) X (ix3 0 a b) = X (ix3 0 r b) := by
  have e := (idx t).2.1
  rw [View.read_apply]
  refine congrArg X (funext fun d => Fin.ext ?_)
  match d with
  | ⟨0, _⟩ => show win0_1.index t 0 * 1 + 1 * 0 = 0; rw [e]; rfl
  | ⟨1, _⟩ => show win0_1.index t 1 * 1024 + 1 * a.val = r.val; rw [e, hr]; show 0 * 1024 + 1 * a.val = _; omega
  | ⟨2, _⟩ => show win0_1.index t 2 * 1024 + 1 * b.val = b.val; rw [e]; show 0 * 1024 + 1 * b.val = _; omega

theorem emb2 (t : Fin cfg0.N) (y : S1024x1024.Idx) :
    (((cfg0.win 2).blk t).view.emb y 0).val = 1024 * (t.val) + (y 0).val ∧ (((cfg0.win 2).blk t).view.emb y 1).val = 1024 * (0) + (y 1).val := by
  have e := (idx t).2.2
  constructor
  · show win0_2.index t 0 * 1024 + 1 * (y 0).val = _; rw [e]; show t.val * 1024 + 1 * (y 0).val = _; omega
  · show win0_2.index t 1 * 1024 + 1 * (y 1).val = _; rw [e]; show 0 * 1024 + 1 * (y 1).val = _; omega

theorem pay (x0 : Vec Ideal S1024x1024 .bf16) (x1 : Vec Ideal S1x1024x1024 .bf16) (A : Vec Ideal S4096x1024 .bf16) (B : Vec Ideal S1x1024x1024 .bf16) (y : S1024x1024.Idx) (i : S4096x1024.Idx)
    (h0 : ∀ k : Fin 1024, x0 (ix2 (y 0) k) = A (ix2 (i 0) k)) (h1 : ∀ k : Fin 1024, x1 (ix3 0 (y 1) k) = B (ix3 0 (i 1) k)) :
    k0_pay1 x0 x1 y = prod A B i := by
  unfold prod
  simp only [← h0, ← h1]
  idx_vars y
  pointwise [k0_pay1]

variable (m : (ℓ : Loc nD τ sig) → Buf (Elt Ideal) ℓ)

theorem final (c : Dev nD) : (dats (F := Ideal) m 0 c).arrAt 2 cfg0.N = prod (V m c main_v0) (V m c main_v2) := by
  refine (dats (F := Ideal) m 0 c).arrAt_eq_of_covers 2 _ (by decide +kernel) fun t hf y => ?_
  obtain ⟨e1, e2⟩ := emb2 t y
  have hc : (dats (F := Ideal) m 0 c).flushed 2 t y = out0_2 (iblk m c 0 t) (iblk m c 1 t) y := by
    show (dats (F := Ideal) m 0 c).after 2 t y = _
    rw [after0_2]
  refine hc.trans ?_
  rw [out_eq]
  generalize hX : V m c main_v0 = A
  generalize hY : V m c main_v2 = B
  have hA : iblk m c 0 t = ((cfg0.win 0).blk t).view.read (Elt Ideal) A := by rw [← hX]; rfl
  have hB : iblk m c 1 t = ((cfg0.win 1).blk t).view.read (Elt Ideal) B := by rw [← hY]; rfl
  refine pay _ _ A B y _ (fun k => ?_) (fun k => ?_)
  · rw [hA]; exact read0 _ A _ _ _ e1
  · rw [hB]; exact read1 _ B _ _ _ e2

theorem entry0 (c : Dev nD) : V m c main_v0 = truncf (F := Ideal) (φ := .f32) .bf16 (m (c.tc.loc main_arg2)) bitsLt_bf16_f32 := by
  show StableHlo.after hostOps0 _ main_v0 = _
  after_results

theorem entry1 (c : Dev nD) : V m c main_v2 = broadcastInDim S1x1024x1024 ![1, 2] bcast_S1024x1024_S1x1024x1024_1_2 (truncf (F := Ideal) (φ := .f32) .bf16 (m (c.tc.loc main_arg1)) bitsLt_bf16_f32) := by
  show StableHlo.after hostOps0 _ main_v2 = _
  after_results

theorem alg : Cert.algebraic_Kernel9Ideal_Reference9Ideal (hKernel9Ideal := Cert.Kernel9Ideal.Gen.facts) (hReference9Ideal := Cert.Reference9Ideal.Gen.facts) := by
  intro m g m' g' _ hag
  refine ⟨fun c => prod (V m c main_v0) (V m c main_v2), ?_, ?_⟩
  · exact (θ_run defs _ _).mono (fun r h c => ⟨(Cert.Kernel9Ideal.Value.post2 m r h c).trans (final m c), Cert.Kernel9Ideal.Value.kept_main_arg0 m r h c, Cert.Kernel9Ideal.Value.kept_main_arg1 m r h c, Cert.Kernel9Ideal.Value.kept_main_arg2 m r h c⟩) (run_main m g)
  · refine (θ_run Cert.Reference9Ideal.defs _ _).mono (fun r h c => ⟨(h c).1.trans ?_, (h c).2⟩) (Cert.Reference9Ideal.Value.run m' g')
    rw [(hag c).2.1, (hag c).2.2]
    show _ = prod (V m c main_v0) (V m c main_v2)
    rw [entry0, entry1]
    funext i
    idx_vars i
    pointwise [prod]

end Cert.Mm.K9

end
-- ==== Proof.Mm.K10.lean ====
module

public import proofs.«01_k».proof.Proof.Mm.Common
public import proofs.«01_k».proof.Proof.Gen.Kernel10Ideal.Value
public import proofs.«01_k».proof.Proof.Gen.Reference10Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The gradient of the input projection’s weight, its columns padded: the values of its call. -/

@[expose] public section

set_option maxRecDepth 16384

noncomputable section

namespace Cert.Mm.K10

open Cert.Kernel10Ideal Cert.Kernel10Ideal.Gen
open Idealize.ShloMosaic Idealize.ShloMosaic.TcCoe Idealize.SL.Sem
open Idealize.ShloMosaic.Pipeline (Dat)

section

variable {F : FTy → Type} [FloatOps F]
variable (m : (ℓ : Loc nD τ sig) → Buf (Elt F) ℓ)

/-- The first step of a block's contraction leaves the first partial product in the accumulator. -/
theorem sout_A (c : Dev nD) (i : grid0.Coords) (arg3 : Memref sig .tc .vmem S1024x2048 .bf16) (harg3 : arg3.IsWhole) (arg4 : Memref sig .tc .vmem S2048x640 .bf16) (harg4 : arg4.IsWhole) (arg5 : Memref sig .tc .vmem S1024x640 .f32) (harg5 : arg5.IsWhole) (arg6 : Memref sig .tc .vmem S1024x640 .f32) (harg6 : arg6.IsWhole) (hc0 : cond0_0 i) (hc1 : ¬cond0_1 i) (hc2 : ¬cond0_2 i)
    (x0 : Vec F S1024x2048 .bf16) (x1 : Vec F S2048x640 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz2]
  simp only [View.readAt_eq_ld, harg3.read_unread, harg4.read_unread, View.ld_unit_zero (S := S1024x2048) hz2, View.ld_unit_zero (S := S2048x640) hz2]

/-- The second step adds the second partial product and writes the sum out. -/
theorem out_B (c : Dev nD) (i : grid0.Coords) (arg3 : Memref sig .tc .vmem S1024x2048 .bf16) (harg3 : arg3.IsWhole) (arg4 : Memref sig .tc .vmem S2048x640 .bf16) (harg4 : arg4.IsWhole) (arg5 : Memref sig .tc .vmem S1024x640 .f32) (harg5 : arg5.IsWhole) (arg6 : Memref sig .tc .vmem S1024x640 .f32) (harg6 : arg6.IsWhole) (hc0 : ¬cond0_0 i) (hc1 : cond0_1 i) (hc2 : cond0_2 i)
    (x0 : Vec F S1024x2048 .bf16) (x1 : Vec F S2048x640 .bf16) (xs0 : Vec F S1024x640 .f32) :
    out0_B_2 c i arg3 harg3 arg4 harg4 arg5 harg5 arg6 harg6 hc0 hc1 hc2 x0 x1 xs0 = k0_pay3 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz2]
  simp only [View.readAt_eq_ld, harg3.read_unread, harg4.read_unread, harg6.read_unread, View.ld_unit_zero (S := S1024x2048) hz2, View.ld_unit_zero (S := S2048x640) hz2, View.ld_unit_zero (S := S1024x640) hz2, View.readCov_unit_zero (S := S1024x640) _ hz2]

/-- The result as one contraction of the two operands. -/
def prod (A : Vec Ideal S1024x4096 .bf16) (B : Vec Ideal S4096x3200 .bf16) : Vec Ideal S1024x3200 .f32 :=
  fun i => ∑ k : Fin 4096, A (ix2 (i 0) k) * B (ix2 k (i 1))

theorem idx : ∀ t : Fin cfg0.N, win0_0.index t = ![0, t.val % 2] ∧ win0_1.index t = ![t.val % 2, t.val / 2] ∧ win0_2.index t = ![0, t.val / 2] :=
  (by decide +kernel : ∀ t : Fin grid0.N, win0_0.index t = ![0, t.val % 2] ∧ win0_1.index t = ![t.val % 2, t.val / 2] ∧ win0_2.index t = ![0, t.val / 2])

theorem read0 (t : Fin cfg0.N) (X : Vec Ideal S1024x4096 .bf16) (a : Fin 1024) (b : Fin 2048) (r : Fin 1024) (k : Fin 4096)
    (hr : r.val = a.val) (hk : k.val = 2048 * (t.val % 2) + b.val) :
    ((cfg0.win 0).blk t).view.read (Elt Ideal) X (ix2 a b) = X (ix2 r k) := by
  have e := (idx t).1
  rw [View.read_apply]
  refine congrArg X ?_
  funext d
  apply Fin.ext
  match d with
  | ⟨0, _⟩ => show win0_0.index t 0 * 1024 + 1 * a.val = r.val; rw [e, hr]; show 0 * 1024 + 1 * a.val = _; omega
  | ⟨1, _⟩ => show win0_0.index t 1 * 2048 + 1 * b.val = k.val; rw [e, hk]; show t.val % 2 * 2048 + 1 * b.val = _; omega

theorem read1 (t : Fin cfg0.N) (X : Vec Ideal S4096x3200 .bf16) (b : Fin 2048) (a : Fin 640) (k : Fin 4096) (n : Fin 3200)
    (hk : k.val = 2048 * (t.val % 2) + b.val) (hn : n.val = 640 * (t.val / 2) + a.val) :
    ((cfg0.win 1).blk t).view.read (Elt Ideal) X (ix2 b a) = X (ix2 k n) := by
  have e := (idx t).2.1
  rw [View.read_apply]
  refine congrArg X ?_
  funext d
  apply Fin.ext
  match d with
  | ⟨0, _⟩ => show win0_1.index t 0 * 2048 + 1 * b.val = k.val; rw [e, hk]; show t.val % 2 * 2048 + 1 * b.val = _; omega
  | ⟨1, _⟩ => show win0_1.index t 1 * 640 + 1 * a.val = n.val; rw [e, hn]; show t.val / 2 * 640 + 1 * a.val = _; omega

theorem emb2 (t : Fin cfg0.N) (y : S1024x640.Idx) :
    (((cfg0.win 2).blk t).view.emb y 0).val = (y 0).val ∧ (((cfg0.win 2).blk t).view.emb y 1).val = 640 * (t.val / 2) + (y 1).val := by
  have e := (idx t).2.2
  constructor
  · show win0_2.index t 0 * 1024 + 1 * (y 0).val = _; rw [e]; show 0 * 1024 + 1 * (y 0).val = _; omega
  · show win0_2.index t 1 * 640 + 1 * (y 1).val = _; rw [e]; show t.val / 2 * 640 + 1 * (y 1).val = _; omega

/-- Two blocks of the contraction, one added to the other, are the contraction. -/
theorem pay (x0 x0' : Vec Ideal S1024x2048 .bf16) (x1 x1' : Vec Ideal S2048x640 .bf16) (A : Vec Ideal S1024x4096 .bf16) (B : Vec Ideal S4096x3200 .bf16)
    (y : S1024x640.Idx) (i : S1024x3200.Idx)
    (h0 : ∀ (b : Fin 2048) (k : Fin 4096), k.val = b.val → x0 (ix2 (y 0) b) = A (ix2 (i 0) k) ∧ x1 (ix2 b (y 1)) = B (ix2 k (i 1)))
    (h1 : ∀ (b : Fin 2048) (k : Fin 4096), k.val = 2048 + b.val → x0' (ix2 (y 0) b) = A (ix2 (i 0) k) ∧ x1' (ix2 b (y 1)) = B (ix2 k (i 1))) :
    k0_pay3 x0' x1' (k0_pay2 x0 x1) y = prod A B i := by
  unfold prod
  pointwise [k0_pay3, k0_pay2, k0_pay1]
  rw [Fin.sum_univ_two_halves 2048 2048 rfl]
  congr 1 <;> refine Finset.sum_congr rfl fun k _ => ?_
  · exact congrArg₂ (· * ·) (h0 k _ rfl).1 (h0 k _ rfl).2
  · exact congrArg₂ (· * ·) (h1 k ⟨2048 + k.val, _⟩ rfl).1 (h1 k ⟨2048 + k.val, _⟩ rfl).2

theorem outs_congr (c : Dev nD) (n n' : ℕ) (h : n < cfg0.N) (h' : n' < cfg0.N) (e : n = n') : outsAt0 m c n h = outsAt0 m c n' h' := by
  subst e; rfl

theorem acc_A (c : Dev nD) (u : Fin cfg0.N) (h : u.val % 2 = 0) : (outsAt0 m c u.val u.isLt).2 = k0_pay2 (iblk m c 0 u) (iblk m c 1 u) := by
  rw [outsAt0_A m c u h (by omega) (by omega)]
  dsimp only
  rw [sout_A]

theorem out_at (c : Dev nD) (t u : Fin cfg0.N) (h : t.val % 2 = 1) (hu : t.val = u.val + 1) :
    (outsAt0 m c t.val t.isLt).1 = k0_pay3 (iblk m c 0 t) (iblk m c 1 t) (k0_pay2 (iblk m c 0 u) (iblk m c 1 u)) := by
  rw [outsAt0_B m c t (by omega) h h]
  dsimp only
  rw [out_B, outs_congr m c (t.val - 1) u.val _ u.isLt (by omega), acc_A m c u (by omega)]

end

variable (mI : (ℓ : Loc nD τ sig) → Buf (Elt Ideal) ℓ)

theorem final (c : Dev nD) : (dats (F := Ideal) mI 0 c).arrAt 2 cfg0.N = prod (V mI c main_v1) (V mI c main_v3) := by
  refine (dats (F := Ideal) mI 0 c).arrAt_eq_of_covers 2 _ (by decide +kernel) fun t hf y => ?_
  have h1 : t.val % 2 = 1 := by have := (flush0_2 t).mp hf; omega
  obtain ⟨u, hu⟩ : ∃ u : Fin cfg0.N, t.val = u.val + 1 := ⟨⟨t.val - 1, Nat.lt_of_le_of_lt (Nat.sub_le _ _) t.isLt⟩, by dsimp only; omega⟩
  obtain ⟨e1, e2⟩ := emb2 t y
  have hc : (dats (F := Ideal) mI 0 c).flushed 2 t y = (outsAt0 mI c t.val t.isLt).1 y := by
    show (dats (F := Ideal) mI 0 c).after 2 t y = _
    rw [after0_2]
  refine hc.trans ?_
  rw [out_at mI c t u h1 hu]
  generalize hX : V mI c main_v1 = A
  generalize hY : V mI c main_v3 = B
  have hA (u : Fin cfg0.N) : iblk mI c 0 u = ((cfg0.win 0).blk u).view.read (Elt Ideal) A := by rw [← hX]; rfl
  have hB (u : Fin cfg0.N) : iblk mI c 1 u = ((cfg0.win 1).blk u).view.read (Elt Ideal) B := by rw [← hY]; rfl
  refine pay _ _ _ _ A B y _ (fun b k hk => ⟨?_, ?_⟩) (fun b k hk => ⟨?_, ?_⟩)
  · rw [hA]; exact read0 _ A _ _ _ _ (by rw [e1]) (by omega)
  · rw [hB]; exact read1 _ B _ _ _ _ (by omega) (by rw [e2]; omega)
  · rw [hA]; exact read0 _ A _ _ _ _ (by rw [e1]) (by omega)
  · rw [hB]; exact read1 _ B _ _ _ _ (by omega) (by rw [e2])

/-- The columns that are padded on hold zero, the others the operand. -/
theorem padded (R : ℕ) (x : FVec Ideal ⟨2, ![R, 3088]⟩ .f32) (v : FVec Ideal ⟨0, ![]⟩ .f32) (hv : ∀ j, v j = 0) (h : _) (h0 : _) (r : Fin R) (n : Fin 3200) :
    pad ⟨2, ![R, 3200]⟩ ![0, 0] ![0, 112] ![0, 0] x v h h0 (ix2 r n) = if hn : n.val < 3088 then x (ix2 r ⟨n.val, hn⟩) else 0 := by
  split
  · rename_i hn
    pointwise []
    rw [dif_pos hn]
    refine congrArg x (funext fun a => Fin.ext ?_)
    match a with
    | ⟨0, _⟩ => show (r.val - 0) / (0 + 1) = r.val; omega
    | ⟨1, _⟩ => show (n.val - 0) / (0 + 1) = n.val; omega
  · rename_i hn
    pointwise []
    rw [dif_neg hn]
    exact hv _

/-- The integer zero that pads, as a float. -/
theorem zero_pad (j : (⟨0, ![]⟩ : Shape).Idx) : (sitofp (F := Ideal) .f32 (constantI S_ 32 0#32) : FVec Ideal ⟨0, ![]⟩ .f32) j = 0 := by
  show ((((0#32 : BitVec 32).toInt : ℤ) : ℝ) : EReal) = 0
  simp

theorem entry1 (m : (ℓ : Loc nD τ sig) → Buf (Elt Ideal) ℓ) (c : Dev nD) : V m c main_v1 = truncf (F := Ideal) (φ := .f32) .bf16 (transpose S1024x4096 [1, 0] (m (c.tc.loc main_arg0)) transposes_S4096x1024_S1024x4096_1_0) bitsLt_bf16_f32 := by
  show StableHlo.after (List.flatten [hostOps0, hostOps0_1, hostOps0_2]) _ main_v1 = _
  simp only [hostOps0, hostOps0_1, hostOps0_2, List.flatten_cons, List.flatten_nil, List.append_nil, List.cons_append, List.nil_append]
  after_results

theorem entry2 (m : (ℓ : Loc nD τ sig) → Buf (Elt Ideal) ℓ) (c : Dev nD) : V m c main_v3 = truncf (F := Ideal) (φ := .f32) .bf16 (pad S4096x3200 ![0, 0] ![0, 112] ![0, 0] (m (c.tc.loc main_arg2)) (sitofp .f32 (constantI S_ 32 0#32)) pads_S4096x3088_S4096x3200_000_01120 h_S_) bitsLt_bf16_f32 := by
  show StableHlo.after (List.flatten [hostOps0, hostOps0_1, hostOps0_2]) _ main_v3 = _
  simp only [hostOps0, hostOps0_1, hostOps0_2, List.flatten_cons, List.flatten_nil, List.append_nil, List.cons_append, List.nil_append]
  after_results
  rfl

/-- The product with the padded columns is the padded product. -/
theorem prod_padded (A : Vec Ideal S1024x4096 .bf16) (x : FVec Ideal S4096x3088 .f32) (r : Fin 1024) (n : Fin 3200) :
    prod A (truncf (F := Ideal) (φ := .f32) .bf16 (pad S4096x3200 ![0, 0] ![0, 112] ![0, 0] x (sitofp .f32 (constantI S_ 32 0#32)) pads_S4096x3088_S4096x3200_000_01120 h_S_) bitsLt_bf16_f32) (ix2 r n)
      = if hn : n.val < 3088 then ∑ k : Fin 4096, A (ix2 r k) * x (ix2 k ⟨n.val, hn⟩) else 0 := by
  refine (Finset.sum_congr rfl fun k _ => congrArg₂ (· * ·) rfl (padded 4096 x _ zero_pad pads_S4096x3088_S4096x3200_000_01120 h_S_ k n)).trans ?_
  split
  · rfl
  · exact Finset.sum_eq_zero fun k _ => mul_zero _

theorem alg : Cert.algebraic_Kernel10Ideal_Reference10Ideal (hKernel10Ideal := Cert.Kernel10Ideal.Gen.facts) (hReference10Ideal := Cert.Reference10Ideal.Gen.facts) := by
  intro m g m' g' _ hag
  refine ⟨fun c => prod (V m c main_v1) (V m c main_v3), ?_, ?_⟩
  · exact (θ_run defs _ _).mono (fun r h c => ⟨(Cert.Kernel10Ideal.Value.post2 m r h c).trans (final m c), Cert.Kernel10Ideal.Value.kept_main_arg0 m r h c, Cert.Kernel10Ideal.Value.kept_main_arg1 m r h c, Cert.Kernel10Ideal.Value.kept_main_arg2 m r h c⟩) (run_main m g)
  · refine (θ_run Cert.Reference10Ideal.defs _ _).mono (fun r h c => ⟨(h c).1.trans ?_, (h c).2⟩) (Cert.Reference10Ideal.Value.run m' g')
    rw [(hag c).1, (hag c).2.2]
    show _ = prod (V m c main_v1) (V m c main_v3)
    rw [entry1, entry2]
    funext i
    idx_vars i
    refine Eq.trans (padded 1024 _ _ zero_pad _ _ _ _) ((prod_padded _ _ _ _).trans ?_).symm
    split
    · pointwise []
      exact Finset.sum_congr rfl fun k _ => mul_comm _ _
    · rfl

end Cert.Mm.K10

end
-- ==== Proof.Mm.K11.lean ====
module

public import proofs.«01_k».proof.Proof.Mm.Common
public import proofs.«01_k».proof.Proof.Gen.Kernel11Ideal.Value
public import proofs.«01_k».proof.Proof.Gen.Reference11Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The gradient of the layer’s input at the input projection: the values of its call. -/

@[expose] public section

set_option maxRecDepth 16384

noncomputable section

namespace Cert.Mm.K11

open Cert.Kernel11Ideal Cert.Kernel11Ideal.Gen
open Idealize.ShloMosaic Idealize.ShloMosaic.TcCoe Idealize.SL.Sem
open Idealize.ShloMosaic.Pipeline (Dat)

theorem out_eq {F : FTy → Type} [FloatOps F] (x0 : Vec F S1024x3200 .bf16) (x1 : Vec F S1x512x3200 .bf16) : out0_2 x0 x1 = k0_pay1 x0 x1 := by
  unfold out0_2
  rw [View.canon_unit_zero hz2]
  simp only [View.ld_unit_zero (S := S1024x3200) hz2, View.ld_unit_zero (S := S1x512x3200) hz3]

/-- The rows of the first operand against the rows of the second. -/
def prod (A : Vec Ideal S4096x3200 .bf16) (B : Vec Ideal S1x1024x3200 .bf16) : Vec Ideal S4096x1024 .bf16 :=
  fun i => ∑ k : Fin 3200, A (ix2 (i 0) k) * B (ix3 0 (i 1) k)

theorem idx : ∀ t : Fin cfg0.N, win0_0.index t = ![t.val / 2, 0] ∧ win0_1.index t = ![0, t.val % 2, 0] ∧ win0_2.index t = ![t.val / 2, t.val % 2] :=
  (by decide +kernel : ∀ t : Fin grid0.N, win0_0.index t = ![t.val / 2, 0] ∧ win0_1.index t = ![0, t.val % 2, 0] ∧ win0_2.index t = ![t.val / 2, t.val % 2])

theorem read0 (t : Fin cfg0.N) (X : Vec Ideal S4096x3200 .bf16) (a : Fin 1024) (b : Fin 3200) (r : Fin 4096) (hr : r.val = 1024 * (t.val / 2) + a.val) :
    ((cfg0.win 0).blk t).view.read (Elt Ideal) X (ix2 a b) = X (ix2 r b) := by
  have e := (idx t).1
  rw [View.read_apply]
  refine congrArg X (funext fun d => Fin.ext ?_)
  match d with
  | ⟨0, _⟩ => show win0_0.index t 0 * 1024 + 1 * a.val = r.val; rw [e, hr]; show t.val / 2 * 1024 + 1 * a.val = _; omega
  | ⟨1, _⟩ => show win0_0.index t 1 * 3200 + 1 * b.val = b.val; rw [e]; show 0 * 3200 + 1 * b.val = _; omega

theorem read1 (t : Fin cfg0.N) (X : Vec Ideal S1x1024x3200 .bf16) (a : Fin 512) (b : Fin 3200) (r : Fin 1024) (hr : r.val = 512 * (t.val % 2) + a.val) :
    ((cfg0.win 1).blk t).view.read (Elt Ideal) X (ix3 0 a b) = X (ix3 0 r b) := by
  have e := (idx t).2.1
  rw [View.read_apply]
  refine congrArg X (funext fun d => Fin.ext ?_)
  match d with
  | ⟨0, _⟩ => show win0_1.index t 0 * 1 + 1 * 0 = 0; rw [e]; rfl
  | ⟨1, _⟩ => show win0_1.index t 1 * 512 + 1 * a.val = r.val; rw [e, hr]; show t.val % 2 * 512 + 1 * a.val = _; omega
  | ⟨2, _⟩ => show win0_1.index t 2 * 3200 + 1 * b.val = b.val; rw [e]; show 0 * 3200 + 1 * b.val = _; omega

theorem emb2 (t : Fin cfg0.N) (y : S1024x512.Idx) :
    (((cfg0.win 2).blk t).view.emb y 0).val = 1024 * (t.val / 2) + (y 0).val ∧ (((cfg0.win 2).blk t).view.emb y 1).val = 512 * (t.val % 2) + (y 1).val := by
  have e := (idx t).2.2
  constructor
  · show win0_2.index t 0 * 1024 + 1 * (y 0).val = _; rw [e]; show t.val / 2 * 1024 + 1 * (y 0).val = _; omega
  · show win0_2.index t 1 * 512 + 1 * (y 1).val = _; rw [e]; show t.val % 2 * 512 + 1 * (y 1).val = _; omega

theorem pay (x0 : Vec Ideal S1024x3200 .bf16) (x1 : Vec Ideal S1x512x3200 .bf16) (A : Vec Ideal S4096x3200 .bf16) (B : Vec Ideal S1x1024x3200 .bf16) (y : S1024x512.Idx) (i : S4096x1024.Idx)
    (h0 : ∀ k : Fin 3200, x0 (ix2 (y 0) k) = A (ix2 (i 0) k)) (h1 : ∀ k : Fin 3200, x1 (ix3 0 (y 1) k) = B (ix3 0 (i 1) k)) :
    k0_pay1 x0 x1 y = prod A B i := by
  unfold prod
  simp only [← h0, ← h1]
  idx_vars y
  pointwise [k0_pay1]

variable (m : (ℓ : Loc nD τ sig) → Buf (Elt Ideal) ℓ)

theorem final (c : Dev nD) : (dats (F := Ideal) m 0 c).arrAt 2 cfg0.N = prod (V m c main_v1) (V m c main_v4) := by
  refine (dats (F := Ideal) m 0 c).arrAt_eq_of_covers 2 _ (by decide +kernel) fun t hf y => ?_
  obtain ⟨e1, e2⟩ := emb2 t y
  have hc : (dats (F := Ideal) m 0 c).flushed 2 t y = out0_2 (iblk m c 0 t) (iblk m c 1 t) y := by
    show (dats (F := Ideal) m 0 c).after 2 t y = _
    rw [after0_2]
  refine hc.trans ?_
  rw [out_eq]
  generalize hX : V m c main_v1 = A
  generalize hY : V m c main_v4 = B
  have hA : iblk m c 0 t = ((cfg0.win 0).blk t).view.read (Elt Ideal) A := by rw [← hX]; rfl
  have hB : iblk m c 1 t = ((cfg0.win 1).blk t).view.read (Elt Ideal) B := by rw [← hY]; rfl
  refine pay _ _ A B y _ (fun k => ?_) (fun k => ?_)
  · rw [hA]; exact read0 _ A _ _ _ e1
  · rw [hB]; exact read1 _ B _ _ _ e2

theorem padded (R : ℕ) (x : FVec Ideal ⟨2, ![R, 3088]⟩ .f32) (v : FVec Ideal ⟨0, ![]⟩ .f32) (hv : ∀ j, v j = 0) (h : _) (h0 : _) (r : Fin R) :
    (∀ k : Fin 3088, pad ⟨2, ![R, 3200]⟩ ![0, 0] ![0, 112] ![0, 0] x v h h0 (ix2 r ⟨k.val, by omega⟩) = x (ix2 r k)) ∧
    ∀ k : Fin 112, pad ⟨2, ![R, 3200]⟩ ![0, 0] ![0, 112] ![0, 0] x v h h0 (ix2 r ⟨3088 + k.val, by omega⟩) = 0 := by
  constructor
  · intro k
    pointwise []
    refine congrArg x (funext fun a => Fin.ext ?_)
    match a with
    | ⟨0, _⟩ => show (r.val - 0) / (0 + 1) = r.val; omega
    | ⟨1, _⟩ => show (k.val - 0) / (0 + 1) = k.val; omega
  · intro k
    pointwise []
    exact hv _

/-- The integer zero that pads, as a float. -/
theorem zero_pad (j : (⟨0, ![]⟩ : Shape).Idx) : (sitofp (F := Ideal) .f32 (constantI S_ 32 0#32) : FVec Ideal ⟨0, ![]⟩ .f32) j = 0 := by
  show ((((0#32 : BitVec 32).toInt : ℤ) : ℝ) : EReal) = 0
  simp

/-- The columns that are padded on add nothing to a contraction. -/
theorem sum_padded (f : Fin 3200 → EReal) (h : ∀ k : Fin 112, f ⟨3088 + k.val, by omega⟩ = 0) : ∑ k : Fin 3200, f k = ∑ k : Fin 3088, f ⟨k.val, by omega⟩ := by
  have e := Fin.sum_univ_add (a := 3088) (b := 112) f
  refine e.trans ?_
  rw [show (∑ i : Fin 112, f (Fin.natAdd 3088 i)) = 0 from Finset.sum_eq_zero fun k _ => h k, add_zero]
  rfl

theorem entry0 (c : Dev nD) : V m c main_v1 = truncf (F := Ideal) (φ := .f32) .bf16 (pad S4096x3200 ![0, 0] ![0, 112] ![0, 0] (m (c.tc.loc main_arg2)) (sitofp .f32 (constantI S_ 32 0#32)) pads_S4096x3088_S4096x3200_000_01120 h_S_) bitsLt_bf16_f32 := by
  show StableHlo.after (List.flatten [hostOps0, hostOps0_1, hostOps0_2, hostOps0_3, hostOps0_4]) _ main_v1 = _
  simp only [hostOps0, hostOps0_1, hostOps0_2, hostOps0_3, hostOps0_4, List.flatten_cons, List.flatten_nil, List.append_nil, List.cons_append, List.nil_append]
  after_results
  rfl

theorem entry1 (c : Dev nD) : V m c main_v4 = broadcastInDim S1x1024x3200 ![1, 2] bcast_S1024x3200_S1x1024x3200_1_2 (truncf (F := Ideal) (φ := .f32) .bf16 (pad S1024x3200 ![0, 0] ![0, 112] ![0, 0] (m (c.tc.loc main_arg1)) (sitofp .f32 (constantI S_ 32 0#32)) pads_S1024x3088_S1024x3200_000_01120 h_S_) bitsLt_bf16_f32) := by
  show StableHlo.after (List.flatten [hostOps0, hostOps0_1, hostOps0_2, hostOps0_3, hostOps0_4]) _ main_v4 = _
  simp only [hostOps0, hostOps0_1, hostOps0_2, hostOps0_3, hostOps0_4, List.flatten_cons, List.flatten_nil, List.append_nil, List.cons_append, List.nil_append]
  after_results
  rfl

theorem slab (W : FVec Ideal S1024x3200 .f32) (n : Fin 1024) (k : Fin 3200) :
    broadcastInDim S1x1024x3200 ![1, 2] bcast_S1024x3200_S1x1024x3200_1_2 (truncf (F := Ideal) (φ := .f32) .bf16 W bitsLt_bf16_f32) (ix3 0 n k) = W (ix2 n k) := by
  pointwise []

/-- The product of the padded operands is the product of the operands. -/
theorem prod_padded (x : FVec Ideal S4096x3088 .f32) (w : FVec Ideal S1024x3088 .f32) (r : Fin 4096) (n : Fin 1024) :
    prod (truncf (F := Ideal) (φ := .f32) .bf16 (pad S4096x3200 ![0, 0] ![0, 112] ![0, 0] x (sitofp .f32 (constantI S_ 32 0#32)) pads_S4096x3088_S4096x3200_000_01120 h_S_) bitsLt_bf16_f32)
      (broadcastInDim S1x1024x3200 ![1, 2] bcast_S1024x3200_S1x1024x3200_1_2 (truncf (F := Ideal) (φ := .f32) .bf16 (pad S1024x3200 ![0, 0] ![0, 112] ![0, 0] w (sitofp .f32 (constantI S_ 32 0#32)) pads_S1024x3088_S1024x3200_000_01120 h_S_) bitsLt_bf16_f32)) (ix2 r n)
      = ∑ k : Fin 3088, x (ix2 r k) * w (ix2 n k) := by
  have hx := padded 4096 x _ zero_pad pads_S4096x3088_S4096x3200_000_01120 h_S_ r
  have hw := padded 1024 w _ zero_pad pads_S1024x3088_S1024x3200_000_01120 h_S_ n
  refine (Finset.sum_congr rfl fun k _ => congrArg₂ (· * ·) rfl (slab _ n k)).trans ?_
  refine (sum_padded _ fun k => ?_).trans (Finset.sum_congr rfl fun k _ => congrArg₂ (· * ·) (hx.1 k) (hw.1 k))
  exact (congrArg₂ (· * ·) (hx.2 k) (hw.2 k)).trans (mul_zero _)

theorem alg : Cert.algebraic_Kernel11Ideal_Reference11Ideal (hKernel11Ideal := Cert.Kernel11Ideal.Gen.facts) (hReference11Ideal := Cert.Reference11Ideal.Gen.facts) := by
  intro m g m' g' _ hag
  refine ⟨fun c => prod (V m c main_v1) (V m c main_v4), ?_, ?_⟩
  · exact (θ_run defs _ _).mono (fun r h c => ⟨(Cert.Kernel11Ideal.Value.post2 m r h c).trans (final m c), Cert.Kernel11Ideal.Value.kept_main_arg0 m r h c, Cert.Kernel11Ideal.Value.kept_main_arg1 m r h c, Cert.Kernel11Ideal.Value.kept_main_arg2 m r h c⟩) (run_main m g)
  · refine (θ_run Cert.Reference11Ideal.defs _ _).mono (fun r h c => ⟨(h c).1.trans ?_, (h c).2⟩) (Cert.Reference11Ideal.Value.run m' g')
    rw [(hag c).2.1, (hag c).2.2]
    show _ = prod (V m c main_v1) (V m c main_v4)
    rw [entry0, entry1]
    funext i
    idx_vars i
    refine Eq.trans ?_ (prod_padded _ _ _ _).symm
    pointwise []

end Cert.Mm.K11

end
-- ==== Proof.Mm.K12.lean ====
module

public import proofs.«01_k».proof.Proof.Mm.Common
public import proofs.«01_k».proof.Proof.Gen.Kernel12Ideal.Value
public import proofs.«01_k».proof.Proof.Gen.Reference12Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The queries, keys and values of a layer: the values of its call. -/

@[expose] public section

set_option maxRecDepth 16384

noncomputable section

namespace Cert.Mm.K12

open Cert.Kernel12Ideal Cert.Kernel12Ideal.Gen
open Idealize.ShloMosaic Idealize.ShloMosaic.TcCoe Idealize.SL.Sem
open Idealize.ShloMosaic.Pipeline (Dat)

theorem out_eq {F : FTy → Type} [FloatOps F] (x0 : Vec F S1024x1024 .bf16) (x1 : Vec F S1x1024x1024 .bf16) : out0_2 x0 x1 = k0_pay1 x0 x1 := by
  unfold out0_2
  rw [View.canon_unit_zero hz2]
  simp only [View.ld_unit_zero (S := S1024x1024) hz2, View.ld_unit_zero (S := S1x1024x1024) hz3]

/-- The rows of the first operand against the columns of the second. -/
def prod (A : Vec Ideal S4096x1024 .bf16) (B : Vec Ideal S1x1024x3072 .bf16) : Vec Ideal S4096x3072 .bf16 :=
  fun i => ∑ k : Fin 1024, A (ix2 (i 0) k) * B (ix3 0 k (i 1))

theorem idx : ∀ t : Fin cfg0.N, win0_0.index t = ![t.val / 3, 0] ∧ win0_1.index t = ![0, 0, t.val % 3] ∧ win0_2.index t = ![t.val / 3, t.val % 3] :=
  (by decide +kernel : ∀ t : Fin grid0.N, win0_0.index t = ![t.val / 3, 0] ∧ win0_1.index t = ![0, 0, t.val % 3] ∧ win0_2.index t = ![t.val / 3, t.val % 3])

theorem read0 (t : Fin cfg0.N) (X : Vec Ideal S4096x1024 .bf16) (a : Fin 1024) (b : Fin 1024) (r : Fin 4096) (hr : r.val = 1024 * (t.val / 3) + a.val) :
    ((cfg0.win 0).blk t).view.read (Elt Ideal) X (ix2 a b) = X (ix2 r b) := by
  have e := (idx t).1
  rw [View.read_apply]
  refine congrArg X (funext fun d => Fin.ext ?_)
  match d with
  | ⟨0, _⟩ => show win0_0.index t 0 * 1024 + 1 * a.val = r.val; rw [e, hr]; show t.val / 3 * 1024 + 1 * a.val = _; omega
  | ⟨1, _⟩ => show win0_0.index t 1 * 1024 + 1 * b.val = b.val; rw [e]; show 0 * 1024 + 1 * b.val = _; omega

theorem read1 (t : Fin cfg0.N) (X : Vec Ideal S1x1024x3072 .bf16) (b : Fin 1024) (a : Fin 1024) (r : Fin 3072) (hr : r.val = 1024 * (t.val % 3) + a.val) :
    ((cfg0.win 1).blk t).view.read (Elt Ideal) X (ix3 0 b a) = X (ix3 0 b r) := by
  have e := (idx t).2.1
  rw [View.read_apply]
  refine congrArg X (funext fun d => Fin.ext ?_)
  match d with
  | ⟨0, _⟩ => show win0_1.index t 0 * 1 + 1 * 0 = 0; rw [e]; rfl
  | ⟨1, _⟩ => show win0_1.index t 1 * 1024 + 1 * b.val = b.val; rw [e]; show 0 * 1024 + 1 * b.val = _; omega
  | ⟨2, _⟩ => show win0_1.index t 2 * 1024 + 1 * a.val = r.val; rw [e, hr]; show t.val % 3 * 1024 + 1 * a.val = _; omega

theorem emb2 (t : Fin cfg0.N) (y : S1024x1024.Idx) :
    (((cfg0.win 2).blk t).view.emb y 0).val = 1024 * (t.val / 3) + (y 0).val ∧ (((cfg0.win 2).blk t).view.emb y 1).val = 1024 * (t.val % 3) + (y 1).val := by
  have e := (idx t).2.2
  constructor
  · show win0_2.index t 0 * 1024 + 1 * (y 0).val = _; rw [e]; show t.val / 3 * 1024 + 1 * (y 0).val = _; omega
  · show win0_2.index t 1 * 1024 + 1 * (y 1).val = _; rw [e]; show t.val % 3 * 1024 + 1 * (y 1).val = _; omega

theorem pay (x0 : Vec Ideal S1024x1024 .bf16) (x1 : Vec Ideal S1x1024x1024 .bf16) (A : Vec Ideal S4096x1024 .bf16) (B : Vec Ideal S1x1024x3072 .bf16) (y : S1024x1024.Idx) (i : S4096x3072.Idx)
    (h0 : ∀ k : Fin 1024, x0 (ix2 (y 0) k) = A (ix2 (i 0) k)) (h1 : ∀ k : Fin 1024, x1 (ix3 0 k (y 1)) = B (ix3 0 k (i 1))) :
    k0_pay1 x0 x1 y = prod A B i := by
  unfold prod
  simp only [← h0, ← h1]
  idx_vars y
  pointwise [k0_pay1]

variable (m : (ℓ : Loc nD τ sig) → Buf (Elt Ideal) ℓ)

theorem final (c : Dev nD) : (dats (F := Ideal) m 0 c).arrAt 2 cfg0.N = prod (V m c main_v0) (V m c main_v3) := by
  refine (dats (F := Ideal) m 0 c).arrAt_eq_of_covers 2 _ (by decide +kernel) fun t hf y => ?_
  obtain ⟨e1, e2⟩ := emb2 t y
  have hc : (dats (F := Ideal) m 0 c).flushed 2 t y = out0_2 (iblk m c 0 t) (iblk m c 1 t) y := by
    show (dats (F := Ideal) m 0 c).after 2 t y = _
    rw [after0_2]
  refine hc.trans ?_
  rw [out_eq]
  generalize hX : V m c main_v0 = A
  generalize hY : V m c main_v3 = B
  have hA : iblk m c 0 t = ((cfg0.win 0).blk t).view.read (Elt Ideal) A := by rw [← hX]; rfl
  have hB : iblk m c 1 t = ((cfg0.win 1).blk t).view.read (Elt Ideal) B := by rw [← hY]; rfl
  refine pay _ _ A B y _ (fun k => ?_) (fun k => ?_)
  · rw [hA]; exact read0 _ A _ _ _ e1
  · rw [hB]; exact read1 _ B _ _ _ e2

theorem entry0 (c : Dev nD) : V m c main_v0 = truncf (F := Ideal) (φ := .f32) .bf16 (m (c.tc.loc main_arg0)) bitsLt_bf16_f32 := by
  show StableHlo.after hostOps0 _ main_v0 = _
  after_results

theorem entry1 (c : Dev nD) : V m c main_v3 = truncf (F := Ideal) (φ := .f32) .bf16 (broadcastInDim S1x1024x3072 ![1, 2] bcast_S1024x3072_S1x1024x3072_1_2 (extractStridedSlice S1024x3072 ![0, 0] (m (c.tc.loc main_arg1)) slices_S1024x3088_S1024x3072_0_0)) bitsLt_bf16_f32 := by
  show StableHlo.after hostOps0 _ main_v3 = _
  after_results

theorem alg : Cert.algebraic_Kernel12Ideal_Reference12Ideal (hKernel12Ideal := Cert.Kernel12Ideal.Gen.facts) (hReference12Ideal := Cert.Reference12Ideal.Gen.facts) := by
  intro m g m' g' _ hag
  refine ⟨fun c => prod (V m c main_v0) (V m c main_v3), ?_, ?_⟩
  · exact (θ_run defs _ _).mono (fun r h c => ⟨(Cert.Kernel12Ideal.Value.post2 m r h c).trans (final m c), Cert.Kernel12Ideal.Value.kept_main_arg0 m r h c, Cert.Kernel12Ideal.Value.kept_main_arg1 m r h c⟩) (run_main m g)
  · refine (θ_run Cert.Reference12Ideal.defs _ _).mono (fun r h c => ⟨(h c).1.trans ?_, (h c).2⟩) (Cert.Reference12Ideal.Value.run m' g')
    rw [(hag c).1, (hag c).2]
    show _ = prod (V m c main_v0) (V m c main_v3)
    rw [entry0, entry1]
    funext i
    idx_vars i
    pointwise [prod]

end Cert.Mm.K12

end
-- ==== Proof.Mm.K13.lean ====
module

public import proofs.«01_k».proof.Proof.Mm.Common
public import proofs.«01_k».proof.Proof.Gen.Kernel13Ideal.Value
public import proofs.«01_k».proof.Proof.Gen.Reference13Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The optimiser’s call on the modulation’s matrix: the values of its call. -/

@[expose] public section

set_option maxRecDepth 16384

noncomputable section

namespace Cert.Mm.K13

open Cert.Kernel13Ideal Cert.Kernel13Ideal.Gen
open Idealize.ShloMosaic Idealize.ShloMosaic.TcCoe Idealize.SL.Sem
open Idealize.ShloMosaic.Pipeline (Dat)

theorem out_eq4 {F : FTy → Type} [FloatOps F] (x0 x1 x2 x3 : Vec F S128x1536 .f32) : out0_4 x0 x1 x2 x3 = k0_pay4 x0 x1 x2 x3 := by
  unfold out0_4
  rw [View.canon_unit_zero hz2]
  simp only [View.ld_unit_zero (S := S128x1536) hz2]

theorem pay4 (x0 x1 x2 x3 : Vec Ideal S128x1536 .f32) (y : S128x1536.Idx) : k0_pay4 x0 x1 x2 x3 y = delta (x0 y) (x1 y) (x2 y) (x3 y) := by
  idx_vars y
  pointwise [k0_pay1, k0_pay2, k0_pay3, k0_pay4, newM, newV, delta]

theorem out_eq5 {F : FTy → Type} [FloatOps F] (x0 x1 x2 x3 : Vec F S128x1536 .f32) : out0_5 x0 x1 x2 x3 = k0_pay2 x1 x2 := by
  unfold out0_5
  rw [View.canon_unit_zero hz2]
  simp only [View.ld_unit_zero (S := S128x1536) hz2]

theorem pay5 (x1 x2 : Vec Ideal S128x1536 .f32) (y : S128x1536.Idx) : k0_pay2 x1 x2 y = newM (x1 y) (x2 y) := by
  idx_vars y
  pointwise [k0_pay1, k0_pay2, k0_pay3, k0_pay4, newM]

theorem out_eq6 {F : FTy → Type} [FloatOps F] (x0 x1 x2 x3 : Vec F S128x1536 .f32) : out0_6 x0 x1 x2 x3 = k0_pay3 x1 x3 := by
  unfold out0_6
  rw [View.canon_unit_zero hz2]
  simp only [View.ld_unit_zero (S := S128x1536) hz2]

theorem pay6 (x1 x3 : Vec Ideal S128x1536 .f32) (y : S128x1536.Idx) : k0_pay3 x1 x3 y = newV (x1 y) (x3 y) := by
  idx_vars y
  pointwise [k0_pay1, k0_pay2, k0_pay3, k0_pay4, newV]

variable (m : (ℓ : Loc nD τ sig) → Buf (Elt Ideal) ℓ)

theorem final4 (c : Dev nD) : (dats (F := Ideal) m 0 c).arrAt 4 cfg0.N = fun i => delta (V m c main_v0 i) (V m c main_v1 i) (V m c main_v2 i) (V m c main_v3 i) := by
  refine (dats (F := Ideal) m 0 c).arrAt_eq_of_covers 4 _ (by decide +kernel) fun t hf y => ?_
  have hc : (dats (F := Ideal) m 0 c).flushed 4 t y = out0_4 (iblk m c 0 t) (iblk m c 1 t) (iblk m c 2 t) (iblk m c 3 t) y := by
    show (dats (F := Ideal) m 0 c).after 4 t y = _
    rw [after0_4]
  exact hc.trans ((congrFun (out_eq4 _ _ _ _) y).trans (pay4 _ _ _ _ y))

theorem final5 (c : Dev nD) : (dats (F := Ideal) m 0 c).arrAt 5 cfg0.N = fun i => newM (V m c main_v1 i) (V m c main_v2 i) := by
  refine (dats (F := Ideal) m 0 c).arrAt_eq_of_covers 5 _ (by decide +kernel) fun t hf y => ?_
  have hc : (dats (F := Ideal) m 0 c).flushed 5 t y = out0_5 (iblk m c 0 t) (iblk m c 1 t) (iblk m c 2 t) (iblk m c 3 t) y := by
    show (dats (F := Ideal) m 0 c).after 5 t y = _
    rw [after0_5]
  exact hc.trans ((congrFun (out_eq5 _ _ _ _) y).trans (pay5 _ _ y))

theorem final6 (c : Dev nD) : (dats (F := Ideal) m 0 c).arrAt 6 cfg0.N = fun i => newV (V m c main_v1 i) (V m c main_v3 i) := by
  refine (dats (F := Ideal) m 0 c).arrAt_eq_of_covers 6 _ (by decide +kernel) fun t hf y => ?_
  have hc : (dats (F := Ideal) m 0 c).flushed 6 t y = out0_6 (iblk m c 0 t) (iblk m c 1 t) (iblk m c 2 t) (iblk m c 3 t) y := by
    show (dats (F := Ideal) m 0 c).after 6 t y = _
    rw [after0_6]
  exact hc.trans ((congrFun (out_eq6 _ _ _ _) y).trans (pay6 _ _ y))

theorem entry0 (c : Dev nD) : V m c main_v0 = shapeCast S4096x1536 (m (c.tc.loc main_arg0)) shapeCasts_S4x1024x1536_S4096x1536 := by
  show StableHlo.after hostOps0 _ _ = _
  after_results
  rfl

theorem entry1 (c : Dev nD) : V m c main_v1 = shapeCast S4096x1536 (m (c.tc.loc main_arg1)) shapeCasts_S4x1024x1536_S4096x1536 := by
  show StableHlo.after hostOps0 _ _ = _
  after_results
  rfl

theorem entry2 (c : Dev nD) : V m c main_v2 = shapeCast S4096x1536 (m (c.tc.loc main_arg2)) shapeCasts_S4x1024x1536_S4096x1536 := by
  show StableHlo.after hostOps0 _ _ = _
  after_results
  rfl

theorem entry3 (c : Dev nD) : V m c main_v3 = shapeCast S4096x1536 (m (c.tc.loc main_arg3)) shapeCasts_S4x1024x1536_S4096x1536 := by
  show StableHlo.after hostOps0 _ _ = _
  after_results
  rfl

theorem alg : Cert.algebraic_Kernel13Ideal_Reference13Ideal (hKernel13Ideal := Cert.Kernel13Ideal.Gen.facts) (hReference13Ideal := Cert.Reference13Ideal.Gen.facts) := by
  intro m g m' g' _ hag
  refine ⟨fun c i => delta (V m c main_v0 i) (V m c main_v1 i) (V m c main_v2 i) (V m c main_v3 i), fun c i => newM (V m c main_v1 i) (V m c main_v2 i), fun c i => newV (V m c main_v1 i) (V m c main_v3 i), ?_, ?_⟩
  · exact (θ_run defs _ _).mono (fun r h c => ⟨(Cert.Kernel13Ideal.Value.post4 m r h c).trans (final4 m c), (Cert.Kernel13Ideal.Value.post5 m r h c).trans (final5 m c), (Cert.Kernel13Ideal.Value.post6 m r h c).trans (final6 m c), Cert.Kernel13Ideal.Value.kept_main_arg0 m r h c, Cert.Kernel13Ideal.Value.kept_main_arg1 m r h c, Cert.Kernel13Ideal.Value.kept_main_arg2 m r h c, Cert.Kernel13Ideal.Value.kept_main_arg3 m r h c⟩) (run_main m g)
  · refine (θ_run Cert.Reference13Ideal.defs _ _).mono (fun r h c => ⟨(h c).1.trans ?_, (h c).2.1.trans ?_, (h c).2.2.1.trans ?_, (h c).2.2.2⟩) (Cert.Reference13Ideal.Value.run m' g')
    · rw [(hag c).1, (hag c).2.1, (hag c).2.2.1, (hag c).2.2.2]
      show _ = fun i => delta (V m c main_v0 i) (V m c main_v1 i) (V m c main_v2 i) (V m c main_v3 i)
      rw [entry0, entry1, entry2, entry3]
      refine (congrArg (fun z => shapeCast S4096x1536 z shapeCasts_S4x1024x1536_S4096x1536) (?_ : _ = fun j => delta (m (c.tc.loc main_arg0) j) (m (c.tc.loc main_arg1) j) (m (c.tc.loc main_arg2) j) (m (c.tc.loc main_arg3) j))).trans rfl
      funext i
      idx_vars i
      pointwise [newM, newV, delta]
    · rw [(hag c).2.1, (hag c).2.2.1]
      show _ = fun i => newM (V m c main_v1 i) (V m c main_v2 i)
      rw [entry1, entry2]
      refine (congrArg (fun z => shapeCast S4096x1536 z shapeCasts_S4x1024x1536_S4096x1536) (?_ : _ = fun j => newM (m (c.tc.loc main_arg1) j) (m (c.tc.loc main_arg2) j))).trans rfl
      funext i
      idx_vars i
      pointwise [newM]
    · rw [(hag c).2.1, (hag c).2.2.2]
      show _ = fun i => newV (V m c main_v1 i) (V m c main_v3 i)
      rw [entry1, entry3]
      refine (congrArg (fun z => shapeCast S4096x1536 z shapeCasts_S4x1024x1536_S4096x1536) (?_ : _ = fun j => newV (m (c.tc.loc main_arg1) j) (m (c.tc.loc main_arg3) j))).trans rfl
      funext i
      idx_vars i
      pointwise [newV]

end Cert.Mm.K13

end
-- ==== Proof.Mm.K14.lean ====
module

public import proofs.«01_k».proof.Proof.Mm.Common
public import proofs.«01_k».proof.Proof.Gen.Kernel14Ideal.Value
public import proofs.«01_k».proof.Proof.Gen.Reference14Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The optimiser’s call on the packed rows of the small parameters: the values of its call. -/

@[expose] public section

set_option maxRecDepth 16384

noncomputable section

namespace Cert.Mm.K14

open Cert.Kernel14Ideal Cert.Kernel14Ideal.Gen
open Idealize.ShloMosaic Idealize.ShloMosaic.TcCoe Idealize.SL.Sem
open Idealize.ShloMosaic.Pipeline (Dat)

theorem out_eq4 {F : FTy → Type} [FloatOps F] (x0 x1 x2 x3 : Vec F S16x1024 .f32) : out0_4 x0 x1 x2 x3 = k0_pay3 x0 x1 x2 x3 := by
  unfold out0_4
  rw [View.canon_unit_zero hz2]
  simp only [View.ld_unit_zero (S := S16x1024) hz2]

theorem pay4 (x0 x1 x2 x3 : Vec Ideal S16x1024 .f32) (y : S16x1024.Idx) : k0_pay3 x0 x1 x2 x3 y = delta (x0 y) (x1 y) (x2 y) (x3 y) := by
  idx_vars y
  pointwise [k0_pay1, k0_pay2, k0_pay3, newM, newV, delta]

theorem out_eq5 {F : FTy → Type} [FloatOps F] (x0 x1 x2 x3 : Vec F S16x1024 .f32) : out0_5 x0 x1 x2 x3 = k0_pay1 x1 x2 := by
  unfold out0_5
  rw [View.canon_unit_zero hz2]
  simp only [View.ld_unit_zero (S := S16x1024) hz2]

theorem pay5 (x1 x2 : Vec Ideal S16x1024 .f32) (y : S16x1024.Idx) : k0_pay1 x1 x2 y = newM (x1 y) (x2 y) := by
  idx_vars y
  pointwise [k0_pay1, k0_pay2, k0_pay3, newM]

theorem out_eq6 {F : FTy → Type} [FloatOps F] (x0 x1 x2 x3 : Vec F S16x1024 .f32) : out0_6 x0 x1 x2 x3 = k0_pay2 x1 x3 := by
  unfold out0_6
  rw [View.canon_unit_zero hz2]
  simp only [View.ld_unit_zero (S := S16x1024) hz2]

theorem pay6 (x1 x3 : Vec Ideal S16x1024 .f32) (y : S16x1024.Idx) : k0_pay2 x1 x3 y = newV (x1 y) (x3 y) := by
  idx_vars y
  pointwise [k0_pay1, k0_pay2, k0_pay3, newV]

variable (m : (ℓ : Loc nD τ sig) → Buf (Elt Ideal) ℓ)

theorem final4 (c : Dev nD) : (dats (F := Ideal) m 0 c).arrAt 4 cfg0.N = fun i => delta (V m c main_arg0 i) (V m c main_arg1 i) (V m c main_arg2 i) (V m c main_arg3 i) := by
  refine (dats (F := Ideal) m 0 c).arrAt_eq_of_covers 4 _ (by decide +kernel) fun t hf y => ?_
  have hc : (dats (F := Ideal) m 0 c).flushed 4 t y = out0_4 (iblk m c 0 t) (iblk m c 1 t) (iblk m c 2 t) (iblk m c 3 t) y := by
    show (dats (F := Ideal) m 0 c).after 4 t y = _
    rw [after0_4]
  exact hc.trans ((congrFun (out_eq4 _ _ _ _) y).trans (pay4 _ _ _ _ y))

theorem final5 (c : Dev nD) : (dats (F := Ideal) m 0 c).arrAt 5 cfg0.N = fun i => newM (V m c main_arg1 i) (V m c main_arg2 i) := by
  refine (dats (F := Ideal) m 0 c).arrAt_eq_of_covers 5 _ (by decide +kernel) fun t hf y => ?_
  have hc : (dats (F := Ideal) m 0 c).flushed 5 t y = out0_5 (iblk m c 0 t) (iblk m c 1 t) (iblk m c 2 t) (iblk m c 3 t) y := by
    show (dats (F := Ideal) m 0 c).after 5 t y = _
    rw [after0_5]
  exact hc.trans ((congrFun (out_eq5 _ _ _ _) y).trans (pay5 _ _ y))

theorem final6 (c : Dev nD) : (dats (F := Ideal) m 0 c).arrAt 6 cfg0.N = fun i => newV (V m c main_arg1 i) (V m c main_arg3 i) := by
  refine (dats (F := Ideal) m 0 c).arrAt_eq_of_covers 6 _ (by decide +kernel) fun t hf y => ?_
  have hc : (dats (F := Ideal) m 0 c).flushed 6 t y = out0_6 (iblk m c 0 t) (iblk m c 1 t) (iblk m c 2 t) (iblk m c 3 t) y := by
    show (dats (F := Ideal) m 0 c).after 6 t y = _
    rw [after0_6]
  exact hc.trans ((congrFun (out_eq6 _ _ _ _) y).trans (pay6 _ _ y))

theorem entry0 (c : Dev nD) : V m c main_arg0 = m (c.tc.loc main_arg0) := by
  rfl

theorem entry1 (c : Dev nD) : V m c main_arg1 = m (c.tc.loc main_arg1) := by
  rfl

theorem entry2 (c : Dev nD) : V m c main_arg2 = m (c.tc.loc main_arg2) := by
  rfl

theorem entry3 (c : Dev nD) : V m c main_arg3 = m (c.tc.loc main_arg3) := by
  rfl

theorem alg : Cert.algebraic_Kernel14Ideal_Reference14Ideal (hKernel14Ideal := Cert.Kernel14Ideal.Gen.facts) (hReference14Ideal := Cert.Reference14Ideal.Gen.facts) := by
  intro m g m' g' _ hag
  refine ⟨fun c i => delta (V m c main_arg0 i) (V m c main_arg1 i) (V m c main_arg2 i) (V m c main_arg3 i), fun c i => newM (V m c main_arg1 i) (V m c main_arg2 i), fun c i => newV (V m c main_arg1 i) (V m c main_arg3 i), ?_, ?_⟩
  · exact (θ_run defs _ _).mono (fun r h c => ⟨(Cert.Kernel14Ideal.Value.post4 m r h c).trans (final4 m c), (Cert.Kernel14Ideal.Value.post5 m r h c).trans (final5 m c), (Cert.Kernel14Ideal.Value.post6 m r h c).trans (final6 m c), Cert.Kernel14Ideal.Value.kept_main_arg0 m r h c, Cert.Kernel14Ideal.Value.kept_main_arg1 m r h c, Cert.Kernel14Ideal.Value.kept_main_arg2 m r h c, Cert.Kernel14Ideal.Value.kept_main_arg3 m r h c⟩) (run_main m g)
  · refine (θ_run Cert.Reference14Ideal.defs _ _).mono (fun r h c => ⟨(h c).1.trans ?_, (h c).2.1.trans ?_, (h c).2.2.1.trans ?_, (h c).2.2.2⟩) (Cert.Reference14Ideal.Value.run m' g')
    · rw [(hag c).1, (hag c).2.1, (hag c).2.2.1, (hag c).2.2.2]
      show _ = fun i => delta (V m c main_arg0 i) (V m c main_arg1 i) (V m c main_arg2 i) (V m c main_arg3 i)
      rw [entry0, entry1, entry2, entry3]
      funext i
      idx_vars i
      pointwise [newM, newV, delta]
    · rw [(hag c).2.1, (hag c).2.2.1]
      show _ = fun i => newM (V m c main_arg1 i) (V m c main_arg2 i)
      rw [entry1, entry2]
      funext i
      idx_vars i
      pointwise [newM]
    · rw [(hag c).2.1, (hag c).2.2.2]
      show _ = fun i => newV (V m c main_arg1 i) (V m c main_arg3 i)
      rw [entry1, entry3]
      funext i
      idx_vars i
      pointwise [newV]

end Cert.Mm.K14

end
-- ==== Proof.Mm.K15.lean ====
module

public import proofs.«01_k».proof.Proof.Mm.Common
public import proofs.«01_k».proof.Proof.Mm.K7
public import proofs.«01_k».proof.Proof.Gen.Kernel15Ideal.Value
public import proofs.«01_k».proof.Proof.Gen.Reference15Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The product of the mixer’s output with the residual and the next norm: the values of its call. -/

@[expose] public section

set_option maxRecDepth 16384

noncomputable section

namespace Cert.Mm.K15

open Cert.Kernel15Ideal Cert.Kernel15Ideal.Gen
open Idealize.ShloMosaic Idealize.ShloMosaic.TcCoe Idealize.SL.Sem
open Idealize.ShloMosaic.Pipeline (Dat)

open Cert.Mm.K7 (seq pos out_row in_row residR normedR residR_at normedR_at)

section

variable (U : Vec Ideal S4096x1024 .bf16) (W : Vec Ideal S1x1024x1024 .bf16) (X : Vec Ideal S4096x1024 .f32) (G N S B : Vec Ideal S2x1x1024 .f32)

/-- The output projection. -/
def feed (r : Fin 4096) (n : Fin 1024) : EReal := ∑ k : Fin 1024, U (ix2 r k) * W (ix3 0 k n)

/-- The residual row with the gated product added to it, and the sum of its squares. -/
def resid (r : Fin 4096) (n : Fin 1024) : EReal := X (ix2 r n) + G (ix3 (seq r) 0 n) * feed U W r n
def sq (r : Fin 4096) : EReal := ∑ n : Fin 1024, resid U W X G r n * resid U W X G r n

/-- The row normalised by its root mean square, with the gain, scale and shift of the next part of the layer. -/
def normed (r : Fin 4096) (n : Fin 1024) : EReal :=
  resid U W X G r n * Ideal.rsqrt (Ideal.div (sq U W X G r) (Ideal.ofBits .f32 0x44800000#32) + Ideal.ofBits .f32 0x358637BD#32) * N (ix3 (seq r) 0 n) * (1 + S (ix3 (seq r) 0 n)) + B (ix3 (seq r) 0 n)

/-- The four results as whole arrays. -/
def residA : Vec Ideal S4096x1024 .f32 := fun i => resid U W X G (i 0) (i 1)
def feedA : Vec Ideal S4096x1024 .bf16 := fun i => feed U W (i 0) (i 1)
def normedA : Vec Ideal S4096x1024 .bf16 := fun i => normed U W X G N S B (i 0) (i 1)
def normedT : Vec Ideal S1024x4096 .bf16 := fun i => normed U W X G N S B (i 1) (i 0)

end

/-- Row `a` of the blocks is row `r` of the arrays. -/
structure Row (x0 : Vec Ideal S512x1024 .bf16) (x1 : Vec Ideal S1x1024x1024 .bf16) (x2 : Vec Ideal S512x1024 .f32) (x3 x4 x5 x6 : Vec Ideal S1x1x1024 .f32) (U : Vec Ideal S4096x1024 .bf16) (W : Vec Ideal S1x1024x1024 .bf16) (X : Vec Ideal S4096x1024 .f32) (G N S B : Vec Ideal S2x1x1024 .f32) (a : Fin 512) (r : Fin 4096) : Prop where
  h0 : ∀ k : Fin 1024, x0 (ix2 a k) = U (ix2 r k)
  h1 : ∀ (k : Fin 1024) (n : Fin 1024), x1 (ix3 0 k n) = W (ix3 0 k n)
  h2 : ∀ n : Fin 1024, x2 (ix2 a n) = X (ix2 r n)
  h3 : ∀ n : Fin 1024, x3 (ix3 0 0 n) = G (ix3 (seq r) 0 n)
  h4 : ∀ n : Fin 1024, x4 (ix3 0 0 n) = N (ix3 (seq r) 0 n)
  h5 : ∀ n : Fin 1024, x5 (ix3 0 0 n) = S (ix3 (seq r) 0 n)
  h6 : ∀ n : Fin 1024, x6 (ix3 0 0 n) = B (ix3 (seq r) 0 n)

theorem out_eq7 {F : FTy → Type} [FloatOps F] (x0 : Vec F S512x1024 .bf16) (x1 : Vec F S1x1024x1024 .bf16) (x2 : Vec F S512x1024 .f32) (x3 x4 x5 x6 : Vec F S1x1x1024 .f32) : out0_7 x0 x1 x2 x3 x4 x5 x6 = k0_pay7 x0 x1 x2 x3 := by
  unfold out0_7
  rw [View.canon_unit_zero hz2]
  simp only [View.ld_unit_zero (S := S512x1024) hz2, View.ld_unit_zero (S := S1x1024x1024) hz3, View.ld_unit_zero (S := S1x1x1024) hz3]

theorem out_eq8 {F : FTy → Type} [FloatOps F] (x0 : Vec F S512x1024 .bf16) (x1 : Vec F S1x1024x1024 .bf16) (x2 : Vec F S512x1024 .f32) (x3 x4 x5 x6 : Vec F S1x1x1024 .f32) : out0_8 x0 x1 x2 x3 x4 x5 x6 = k0_pay2 (k0_pay5 x0 x1) := by
  unfold out0_8
  rw [View.canon_unit_zero hz2]
  simp only [View.ld_unit_zero (S := S512x1024) hz2, View.ld_unit_zero (S := S1x1024x1024) hz3, View.ld_unit_zero (S := S1x1x1024) hz3]

theorem out_eq9 {F : FTy → Type} [FloatOps F] (x0 : Vec F S512x1024 .bf16) (x1 : Vec F S1x1024x1024 .bf16) (x2 : Vec F S512x1024 .f32) (x3 x4 x5 x6 : Vec F S1x1x1024 .f32) : out0_9 x0 x1 x2 x3 x4 x5 x6 = k0_pay3 (k0_pay6 x6) (k0_pay8 x0 x1 x2 x3 x4 x5) := by
  unfold out0_9 k0_pay9 k0_pay10
  rw [View.canon_unit_zero hz2]
  simp only [View.ld_unit_zero (S := S512x1024) hz2, View.ld_unit_zero (S := S1x1024x1024) hz3, View.ld_unit_zero (S := S1x1x1024) hz3]

theorem out_eq10 {F : FTy → Type} [FloatOps F] (x0 : Vec F S512x1024 .bf16) (x1 : Vec F S1x1024x1024 .bf16) (x2 : Vec F S512x1024 .f32) (x3 x4 x5 x6 : Vec F S1x1x1024 .f32) : out0_10 x0 x1 x2 x3 x4 x5 x6 = k0_pay4 (k0_pay6 x6) (k0_pay8 x0 x1 x2 x3 x4 x5) := by
  unfold out0_10 k0_pay9 k0_pay10
  rw [View.canon_unit_zero hz2]
  simp only [View.ld_unit_zero (S := S512x1024) hz2, View.ld_unit_zero (S := S1x1024x1024) hz3, View.ld_unit_zero (S := S1x1x1024) hz3]

theorem pay7 (x0 : Vec Ideal S512x1024 .bf16) (x1 : Vec Ideal S1x1024x1024 .bf16) (x2 : Vec Ideal S512x1024 .f32) (x3 x4 x5 x6 : Vec Ideal S1x1x1024 .f32) (U : Vec Ideal S4096x1024 .bf16) (W : Vec Ideal S1x1024x1024 .bf16) (X : Vec Ideal S4096x1024 .f32) (G N S B : Vec Ideal S2x1x1024 .f32) (y : S512x1024.Idx) (r : Fin 4096) (h : Row x0 x1 x2 x3 x4 x5 x6 U W X G N S B (y 0) r) :
    k0_pay7 x0 x1 x2 x3 y = resid U W X G r (y 1) := by
  obtain ⟨h0, h1, h2, h3, h4, h5, h6⟩ := h
  idx_vars y
  pointwise [k0_pay7, k0_pay5]
  simp only [normed, sq, resid, feed, h0, h1, h2, h3, h4, h5, h6]

theorem pay8 (x0 : Vec Ideal S512x1024 .bf16) (x1 : Vec Ideal S1x1024x1024 .bf16) (x2 : Vec Ideal S512x1024 .f32) (x3 x4 x5 x6 : Vec Ideal S1x1x1024 .f32) (U : Vec Ideal S4096x1024 .bf16) (W : Vec Ideal S1x1024x1024 .bf16) (X : Vec Ideal S4096x1024 .f32) (G N S B : Vec Ideal S2x1x1024 .f32) (y : S512x1024.Idx) (r : Fin 4096) (h : Row x0 x1 x2 x3 x4 x5 x6 U W X G N S B (y 0) r) :
    k0_pay2 (k0_pay5 x0 x1) y = feed U W r (y 1) := by
  obtain ⟨h0, h1, h2, h3, h4, h5, h6⟩ := h
  idx_vars y
  pointwise [k0_pay2, k0_pay5]
  simp only [normed, sq, resid, feed, h0, h1, h2, h3, h4, h5, h6]

theorem pay9 (x0 : Vec Ideal S512x1024 .bf16) (x1 : Vec Ideal S1x1024x1024 .bf16) (x2 : Vec Ideal S512x1024 .f32) (x3 x4 x5 x6 : Vec Ideal S1x1x1024 .f32) (U : Vec Ideal S4096x1024 .bf16) (W : Vec Ideal S1x1024x1024 .bf16) (X : Vec Ideal S4096x1024 .f32) (G N S B : Vec Ideal S2x1x1024 .f32) (y : S512x1024.Idx) (r : Fin 4096) (h : Row x0 x1 x2 x3 x4 x5 x6 U W X G N S B (y 0) r) :
    k0_pay3 (k0_pay6 x6) (k0_pay8 x0 x1 x2 x3 x4 x5) y = normed U W X G N S B r (y 1) := by
  obtain ⟨h0, h1, h2, h3, h4, h5, h6⟩ := h
  idx_vars y
  pointwise [k0_pay3, k0_pay1, k0_pay6, k0_pay8, k0_pay7, k0_pay5]
  simp only [normed, sq, resid, feed, h0, h1, h2, h3, h4, h5, h6]

theorem pay10 (x0 : Vec Ideal S512x1024 .bf16) (x1 : Vec Ideal S1x1024x1024 .bf16) (x2 : Vec Ideal S512x1024 .f32) (x3 x4 x5 x6 : Vec Ideal S1x1x1024 .f32) (U : Vec Ideal S4096x1024 .bf16) (W : Vec Ideal S1x1024x1024 .bf16) (X : Vec Ideal S4096x1024 .f32) (G N S B : Vec Ideal S2x1x1024 .f32) (y : S1024x512.Idx) (r : Fin 4096) (h : Row x0 x1 x2 x3 x4 x5 x6 U W X G N S B (y 1) r) :
    k0_pay4 (k0_pay6 x6) (k0_pay8 x0 x1 x2 x3 x4 x5) y = normed U W X G N S B r (y 0) := by
  obtain ⟨h0, h1, h2, h3, h4, h5, h6⟩ := h
  idx_vars y
  pointwise [k0_pay4, k0_pay1, k0_pay6, k0_pay8, k0_pay7, k0_pay5]
  simp only [normed, sq, resid, feed, h0, h1, h2, h3, h4, h5, h6]

theorem idx : ∀ t : Fin cfg0.N, win0_0.index t = ![t.val, 0] ∧ win0_1.index t = ![0, 0, 0] ∧ win0_2.index t = ![t.val, 0] ∧ win0_3.index t = ![t.val / 4, 0, 0] ∧ win0_4.index t = ![t.val / 4, 0, 0] ∧ win0_5.index t = ![t.val / 4, 0, 0] ∧ win0_6.index t = ![t.val / 4, 0, 0] ∧ win0_7.index t = ![t.val, 0] ∧ win0_8.index t = ![t.val, 0] ∧ win0_9.index t = ![t.val, 0] ∧ win0_10.index t = ![0, t.val] :=
  (by decide +kernel : ∀ t : Fin grid0.N, win0_0.index t = ![t.val, 0] ∧ win0_1.index t = ![0, 0, 0] ∧ win0_2.index t = ![t.val, 0] ∧ win0_3.index t = ![t.val / 4, 0, 0] ∧ win0_4.index t = ![t.val / 4, 0, 0] ∧ win0_5.index t = ![t.val / 4, 0, 0] ∧ win0_6.index t = ![t.val / 4, 0, 0] ∧ win0_7.index t = ![t.val, 0] ∧ win0_8.index t = ![t.val, 0] ∧ win0_9.index t = ![t.val, 0] ∧ win0_10.index t = ![0, t.val])

theorem read0 (t : Fin cfg0.N) (X : Vec Ideal S4096x1024 .bf16) (a : Fin 512) (k : Fin 1024) (r : Fin 4096) (hr : r.val = 512 * t.val + a.val) :
    ((cfg0.win 0).blk t).view.read (Elt Ideal) X (ix2 a k) = X (ix2 r k) := by
  have e := (idx t).1
  rw [View.read_apply]
  refine congrArg X (funext fun d => Fin.ext ?_)
  match d with
  | ⟨0, _⟩ => show win0_0.index t 0 * 512 + 1 * a.val = r.val; rw [e, hr]; show t.val * 512 + 1 * a.val = _; omega
  | ⟨1, _⟩ => show win0_0.index t 1 * 1024 + 1 * k.val = k.val; rw [e]; show 0 * 1024 + 1 * k.val = _; omega

theorem read1 (t : Fin cfg0.N) (X : Vec Ideal S1x1024x1024 .bf16) (k : Fin 1024) (n : Fin 1024) :
    ((cfg0.win 1).blk t).view.read (Elt Ideal) X (ix3 0 k n) = X (ix3 0 k n) := by
  have e := (idx t).2.1
  rw [View.read_apply]
  refine congrArg X (funext fun d => Fin.ext ?_)
  match d with
  | ⟨0, _⟩ => show win0_1.index t 0 * 1 + 1 * 0 = 0; rw [e]; rfl
  | ⟨1, _⟩ => show win0_1.index t 1 * 1024 + 1 * k.val = k.val; rw [e]; show 0 * 1024 + 1 * k.val = _; omega
  | ⟨2, _⟩ => show win0_1.index t 2 * 1024 + 1 * n.val = n.val; rw [e]; show 0 * 1024 + 1 * n.val = _; omega

theorem read2 (t : Fin cfg0.N) (X : Vec Ideal S4096x1024 .f32) (a : Fin 512) (k : Fin 1024) (r : Fin 4096) (hr : r.val = 512 * t.val + a.val) :
    ((cfg0.win 2).blk t).view.read (Elt Ideal) X (ix2 a k) = X (ix2 r k) := by
  have e := (idx t).2.2.1
  rw [View.read_apply]
  refine congrArg X (funext fun d => Fin.ext ?_)
  match d with
  | ⟨0, _⟩ => show win0_2.index t 0 * 512 + 1 * a.val = r.val; rw [e, hr]; show t.val * 512 + 1 * a.val = _; omega
  | ⟨1, _⟩ => show win0_2.index t 1 * 1024 + 1 * k.val = k.val; rw [e]; show 0 * 1024 + 1 * k.val = _; omega

theorem read3 (t : Fin cfg0.N) (X : Vec Ideal S2x1x1024 .f32) (n : Fin 1024) (s : Fin 2) (hs : s.val = t.val / 4) :
    ((cfg0.win 3).blk t).view.read (Elt Ideal) X (ix3 0 0 n) = X (ix3 s 0 n) := by
  have e := (idx t).2.2.2.1
  rw [View.read_apply]
  refine congrArg X (funext fun d => Fin.ext ?_)
  match d with
  | ⟨0, _⟩ => show win0_3.index t 0 * 1 + 1 * 0 = s.val; rw [e, hs]; show t.val / 4 * 1 + 1 * 0 = _; omega
  | ⟨1, _⟩ => show win0_3.index t 1 * 1 + 1 * 0 = 0; rw [e]; rfl
  | ⟨2, _⟩ => show win0_3.index t 2 * 1024 + 1 * n.val = n.val; rw [e]; show 0 * 1024 + 1 * n.val = _; omega

theorem read4 (t : Fin cfg0.N) (X : Vec Ideal S2x1x1024 .f32) (n : Fin 1024) (s : Fin 2) (hs : s.val = t.val / 4) :
    ((cfg0.win 4).blk t).view.read (Elt Ideal) X (ix3 0 0 n) = X (ix3 s 0 n) := by
  have e := (idx t).2.2.2.2.1
  rw [View.read_apply]
  refine congrArg X (funext fun d => Fin.ext ?_)
  match d with
  | ⟨0, _⟩ => show win0_4.index t 0 * 1 + 1 * 0 = s.val; rw [e, hs]; show t.val / 4 * 1 + 1 * 0 = _; omega
  | ⟨1, _⟩ => show win0_4.index t 1 * 1 + 1 * 0 = 0; rw [e]; rfl
  | ⟨2, _⟩ => show win0_4.index t 2 * 1024 + 1 * n.val = n.val; rw [e]; show 0 * 1024 + 1 * n.val = _; omega

theorem read5 (t : Fin cfg0.N) (X : Vec Ideal S2x1x1024 .f32) (n : Fin 1024) (s : Fin 2) (hs : s.val = t.val / 4) :
    ((cfg0.win 5).blk t).view.read (Elt Ideal) X (ix3 0 0 n) = X (ix3 s 0 n) := by
  have e := (idx t).2.2.2.2.2.1
  rw [View.read_apply]
  refine congrArg X (funext fun d => Fin.ext ?_)
  match d with
  | ⟨0, _⟩ => show win0_5.index t 0 * 1 + 1 * 0 = s.val; rw [e, hs]; show t.val / 4 * 1 + 1 * 0 = _; omega
  | ⟨1, _⟩ => show win0_5.index t 1 * 1 + 1 * 0 = 0; rw [e]; rfl
  | ⟨2, _⟩ => show win0_5.index t 2 * 1024 + 1 * n.val = n.val; rw [e]; show 0 * 1024 + 1 * n.val = _; omega

theorem read6 (t : Fin cfg0.N) (X : Vec Ideal S2x1x1024 .f32) (n : Fin 1024) (s : Fin 2) (hs : s.val = t.val / 4) :
    ((cfg0.win 6).blk t).view.read (Elt Ideal) X (ix3 0 0 n) = X (ix3 s 0 n) := by
  have e := (idx t).2.2.2.2.2.2.1
  rw [View.read_apply]
  refine congrArg X (funext fun d => Fin.ext ?_)
  match d with
  | ⟨0, _⟩ => show win0_6.index t 0 * 1 + 1 * 0 = s.val; rw [e, hs]; show t.val / 4 * 1 + 1 * 0 = _; omega
  | ⟨1, _⟩ => show win0_6.index t 1 * 1 + 1 * 0 = 0; rw [e]; rfl
  | ⟨2, _⟩ => show win0_6.index t 2 * 1024 + 1 * n.val = n.val; rw [e]; show 0 * 1024 + 1 * n.val = _; omega

theorem emb7 (t : Fin cfg0.N) (y : S512x1024.Idx) :
    (((cfg0.win 7).blk t).view.emb y 0).val = 512 * (t.val) + (y 0).val ∧ (((cfg0.win 7).blk t).view.emb y 1).val = (y 1).val := by
  have e := (idx t).2.2.2.2.2.2.2.1
  constructor
  · show win0_7.index t 0 * 512 + 1 * (y 0).val = _; rw [e]; show t.val * 512 + 1 * (y 0).val = _; omega
  · show win0_7.index t 1 * 1024 + 1 * (y 1).val = _; rw [e]; show 0 * 1024 + 1 * (y 1).val = _; omega

theorem emb8 (t : Fin cfg0.N) (y : S512x1024.Idx) :
    (((cfg0.win 8).blk t).view.emb y 0).val = 512 * (t.val) + (y 0).val ∧ (((cfg0.win 8).blk t).view.emb y 1).val = (y 1).val := by
  have e := (idx t).2.2.2.2.2.2.2.2.1
  constructor
  · show win0_8.index t 0 * 512 + 1 * (y 0).val = _; rw [e]; show t.val * 512 + 1 * (y 0).val = _; omega
  · show win0_8.index t 1 * 1024 + 1 * (y 1).val = _; rw [e]; show 0 * 1024 + 1 * (y 1).val = _; omega

theorem emb9 (t : Fin cfg0.N) (y : S512x1024.Idx) :
    (((cfg0.win 9).blk t).view.emb y 0).val = 512 * (t.val) + (y 0).val ∧ (((cfg0.win 9).blk t).view.emb y 1).val = (y 1).val := by
  have e := (idx t).2.2.2.2.2.2.2.2.2.1
  constructor
  · show win0_9.index t 0 * 512 + 1 * (y 0).val = _; rw [e]; show t.val * 512 + 1 * (y 0).val = _; omega
  · show win0_9.index t 1 * 1024 + 1 * (y 1).val = _; rw [e]; show 0 * 1024 + 1 * (y 1).val = _; omega

theorem emb10 (t : Fin cfg0.N) (y : S1024x512.Idx) :
    (((cfg0.win 10).blk t).view.emb y 0).val = (y 0).val ∧ (((cfg0.win 10).blk t).view.emb y 1).val = 512 * (t.val) + (y 1).val := by
  have e := (idx t).2.2.2.2.2.2.2.2.2.2
  constructor
  · show win0_10.index t 0 * 1024 + 1 * (y 0).val = _; rw [e]; show 0 * 1024 + 1 * (y 0).val = _; omega
  · show win0_10.index t 1 * 512 + 1 * (y 1).val = _; rw [e]; show t.val * 512 + 1 * (y 1).val = _; omega

variable (m : (ℓ : Loc nD τ sig) → Buf (Elt Ideal) ℓ)

theorem row (c : Dev nD) (t : Fin cfg0.N) (a : Fin 512) (r : Fin 4096) (hr : r.val = 512 * t.val + a.val) :
    Row (iblk m c 0 t) (iblk m c 1 t) (iblk m c 2 t) (iblk m c 3 t) (iblk m c 4 t) (iblk m c 5 t) (iblk m c 6 t) (V m c main_v2) (V m c main_v4) (V m c main_arg2) (V m c main_v5) (V m c main_v1) (V m c main_v6) (V m c main_v7) a r := by
  have hs : (seq r).val = t.val / 4 := by show r.val / 2048 = _; omega
  exact ⟨fun k => read0 t (V m c main_v2) a k r hr, fun k n => read1 t (V m c main_v4) k n, fun n => read2 t (V m c main_arg2) a n r hr,
    fun n => read3 t (V m c main_v5) n _ hs, fun n => read4 t (V m c main_v1) n _ hs, fun n => read5 t (V m c main_v6) n _ hs, fun n => read6 t (V m c main_v7) n _ hs⟩

theorem final7 (c : Dev nD) : (dats (F := Ideal) m 0 c).arrAt 7 cfg0.N = residA (V m c main_v2) (V m c main_v4) (V m c main_arg2) (V m c main_v5) := by
  refine (dats (F := Ideal) m 0 c).arrAt_eq_of_covers 7 _ (by decide +kernel) fun t hf y => ?_
  have hc : (dats (F := Ideal) m 0 c).flushed 7 t y = out0_7 (iblk m c 0 t) (iblk m c 1 t) (iblk m c 2 t) (iblk m c 3 t) (iblk m c 4 t) (iblk m c 5 t) (iblk m c 6 t) y := by
    show (dats (F := Ideal) m 0 c).after 7 t y = _
    rw [after0_7]
  refine hc.trans ?_
  rw [out_eq7]
  obtain ⟨e1, e2⟩ := emb7 t y
  refine (pay7 (iblk m c 0 t) (iblk m c 1 t) (iblk m c 2 t) (iblk m c 3 t) (iblk m c 4 t) (iblk m c 5 t) (iblk m c 6 t) (V m c main_v2) (V m c main_v4) (V m c main_arg2) (V m c main_v5) (V m c main_v1) (V m c main_v6) (V m c main_v7) y _ (row m c t (y 0) ((((cfg0.win 7).blk t).view.emb y) 0) e1)).trans ?_
  show _ = residA (V m c main_v2) (V m c main_v4) (V m c main_arg2) (V m c main_v5) _
  unfold residA
  exact congrArg _ (Fin.ext e2.symm)

theorem final8 (c : Dev nD) : (dats (F := Ideal) m 0 c).arrAt 8 cfg0.N = feedA (V m c main_v2) (V m c main_v4) := by
  refine (dats (F := Ideal) m 0 c).arrAt_eq_of_covers 8 _ (by decide +kernel) fun t hf y => ?_
  have hc : (dats (F := Ideal) m 0 c).flushed 8 t y = out0_8 (iblk m c 0 t) (iblk m c 1 t) (iblk m c 2 t) (iblk m c 3 t) (iblk m c 4 t) (iblk m c 5 t) (iblk m c 6 t) y := by
    show (dats (F := Ideal) m 0 c).after 8 t y = _
    rw [after0_8]
  refine hc.trans ?_
  rw [out_eq8]
  obtain ⟨e1, e2⟩ := emb8 t y
  refine (pay8 (iblk m c 0 t) (iblk m c 1 t) (iblk m c 2 t) (iblk m c 3 t) (iblk m c 4 t) (iblk m c 5 t) (iblk m c 6 t) (V m c main_v2) (V m c main_v4) (V m c main_arg2) (V m c main_v5) (V m c main_v1) (V m c main_v6) (V m c main_v7) y _ (row m c t (y 0) ((((cfg0.win 8).blk t).view.emb y) 0) e1)).trans ?_
  show _ = feedA (V m c main_v2) (V m c main_v4) _
  unfold feedA
  exact congrArg _ (Fin.ext e2.symm)

theorem final9 (c : Dev nD) : (dats (F := Ideal) m 0 c).arrAt 9 cfg0.N = normedA (V m c main_v2) (V m c main_v4) (V m c main_arg2) (V m c main_v5) (V m c main_v1) (V m c main_v6) (V m c main_v7) := by
  refine (dats (F := Ideal) m 0 c).arrAt_eq_of_covers 9 _ (by decide +kernel) fun t hf y => ?_
  have hc : (dats (F := Ideal) m 0 c).flushed 9 t y = out0_9 (iblk m c 0 t) (iblk m c 1 t) (iblk m c 2 t) (iblk m c 3 t) (iblk m c 4 t) (iblk m c 5 t) (iblk m c 6 t) y := by
    show (dats (F := Ideal) m 0 c).after 9 t y = _
    rw [after0_9]
  refine hc.trans ?_
  rw [out_eq9]
  obtain ⟨e1, e2⟩ := emb9 t y
  refine (pay9 (iblk m c 0 t) (iblk m c 1 t) (iblk m c 2 t) (iblk m c 3 t) (iblk m c 4 t) (iblk m c 5 t) (iblk m c 6 t) (V m c main_v2) (V m c main_v4) (V m c main_arg2) (V m c main_v5) (V m c main_v1) (V m c main_v6) (V m c main_v7) y _ (row m c t (y 0) ((((cfg0.win 9).blk t).view.emb y) 0) e1)).trans ?_
  show _ = normedA (V m c main_v2) (V m c main_v4) (V m c main_arg2) (V m c main_v5) (V m c main_v1) (V m c main_v6) (V m c main_v7) _
  unfold normedA
  exact congrArg _ (Fin.ext e2.symm)

theorem final10 (c : Dev nD) : (dats (F := Ideal) m 0 c).arrAt 10 cfg0.N = normedT (V m c main_v2) (V m c main_v4) (V m c main_arg2) (V m c main_v5) (V m c main_v1) (V m c main_v6) (V m c main_v7) := by
  refine (dats (F := Ideal) m 0 c).arrAt_eq_of_covers 10 _ (by decide +kernel) fun t hf y => ?_
  have hc : (dats (F := Ideal) m 0 c).flushed 10 t y = out0_10 (iblk m c 0 t) (iblk m c 1 t) (iblk m c 2 t) (iblk m c 3 t) (iblk m c 4 t) (iblk m c 5 t) (iblk m c 6 t) y := by
    show (dats (F := Ideal) m 0 c).after 10 t y = _
    rw [after0_10]
  refine hc.trans ?_
  rw [out_eq10]
  obtain ⟨e1, e2⟩ := emb10 t y
  refine (pay10 (iblk m c 0 t) (iblk m c 1 t) (iblk m c 2 t) (iblk m c 3 t) (iblk m c 4 t) (iblk m c 5 t) (iblk m c 6 t) (V m c main_v2) (V m c main_v4) (V m c main_arg2) (V m c main_v5) (V m c main_v1) (V m c main_v6) (V m c main_v7) y _ (row m c t (y 1) ((((cfg0.win 10).blk t).view.emb y) 1) e2)).trans ?_
  show _ = normedT (V m c main_v2) (V m c main_v4) (V m c main_arg2) (V m c main_v5) (V m c main_v1) (V m c main_v6) (V m c main_v7) _
  unfold normedT
  exact congrArg _ (Fin.ext e1.symm)

theorem entry0 (c : Dev nD) : V m c main_v2 = truncf (F := Ideal) (φ := .f32) .bf16 (m (c.tc.loc main_arg0)) bitsLt_bf16_f32 := by
  show StableHlo.after hostOps0 _ main_v2 = _
  after_results

theorem entry1 (c : Dev nD) : V m c main_v4 = broadcastInDim S1x1024x1024 ![1, 2] bcast_S1024x1024_S1x1024x1024_1_2 (truncf (F := Ideal) (φ := .f32) .bf16 (m (c.tc.loc main_arg1)) bitsLt_bf16_f32) := by
  show StableHlo.after hostOps0 _ main_v4 = _
  after_results

theorem entry2 (c : Dev nD) : V m c main_arg2 = m (c.tc.loc main_arg2) := by
  show StableHlo.after hostOps0 _ main_arg2 = _
  after_results

theorem entry3 (c : Dev nD) : V m c main_v5 = broadcastInDim S2x1x1024 ![0, 2] bcast_S2x1024_S2x1x1024_0_2 (m (c.tc.loc main_arg3)) := by
  show StableHlo.after hostOps0 _ main_v5 = _
  after_results

theorem entry4 (c : Dev nD) : V m c main_v1 = broadcastInDim S2x1x1024 ![0, 1, 2] bcast_S1x1x1024_S2x1x1024_0_1_2 (broadcastInDim S1x1x1024 ![2] bcast_S1024_S1x1x1024_2 (m (c.tc.loc main_arg4))) := by
  show StableHlo.after hostOps0 _ main_v1 = _
  after_results

theorem entry5 (c : Dev nD) : V m c main_v6 = broadcastInDim S2x1x1024 ![0, 2] bcast_S2x1024_S2x1x1024_0_2 (m (c.tc.loc main_arg5)) := by
  show StableHlo.after hostOps0 _ main_v6 = _
  after_results

theorem entry6 (c : Dev nD) : V m c main_v7 = broadcastInDim S2x1x1024 ![0, 2] bcast_S2x1024_S2x1x1024_0_2 (m (c.tc.loc main_arg6)) := by
  show StableHlo.after hostOps0 _ main_v7 = _
  after_results

/-- The reference's product. -/
def feedR (u : FVec Ideal Cert.Reference15Ideal.S4096x1024 .f32) (w : FVec Ideal S1024x1024 .f32) : FVec Ideal Cert.Reference15Ideal.S4096x1024 .f32 :=
  Host.dotGeneral Cert.Reference15Ideal.dot_S4096x1024_S1024x1024_S4096x1024_1_0_0_1_n_n none u w

/-- The reference's arrays in those terms. -/
def resid3 (h x : FVec Ideal Cert.Reference15Ideal.S4096x1024 .f32) (w : FVec Ideal S1024x1024 .f32) (gate : FVec Ideal Cert.Reference15Ideal.S2x1024 .f32) : FVec Ideal Cert.Reference15Ideal.S2x2048x1024 .f32 :=
  residR (shapeCast Cert.Reference15Ideal.S2x2048x1024 x Cert.Reference15Ideal.Gen.shapeCasts_S4096x1024_S2x2048x1024) (shapeCast Cert.Reference15Ideal.S2x2048x1024 (feedR h w) Cert.Reference15Ideal.Gen.shapeCasts_S4096x1024_S2x2048x1024) gate

theorem resid3_at (h x : FVec Ideal Cert.Reference15Ideal.S4096x1024 .f32) (w : FVec Ideal S1024x1024 .f32) (gate : FVec Ideal Cert.Reference15Ideal.S2x1024 .f32) (r : Fin 4096) (n : Fin 1024) :
    resid3 h x w gate (ix3 (seq r) (pos r) n) = x (ix2 r n) + gate (ix2 (seq r) n) * ∑ k : Fin 1024, h (ix2 r k) * w (ix2 k n) := by
  unfold resid3
  rw [residR_at, in_row, in_row]
  congr 2
  pointwise [feedR]

theorem norm_row (c : Dev nD) (r : Fin 4096) (n : Fin 1024) : (shapeCast Cert.Reference15Ideal.S4096x1024 (normedR (resid3 (m (c.tc.loc main_arg0)) (m (c.tc.loc main_arg2)) (m (c.tc.loc main_arg1)) (m (c.tc.loc main_arg3))) (m (c.tc.loc main_arg4)) (m (c.tc.loc main_arg5)) (m (c.tc.loc main_arg6))) Cert.Reference15Ideal.Gen.shapeCasts_S2x2048x1024_S4096x1024) (ix2 r n) = normed (V m c main_v2) (V m c main_v4) (V m c main_arg2) (V m c main_v5) (V m c main_v1) (V m c main_v6) (V m c main_v7) r n := by
  rw [out_row, normedR_at]
  simp only [resid3_at, normed, sq, resid, feed]
  rw [entry0, entry1, entry2, entry3, entry4, entry5, entry6]
  pointwise []

theorem alg : Cert.algebraic_Kernel15Ideal_Reference15Ideal (hKernel15Ideal := Cert.Kernel15Ideal.Gen.facts) (hReference15Ideal := Cert.Reference15Ideal.Gen.facts) := by
  intro m g m' g' _ hag
  refine ⟨fun c => residA (V m c main_v2) (V m c main_v4) (V m c main_arg2) (V m c main_v5), fun c => feedA (V m c main_v2) (V m c main_v4), fun c => normedA (V m c main_v2) (V m c main_v4) (V m c main_arg2) (V m c main_v5) (V m c main_v1) (V m c main_v6) (V m c main_v7), fun c => normedT (V m c main_v2) (V m c main_v4) (V m c main_arg2) (V m c main_v5) (V m c main_v1) (V m c main_v6) (V m c main_v7), ?_, ?_⟩
  · exact (θ_run defs _ _).mono (fun r h c => ⟨(Cert.Kernel15Ideal.Value.post7 m r h c).trans (final7 m c), (Cert.Kernel15Ideal.Value.post8 m r h c).trans (final8 m c), (Cert.Kernel15Ideal.Value.post9 m r h c).trans (final9 m c), (Cert.Kernel15Ideal.Value.post10 m r h c).trans (final10 m c), Cert.Kernel15Ideal.Value.kept_main_arg0 m r h c, Cert.Kernel15Ideal.Value.kept_main_arg1 m r h c, Cert.Kernel15Ideal.Value.kept_main_arg2 m r h c, Cert.Kernel15Ideal.Value.kept_main_arg3 m r h c, Cert.Kernel15Ideal.Value.kept_main_arg4 m r h c, Cert.Kernel15Ideal.Value.kept_main_arg5 m r h c, Cert.Kernel15Ideal.Value.kept_main_arg6 m r h c⟩) (run_main m g)
  · refine (θ_run Cert.Reference15Ideal.defs _ _).mono (fun r h c => ⟨(h c).1.trans ?_, (h c).2.1.trans ?_, (h c).2.2.1.trans ?_, (h c).2.2.2.1.trans ?_, (h c).2.2.2.2⟩) (Cert.Reference15Ideal.Value.run m' g')
    all_goals rw [(hag c).1, (hag c).2.1]; (try rw [(hag c).2.2.1, (hag c).2.2.2.1]); (try rw [(hag c).2.2.2.2.1, (hag c).2.2.2.2.2.1, (hag c).2.2.2.2.2.2])
    · show _ = residA (V m c main_v2) (V m c main_v4) (V m c main_arg2) (V m c main_v5)
      refine Eq.trans (show _ = shapeCast Cert.Reference15Ideal.S4096x1024 (resid3 (m (c.tc.loc main_arg0)) (m (c.tc.loc main_arg2)) (m (c.tc.loc main_arg1)) (m (c.tc.loc main_arg3))) Cert.Reference15Ideal.Gen.shapeCasts_S2x2048x1024_S4096x1024 from rfl) ?_
      rw [entry0, entry1, entry2, entry3]; funext i; idx_vars i
      rw [out_row, resid3_at]
      simp only [residA, resid, feed]
      pointwise []
    · show _ = feedA (V m c main_v2) (V m c main_v4)
      refine Eq.trans (show _ = truncf (F := Ideal) (φ := .f32) .bf16 (feedR (m (c.tc.loc main_arg0)) (m (c.tc.loc main_arg1))) bitsLt_bf16_f32 from rfl) ?_
      rw [entry0, entry1]; funext i; idx_vars i
      simp only [feedA, feed]
      pointwise [feedR]
    · show _ = normedA (V m c main_v2) (V m c main_v4) (V m c main_arg2) (V m c main_v5) (V m c main_v1) (V m c main_v6) (V m c main_v7)
      refine Eq.trans (show _ = truncf (F := Ideal) (φ := .f32) .bf16 (shapeCast Cert.Reference15Ideal.S4096x1024 (normedR (resid3 (m (c.tc.loc main_arg0)) (m (c.tc.loc main_arg2)) (m (c.tc.loc main_arg1)) (m (c.tc.loc main_arg3))) (m (c.tc.loc main_arg4)) (m (c.tc.loc main_arg5)) (m (c.tc.loc main_arg6))) Cert.Reference15Ideal.Gen.shapeCasts_S2x2048x1024_S4096x1024) bitsLt_bf16_f32 from rfl) ?_
      funext i; idx_vars i
      exact norm_row m c _ _
    · show _ = normedT (V m c main_v2) (V m c main_v4) (V m c main_arg2) (V m c main_v5) (V m c main_v1) (V m c main_v6) (V m c main_v7)
      refine Eq.trans (show _ = truncf (F := Ideal) (φ := .f32) .bf16 (transpose Cert.Reference15Ideal.S1024x4096 [1, 0] (shapeCast Cert.Reference15Ideal.S4096x1024 (normedR (resid3 (m (c.tc.loc main_arg0)) (m (c.tc.loc main_arg2)) (m (c.tc.loc main_arg1)) (m (c.tc.loc main_arg3))) (m (c.tc.loc main_arg4)) (m (c.tc.loc main_arg5)) (m (c.tc.loc main_arg6))) Cert.Reference15Ideal.Gen.shapeCasts_S2x2048x1024_S4096x1024) Cert.Reference15Ideal.Gen.transposes_S4096x1024_S1024x4096_1_0) bitsLt_bf16_f32 from rfl) ?_
      funext i; idx_vars i
      exact norm_row m c _ _

end Cert.Mm.K15

end
-- ==== Proof.Mm.K16.lean ====
module

public import proofs.«01_k».proof.Proof.Mm.Common
public import proofs.«01_k».proof.Proof.Mm.K7
public import proofs.«01_k».proof.Proof.Gen.Kernel16Ideal.Value
public import proofs.«01_k».proof.Proof.Gen.Reference16Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The second product of the last perceptron with the residual: the values of its call, in two blocks of the contraction. -/

@[expose] public section

set_option maxRecDepth 16384

noncomputable section

namespace Cert.Mm.K16

open Cert.Kernel16Ideal Cert.Kernel16Ideal.Gen
open Idealize.ShloMosaic Idealize.ShloMosaic.TcCoe Idealize.SL.Sem
open Idealize.ShloMosaic.Pipeline (Dat)
open Cert.Mm.K7 (seq feed resid feedA residA act feedR resid3 resid3_at out_row)

section

variable {F : FTy → Type} [FloatOps F]
variable (m : (ℓ : Loc nD τ sig) → Buf (Elt F) ℓ)

/-- The first step of a block's contraction leaves the first partial product in the accumulator. -/
theorem sout_A (c : Dev nD) (i : grid0.Coords) (arg3 : Memref sig .tc .vmem S1024x2048 .bf16) (harg3 : arg3.IsWhole) (arg4 : Memref sig .tc .vmem S1x2048x512 .bf16) (harg4 : arg4.IsWhole) (arg5 : Memref sig .tc .vmem S1024x512 .f32) (harg5 : arg5.IsWhole) (arg6 : Memref sig .tc .vmem S1x1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole) (hc0 : cond0_0 i) (hc1 : ¬cond0_1 i) (hc2 : ¬cond0_2 i)
    (x0 : Vec F S1024x2048 .bf16) (x1 : Vec F S1x2048x512 .bf16) (x2 : Vec F S1024x512 .f32) (x3 : Vec F S1x1x512 .f32) :
    sout0_A_0 c i arg3 harg3 arg4 harg4 arg5 harg5 arg6 harg6 arg7 harg7 arg8 harg8 arg9 harg9 hc0 hc1 hc2 x0 x1 x2 x3 = k0_pay2 x0 x1 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3)]
  unfold kernelRun0_A
  dsimp only
  rw [View.canon_unit_zero hz2]
  simp only [View.readAt_eq_ld, harg3.read_unread, harg4.read_unread, harg5.read_unread, harg6.read_unread, View.ld_unit_zero (S := S1024x2048) hz2, View.ld_unit_zero (S := S1x2048x512) hz3, View.ld_unit_zero (S := S1024x512) hz2, View.ld_unit_zero (S := S1x1x512) hz3]

/-- The second step adds the second partial product and writes the gated residual out. -/
theorem out_B_4 (c : Dev nD) (i : grid0.Coords) (arg3 : Memref sig .tc .vmem S1024x2048 .bf16) (harg3 : arg3.IsWhole) (arg4 : Memref sig .tc .vmem S1x2048x512 .bf16) (harg4 : arg4.IsWhole) (arg5 : Memref sig .tc .vmem S1024x512 .f32) (harg5 : arg5.IsWhole) (arg6 : Memref sig .tc .vmem S1x1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole) (hc0 : ¬cond0_0 i) (hc1 : cond0_1 i) (hc2 : cond0_2 i)
    (x0 : Vec F S1024x2048 .bf16) (x1 : Vec F S1x2048x512 .bf16) (x2 : Vec F S1024x512 .f32) (x3 : Vec F S1x1x512 .f32) (xs0 : Vec F S1024x512 .f32) :
    out0_B_4 c i arg3 harg3 arg4 harg4 arg5 harg5 arg6 harg6 arg7 harg7 arg8 harg8 arg9 harg9 hc0 hc1 hc2 x0 x1 x2 x3 xs0 = k0_pay4 (k0_pay3 x0 x1 xs0) x2 x3 := by
  unfold out0_B_4
  rw [View.read_writes_eq_canon _ _ _ (cover0_B_4 c i arg3 harg3 arg4 harg4 arg5 harg5 arg6 harg6 arg7 harg7 arg8 harg8 arg9 harg9 hc0 hc1 hc2 x0 x1 x2 x3 xs0)]
  unfold kernelRun0_B
  dsimp only
  sl_unfold_words
  rw [View.canon_unit_zero hz2]
  simp only [View.readAt_eq_ld, harg3.read_unread, harg4.read_unread, harg5.read_unread, harg6.read_unread, harg9.read_unread, View.ld_unit_zero (S := S1024x2048) hz2, View.ld_unit_zero (S := S1x2048x512) hz3, View.ld_unit_zero (S := S1024x512) hz2, View.ld_unit_zero (S := S1x1x512) hz3, View.readCov_unit_zero (S := S1024x512) _ hz2]

/-- It writes the product itself out, too. -/
theorem out_B_5 (c : Dev nD) (i : grid0.Coords) (arg3 : Memref sig .tc .vmem S1024x2048 .bf16) (harg3 : arg3.IsWhole) (arg4 : Memref sig .tc .vmem S1x2048x512 .bf16) (harg4 : arg4.IsWhole) (arg5 : Memref sig .tc .vmem S1024x512 .f32) (harg5 : arg5.IsWhole) (arg6 : Memref sig .tc .vmem S1x1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole) (hc0 : ¬cond0_0 i) (hc1 : cond0_1 i) (hc2 : cond0_2 i)
    (x0 : Vec F S1024x2048 .bf16) (x1 : Vec F S1x2048x512 .bf16) (x2 : Vec F S1024x512 .f32) (x3 : Vec F S1x1x512 .f32) (xs0 : Vec F S1024x512 .f32) :
    out0_B_5 c i arg3 harg3 arg4 harg4 arg5 harg5 arg6 harg6 arg7 harg7 arg8 harg8 arg9 harg9 hc0 hc1 hc2 x0 x1 x2 x3 xs0 = k0_pay5 (k0_pay3 x0 x1 xs0) := by
  unfold out0_B_5
  rw [View.read_writes_eq_canon _ _ _ (cover0_B_5 c i arg3 harg3 arg4 harg4 arg5 harg5 arg6 harg6 arg7 harg7 arg8 harg8 arg9 harg9 hc0 hc1 hc2 x0 x1 x2 x3 xs0)]
  unfold kernelRun0_B
  dsimp only
  sl_unfold_words
  rw [View.canon_unit_zero hz2]
  simp only [View.readAt_eq_ld, harg3.read_unread, harg4.read_unread, harg5.read_unread, harg6.read_unread, harg9.read_unread, View.ld_unit_zero (S := S1024x2048) hz2, View.ld_unit_zero (S := S1x2048x512) hz3, View.ld_unit_zero (S := S1024x512) hz2, View.ld_unit_zero (S := S1x1x512) hz3, View.readCov_unit_zero (S := S1024x512) _ hz2]

theorem outs_congr (c : Dev nD) (n n' : ℕ) (h : n < cfg0.N) (h' : n' < cfg0.N) (e : n = n') : outsAt0 m c n h = outsAt0 m c n' h' := by
  subst e; rfl

theorem acc_A (c : Dev nD) (u : Fin cfg0.N) (h : u.val % 2 = 0) : (outsAt0 m c u.val u.isLt).2.2 = k0_pay2 (iblk m c 0 u) (iblk m c 1 u) := by
  rw [outsAt0_A m c u h (by omega) (by omega)]
  dsimp only
  rw [sout_A]

theorem outs_at (c : Dev nD) (t u : Fin cfg0.N) (h : t.val % 2 = 1) (hu : t.val = u.val + 1) :
    (outsAt0 m c t.val t.isLt).1 = k0_pay4 (k0_pay3 (iblk m c 0 t) (iblk m c 1 t) (k0_pay2 (iblk m c 0 u) (iblk m c 1 u))) (iblk m c 2 t) (iblk m c 3 t)
    ∧ (outsAt0 m c t.val t.isLt).2.1 = k0_pay5 (k0_pay3 (iblk m c 0 t) (iblk m c 1 t) (k0_pay2 (iblk m c 0 u) (iblk m c 1 u))) := by
  rw [outsAt0_B m c t (by omega) h h]
  dsimp only
  rw [out_B_4, out_B_5, outs_congr m c (t.val - 1) u.val _ u.isLt (by omega), acc_A m c u (by omega)]
  exact ⟨rfl, rfl⟩

end

theorem idx : ∀ t : Fin cfg0.N, win0_0.index t = ![t.val / 4, t.val % 2] ∧ win0_1.index t = ![0, t.val % 2, t.val / 2 % 2] ∧ win0_2.index t = ![t.val / 4, t.val / 2 % 2] ∧ win0_3.index t = ![t.val / 8, 0, t.val / 2 % 2] ∧ win0_4.index t = ![t.val / 4, t.val / 2 % 2] ∧ win0_5.index t = ![t.val / 4, t.val / 2 % 2] :=
  (by decide +kernel : ∀ t : Fin grid0.N, win0_0.index t = ![t.val / 4, t.val % 2] ∧ win0_1.index t = ![0, t.val % 2, t.val / 2 % 2] ∧ win0_2.index t = ![t.val / 4, t.val / 2 % 2] ∧ win0_3.index t = ![t.val / 8, 0, t.val / 2 % 2] ∧ win0_4.index t = ![t.val / 4, t.val / 2 % 2] ∧ win0_5.index t = ![t.val / 4, t.val / 2 % 2])

theorem read0 (t : Fin cfg0.N) (X : Vec Ideal S4096x4096 .bf16) (a : Fin 1024) (b : Fin 2048) (r : Fin 4096) (k : Fin 4096)
    (hr : r.val = 1024 * (t.val / 4) + a.val) (hk : k.val = 2048 * (t.val % 2) + b.val) :
    ((cfg0.win 0).blk t).view.read (Elt Ideal) X (ix2 a b) = X (ix2 r k) := by
  have e := (idx t).1
  rw [View.read_apply]
  refine congrArg X (funext fun d => Fin.ext ?_)
  match d with
  | ⟨0, _⟩ => show win0_0.index t 0 * 1024 + 1 * a.val = r.val; rw [e, hr]; show t.val / 4 * 1024 + 1 * a.val = _; omega
  | ⟨1, _⟩ => show win0_0.index t 1 * 2048 + 1 * b.val = k.val; rw [e, hk]; show t.val % 2 * 2048 + 1 * b.val = _; omega

theorem read1 (t : Fin cfg0.N) (X : Vec Ideal S1x4096x1024 .bf16) (b : Fin 2048) (a : Fin 512) (k : Fin 4096) (n : Fin 1024)
    (hk : k.val = 2048 * (t.val % 2) + b.val) (hn : n.val = 512 * (t.val / 2 % 2) + a.val) :
    ((cfg0.win 1).blk t).view.read (Elt Ideal) X (ix3 0 b a) = X (ix3 0 k n) := by
  have e := (idx t).2.1
  rw [View.read_apply]
  refine congrArg X (funext fun d => Fin.ext ?_)
  match d with
  | ⟨0, _⟩ => show win0_1.index t 0 * 1 + 1 * 0 = 0; rw [e]; rfl
  | ⟨1, _⟩ => show win0_1.index t 1 * 2048 + 1 * b.val = k.val; rw [e, hk]; show t.val % 2 * 2048 + 1 * b.val = _; omega
  | ⟨2, _⟩ => show win0_1.index t 2 * 512 + 1 * a.val = n.val; rw [e, hn]; show t.val / 2 % 2 * 512 + 1 * a.val = _; omega

theorem read2 (t : Fin cfg0.N) (X : Vec Ideal S4096x1024 .f32) (a : Fin 1024) (b : Fin 512) (r : Fin 4096) (n : Fin 1024)
    (hr : r.val = 1024 * (t.val / 4) + a.val) (hn : n.val = 512 * (t.val / 2 % 2) + b.val) :
    ((cfg0.win 2).blk t).view.read (Elt Ideal) X (ix2 a b) = X (ix2 r n) := by
  have e := (idx t).2.2.1
  rw [View.read_apply]
  refine congrArg X (funext fun d => Fin.ext ?_)
  match d with
  | ⟨0, _⟩ => show win0_2.index t 0 * 1024 + 1 * a.val = r.val; rw [e, hr]; show t.val / 4 * 1024 + 1 * a.val = _; omega
  | ⟨1, _⟩ => show win0_2.index t 1 * 512 + 1 * b.val = n.val; rw [e, hn]; show t.val / 2 % 2 * 512 + 1 * b.val = _; omega

theorem read3 (t : Fin cfg0.N) (X : Vec Ideal S2x1x1024 .f32) (b : Fin 512) (s : Fin 2) (n : Fin 1024)
    (hs : s.val = t.val / 8) (hn : n.val = 512 * (t.val / 2 % 2) + b.val) :
    ((cfg0.win 3).blk t).view.read (Elt Ideal) X (ix3 0 0 b) = X (ix3 s 0 n) := by
  have e := (idx t).2.2.2.1
  rw [View.read_apply]
  refine congrArg X (funext fun d => Fin.ext ?_)
  match d with
  | ⟨0, _⟩ => show win0_3.index t 0 * 1 + 1 * 0 = s.val; rw [e, hs]; show t.val / 8 * 1 + 1 * 0 = _; omega
  | ⟨1, _⟩ => show win0_3.index t 1 * 1 + 1 * 0 = 0; rw [e]; rfl
  | ⟨2, _⟩ => show win0_3.index t 2 * 512 + 1 * b.val = n.val; rw [e, hn]; show t.val / 2 % 2 * 512 + 1 * b.val = _; omega

theorem emb4 (t : Fin cfg0.N) (y : S1024x512.Idx) :
    (((cfg0.win 4).blk t).view.emb y 0).val = 1024 * (t.val / 4) + (y 0).val ∧ (((cfg0.win 4).blk t).view.emb y 1).val = 512 * (t.val / 2 % 2) + (y 1).val := by
  have e := (idx t).2.2.2.2.1
  constructor
  · show win0_4.index t 0 * 1024 + 1 * (y 0).val = _; rw [e]; show t.val / 4 * 1024 + 1 * (y 0).val = _; omega
  · show win0_4.index t 1 * 512 + 1 * (y 1).val = _; rw [e]; show t.val / 2 % 2 * 512 + 1 * (y 1).val = _; omega

theorem emb5 (t : Fin cfg0.N) (y : S1024x512.Idx) :
    (((cfg0.win 5).blk t).view.emb y 0).val = 1024 * (t.val / 4) + (y 0).val ∧ (((cfg0.win 5).blk t).view.emb y 1).val = 512 * (t.val / 2 % 2) + (y 1).val := by
  have e := (idx t).2.2.2.2.2
  constructor
  · show win0_5.index t 0 * 1024 + 1 * (y 0).val = _; rw [e]; show t.val / 4 * 1024 + 1 * (y 0).val = _; omega
  · show win0_5.index t 1 * 512 + 1 * (y 1).val = _; rw [e]; show t.val / 2 % 2 * 512 + 1 * (y 1).val = _; omega

/-- Cell `y` of the blocks is cell `i` of the arrays, in the two steps of the contraction. -/
structure Cells (x0 x0' : Vec Ideal S1024x2048 .bf16) (x1 x1' : Vec Ideal S1x2048x512 .bf16) (x2 : Vec Ideal S1024x512 .f32) (x3 : Vec Ideal S1x1x512 .f32) (U : Vec Ideal S4096x4096 .bf16) (W : Vec Ideal S1x4096x1024 .bf16) (X : Vec Ideal S4096x1024 .f32) (G : Vec Ideal S2x1x1024 .f32) (y : S1024x512.Idx) (i : S4096x1024.Idx) : Prop where
  h0 : ∀ (b : Fin 2048) (k : Fin 4096), k.val = b.val → x0 (ix2 (y 0) b) = U (ix2 (i 0) k) ∧ x1 (ix3 0 b (y 1)) = W (ix3 0 k (i 1))
  h1 : ∀ (b : Fin 2048) (k : Fin 4096), k.val = 2048 + b.val → x0' (ix2 (y 0) b) = U (ix2 (i 0) k) ∧ x1' (ix3 0 b (y 1)) = W (ix3 0 k (i 1))
  h2 : x2 (ix2 (y 0) (y 1)) = X (ix2 (i 0) (i 1))
  h3 : x3 (ix3 0 0 (y 1)) = G (ix3 (seq (i 0)) 0 (i 1))

/-- Two blocks of the contraction, one added to the other, are the contraction. -/
theorem pay (x0 x0' : Vec Ideal S1024x2048 .bf16) (x1 x1' : Vec Ideal S1x2048x512 .bf16) (x2 : Vec Ideal S1024x512 .f32) (x3 : Vec Ideal S1x1x512 .f32) (U : Vec Ideal S4096x4096 .bf16) (W : Vec Ideal S1x4096x1024 .bf16) (X : Vec Ideal S4096x1024 .f32) (G : Vec Ideal S2x1x1024 .f32) (y : S1024x512.Idx) (i : S4096x1024.Idx) (h : Cells x0 x0' x1 x1' x2 x3 U W X G y i) :
    k0_pay3 x0' x1' (k0_pay2 x0 x1) y = feed U W (i 0) (i 1) := by
  unfold feed
  pointwise [k0_pay3, k0_pay2, k0_pay1]
  rw [Fin.sum_univ_two_halves 2048 2048 rfl]
  congr 1 <;> refine Finset.sum_congr rfl fun k _ => ?_
  · exact congrArg₂ (· * ·) (h.h0 k _ rfl).1 (h.h0 k _ rfl).2
  · exact congrArg₂ (· * ·) (h.h1 k ⟨2048 + k.val, _⟩ rfl).1 (h.h1 k ⟨2048 + k.val, _⟩ rfl).2

theorem gated (a x2 : Vec Ideal S1024x512 .f32) (x3 : Vec Ideal S1x1x512 .f32) (y : S1024x512.Idx) :
    k0_pay4 a x2 x3 y = x2 (ix2 (y 0) (y 1)) + x3 (ix3 0 0 (y 1)) * a y := by
  idx_vars y
  pointwise [k0_pay4]

theorem pay4 (x0 x0' : Vec Ideal S1024x2048 .bf16) (x1 x1' : Vec Ideal S1x2048x512 .bf16) (x2 : Vec Ideal S1024x512 .f32) (x3 : Vec Ideal S1x1x512 .f32) (U : Vec Ideal S4096x4096 .bf16) (W : Vec Ideal S1x4096x1024 .bf16) (X : Vec Ideal S4096x1024 .f32) (G : Vec Ideal S2x1x1024 .f32) (y : S1024x512.Idx) (i : S4096x1024.Idx) (h : Cells x0 x0' x1 x1' x2 x3 U W X G y i) :
    k0_pay4 (k0_pay3 x0' x1' (k0_pay2 x0 x1)) x2 x3 y = residA U W X G i := by
  rw [gated, pay _ _ _ _ _ _ _ _ _ _ _ _ h, h.h2, h.h3]
  rfl

theorem pay5 (x0 x0' : Vec Ideal S1024x2048 .bf16) (x1 x1' : Vec Ideal S1x2048x512 .bf16) (x2 : Vec Ideal S1024x512 .f32) (x3 : Vec Ideal S1x1x512 .f32) (U : Vec Ideal S4096x4096 .bf16) (W : Vec Ideal S1x4096x1024 .bf16) (X : Vec Ideal S4096x1024 .f32) (G : Vec Ideal S2x1x1024 .f32) (y : S1024x512.Idx) (i : S4096x1024.Idx) (h : Cells x0 x0' x1 x1' x2 x3 U W X G y i) :
    k0_pay5 (k0_pay3 x0' x1' (k0_pay2 x0 x1)) y = feedA U W i :=
  pay _ _ _ _ _ _ _ _ _ _ _ _ h

variable (m : (ℓ : Loc nD τ sig) → Buf (Elt Ideal) ℓ)

theorem cells (c : Dev nD) (t u : Fin cfg0.N) (y : S1024x512.Idx) (i : S4096x1024.Idx) (h1 : t.val % 2 = 1) (hu : t.val = u.val + 1)
    (e1 : (i 0).val = 1024 * (t.val / 4) + (y 0).val) (e2 : (i 1).val = 512 * (t.val / 2 % 2) + (y 1).val) :
    Cells (iblk m c 0 u) (iblk m c 0 t) (iblk m c 1 u) (iblk m c 1 t) (iblk m c 2 t) (iblk m c 3 t) (V m c main_v4) (V m c main_v6) (V m c main_arg3) (V m c main_v7) y i := by
  have hy : (y 0).val < 1024 := (y 0).isLt
  exact ⟨fun b k hk => ⟨read0 u (V m c main_v4) _ _ _ _ (by omega) (by omega), read1 u (V m c main_v6) _ _ _ _ (by omega) (by omega)⟩,
    fun b k hk => ⟨read0 t (V m c main_v4) _ _ _ _ e1 (by omega), read1 t (V m c main_v6) _ _ _ _ (by omega) e2⟩,
    read2 t (V m c main_arg3) _ _ _ _ e1 e2, read3 t (V m c main_v7) _ _ _ (by show (i 0).val / 2048 = _; omega) e2⟩

theorem final4 (c : Dev nD) : (dats (F := Ideal) m 0 c).arrAt 4 cfg0.N = residA (V m c main_v4) (V m c main_v6) (V m c main_arg3) (V m c main_v7) := by
  refine (dats (F := Ideal) m 0 c).arrAt_eq_of_covers 4 _ (by decide +kernel) fun t hf y => ?_
  have h1 : t.val % 2 = 1 := by have := (flush0_4 t).mp hf; omega
  obtain ⟨u, hu⟩ : ∃ u : Fin cfg0.N, t.val = u.val + 1 := ⟨⟨t.val - 1, Nat.lt_of_le_of_lt (Nat.sub_le _ _) t.isLt⟩, by dsimp only; omega⟩
  have hc : (dats (F := Ideal) m 0 c).flushed 4 t y = (outsAt0 m c t.val t.isLt).1 y := by
    show (dats (F := Ideal) m 0 c).after 4 t y = _
    rw [after0_4]
  refine hc.trans ?_
  rw [(outs_at m c t u h1 hu).1]
  exact pay4 _ _ _ _ _ _ _ _ _ _ y _ (cells m c t u y _ h1 hu (emb4 t y).1 (emb4 t y).2)

theorem final5 (c : Dev nD) : (dats (F := Ideal) m 0 c).arrAt 5 cfg0.N = feedA (V m c main_v4) (V m c main_v6) := by
  refine (dats (F := Ideal) m 0 c).arrAt_eq_of_covers 5 _ (by decide +kernel) fun t hf y => ?_
  have h1 : t.val % 2 = 1 := by have := (flush0_5 t).mp hf; omega
  obtain ⟨u, hu⟩ : ∃ u : Fin cfg0.N, t.val = u.val + 1 := ⟨⟨t.val - 1, Nat.lt_of_le_of_lt (Nat.sub_le _ _) t.isLt⟩, by dsimp only; omega⟩
  have hc : (dats (F := Ideal) m 0 c).flushed 5 t y = (outsAt0 m c t.val t.isLt).2.1 y := by
    show (dats (F := Ideal) m 0 c).after 5 t y = _
    rw [after0_5]
  refine hc.trans ?_
  rw [(outs_at m c t u h1 hu).2]
  exact pay5 _ _ _ _ _ _ _ _ _ _ y _ (cells m c t u y _ h1 hu (emb5 t y).1 (emb5 t y).2)

theorem entry0 (c : Dev nD) : V m c main_v4 = truncf (F := Ideal) (φ := .f32) .bf16 (act (m (c.tc.loc main_arg0)) (m (c.tc.loc main_arg1))) bitsLt_bf16_f32 := by
  show StableHlo.after hostOps0 _ main_v4 = _
  after_results
  rfl

theorem entry1 (c : Dev nD) : V m c main_v6 = broadcastInDim S1x4096x1024 ![1, 2] bcast_S4096x1024_S1x4096x1024_1_2 (truncf (F := Ideal) (φ := .f32) .bf16 (m (c.tc.loc main_arg2)) bitsLt_bf16_f32) := by
  show StableHlo.after hostOps0 _ main_v6 = _
  after_results

theorem entry2 (c : Dev nD) : V m c main_arg3 = m (c.tc.loc main_arg3) := by
  show StableHlo.after hostOps0 _ main_arg3 = _
  after_results

theorem entry3 (c : Dev nD) : V m c main_v7 = broadcastInDim S2x1x1024 ![0, 2] bcast_S2x1024_S2x1x1024_0_2 (m (c.tc.loc main_arg4)) := by
  show StableHlo.after hostOps0 _ main_v7 = _
  after_results

theorem alg : Cert.algebraic_Kernel16Ideal_Reference16Ideal (hKernel16Ideal := Cert.Kernel16Ideal.Gen.facts) (hReference16Ideal := Cert.Reference16Ideal.Gen.facts) := by
  intro m g m' g' _ hag
  refine ⟨fun c => residA (V m c main_v4) (V m c main_v6) (V m c main_arg3) (V m c main_v7), fun c => feedA (V m c main_v4) (V m c main_v6), ?_, ?_⟩
  · exact (θ_run defs _ _).mono (fun r h c => ⟨(Cert.Kernel16Ideal.Value.post4 m r h c).trans (final4 m c), (Cert.Kernel16Ideal.Value.post5 m r h c).trans (final5 m c), Cert.Kernel16Ideal.Value.kept_main_arg0 m r h c, Cert.Kernel16Ideal.Value.kept_main_arg1 m r h c, Cert.Kernel16Ideal.Value.kept_main_arg2 m r h c, Cert.Kernel16Ideal.Value.kept_main_arg3 m r h c, Cert.Kernel16Ideal.Value.kept_main_arg4 m r h c⟩) (run_main m g)
  · refine (θ_run Cert.Reference16Ideal.defs _ _).mono (fun r h c => ⟨(h c).1.trans ?_, (h c).2.1.trans ?_, (h c).2.2⟩) (Cert.Reference16Ideal.Value.run m' g')
    all_goals rw [(hag c).1, (hag c).2.1, (hag c).2.2.1]; (try rw [(hag c).2.2.2.1, (hag c).2.2.2.2])
    · show _ = residA (V m c main_v4) (V m c main_v6) (V m c main_arg3) (V m c main_v7)
      refine Eq.trans (show _ = shapeCast Cert.Reference16Ideal.S4096x1024 (resid3 (m (c.tc.loc main_arg0)) (m (c.tc.loc main_arg3)) (m (c.tc.loc main_arg1)) (m (c.tc.loc main_arg2)) (m (c.tc.loc main_arg4))) Cert.Reference16Ideal.Gen.shapeCasts_S2x2048x1024_S4096x1024 from rfl) ?_
      rw [entry0, entry1, entry2, entry3]; funext i; idx_vars i
      rw [out_row, resid3_at]
      simp only [residA, resid, feed]
      generalize act (m (c.tc.loc main_arg0)) (m (c.tc.loc main_arg1)) = u
      pointwise []
    · show _ = feedA (V m c main_v4) (V m c main_v6)
      refine Eq.trans (show _ = truncf (F := Ideal) (φ := .f32) .bf16 (feedR (act (m (c.tc.loc main_arg0)) (m (c.tc.loc main_arg1))) (m (c.tc.loc main_arg2))) bitsLt_bf16_f32 from rfl) ?_
      rw [entry0, entry1]; funext i; idx_vars i
      simp only [feedA, feed]
      generalize act (m (c.tc.loc main_arg0)) (m (c.tc.loc main_arg1)) = u
      pointwise [feedR]

end Cert.Mm.K16

end
-- ==== Proof.Mm.K17.lean ====
module

public import proofs.«01_k».proof.Proof.Mm.Common
public import proofs.«01_k».proof.Proof.Gen.Kernel17Ideal.Value
public import proofs.«01_k».proof.Proof.Gen.Reference17Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The optimiser’s call on the modulation’s bias: the values of its call. -/

@[expose] public section

set_option maxRecDepth 16384

noncomputable section

namespace Cert.Mm.K17

open Cert.Kernel17Ideal Cert.Kernel17Ideal.Gen
open Idealize.ShloMosaic Idealize.ShloMosaic.TcCoe Idealize.SL.Sem
open Idealize.ShloMosaic.Pipeline (Dat)

theorem out_eq4 {F : FTy → Type} [FloatOps F] (x0 x1 x2 x3 : Vec F S4x1536 .f32) : out0_4 x0 x1 x2 x3 = k0_pay3 x0 x1 x2 x3 := by
  unfold out0_4
  rw [View.canon_unit_zero hz2]
  simp only [View.ld_unit_zero (S := S4x1536) hz2]

theorem pay4 (x0 x1 x2 x3 : Vec Ideal S4x1536 .f32) (y : S4x1536.Idx) : k0_pay3 x0 x1 x2 x3 y = delta (x0 y) (x1 y) (x2 y) (x3 y) := by
  idx_vars y
  pointwise [k0_pay1, k0_pay2, k0_pay3, newM, newV, delta]

theorem out_eq5 {F : FTy → Type} [FloatOps F] (x0 x1 x2 x3 : Vec F S4x1536 .f32) : out0_5 x0 x1 x2 x3 = k0_pay1 x1 x2 := by
  unfold out0_5
  rw [View.canon_unit_zero hz2]
  simp only [View.ld_unit_zero (S := S4x1536) hz2]

theorem pay5 (x1 x2 : Vec Ideal S4x1536 .f32) (y : S4x1536.Idx) : k0_pay1 x1 x2 y = newM (x1 y) (x2 y) := by
  idx_vars y
  pointwise [k0_pay1, k0_pay2, k0_pay3, newM]

theorem out_eq6 {F : FTy → Type} [FloatOps F] (x0 x1 x2 x3 : Vec F S4x1536 .f32) : out0_6 x0 x1 x2 x3 = k0_pay2 x1 x3 := by
  unfold out0_6
  rw [View.canon_unit_zero hz2]
  simp only [View.ld_unit_zero (S := S4x1536) hz2]

theorem pay6 (x1 x3 : Vec Ideal S4x1536 .f32) (y : S4x1536.Idx) : k0_pay2 x1 x3 y = newV (x1 y) (x3 y) := by
  idx_vars y
  pointwise [k0_pay1, k0_pay2, k0_pay3, newV]

variable (m : (ℓ : Loc nD τ sig) → Buf (Elt Ideal) ℓ)

theorem final4 (c : Dev nD) : (dats (F := Ideal) m 0 c).arrAt 4 cfg0.N = fun i => delta (V m c main_arg0 i) (V m c main_arg1 i) (V m c main_arg2 i) (V m c main_arg3 i) := by
  refine (dats (F := Ideal) m 0 c).arrAt_eq_of_covers 4 _ (by decide +kernel) fun t hf y => ?_
  have hc : (dats (F := Ideal) m 0 c).flushed 4 t y = out0_4 (iblk m c 0 t) (iblk m c 1 t) (iblk m c 2 t) (iblk m c 3 t) y := by
    show (dats (F := Ideal) m 0 c).after 4 t y = _
    rw [after0_4]
  exact hc.trans ((congrFun (out_eq4 _ _ _ _) y).trans (pay4 _ _ _ _ y))

theorem final5 (c : Dev nD) : (dats (F := Ideal) m 0 c).arrAt 5 cfg0.N = fun i => newM (V m c main_arg1 i) (V m c main_arg2 i) := by
  refine (dats (F := Ideal) m 0 c).arrAt_eq_of_covers 5 _ (by decide +kernel) fun t hf y => ?_
  have hc : (dats (F := Ideal) m 0 c).flushed 5 t y = out0_5 (iblk m c 0 t) (iblk m c 1 t) (iblk m c 2 t) (iblk m c 3 t) y := by
    show (dats (F := Ideal) m 0 c).after 5 t y = _
    rw [after0_5]
  exact hc.trans ((congrFun (out_eq5 _ _ _ _) y).trans (pay5 _ _ y))

theorem final6 (c : Dev nD) : (dats (F := Ideal) m 0 c).arrAt 6 cfg0.N = fun i => newV (V m c main_arg1 i) (V m c main_arg3 i) := by
  refine (dats (F := Ideal) m 0 c).arrAt_eq_of_covers 6 _ (by decide +kernel) fun t hf y => ?_
  have hc : (dats (F := Ideal) m 0 c).flushed 6 t y = out0_6 (iblk m c 0 t) (iblk m c 1 t) (iblk m c 2 t) (iblk m c 3 t) y := by
    show (dats (F := Ideal) m 0 c).after 6 t y = _
    rw [after0_6]
  exact hc.trans ((congrFun (out_eq6 _ _ _ _) y).trans (pay6 _ _ y))

theorem entry0 (c : Dev nD) : V m c main_arg0 = m (c.tc.loc main_arg0) := by
  rfl

theorem entry1 (c : Dev nD) : V m c main_arg1 = m (c.tc.loc main_arg1) := by
  rfl

theorem entry2 (c : Dev nD) : V m c main_arg2 = m (c.tc.loc main_arg2) := by
  rfl

theorem entry3 (c : Dev nD) : V m c main_arg3 = m (c.tc.loc main_arg3) := by
  rfl

theorem alg : Cert.algebraic_Kernel17Ideal_Reference17Ideal (hKernel17Ideal := Cert.Kernel17Ideal.Gen.facts) (hReference17Ideal := Cert.Reference17Ideal.Gen.facts) := by
  intro m g m' g' _ hag
  refine ⟨fun c i => delta (V m c main_arg0 i) (V m c main_arg1 i) (V m c main_arg2 i) (V m c main_arg3 i), fun c i => newM (V m c main_arg1 i) (V m c main_arg2 i), fun c i => newV (V m c main_arg1 i) (V m c main_arg3 i), ?_, ?_⟩
  · exact (θ_run defs _ _).mono (fun r h c => ⟨(Cert.Kernel17Ideal.Value.post4 m r h c).trans (final4 m c), (Cert.Kernel17Ideal.Value.post5 m r h c).trans (final5 m c), (Cert.Kernel17Ideal.Value.post6 m r h c).trans (final6 m c), Cert.Kernel17Ideal.Value.kept_main_arg0 m r h c, Cert.Kernel17Ideal.Value.kept_main_arg1 m r h c, Cert.Kernel17Ideal.Value.kept_main_arg2 m r h c, Cert.Kernel17Ideal.Value.kept_main_arg3 m r h c⟩) (run_main m g)
  · refine (θ_run Cert.Reference17Ideal.defs _ _).mono (fun r h c => ⟨(h c).1.trans ?_, (h c).2.1.trans ?_, (h c).2.2.1.trans ?_, (h c).2.2.2⟩) (Cert.Reference17Ideal.Value.run m' g')
    · rw [(hag c).1, (hag c).2.1, (hag c).2.2.1, (hag c).2.2.2]
      show _ = fun i => delta (V m c main_arg0 i) (V m c main_arg1 i) (V m c main_arg2 i) (V m c main_arg3 i)
      rw [entry0, entry1, entry2, entry3]
      funext i
      idx_vars i
      pointwise [newM, newV, delta]
    · rw [(hag c).2.1, (hag c).2.2.1]
      show _ = fun i => newM (V m c main_arg1 i) (V m c main_arg2 i)
      rw [entry1, entry2]
      funext i
      idx_vars i
      pointwise [newM]
    · rw [(hag c).2.1, (hag c).2.2.2]
      show _ = fun i => newV (V m c main_arg1 i) (V m c main_arg3 i)
      rw [entry1, entry3]
      funext i
      idx_vars i
      pointwise [newV]

end Cert.Mm.K17

end
-- ==== Proof.Mm.K18.lean ====
module

public import proofs.«01_k».proof.Proof.Mm.Common
public import proofs.«01_k».proof.Proof.Gen.Kernel18Ideal.Value
public import proofs.«01_k».proof.Proof.Gen.Reference18Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The optimiser’s call on the latent query’s down projection: the values of its call. -/

@[expose] public section

set_option maxRecDepth 16384

noncomputable section

namespace Cert.Mm.K18

open Cert.Kernel18Ideal Cert.Kernel18Ideal.Gen
open Idealize.ShloMosaic Idealize.ShloMosaic.TcCoe Idealize.SL.Sem
open Idealize.ShloMosaic.Pipeline (Dat)

theorem out_eq4 {F : FTy → Type} [FloatOps F] (x0 x1 x2 x3 : Vec F S512x256 .f32) : out0_4 x0 x1 x2 x3 = k0_pay4 x0 x1 x2 x3 := by
  unfold out0_4
  rw [View.canon_unit_zero hz2]
  simp only [View.ld_unit_zero (S := S512x256) hz2]

theorem pay4 (x0 x1 x2 x3 : Vec Ideal S512x256 .f32) (y : S512x256.Idx) : k0_pay4 x0 x1 x2 x3 y = delta (x0 y) (x1 y) (x2 y) (x3 y) := by
  idx_vars y
  pointwise [k0_pay1, k0_pay2, k0_pay3, k0_pay4, newM, newV, delta]

theorem out_eq5 {F : FTy → Type} [FloatOps F] (x0 x1 x2 x3 : Vec F S512x256 .f32) : out0_5 x0 x1 x2 x3 = k0_pay2 x1 x2 := by
  unfold out0_5
  rw [View.canon_unit_zero hz2]
  simp only [View.ld_unit_zero (S := S512x256) hz2]

theorem pay5 (x1 x2 : Vec Ideal S512x256 .f32) (y : S512x256.Idx) : k0_pay2 x1 x2 y = newM (x1 y) (x2 y) := by
  idx_vars y
  pointwise [k0_pay1, k0_pay2, k0_pay3, k0_pay4, newM]

theorem out_eq6 {F : FTy → Type} [FloatOps F] (x0 x1 x2 x3 : Vec F S512x256 .f32) : out0_6 x0 x1 x2 x3 = k0_pay3 x1 x3 := by
  unfold out0_6
  rw [View.canon_unit_zero hz2]
  simp only [View.ld_unit_zero (S := S512x256) hz2]

theorem pay6 (x1 x3 : Vec Ideal S512x256 .f32) (y : S512x256.Idx) : k0_pay3 x1 x3 y = newV (x1 y) (x3 y) := by
  idx_vars y
  pointwise [k0_pay1, k0_pay2, k0_pay3, k0_pay4, newV]

variable (m : (ℓ : Loc nD τ sig) → Buf (Elt Ideal) ℓ)

theorem final4 (c : Dev nD) : (dats (F := Ideal) m 0 c).arrAt 4 cfg0.N = fun i => delta (V m c main_v0 i) (V m c main_v1 i) (V m c main_v2 i) (V m c main_v3 i) := by
  refine (dats (F := Ideal) m 0 c).arrAt_eq_of_covers 4 _ (by decide +kernel) fun t hf y => ?_
  have hc : (dats (F := Ideal) m 0 c).flushed 4 t y = out0_4 (iblk m c 0 t) (iblk m c 1 t) (iblk m c 2 t) (iblk m c 3 t) y := by
    show (dats (F := Ideal) m 0 c).after 4 t y = _
    rw [after0_4]
  exact hc.trans ((congrFun (out_eq4 _ _ _ _) y).trans (pay4 _ _ _ _ y))

theorem final5 (c : Dev nD) : (dats (F := Ideal) m 0 c).arrAt 5 cfg0.N = fun i => newM (V m c main_v1 i) (V m c main_v2 i) := by
  refine (dats (F := Ideal) m 0 c).arrAt_eq_of_covers 5 _ (by decide +kernel) fun t hf y => ?_
  have hc : (dats (F := Ideal) m 0 c).flushed 5 t y = out0_5 (iblk m c 0 t) (iblk m c 1 t) (iblk m c 2 t) (iblk m c 3 t) y := by
    show (dats (F := Ideal) m 0 c).after 5 t y = _
    rw [after0_5]
  exact hc.trans ((congrFun (out_eq5 _ _ _ _) y).trans (pay5 _ _ y))

theorem final6 (c : Dev nD) : (dats (F := Ideal) m 0 c).arrAt 6 cfg0.N = fun i => newV (V m c main_v1 i) (V m c main_v3 i) := by
  refine (dats (F := Ideal) m 0 c).arrAt_eq_of_covers 6 _ (by decide +kernel) fun t hf y => ?_
  have hc : (dats (F := Ideal) m 0 c).flushed 6 t y = out0_6 (iblk m c 0 t) (iblk m c 1 t) (iblk m c 2 t) (iblk m c 3 t) y := by
    show (dats (F := Ideal) m 0 c).after 6 t y = _
    rw [after0_6]
  exact hc.trans ((congrFun (out_eq6 _ _ _ _) y).trans (pay6 _ _ y))

theorem entry0 (c : Dev nD) : V m c main_v0 = shapeCast S512x256 (m (c.tc.loc main_arg0)) shapeCasts_S2x256x256_S512x256 := by
  show StableHlo.after hostOps0 _ _ = _
  after_results
  rfl

theorem entry1 (c : Dev nD) : V m c main_v1 = shapeCast S512x256 (m (c.tc.loc main_arg1)) shapeCasts_S2x256x256_S512x256 := by
  show StableHlo.after hostOps0 _ _ = _
  after_results
  rfl

theorem entry2 (c : Dev nD) : V m c main_v2 = shapeCast S512x256 (m (c.tc.loc main_arg2)) shapeCasts_S2x256x256_S512x256 := by
  show StableHlo.after hostOps0 _ _ = _
  after_results
  rfl

theorem entry3 (c : Dev nD) : V m c main_v3 = shapeCast S512x256 (m (c.tc.loc main_arg3)) shapeCasts_S2x256x256_S512x256 := by
  show StableHlo.after hostOps0 _ _ = _
  after_results
  rfl

theorem alg : Cert.algebraic_Kernel18Ideal_Reference18Ideal (hKernel18Ideal := Cert.Kernel18Ideal.Gen.facts) (hReference18Ideal := Cert.Reference18Ideal.Gen.facts) := by
  intro m g m' g' _ hag
  refine ⟨fun c i => delta (V m c main_v0 i) (V m c main_v1 i) (V m c main_v2 i) (V m c main_v3 i), fun c i => newM (V m c main_v1 i) (V m c main_v2 i), fun c i => newV (V m c main_v1 i) (V m c main_v3 i), ?_, ?_⟩
  · exact (θ_run defs _ _).mono (fun r h c => ⟨(Cert.Kernel18Ideal.Value.post4 m r h c).trans (final4 m c), (Cert.Kernel18Ideal.Value.post5 m r h c).trans (final5 m c), (Cert.Kernel18Ideal.Value.post6 m r h c).trans (final6 m c), Cert.Kernel18Ideal.Value.kept_main_arg0 m r h c, Cert.Kernel18Ideal.Value.kept_main_arg1 m r h c, Cert.Kernel18Ideal.Value.kept_main_arg2 m r h c, Cert.Kernel18Ideal.Value.kept_main_arg3 m r h c⟩) (run_main m g)
  · refine (θ_run Cert.Reference18Ideal.defs _ _).mono (fun r h c => ⟨(h c).1.trans ?_, (h c).2.1.trans ?_, (h c).2.2.1.trans ?_, (h c).2.2.2⟩) (Cert.Reference18Ideal.Value.run m' g')
    · rw [(hag c).1, (hag c).2.1, (hag c).2.2.1, (hag c).2.2.2]
      show _ = fun i => delta (V m c main_v0 i) (V m c main_v1 i) (V m c main_v2 i) (V m c main_v3 i)
      rw [entry0, entry1, entry2, entry3]
      refine (congrArg (fun z => shapeCast S512x256 z shapeCasts_S2x256x256_S512x256) (?_ : _ = fun j => delta (m (c.tc.loc main_arg0) j) (m (c.tc.loc main_arg1) j) (m (c.tc.loc main_arg2) j) (m (c.tc.loc main_arg3) j))).trans rfl
      funext i
      idx_vars i
      pointwise [newM, newV, delta]
    · rw [(hag c).2.1, (hag c).2.2.1]
      show _ = fun i => newM (V m c main_v1 i) (V m c main_v2 i)
      rw [entry1, entry2]
      refine (congrArg (fun z => shapeCast S512x256 z shapeCasts_S2x256x256_S512x256) (?_ : _ = fun j => newM (m (c.tc.loc main_arg1) j) (m (c.tc.loc main_arg2) j))).trans rfl
      funext i
      idx_vars i
      pointwise [newM]
    · rw [(hag c).2.1, (hag c).2.2.2]
      show _ = fun i => newV (V m c main_v1 i) (V m c main_v3 i)
      rw [entry1, entry3]
      refine (congrArg (fun z => shapeCast S512x256 z shapeCasts_S2x256x256_S512x256) (?_ : _ = fun j => newV (m (c.tc.loc main_arg1) j) (m (c.tc.loc main_arg3) j))).trans rfl
      funext i
      idx_vars i
      pointwise [newV]

end Cert.Mm.K18

end
-- ==== Proof.Mm.K19.lean ====
module

public import proofs.«01_k».proof.Proof.Mm.Common
public import proofs.«01_k».proof.Proof.Gen.Kernel19Ideal.Value
public import proofs.«01_k».proof.Proof.Gen.Reference19Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The optimiser’s call on the latent query’s up projection: the values of its call. -/

@[expose] public section

set_option maxRecDepth 16384

noncomputable section

namespace Cert.Mm.K19

open Cert.Kernel19Ideal Cert.Kernel19Ideal.Gen
open Idealize.ShloMosaic Idealize.ShloMosaic.TcCoe Idealize.SL.Sem
open Idealize.ShloMosaic.Pipeline (Dat)

theorem out_eq4 {F : FTy → Type} [FloatOps F] (x0 x1 x2 x3 : Vec F S512x384 .f32) : out0_4 x0 x1 x2 x3 = k0_pay4 x0 x1 x2 x3 := by
  unfold out0_4
  rw [View.canon_unit_zero hz2]
  simp only [View.ld_unit_zero (S := S512x384) hz2]

theorem pay4 (x0 x1 x2 x3 : Vec Ideal S512x384 .f32) (y : S512x384.Idx) : k0_pay4 x0 x1 x2 x3 y = delta (x0 y) (x1 y) (x2 y) (x3 y) := by
  idx_vars y
  pointwise [k0_pay1, k0_pay2, k0_pay3, k0_pay4, newM, newV, delta]

theorem out_eq5 {F : FTy → Type} [FloatOps F] (x0 x1 x2 x3 : Vec F S512x384 .f32) : out0_5 x0 x1 x2 x3 = k0_pay2 x1 x2 := by
  unfold out0_5
  rw [View.canon_unit_zero hz2]
  simp only [View.ld_unit_zero (S := S512x384) hz2]

theorem pay5 (x1 x2 : Vec Ideal S512x384 .f32) (y : S512x384.Idx) : k0_pay2 x1 x2 y = newM (x1 y) (x2 y) := by
  idx_vars y
  pointwise [k0_pay1, k0_pay2, k0_pay3, k0_pay4, newM]

theorem out_eq6 {F : FTy → Type} [FloatOps F] (x0 x1 x2 x3 : Vec F S512x384 .f32) : out0_6 x0 x1 x2 x3 = k0_pay3 x1 x3 := by
  unfold out0_6
  rw [View.canon_unit_zero hz2]
  simp only [View.ld_unit_zero (S := S512x384) hz2]

theorem pay6 (x1 x3 : Vec Ideal S512x384 .f32) (y : S512x384.Idx) : k0_pay3 x1 x3 y = newV (x1 y) (x3 y) := by
  idx_vars y
  pointwise [k0_pay1, k0_pay2, k0_pay3, k0_pay4, newV]

variable (m : (ℓ : Loc nD τ sig) → Buf (Elt Ideal) ℓ)

theorem final4 (c : Dev nD) : (dats (F := Ideal) m 0 c).arrAt 4 cfg0.N = fun i => delta (V m c main_v0 i) (V m c main_v1 i) (V m c main_v2 i) (V m c main_v3 i) := by
  refine (dats (F := Ideal) m 0 c).arrAt_eq_of_covers 4 _ (by decide +kernel) fun t hf y => ?_
  have hc : (dats (F := Ideal) m 0 c).flushed 4 t y = out0_4 (iblk m c 0 t) (iblk m c 1 t) (iblk m c 2 t) (iblk m c 3 t) y := by
    show (dats (F := Ideal) m 0 c).after 4 t y = _
    rw [after0_4]
  exact hc.trans ((congrFun (out_eq4 _ _ _ _) y).trans (pay4 _ _ _ _ y))

theorem final5 (c : Dev nD) : (dats (F := Ideal) m 0 c).arrAt 5 cfg0.N = fun i => newM (V m c main_v1 i) (V m c main_v2 i) := by
  refine (dats (F := Ideal) m 0 c).arrAt_eq_of_covers 5 _ (by decide +kernel) fun t hf y => ?_
  have hc : (dats (F := Ideal) m 0 c).flushed 5 t y = out0_5 (iblk m c 0 t) (iblk m c 1 t) (iblk m c 2 t) (iblk m c 3 t) y := by
    show (dats (F := Ideal) m 0 c).after 5 t y = _
    rw [after0_5]
  exact hc.trans ((congrFun (out_eq5 _ _ _ _) y).trans (pay5 _ _ y))

theorem final6 (c : Dev nD) : (dats (F := Ideal) m 0 c).arrAt 6 cfg0.N = fun i => newV (V m c main_v1 i) (V m c main_v3 i) := by
  refine (dats (F := Ideal) m 0 c).arrAt_eq_of_covers 6 _ (by decide +kernel) fun t hf y => ?_
  have hc : (dats (F := Ideal) m 0 c).flushed 6 t y = out0_6 (iblk m c 0 t) (iblk m c 1 t) (iblk m c 2 t) (iblk m c 3 t) y := by
    show (dats (F := Ideal) m 0 c).after 6 t y = _
    rw [after0_6]
  exact hc.trans ((congrFun (out_eq6 _ _ _ _) y).trans (pay6 _ _ y))

theorem entry0 (c : Dev nD) : V m c main_v0 = shapeCast S512x384 (m (c.tc.loc main_arg0)) shapeCasts_S2x256x384_S512x384 := by
  show StableHlo.after hostOps0 _ _ = _
  after_results
  rfl

theorem entry1 (c : Dev nD) : V m c main_v1 = shapeCast S512x384 (m (c.tc.loc main_arg1)) shapeCasts_S2x256x384_S512x384 := by
  show StableHlo.after hostOps0 _ _ = _
  after_results
  rfl

theorem entry2 (c : Dev nD) : V m c main_v2 = shapeCast S512x384 (m (c.tc.loc main_arg2)) shapeCasts_S2x256x384_S512x384 := by
  show StableHlo.after hostOps0 _ _ = _
  after_results
  rfl

theorem entry3 (c : Dev nD) : V m c main_v3 = shapeCast S512x384 (m (c.tc.loc main_arg3)) shapeCasts_S2x256x384_S512x384 := by
  show StableHlo.after hostOps0 _ _ = _
  after_results
  rfl

theorem alg : Cert.algebraic_Kernel19Ideal_Reference19Ideal (hKernel19Ideal := Cert.Kernel19Ideal.Gen.facts) (hReference19Ideal := Cert.Reference19Ideal.Gen.facts) := by
  intro m g m' g' _ hag
  refine ⟨fun c i => delta (V m c main_v0 i) (V m c main_v1 i) (V m c main_v2 i) (V m c main_v3 i), fun c i => newM (V m c main_v1 i) (V m c main_v2 i), fun c i => newV (V m c main_v1 i) (V m c main_v3 i), ?_, ?_⟩
  · exact (θ_run defs _ _).mono (fun r h c => ⟨(Cert.Kernel19Ideal.Value.post4 m r h c).trans (final4 m c), (Cert.Kernel19Ideal.Value.post5 m r h c).trans (final5 m c), (Cert.Kernel19Ideal.Value.post6 m r h c).trans (final6 m c), Cert.Kernel19Ideal.Value.kept_main_arg0 m r h c, Cert.Kernel19Ideal.Value.kept_main_arg1 m r h c, Cert.Kernel19Ideal.Value.kept_main_arg2 m r h c, Cert.Kernel19Ideal.Value.kept_main_arg3 m r h c⟩) (run_main m g)
  · refine (θ_run Cert.Reference19Ideal.defs _ _).mono (fun r h c => ⟨(h c).1.trans ?_, (h c).2.1.trans ?_, (h c).2.2.1.trans ?_, (h c).2.2.2⟩) (Cert.Reference19Ideal.Value.run m' g')
    · rw [(hag c).1, (hag c).2.1, (hag c).2.2.1, (hag c).2.2.2]
      show _ = fun i => delta (V m c main_v0 i) (V m c main_v1 i) (V m c main_v2 i) (V m c main_v3 i)
      rw [entry0, entry1, entry2, entry3]
      refine (congrArg (fun z => shapeCast S512x384 z shapeCasts_S2x256x384_S512x384) (?_ : _ = fun j => delta (m (c.tc.loc main_arg0) j) (m (c.tc.loc main_arg1) j) (m (c.tc.loc main_arg2) j) (m (c.tc.loc main_arg3) j))).trans rfl
      funext i
      idx_vars i
      pointwise [newM, newV, delta]
    · rw [(hag c).2.1, (hag c).2.2.1]
      show _ = fun i => newM (V m c main_v1 i) (V m c main_v2 i)
      rw [entry1, entry2]
      refine (congrArg (fun z => shapeCast S512x384 z shapeCasts_S2x256x384_S512x384) (?_ : _ = fun j => newM (m (c.tc.loc main_arg1) j) (m (c.tc.loc main_arg2) j))).trans rfl
      funext i
      idx_vars i
      pointwise [newM]
    · rw [(hag c).2.1, (hag c).2.2.2]
      show _ = fun i => newV (V m c main_v1 i) (V m c main_v3 i)
      rw [entry1, entry3]
      refine (congrArg (fun z => shapeCast S512x384 z shapeCasts_S2x256x384_S512x384) (?_ : _ = fun j => newV (m (c.tc.loc main_arg1) j) (m (c.tc.loc main_arg3) j))).trans rfl
      funext i
      idx_vars i
      pointwise [newV]

end Cert.Mm.K19

end
-- ==== Proof.Mm.K20.lean ====
module

public import proofs.«01_k».proof.Proof.Mm.Common
public import proofs.«01_k».proof.Proof.Gen.Kernel20Ideal.Value
public import proofs.«01_k».proof.Proof.Gen.Reference20Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The optimiser’s call on the latent key’s and value’s down projection: the values of its call. -/

@[expose] public section

set_option maxRecDepth 16384

noncomputable section

namespace Cert.Mm.K20

open Cert.Kernel20Ideal Cert.Kernel20Ideal.Gen
open Idealize.ShloMosaic Idealize.ShloMosaic.TcCoe Idealize.SL.Sem
open Idealize.ShloMosaic.Pipeline (Dat)

theorem out_eq4 {F : FTy → Type} [FloatOps F] (x0 x1 x2 x3 : Vec F S512x160 .f32) : out0_4 x0 x1 x2 x3 = k0_pay4 x0 x1 x2 x3 := by
  unfold out0_4
  rw [View.canon_unit_zero hz2]
  simp only [View.ld_unit_zero (S := S512x160) hz2]

theorem pay4 (x0 x1 x2 x3 : Vec Ideal S512x160 .f32) (y : S512x160.Idx) : k0_pay4 x0 x1 x2 x3 y = delta (x0 y) (x1 y) (x2 y) (x3 y) := by
  idx_vars y
  pointwise [k0_pay1, k0_pay2, k0_pay3, k0_pay4, newM, newV, delta]

theorem out_eq5 {F : FTy → Type} [FloatOps F] (x0 x1 x2 x3 : Vec F S512x160 .f32) : out0_5 x0 x1 x2 x3 = k0_pay2 x1 x2 := by
  unfold out0_5
  rw [View.canon_unit_zero hz2]
  simp only [View.ld_unit_zero (S := S512x160) hz2]

theorem pay5 (x1 x2 : Vec Ideal S512x160 .f32) (y : S512x160.Idx) : k0_pay2 x1 x2 y = newM (x1 y) (x2 y) := by
  idx_vars y
  pointwise [k0_pay1, k0_pay2, k0_pay3, k0_pay4, newM]

theorem out_eq6 {F : FTy → Type} [FloatOps F] (x0 x1 x2 x3 : Vec F S512x160 .f32) : out0_6 x0 x1 x2 x3 = k0_pay3 x1 x3 := by
  unfold out0_6
  rw [View.canon_unit_zero hz2]
  simp only [View.ld_unit_zero (S := S512x160) hz2]

theorem pay6 (x1 x3 : Vec Ideal S512x160 .f32) (y : S512x160.Idx) : k0_pay3 x1 x3 y = newV (x1 y) (x3 y) := by
  idx_vars y
  pointwise [k0_pay1, k0_pay2, k0_pay3, k0_pay4, newV]

variable (m : (ℓ : Loc nD τ sig) → Buf (Elt Ideal) ℓ)

theorem final4 (c : Dev nD) : (dats (F := Ideal) m 0 c).arrAt 4 cfg0.N = fun i => delta (V m c main_v0 i) (V m c main_v1 i) (V m c main_v2 i) (V m c main_v3 i) := by
  refine (dats (F := Ideal) m 0 c).arrAt_eq_of_covers 4 _ (by decide +kernel) fun t hf y => ?_
  have hc : (dats (F := Ideal) m 0 c).flushed 4 t y = out0_4 (iblk m c 0 t) (iblk m c 1 t) (iblk m c 2 t) (iblk m c 3 t) y := by
    show (dats (F := Ideal) m 0 c).after 4 t y = _
    rw [after0_4]
  exact hc.trans ((congrFun (out_eq4 _ _ _ _) y).trans (pay4 _ _ _ _ y))

theorem final5 (c : Dev nD) : (dats (F := Ideal) m 0 c).arrAt 5 cfg0.N = fun i => newM (V m c main_v1 i) (V m c main_v2 i) := by
  refine (dats (F := Ideal) m 0 c).arrAt_eq_of_covers 5 _ (by decide +kernel) fun t hf y => ?_
  have hc : (dats (F := Ideal) m 0 c).flushed 5 t y = out0_5 (iblk m c 0 t) (iblk m c 1 t) (iblk m c 2 t) (iblk m c 3 t) y := by
    show (dats (F := Ideal) m 0 c).after 5 t y = _
    rw [after0_5]
  exact hc.trans ((congrFun (out_eq5 _ _ _ _) y).trans (pay5 _ _ y))

theorem final6 (c : Dev nD) : (dats (F := Ideal) m 0 c).arrAt 6 cfg0.N = fun i => newV (V m c main_v1 i) (V m c main_v3 i) := by
  refine (dats (F := Ideal) m 0 c).arrAt_eq_of_covers 6 _ (by decide +kernel) fun t hf y => ?_
  have hc : (dats (F := Ideal) m 0 c).flushed 6 t y = out0_6 (iblk m c 0 t) (iblk m c 1 t) (iblk m c 2 t) (iblk m c 3 t) y := by
    show (dats (F := Ideal) m 0 c).after 6 t y = _
    rw [after0_6]
  exact hc.trans ((congrFun (out_eq6 _ _ _ _) y).trans (pay6 _ _ y))

theorem entry0 (c : Dev nD) : V m c main_v0 = shapeCast S512x160 (m (c.tc.loc main_arg0)) shapeCasts_S2x256x160_S512x160 := by
  show StableHlo.after hostOps0 _ _ = _
  after_results
  rfl

theorem entry1 (c : Dev nD) : V m c main_v1 = shapeCast S512x160 (m (c.tc.loc main_arg1)) shapeCasts_S2x256x160_S512x160 := by
  show StableHlo.after hostOps0 _ _ = _
  after_results
  rfl

theorem entry2 (c : Dev nD) : V m c main_v2 = shapeCast S512x160 (m (c.tc.loc main_arg2)) shapeCasts_S2x256x160_S512x160 := by
  show StableHlo.after hostOps0 _ _ = _
  after_results
  rfl

theorem entry3 (c : Dev nD) : V m c main_v3 = shapeCast S512x160 (m (c.tc.loc main_arg3)) shapeCasts_S2x256x160_S512x160 := by
  show StableHlo.after hostOps0 _ _ = _
  after_results
  rfl

theorem alg : Cert.algebraic_Kernel20Ideal_Reference20Ideal (hKernel20Ideal := Cert.Kernel20Ideal.Gen.facts) (hReference20Ideal := Cert.Reference20Ideal.Gen.facts) := by
  intro m g m' g' _ hag
  refine ⟨fun c i => delta (V m c main_v0 i) (V m c main_v1 i) (V m c main_v2 i) (V m c main_v3 i), fun c i => newM (V m c main_v1 i) (V m c main_v2 i), fun c i => newV (V m c main_v1 i) (V m c main_v3 i), ?_, ?_⟩
  · exact (θ_run defs _ _).mono (fun r h c => ⟨(Cert.Kernel20Ideal.Value.post4 m r h c).trans (final4 m c), (Cert.Kernel20Ideal.Value.post5 m r h c).trans (final5 m c), (Cert.Kernel20Ideal.Value.post6 m r h c).trans (final6 m c), Cert.Kernel20Ideal.Value.kept_main_arg0 m r h c, Cert.Kernel20Ideal.Value.kept_main_arg1 m r h c, Cert.Kernel20Ideal.Value.kept_main_arg2 m r h c, Cert.Kernel20Ideal.Value.kept_main_arg3 m r h c⟩) (run_main m g)
  · refine (θ_run Cert.Reference20Ideal.defs _ _).mono (fun r h c => ⟨(h c).1.trans ?_, (h c).2.1.trans ?_, (h c).2.2.1.trans ?_, (h c).2.2.2⟩) (Cert.Reference20Ideal.Value.run m' g')
    · rw [(hag c).1, (hag c).2.1, (hag c).2.2.1, (hag c).2.2.2]
      show _ = fun i => delta (V m c main_v0 i) (V m c main_v1 i) (V m c main_v2 i) (V m c main_v3 i)
      rw [entry0, entry1, entry2, entry3]
      refine (congrArg (fun z => shapeCast S512x160 z shapeCasts_S2x256x160_S512x160) (?_ : _ = fun j => delta (m (c.tc.loc main_arg0) j) (m (c.tc.loc main_arg1) j) (m (c.tc.loc main_arg2) j) (m (c.tc.loc main_arg3) j))).trans rfl
      funext i
      idx_vars i
      pointwise [newM, newV, delta]
    · rw [(hag c).2.1, (hag c).2.2.1]
      show _ = fun i => newM (V m c main_v1 i) (V m c main_v2 i)
      rw [entry1, entry2]
      refine (congrArg (fun z => shapeCast S512x160 z shapeCasts_S2x256x160_S512x160) (?_ : _ = fun j => newM (m (c.tc.loc main_arg1) j) (m (c.tc.loc main_arg2) j))).trans rfl
      funext i
      idx_vars i
      pointwise [newM]
    · rw [(hag c).2.1, (hag c).2.2.2]
      show _ = fun i => newV (V m c main_v1 i) (V m c main_v3 i)
      rw [entry1, entry3]
      refine (congrArg (fun z => shapeCast S512x160 z shapeCasts_S2x256x160_S512x160) (?_ : _ = fun j => newV (m (c.tc.loc main_arg1) j) (m (c.tc.loc main_arg3) j))).trans rfl
      funext i
      idx_vars i
      pointwise [newV]

end Cert.Mm.K20

end
-- ==== Proof.Mm.K21.lean ====
module

public import proofs.«01_k».proof.Proof.Mm.Common
public import proofs.«01_k».proof.Proof.Gen.Kernel21Ideal.Value
public import proofs.«01_k».proof.Proof.Gen.Reference21Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The optimiser’s call on the latent key’s and value’s up projection: the values of its call. -/

@[expose] public section

set_option maxRecDepth 16384

noncomputable section

namespace Cert.Mm.K21

open Cert.Kernel21Ideal Cert.Kernel21Ideal.Gen
open Idealize.ShloMosaic Idealize.ShloMosaic.TcCoe Idealize.SL.Sem
open Idealize.ShloMosaic.Pipeline (Dat)

theorem out_eq4 {F : FTy → Type} [FloatOps F] (x0 x1 x2 x3 : Vec F S256x512 .f32) : out0_4 x0 x1 x2 x3 = k0_pay4 x0 x1 x2 x3 := by
  unfold out0_4
  rw [View.canon_unit_zero hz2]
  simp only [View.ld_unit_zero (S := S256x512) hz2]

theorem pay4 (x0 x1 x2 x3 : Vec Ideal S256x512 .f32) (y : S256x512.Idx) : k0_pay4 x0 x1 x2 x3 y = delta (x0 y) (x1 y) (x2 y) (x3 y) := by
  idx_vars y
  pointwise [k0_pay1, k0_pay2, k0_pay3, k0_pay4, newM, newV, delta]

theorem out_eq5 {F : FTy → Type} [FloatOps F] (x0 x1 x2 x3 : Vec F S256x512 .f32) : out0_5 x0 x1 x2 x3 = k0_pay2 x1 x2 := by
  unfold out0_5
  rw [View.canon_unit_zero hz2]
  simp only [View.ld_unit_zero (S := S256x512) hz2]

theorem pay5 (x1 x2 : Vec Ideal S256x512 .f32) (y : S256x512.Idx) : k0_pay2 x1 x2 y = newM (x1 y) (x2 y) := by
  idx_vars y
  pointwise [k0_pay1, k0_pay2, k0_pay3, k0_pay4, newM]

theorem out_eq6 {F : FTy → Type} [FloatOps F] (x0 x1 x2 x3 : Vec F S256x512 .f32) : out0_6 x0 x1 x2 x3 = k0_pay3 x1 x3 := by
  unfold out0_6
  rw [View.canon_unit_zero hz2]
  simp only [View.ld_unit_zero (S := S256x512) hz2]

theorem pay6 (x1 x3 : Vec Ideal S256x512 .f32) (y : S256x512.Idx) : k0_pay3 x1 x3 y = newV (x1 y) (x3 y) := by
  idx_vars y
  pointwise [k0_pay1, k0_pay2, k0_pay3, k0_pay4, newV]

variable (m : (ℓ : Loc nD τ sig) → Buf (Elt Ideal) ℓ)

theorem final4 (c : Dev nD) : (dats (F := Ideal) m 0 c).arrAt 4 cfg0.N = fun i => delta (V m c main_v0 i) (V m c main_v1 i) (V m c main_v2 i) (V m c main_v3 i) := by
  refine (dats (F := Ideal) m 0 c).arrAt_eq_of_covers 4 _ (by decide +kernel) fun t hf y => ?_
  have hc : (dats (F := Ideal) m 0 c).flushed 4 t y = out0_4 (iblk m c 0 t) (iblk m c 1 t) (iblk m c 2 t) (iblk m c 3 t) y := by
    show (dats (F := Ideal) m 0 c).after 4 t y = _
    rw [after0_4]
  exact hc.trans ((congrFun (out_eq4 _ _ _ _) y).trans (pay4 _ _ _ _ y))

theorem final5 (c : Dev nD) : (dats (F := Ideal) m 0 c).arrAt 5 cfg0.N = fun i => newM (V m c main_v1 i) (V m c main_v2 i) := by
  refine (dats (F := Ideal) m 0 c).arrAt_eq_of_covers 5 _ (by decide +kernel) fun t hf y => ?_
  have hc : (dats (F := Ideal) m 0 c).flushed 5 t y = out0_5 (iblk m c 0 t) (iblk m c 1 t) (iblk m c 2 t) (iblk m c 3 t) y := by
    show (dats (F := Ideal) m 0 c).after 5 t y = _
    rw [after0_5]
  exact hc.trans ((congrFun (out_eq5 _ _ _ _) y).trans (pay5 _ _ y))

theorem final6 (c : Dev nD) : (dats (F := Ideal) m 0 c).arrAt 6 cfg0.N = fun i => newV (V m c main_v1 i) (V m c main_v3 i) := by
  refine (dats (F := Ideal) m 0 c).arrAt_eq_of_covers 6 _ (by decide +kernel) fun t hf y => ?_
  have hc : (dats (F := Ideal) m 0 c).flushed 6 t y = out0_6 (iblk m c 0 t) (iblk m c 1 t) (iblk m c 2 t) (iblk m c 3 t) y := by
    show (dats (F := Ideal) m 0 c).after 6 t y = _
    rw [after0_6]
  exact hc.trans ((congrFun (out_eq6 _ _ _ _) y).trans (pay6 _ _ y))

theorem entry0 (c : Dev nD) : V m c main_v0 = shapeCast S256x512 (m (c.tc.loc main_arg0)) shapeCasts_S2x128x512_S256x512 := by
  show StableHlo.after hostOps0 _ _ = _
  after_results
  rfl

theorem entry1 (c : Dev nD) : V m c main_v1 = shapeCast S256x512 (m (c.tc.loc main_arg1)) shapeCasts_S2x128x512_S256x512 := by
  show StableHlo.after hostOps0 _ _ = _
  after_results
  rfl

theorem entry2 (c : Dev nD) : V m c main_v2 = shapeCast S256x512 (m (c.tc.loc main_arg2)) shapeCasts_S2x128x512_S256x512 := by
  show StableHlo.after hostOps0 _ _ = _
  after_results
  rfl

theorem entry3 (c : Dev nD) : V m c main_v3 = shapeCast S256x512 (m (c.tc.loc main_arg3)) shapeCasts_S2x128x512_S256x512 := by
  show StableHlo.after hostOps0 _ _ = _
  after_results
  rfl

theorem alg : Cert.algebraic_Kernel21Ideal_Reference21Ideal (hKernel21Ideal := Cert.Kernel21Ideal.Gen.facts) (hReference21Ideal := Cert.Reference21Ideal.Gen.facts) := by
  intro m g m' g' _ hag
  refine ⟨fun c i => delta (V m c main_v0 i) (V m c main_v1 i) (V m c main_v2 i) (V m c main_v3 i), fun c i => newM (V m c main_v1 i) (V m c main_v2 i), fun c i => newV (V m c main_v1 i) (V m c main_v3 i), ?_, ?_⟩
  · exact (θ_run defs _ _).mono (fun r h c => ⟨(Cert.Kernel21Ideal.Value.post4 m r h c).trans (final4 m c), (Cert.Kernel21Ideal.Value.post5 m r h c).trans (final5 m c), (Cert.Kernel21Ideal.Value.post6 m r h c).trans (final6 m c), Cert.Kernel21Ideal.Value.kept_main_arg0 m r h c, Cert.Kernel21Ideal.Value.kept_main_arg1 m r h c, Cert.Kernel21Ideal.Value.kept_main_arg2 m r h c, Cert.Kernel21Ideal.Value.kept_main_arg3 m r h c⟩) (run_main m g)
  · refine (θ_run Cert.Reference21Ideal.defs _ _).mono (fun r h c => ⟨(h c).1.trans ?_, (h c).2.1.trans ?_, (h c).2.2.1.trans ?_, (h c).2.2.2⟩) (Cert.Reference21Ideal.Value.run m' g')
    · rw [(hag c).1, (hag c).2.1, (hag c).2.2.1, (hag c).2.2.2]
      show _ = fun i => delta (V m c main_v0 i) (V m c main_v1 i) (V m c main_v2 i) (V m c main_v3 i)
      rw [entry0, entry1, entry2, entry3]
      refine (congrArg (fun z => shapeCast S256x512 z shapeCasts_S2x128x512_S256x512) (?_ : _ = fun j => delta (m (c.tc.loc main_arg0) j) (m (c.tc.loc main_arg1) j) (m (c.tc.loc main_arg2) j) (m (c.tc.loc main_arg3) j))).trans rfl
      funext i
      idx_vars i
      pointwise [newM, newV, delta]
    · rw [(hag c).2.1, (hag c).2.2.1]
      show _ = fun i => newM (V m c main_v1 i) (V m c main_v2 i)
      rw [entry1, entry2]
      refine (congrArg (fun z => shapeCast S256x512 z shapeCasts_S2x128x512_S256x512) (?_ : _ = fun j => newM (m (c.tc.loc main_arg1) j) (m (c.tc.loc main_arg2) j))).trans rfl
      funext i
      idx_vars i
      pointwise [newM]
    · rw [(hag c).2.1, (hag c).2.2.2]
      show _ = fun i => newV (V m c main_v1 i) (V m c main_v3 i)
      rw [entry1, entry3]
      refine (congrArg (fun z => shapeCast S256x512 z shapeCasts_S2x128x512_S256x512) (?_ : _ = fun j => newV (m (c.tc.loc main_arg1) j) (m (c.tc.loc main_arg3) j))).trans rfl
      funext i
      idx_vars i
      pointwise [newV]

end Cert.Mm.K21

end
-- ==== Proof.Mm.Halves.lean ====
module

public import proofs.«01_k».proof.Proof.Mm.Common
public import Idealize.ShloMosaic.Lib.Pipeline.ValueKit
public import Idealize.ShloMosaic.Lib.Pointwise

/-! A gradient whose rows come in two halves, one computed here and the other received. -/

@[expose] public section

noncomputable section

namespace Cert.Mm

open Idealize.ShloMosaic

theorem delta_congr {w g m v w' g' m' v' : EReal} (e0 : w = w') (e1 : g = g') (e2 : m = m') (e3 : v = v') : delta w g m v = delta w' g' m' v' := by
  rw [e0, e1, e2, e3]

/-- The half `h` of the rows: the own one when `h` is the word `w`, else the peer's. -/
def half (h : ℕ) (w : BitVec 32) (a b : EReal) : EReal := if BitVec.ofNat 32 h = w then a else b

/-- The gradient put together from its halves. -/
def halves {L R C : ℕ} (w : BitVec 32) (a b : (⟨3, ![L, R, C]⟩ : Shape).Idx → EReal) (i : (⟨4, ![L, 2, R, C]⟩ : Shape).Idx) : EReal :=
  half (i 1).val w (a (ix3 (i 0) (i 2) (i 3))) (b (ix3 (i 0) (i 2) (i 3)))

theorem cmpi_eq (a b : BitVec 32) : IntOp.cmpi .eq a b = 1#1 ↔ a = b := by
  by_cases e : a = b <;> simp [IntOp.cmpi, e, beq_eq_false_iff_ne.mpr]

theorem select_half (h : ℕ) (w : BitVec 32) (a b : EReal) :
    Scalar.select (Scalar.cmpi .eq (BitVec.ofNat 32 h) w) a b = half h w a b :=
  if_congr (cmpi_eq _ _) rfl rfl

theorem select_half' (h : ℕ) (w : BitVec 32) (a b : EReal) :
    Scalar.select (Scalar.cmpi .eq w (BitVec.ofNat 32 h)) a b = half h w a b :=
  if_congr ((cmpi_eq _ _).trans eq_comm) rfl rfl

/-- A block's number back from its word. -/
theorem half_word (h : ℕ) (w : BitVec 32) (a b : EReal) : half (BitVec.ofNat 32 h).toNat w a b = half h w a b := by
  unfold half
  rw [BitVec.ofNat_toNat, BitVec.setWidth_eq]

theorem pick {n : ℕ} (k : Fin n) (p : n = 1 → 0 < n) (q : ¬n = 1 → k.val < n) : (if h : n = 1 then (⟨0, p h⟩ : Fin n) else ⟨k.val, q h⟩) = k := by
  have := k.isLt
  split
  · exact Fin.ext (show 0 = k.val by omega)
  · rfl

/-- The reference's gradient, its two halves laid one after the other. -/
theorem ref_halves {L R C : ℕ} (x : Vec Ideal ⟨1, ![1]⟩ .i32) (a b : Vec Ideal ⟨3, ![L, R, C]⟩ .f32)
    (h1 : Shape.ShapeCasts ⟨1, ![1]⟩ ⟨0, ![]⟩) (h2 : Shape.BroadcastsInDim ⟨0, ![]⟩ ⟨3, ![L, R, C]⟩ (![] : Fin 0 → Fin 3))
    (h3 : Shape.BroadcastsInDim ⟨3, ![L, R, C]⟩ ⟨4, ![L, 1, R, C]⟩ (![0, 2, 3] : Fin 3 → Fin 4))
    (h4 : Shape.Concatenates [(⟨4, ![L, 1, R, C]⟩ : Shape), ⟨4, ![L, 1, R, C]⟩] ⟨4, ![L, 2, R, C]⟩ 1) :
    concatenate ⟨4, ![L, 2, R, C]⟩ 1 [⟨⟨4, ![L, 1, R, C]⟩, broadcastInDim ⟨4, ![L, 1, R, C]⟩ ![0, 2, 3] h3 (select (broadcastInDim ⟨3, ![L, R, C]⟩ ![] h2 (cmpi .eq (shapeCast _ x h1) (constantI ⟨0, ![]⟩ 32 0#32))) a b)⟩,
      ⟨⟨4, ![L, 1, R, C]⟩, broadcastInDim ⟨4, ![L, 1, R, C]⟩ ![0, 2, 3] h3 (select (broadcastInDim ⟨3, ![L, R, C]⟩ ![] h2 (cmpi .eq (shapeCast _ x h1) (constantI ⟨0, ![]⟩ 32 1#32))) a b)⟩] h4
      = halves (x (ix1 0)) a b := by
  funext i
  obtain ⟨i0, i1, i2, i3, rfl⟩ : ∃ (a : Fin L) (b : Fin 2) (r : Fin R) (n : Fin C), i = ix4 a b r n :=
    ⟨i 0, i 1, i 2, i 3, funext fun a => by fin_cases a <;> rfl⟩
  unfold halves
  match i1 with
  | 0 =>
    pointwise []
    refine (select_half' 0 _ _ _).trans (congrArg₂ (half 0 _) (congrArg a ?_) (congrArg b ?_)) <;>
    · funext d
      fin_cases d
      · exact pick i0 _ _
      · exact pick i2 _ _
      · exact pick i3 _ _
  | 1 =>
    pointwise []
    refine (select_half' 1 _ _ _).trans (congrArg₂ (half 1 _) (congrArg a ?_) (congrArg b ?_)) <;>
    · funext d
      fin_cases d
      · exact pick i0 _ _
      · exact pick i2 _ _
      · exact pick i3 _ _

section
variable {S : Shape} (h : Shape.BroadcastsInDim ⟨0, ![]⟩ S (![] : Fin 0 → Fin S.rank)) (w g m v : Vec Ideal S .f32)

/-- The reference's new first moment, element by element. -/
theorem ref_newM : addf (F := Ideal) (φ := .f32) (mulf (broadcastInDim S ![] h (constant ⟨0, ![]⟩ .f32 0x3F666666#32)) m) (mulf (broadcastInDim S ![] h (constant ⟨0, ![]⟩ .f32 0x3DCCCCCD#32)) g) = fun i => newM (g i) (m i) := rfl

/-- The reference's new second moment, element by element. -/
theorem ref_newV : addf (F := Ideal) (φ := .f32) (mulf (broadcastInDim S ![] h (constant ⟨0, ![]⟩ .f32 0x3F7FBE77#32)) v) (mulf (broadcastInDim S ![] h (constant ⟨0, ![]⟩ .f32 0x3A83126F#32)) (mulf g g)) = fun i => newV (g i) (v i) := rfl

/-- The reference's step, element by element. -/
theorem ref_delta : mulf (F := Ideal) (φ := .f32) (broadcastInDim S ![] h (constant ⟨0, ![]⟩ .f32 0xBA83126F#32)) (addf (Host.divf (Host.divf (addf (mulf (broadcastInDim S ![] h (constant ⟨0, ![]⟩ .f32 0x3F666666#32)) m) (mulf (broadcastInDim S ![] h (constant ⟨0, ![]⟩ .f32 0x3DCCCCCD#32)) g)) (broadcastInDim S ![] h (constant ⟨0, ![]⟩ .f32 0x3F26BD02#32))) (addf (Host.sqrt (Host.divf (addf (mulf (broadcastInDim S ![] h (constant ⟨0, ![]⟩ .f32 0x3F7FBE77#32)) v) (mulf (broadcastInDim S ![] h (constant ⟨0, ![]⟩ .f32 0x3A83126F#32)) (mulf g g))) (broadcastInDim S ![] h (constant ⟨0, ![]⟩ .f32 0x3C231ACC#32)))) (broadcastInDim S ![] h (constant ⟨0, ![]⟩ .f32 0x322BCC77#32)))) (mulf (broadcastInDim S ![] h (constant ⟨0, ![]⟩ .f32 0x3C23D70A#32)) w)) = fun i => delta (w i) (g i) (m i) (v i) := rfl

end

end Cert.Mm

end
-- ==== Proof.Mm.K22.lean ====
module

public import proofs.«01_k».proof.Proof.Mm.Halves
public import proofs.«01_k».proof.Proof.Gen.Kernel22Ideal.Frame
public import proofs.«01_k».proof.Proof.Gen.Reference22Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The optimiser’s call on the perceptron’s weights, the gradient in two halves: the values of its call. -/

@[expose] public section

set_option maxRecDepth 16384

noncomputable section

namespace Cert.Mm.K22

open Cert.Kernel22Ideal Cert.Kernel22Ideal.Gen
open Idealize.ShloMosaic Idealize.ShloMosaic.TcCoe Idealize.SL.Sem
open Idealize.ShloMosaic.Pipeline (Dat)

section

variable {F : FTy → Type} [FloatOps F]

/-- The table's one word. -/
def word {c : Dev nD} (xt0 : TbBuf0 (F := F) c tbM0_0) : BitVec 32 :=
  View.ld (View.read (Elt F) (View.whole main_arg0) xt0) (Rect.unit ![0] ![1] inb_S1_S1_0) (Shape.Idx.first (by decide))

theorem outs (c : Dev nD) (i : grid0.Coords) (arg4 : Memref sig .tc .vmem S1x1x256x1024 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x1x256x1024 .f32) (harg7 : arg7.IsWhole) (arg8 : Memref sig .tc .vmem S1x1x256x1024 .f32) (harg8 : arg8.IsWhole) (arg9 : Memref sig .tc .vmem S1x1x256x1024 .f32) (harg9 : arg9.IsWhole) (arg10 : Memref sig .tc .vmem S1x1x256x1024 .f32) (harg10 : arg10.IsWhole) (arg11 : Memref sig .tc .vmem S1x1x256x1024 .f32) (harg11 : arg11.IsWhole) (arg12 : Memref sig .tc .vmem S1x1x256x1024 .f32) (harg12 : arg12.IsWhole)
    (x0 x3 x4 : Vec F S1x1x256x1024 .f32) (x1 x2 : Vec F S1x256x1024 .f32) (xt0 : TbBuf0 (F := F) c tbM0_0) :
    out0_A_5 c i arg4 harg4 arg5 harg5 arg6 harg6 arg7 harg7 arg8 harg8 arg9 harg9 arg10 harg10 arg11 harg11 arg12 harg12 x0 x1 x2 x3 x4 xt0 = k0_pay5 i (word xt0) x1 x2
    ∧ out0_A_6 c i arg4 harg4 arg5 harg5 arg6 harg6 arg7 harg7 arg8 harg8 arg9 harg9 arg10 harg10 arg11 harg11 arg12 harg12 x0 x1 x2 x3 x4 xt0 = k0_pay1 (k0_pay6 x0) (k0_pay7 i (word xt0) x1 x2 x3) (k0_pay8 i (word xt0) x1 x2 x4) k0_pay9
    ∧ out0_A_7 c i arg4 harg4 arg5 harg5 arg6 harg6 arg7 harg7 arg8 harg8 arg9 harg9 arg10 harg10 arg11 harg11 arg12 harg12 x0 x1 x2 x3 x4 xt0 = k0_pay2 (k0_pay7 i (word xt0) x1 x2 x3)
    ∧ out0_A_8 c i arg4 harg4 arg5 harg5 arg6 harg6 arg7 harg7 arg8 harg8 arg9 harg9 arg10 harg10 arg11 harg11 arg12 harg12 x0 x1 x2 x3 x4 xt0 = k0_pay3 (k0_pay8 i (word xt0) x1 x2 x4) := by
  unfold out0_A_5 out0_A_6 out0_A_7 out0_A_8
  rw [View.read_writes_eq_canon _ _ _ (cover0_A_5 c i arg4 harg4 arg5 harg5 arg6 harg6 arg7 harg7 arg8 harg8 arg9 harg9 arg10 harg10 arg11 harg11 arg12 harg12 x0 x1 x2 x3 x4 xt0), View.read_writes_eq_canon _ _ _ (cover0_A_6 c i arg4 harg4 arg5 harg5 arg6 harg6 arg7 harg7 arg8 harg8 arg9 harg9 arg10 harg10 arg11 harg11 arg12 harg12 x0 x1 x2 x3 x4 xt0), View.read_writes_eq_canon _ _ _ (cover0_A_7 c i arg4 harg4 arg5 harg5 arg6 harg6 arg7 harg7 arg8 harg8 arg9 harg9 arg10 harg10 arg11 harg11 arg12 harg12 x0 x1 x2 x3 x4 xt0), View.read_writes_eq_canon _ _ _ (cover0_A_8 c i arg4 harg4 arg5 harg5 arg6 harg6 arg7 harg7 arg8 harg8 arg9 harg9 arg10 harg10 arg11 harg11 arg12 harg12 x0 x1 x2 x3 x4 xt0)]
  unfold kernelRun0_A
  dsimp only
  sl_unfold_words
  rw [View.canon_unit_zero hz4, View.canon_unit_zero hz4, View.canon_unit_zero hz4, View.canon_unit_zero hz4]
  simp only [View.readAt_eq_ld, harg4.read_unread, harg5.read_unread, harg6.read_unread, harg7.read_unread, harg8.read_unread, View.ld_unit_zero (S := S1x1x256x1024) hz4, View.ld_unit_zero (S := S1x256x1024) hz3]
  exact ⟨rfl, rfl, rfl, rfl⟩

end

section
variable (i : grid0.Coords) (w : BitVec 32) (x0 x3 x4 : Vec Ideal S1x1x256x1024 .f32) (x1 x2 : Vec Ideal S1x256x1024 .f32) (y : S1x1x256x1024.Idx)

/-- The gradient of a block's cell. -/
def gr : EReal := half (i 1).val w (x1 (ix3 0 (y 2) (y 3))) (x2 (ix3 0 (y 2) (y 3)))

theorem pay5 : k0_pay5 i w x1 x2 y = gr i w x1 x2 y := by
  idx_vars y
  pointwise [k0_pay5, k0_pay4]
  exact select_half _ _ _ _

theorem pay7 : k0_pay2 (k0_pay7 i w x1 x2 x3) y = newM (gr i w x1 x2 y) (x3 y) := by
  idx_vars y
  pointwise [k0_pay2, k0_pay7, k0_pay4, newM]
  rw [select_half]
  obtain rfl : y0 = 0 := Subsingleton.elim _ _
  obtain rfl : y1 = 0 := Subsingleton.elim _ _
  rfl

theorem pay8 : k0_pay3 (k0_pay8 i w x1 x2 x4) y = newV (gr i w x1 x2 y) (x4 y) := by
  idx_vars y
  pointwise [k0_pay3, k0_pay8, k0_pay4, newV]
  rw [select_half]
  obtain rfl : y0 = 0 := Subsingleton.elim _ _
  obtain rfl : y1 = 0 := Subsingleton.elim _ _
  rfl

theorem pay6 : k0_pay1 (k0_pay6 x0) (k0_pay7 i w x1 x2 x3) (k0_pay8 i w x1 x2 x4) k0_pay9 y = delta (x0 y) (gr i w x1 x2 y) (x3 y) (x4 y) := by
  idx_vars y
  pointwise [k0_pay1, k0_pay6, k0_pay7, k0_pay8, k0_pay9, k0_pay4, delta, newM, newV]
  rw [select_half]
  obtain rfl : y0 = 0 := Subsingleton.elim _ _
  obtain rfl : y1 = 0 := Subsingleton.elim _ _
  rfl

end

variable (m : (ℓ : Loc nD τ sig) → Buf (Elt Ideal) ℓ) (hO : Ok m)

/-- Every block of the result is some point's. -/
theorem onto : ∀ (a : Fin 4) (b : Fin 2) (d : Fin 2), ∃ t : Fin grid0.N, cc0_transform_5 (grid0.coords t) = ![a.val, b.val, d.val, 0] := by
  decide +kernel

theorem onto' (β : Fin 4 → ℕ) (h0 : β 0 < 4) (h1 : β 1 < 2) (h2 : β 2 < 2) (h3 : β 3 < 1) : ∃ t : Fin grid0.N, ∀ a, cc0_transform_5 (grid0.coords t) a = β a := by
  obtain ⟨t, ht⟩ := onto ⟨β 0, h0⟩ ⟨β 1, h1⟩ ⟨β 2, h2⟩
  refine ⟨t, fun a => ?_⟩
  rw [ht]
  fin_cases a
  · rfl
  · rfl
  · rfl
  · exact (Nat.lt_one_iff.mp h3).symm

/-- The gradient's cell under a point's block. -/
theorem gr_cell (c : Dev nD) (t : Fin (cfgM m hO).N) (y : S1x1x256x1024.Idx) :
    gr (grid0.coords t) (word (c := c) (tbl m 0)) (iblk m hO c 1 t) (iblk m hO c 2 t) y
      = halves (L := 4) (R := 512) (C := 1024) (word (c := c) (tbl m 0)) (V m c main_arg2) (V m c main_arg3) ((((cfgM m hO).win 5).blk t).view.emb y) := by
  have h1 : ((((cfgM m hO).win 5).blk t).view.emb y (1 : Fin 4)).val = (BitVec.ofNat 32 (grid0.coords t 1).val).toNat := by
    have e : ((((cfgM m hO).win 5).blk t).view.emb y (1 : Fin 4)).val = (BitVec.ofNat 32 (grid0.coords t 1).val).toNat * 1 + 1 * (y 1).val := rfl
    have := (y 1).isLt
    have h : (y 1).val < 1 := this
    omega
  have h2 : (((cfgM m hO).win 1).blk t).view.emb (ix3 0 (y 2) (y 3)) = ix3 ((((cfgM m hO).win 5).blk t).view.emb y (0 : Fin 4)) ((((cfgM m hO).win 5).blk t).view.emb y (2 : Fin 4)) ((((cfgM m hO).win 5).blk t).view.emb y (3 : Fin 4)) := by
    funext a
    fin_cases a
    · apply Fin.ext
      show (BitVec.ofNat 32 (grid0.coords t 0).val).toNat * 1 + 1 * 0 = (BitVec.ofNat 32 (grid0.coords t 0).val).toNat * 1 + 1 * (y 0).val
      have h : (y 0).val < 1 := (y 0).isLt
      omega
    · rfl
    · rfl
  unfold gr halves
  rw [h1, half_word]
  exact congrArg₂ (half _ _) (congrArg (V m c main_arg2) h2) (congrArg (V m c main_arg3) h2)

theorem afters (c : Dev nD) (t : Fin (cfgM m hO).N) :
    (dats m hO 0 c).after 5 t = k0_pay5 (grid0.coords t) (word (c := c) (tbl m 0)) (iblk m hO c 1 t) (iblk m hO c 2 t)
    ∧ (dats m hO 0 c).after 6 t = k0_pay1 (k0_pay6 (iblk m hO c 0 t)) (k0_pay7 (grid0.coords t) (word (c := c) (tbl m 0)) (iblk m hO c 1 t) (iblk m hO c 2 t) (iblk m hO c 3 t)) (k0_pay8 (grid0.coords t) (word (c := c) (tbl m 0)) (iblk m hO c 1 t) (iblk m hO c 2 t) (iblk m hO c 4 t)) k0_pay9
    ∧ (dats m hO 0 c).after 7 t = k0_pay2 (k0_pay7 (grid0.coords t) (word (c := c) (tbl m 0)) (iblk m hO c 1 t) (iblk m hO c 2 t) (iblk m hO c 3 t))
    ∧ (dats m hO 0 c).after 8 t = k0_pay3 (k0_pay8 (grid0.coords t) (word (c := c) (tbl m 0)) (iblk m hO c 1 t) (iblk m hO c 2 t) (iblk m hO c 4 t)) := by
  have h := outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 3 t) (iblk m hO c 4 t) (iblk m hO c 1 t) (iblk m hO c 2 t) (tbl m 0)
  rw [after0_5, after0_6, after0_7, after0_8]
  dsimp only [outsAt0]
  exact h

theorem covers5 : ((cfgM m hO).win 5).Covers :=
  ⟨(by decide : ∀ a : Fin 4, 0 < S1x1x256x1024.size a), fun β =>
    have ⟨t, ht⟩ := onto' (fun a => (β a).val) ((β (0 : Fin 4)).isLt.trans_eq (show (4 + 1 - 1) / 1 = 4 by rfl)) ((β (1 : Fin 4)).isLt.trans_eq (show (2 + 1 - 1) / 1 = 2 by rfl))
      ((β (2 : Fin 4)).isLt.trans_eq (show (512 + 256 - 1) / 256 = 2 by rfl)) ((β (3 : Fin 4)).isLt.trans_eq (show (1024 + 1024 - 1) / 1024 = 1 by rfl))
    ⟨t, flush0_5 _ t, fun a => ⟨ht a, .inl rfl⟩⟩⟩

/-- The gradient put together. -/
def grad (c : Dev nD) : S4x2x512x1024.Idx → EReal := halves (L := 4) (R := 512) (C := 1024) (word (c := c) (tbl m 0)) (V m c main_arg2) (V m c main_arg3)

theorem final5 (c : Dev nD) : (dats m hO 0 c).arrAt 5 (cfgM m hO).N = grad m c :=
  (dats m hO 0 c).arrAt_eq_of_covers 5 _ (covers5 m hO) fun t hf y =>
    (congrFun (afters m hO c t).1 y).trans ((pay5 _ _ _ _ y).trans (gr_cell m hO c t y))

/-- The blocks the parameter and the two moments are read through lie where the results' blocks do, whatever the buffers hold. -/
theorem reads (c : Dev nD) (W : (b : Ref sig .tc) → Buf (Elt Ideal) ((c : Thread nD τ).loc b)) (t : Fin (cfgM m hO).N) (y : S1x1x256x1024.Idx) :
    (((cfgM m hO).win 0).blk t).view.read (Elt Ideal) (W (Pipeline.arrRef spec0 0)) y = W main_v0 ((((cfgM m hO).win 5).blk t).view.emb y)
    ∧ (((cfgM m hO).win 3).blk t).view.read (Elt Ideal) (W (Pipeline.arrRef spec0 3)) y = W main_v1 ((((cfgM m hO).win 5).blk t).view.emb y)
    ∧ (((cfgM m hO).win 4).blk t).view.read (Elt Ideal) (W (Pipeline.arrRef spec0 4)) y = W main_v2 ((((cfgM m hO).win 5).blk t).view.emb y) := by
  have h0 : (((cfgM m hO).win 0).blk t).view.emb y = (((cfgM m hO).win 5).blk t).view.emb y := funext fun a => Fin.ext rfl
  have h3 : (((cfgM m hO).win 3).blk t).view.emb y = (((cfgM m hO).win 5).blk t).view.emb y := funext fun a => Fin.ext rfl
  have h4 : (((cfgM m hO).win 4).blk t).view.emb y = (((cfgM m hO).win 5).blk t).view.emb y := funext fun a => Fin.ext rfl
  exact ⟨congrArg (W main_v0) h0, congrArg (W main_v1) h3, congrArg (W main_v2) h4⟩

/-- A point's blocks of the parameter and the moments lie where its results' do. -/
theorem cells (c : Dev nD) (t : Fin (cfgM m hO).N) (y : S1x1x256x1024.Idx) :
    iblk m hO c 0 t y = V m c main_v0 ((((cfgM m hO).win 5).blk t).view.emb y) ∧ iblk m hO c 3 t y = V m c main_v1 ((((cfgM m hO).win 5).blk t).view.emb y) ∧ iblk m hO c 4 t y = V m c main_v2 ((((cfgM m hO).win 5).blk t).view.emb y) := by
  unfold iblk
  exact reads m hO c (V m c) t y

theorem final6 (c : Dev nD) : (dats m hO 0 c).arrAt 6 (cfgM m hO).N = fun i => delta (V m c main_v0 i) (grad m c i) (V m c main_v1 i) (V m c main_v2 i) :=
  (dats m hO 0 c).arrAt_eq_of_covers 6 _ (covers5 m hO) fun t hf y =>
    (congrFun (afters m hO c t).2.1 y).trans ((pay6 _ _ _ _ _ _ _ y).trans (delta_congr (cells m hO c t y).1 (gr_cell m hO c t y) (cells m hO c t y).2.1 (cells m hO c t y).2.2))

theorem final7 (c : Dev nD) : (dats m hO 0 c).arrAt 7 (cfgM m hO).N = fun i => newM (grad m c i) (V m c main_v1 i) :=
  (dats m hO 0 c).arrAt_eq_of_covers 7 _ (covers5 m hO) fun t hf y =>
    (congrFun (afters m hO c t).2.2.1 y).trans ((pay7 _ _ _ _ _ y).trans (congrArg₂ newM (gr_cell m hO c t y) (cells m hO c t y).2.1))

theorem final8 (c : Dev nD) : (dats m hO 0 c).arrAt 8 (cfgM m hO).N = fun i => newV (grad m c i) (V m c main_v2 i) :=
  (dats m hO 0 c).arrAt_eq_of_covers 8 _ (covers5 m hO) fun t hf y =>
    (congrFun (afters m hO c t).2.2.2 y).trans ((pay8 _ _ _ _ _ y).trans (congrArg₂ newV (gr_cell m hO c t y) (cells m hO c t y).2.2))

theorem word_eq (c : Dev nD) : word (c := c) (tbl m 0) = m (c.tc.loc main_arg0) (ix1 0) := by
  obtain rfl : c = 0 := Subsingleton.elim _ _
  refine Eq.trans ?_ (congrFun (V_main_arg0 m 0) (ix1 0))
  exact congrArg (V m 0 main_arg0) (funext fun a => by fin_cases a; exact Subsingleton.elim (α := Fin 1) _ _)

theorem grad_eq (c : Dev nD) : grad m c = halves (L := 4) (R := 512) (C := 1024) (m (c.tc.loc main_arg0) (ix1 0)) (m (c.tc.loc main_arg2)) (m (c.tc.loc main_arg3)) := by
  unfold grad
  rw [word_eq, V_main_arg2, V_main_arg3]

theorem entry0 (c : Dev nD) : V m c main_v0 = shapeCast S4x2x512x1024 (m (c.tc.loc main_arg1)) shapeCasts_S4x1024x1024_S4x2x512x1024 := by
  show StableHlo.after hostOps0 _ _ = _
  after_results
  rfl

theorem entry1 (c : Dev nD) : V m c main_v1 = shapeCast S4x2x512x1024 (m (c.tc.loc main_arg4)) shapeCasts_S4x1024x1024_S4x2x512x1024 := by
  show StableHlo.after hostOps0 _ _ = _
  after_results
  rfl

theorem entry2 (c : Dev nD) : V m c main_v2 = shapeCast S4x2x512x1024 (m (c.tc.loc main_arg5)) shapeCasts_S4x1024x1024_S4x2x512x1024 := by
  show StableHlo.after hostOps0 _ _ = _
  after_results
  rfl

theorem alg : Cert.algebraic_Kernel22Ideal_Reference22Ideal (hKernel22Ideal := Cert.Kernel22Ideal.Gen.facts) (hReference22Ideal := Cert.Reference22Ideal.Gen.facts) := by
  intro m g m' g' _ hag
  refine ⟨fun c => grad m c, fun c i => delta (V m c main_v0 i) (grad m c i) (V m c main_v1 i) (V m c main_v2 i), fun c i => newM (grad m c i) (V m c main_v1 i), fun c i => newV (grad m c i) (V m c main_v2 i), ?_, ?_⟩
  · exact (θ_run defs _ _).mono (fun r h c => ⟨((h c).1 5).trans (final5 m trivial c), ((h c).1 6).trans (final6 m trivial c), ((h c).1 7).trans (final7 m trivial c), ((h c).1 8).trans (final8 m trivial c), ((h c).2 main_arg0 (by decide : main_arg0 ∈ Pipeline.restRefs sig spec0)).trans (V_main_arg0 m c), ((h c).2 main_arg1 (by decide : main_arg1 ∈ Pipeline.restRefs sig spec0)).trans (V_main_arg1 m c), ((h c).1 1).trans (((dats m trivial 0 c).arrAt_in 1 rfl _).trans ((A_eq m trivial c 1).trans (V_main_arg2 m c))), ((h c).1 2).trans (((dats m trivial 0 c).arrAt_in 2 rfl _).trans ((A_eq m trivial c 2).trans (V_main_arg3 m c))), ((h c).2 main_arg4 (by decide : main_arg4 ∈ Pipeline.restRefs sig spec0)).trans (V_main_arg4 m c), ((h c).2 main_arg5 (by decide : main_arg5 ∈ Pipeline.restRefs sig spec0)).trans (V_main_arg5 m c)⟩) (run_main m g trivial)
  · refine (θ_run Cert.Reference22Ideal.defs _ _).mono (fun r h c => ⟨(h c).1.trans ?_, (h c).2.1.trans ?_, (h c).2.2.1.trans ?_, (h c).2.2.2.1.trans ?_, (h c).2.2.2.2⟩) (Cert.Reference22Ideal.Value.run m' g')
    all_goals obtain ⟨e0, e1, e2, e3, e4, e5⟩ := hag c
    · rw [e0, e2, e3]
      exact (ref_halves _ _ _ _ _ _ _).trans (grad_eq m c).symm
    · rw [e0, e1, e2, e3, e4, e5, ref_halves, ← grad_eq]
      show _ = fun i => delta (V m c main_v0 i) (grad m c i) (V m c main_v1 i) (V m c main_v2 i)
      rw [entry0, entry1, entry2]
      exact ref_delta _ _ _ _ _
    · rw [e0, e2, e3, e4, ref_halves, ← grad_eq]
      show _ = fun i => newM (grad m c i) (V m c main_v1 i)
      rw [entry1]
      exact ref_newM _ _ _
    · rw [e0, e2, e3, e5, ref_halves, ← grad_eq]
      show _ = fun i => newV (grad m c i) (V m c main_v2 i)
      rw [entry2]
      exact ref_newV _ _ _

end Cert.Mm.K22

end
-- ==== Proof.Mm.K23.lean ====
module

public import proofs.«01_k».proof.Proof.Mm.Halves
public import proofs.«01_k».proof.Proof.Gen.Kernel23Ideal.Frame
public import proofs.«01_k».proof.Proof.Gen.Reference23Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The optimiser’s call on the two output projections’ weights, the gradient in two halves: the values of its call. -/

@[expose] public section

set_option maxRecDepth 16384

noncomputable section

namespace Cert.Mm.K23

open Cert.Kernel23Ideal Cert.Kernel23Ideal.Gen
open Idealize.ShloMosaic Idealize.ShloMosaic.TcCoe Idealize.SL.Sem
open Idealize.ShloMosaic.Pipeline (Dat)

section

variable {F : FTy → Type} [FloatOps F]

/-- The table's one word. -/
def word {c : Dev nD} (xt0 : TbBuf0 (F := F) c tbM0_0) : BitVec 32 :=
  View.ld (View.read (Elt F) (View.whole main_arg0) xt0) (Rect.unit ![0] ![1] inb_S1_S1_0) (Shape.Idx.first (by decide))

theorem outs (c : Dev nD) (i : grid0.Coords) (arg4 : Memref sig .tc .vmem S1x1x128x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128x1024 .f32) (harg9 : arg9.IsWhole) (arg10 : Memref sig .tc .vmem S1x1x128x1024 .f32) (harg10 : arg10.IsWhole) (arg11 : Memref sig .tc .vmem S1x1x128x1024 .f32) (harg11 : arg11.IsWhole) (arg12 : Memref sig .tc .vmem S1x1x128x1024 .f32) (harg12 : arg12.IsWhole)
    (x0 x3 x4 : Vec F S1x1x128x1024 .f32) (x1 x2 : Vec F S1x128x1024 .f32) (xt0 : TbBuf0 (F := F) c tbM0_0) :
    out0_A_5 c i arg4 harg4 arg5 harg5 arg6 harg6 arg7 harg7 arg8 harg8 arg9 harg9 arg10 harg10 arg11 harg11 arg12 harg12 x0 x1 x2 x3 x4 xt0 = k0_pay5 i (word xt0) x1 x2
    ∧ out0_A_6 c i arg4 harg4 arg5 harg5 arg6 harg6 arg7 harg7 arg8 harg8 arg9 harg9 arg10 harg10 arg11 harg11 arg12 harg12 x0 x1 x2 x3 x4 xt0 = k0_pay1 (k0_pay6 x0) (k0_pay7 i (word xt0) x1 x2 x3) (k0_pay8 i (word xt0) x1 x2 x4) k0_pay9
    ∧ out0_A_7 c i arg4 harg4 arg5 harg5 arg6 harg6 arg7 harg7 arg8 harg8 arg9 harg9 arg10 harg10 arg11 harg11 arg12 harg12 x0 x1 x2 x3 x4 xt0 = k0_pay2 (k0_pay7 i (word xt0) x1 x2 x3)
    ∧ out0_A_8 c i arg4 harg4 arg5 harg5 arg6 harg6 arg7 harg7 arg8 harg8 arg9 harg9 arg10 harg10 arg11 harg11 arg12 harg12 x0 x1 x2 x3 x4 xt0 = k0_pay3 (k0_pay8 i (word xt0) x1 x2 x4) := by
  unfold out0_A_5 out0_A_6 out0_A_7 out0_A_8
  rw [View.read_writes_eq_canon _ _ _ (cover0_A_5 c i arg4 harg4 arg5 harg5 arg6 harg6 arg7 harg7 arg8 harg8 arg9 harg9 arg10 harg10 arg11 harg11 arg12 harg12 x0 x1 x2 x3 x4 xt0), View.read_writes_eq_canon _ _ _ (cover0_A_6 c i arg4 harg4 arg5 harg5 arg6 harg6 arg7 harg7 arg8 harg8 arg9 harg9 arg10 harg10 arg11 harg11 arg12 harg12 x0 x1 x2 x3 x4 xt0), View.read_writes_eq_canon _ _ _ (cover0_A_7 c i arg4 harg4 arg5 harg5 arg6 harg6 arg7 harg7 arg8 harg8 arg9 harg9 arg10 harg10 arg11 harg11 arg12 harg12 x0 x1 x2 x3 x4 xt0), View.read_writes_eq_canon _ _ _ (cover0_A_8 c i arg4 harg4 arg5 harg5 arg6 harg6 arg7 harg7 arg8 harg8 arg9 harg9 arg10 harg10 arg11 harg11 arg12 harg12 x0 x1 x2 x3 x4 xt0)]
  unfold kernelRun0_A
  dsimp only
  sl_unfold_words
  rw [View.canon_unit_zero hz4, View.canon_unit_zero hz4, View.canon_unit_zero hz4, View.canon_unit_zero hz4]
  simp only [View.readAt_eq_ld, harg4.read_unread, harg5.read_unread, harg6.read_unread, harg7.read_unread, harg8.read_unread, View.ld_unit_zero (S := S1x1x128x1024) hz4, View.ld_unit_zero (S := S1x128x1024) hz3]
  exact ⟨rfl, rfl, rfl, rfl⟩

end

section
variable (i : grid0.Coords) (w : BitVec 32) (x0 x3 x4 : Vec Ideal S1x1x128x1024 .f32) (x1 x2 : Vec Ideal S1x128x1024 .f32) (y : S1x1x128x1024.Idx)

/-- The gradient of a block's cell. -/
def gr : EReal := half (i 1).val w (x1 (ix3 0 (y 2) (y 3))) (x2 (ix3 0 (y 2) (y 3)))

theorem pay5 : k0_pay5 i w x1 x2 y = gr i w x1 x2 y := by
  idx_vars y
  pointwise [k0_pay5, k0_pay4]
  exact select_half _ _ _ _

theorem pay7 : k0_pay2 (k0_pay7 i w x1 x2 x3) y = newM (gr i w x1 x2 y) (x3 y) := by
  idx_vars y
  pointwise [k0_pay2, k0_pay7, k0_pay4, newM]
  rw [select_half]
  obtain rfl : y0 = 0 := Subsingleton.elim _ _
  obtain rfl : y1 = 0 := Subsingleton.elim _ _
  rfl

theorem pay8 : k0_pay3 (k0_pay8 i w x1 x2 x4) y = newV (gr i w x1 x2 y) (x4 y) := by
  idx_vars y
  pointwise [k0_pay3, k0_pay8, k0_pay4, newV]
  rw [select_half]
  obtain rfl : y0 = 0 := Subsingleton.elim _ _
  obtain rfl : y1 = 0 := Subsingleton.elim _ _
  rfl

theorem pay6 : k0_pay1 (k0_pay6 x0) (k0_pay7 i w x1 x2 x3) (k0_pay8 i w x1 x2 x4) k0_pay9 y = delta (x0 y) (gr i w x1 x2 y) (x3 y) (x4 y) := by
  idx_vars y
  pointwise [k0_pay1, k0_pay6, k0_pay7, k0_pay8, k0_pay9, k0_pay4, delta, newM, newV]
  rw [select_half]
  obtain rfl : y0 = 0 := Subsingleton.elim _ _
  obtain rfl : y1 = 0 := Subsingleton.elim _ _
  rfl

end

variable (m : (ℓ : Loc nD τ sig) → Buf (Elt Ideal) ℓ) (hO : Ok m)

/-- Every block of the result is some point's. -/
theorem onto : ∀ (a : Fin 2) (b : Fin 2) (d : Fin 1), ∃ t : Fin grid0.N, cc0_transform_5 (grid0.coords t) = ![a.val, b.val, d.val, 0] := by
  decide +kernel

theorem onto' (β : Fin 4 → ℕ) (h0 : β 0 < 2) (h1 : β 1 < 2) (h2 : β 2 < 1) (h3 : β 3 < 1) : ∃ t : Fin grid0.N, ∀ a, cc0_transform_5 (grid0.coords t) a = β a := by
  obtain ⟨t, ht⟩ := onto ⟨β 0, h0⟩ ⟨β 1, h1⟩ ⟨β 2, h2⟩
  refine ⟨t, fun a => ?_⟩
  rw [ht]
  fin_cases a
  · rfl
  · rfl
  · rfl
  · exact (Nat.lt_one_iff.mp h3).symm

/-- The gradient's cell under a point's block. -/
theorem gr_cell (c : Dev nD) (t : Fin (cfgM m hO).N) (y : S1x1x128x1024.Idx) :
    gr (grid0.coords t) (word (c := c) (tbl m 0)) (iblk m hO c 1 t) (iblk m hO c 2 t) y
      = halves (L := 2) (R := 128) (C := 1024) (word (c := c) (tbl m 0)) (V m c main_arg2) (V m c main_arg3) ((((cfgM m hO).win 5).blk t).view.emb y) := by
  have h1 : ((((cfgM m hO).win 5).blk t).view.emb y (1 : Fin 4)).val = (BitVec.ofNat 32 (grid0.coords t 1).val).toNat := by
    have e : ((((cfgM m hO).win 5).blk t).view.emb y (1 : Fin 4)).val = (BitVec.ofNat 32 (grid0.coords t 1).val).toNat * 1 + 1 * (y 1).val := rfl
    have := (y 1).isLt
    have h : (y 1).val < 1 := this
    omega
  have h2 : (((cfgM m hO).win 1).blk t).view.emb (ix3 0 (y 2) (y 3)) = ix3 ((((cfgM m hO).win 5).blk t).view.emb y (0 : Fin 4)) ((((cfgM m hO).win 5).blk t).view.emb y (2 : Fin 4)) ((((cfgM m hO).win 5).blk t).view.emb y (3 : Fin 4)) := by
    funext a
    fin_cases a
    · apply Fin.ext
      show (BitVec.ofNat 32 (grid0.coords t 0).val).toNat * 1 + 1 * 0 = (BitVec.ofNat 32 (grid0.coords t 0).val).toNat * 1 + 1 * (y 0).val
      have h : (y 0).val < 1 := (y 0).isLt
      omega
    · rfl
    · rfl
  unfold gr halves
  rw [h1, half_word]
  exact congrArg₂ (half _ _) (congrArg (V m c main_arg2) h2) (congrArg (V m c main_arg3) h2)

theorem afters (c : Dev nD) (t : Fin (cfgM m hO).N) :
    (dats m hO 0 c).after 5 t = k0_pay5 (grid0.coords t) (word (c := c) (tbl m 0)) (iblk m hO c 1 t) (iblk m hO c 2 t)
    ∧ (dats m hO 0 c).after 6 t = k0_pay1 (k0_pay6 (iblk m hO c 0 t)) (k0_pay7 (grid0.coords t) (word (c := c) (tbl m 0)) (iblk m hO c 1 t) (iblk m hO c 2 t) (iblk m hO c 3 t)) (k0_pay8 (grid0.coords t) (word (c := c) (tbl m 0)) (iblk m hO c 1 t) (iblk m hO c 2 t) (iblk m hO c 4 t)) k0_pay9
    ∧ (dats m hO 0 c).after 7 t = k0_pay2 (k0_pay7 (grid0.coords t) (word (c := c) (tbl m 0)) (iblk m hO c 1 t) (iblk m hO c 2 t) (iblk m hO c 3 t))
    ∧ (dats m hO 0 c).after 8 t = k0_pay3 (k0_pay8 (grid0.coords t) (word (c := c) (tbl m 0)) (iblk m hO c 1 t) (iblk m hO c 2 t) (iblk m hO c 4 t)) := by
  have h := outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 3 t) (iblk m hO c 4 t) (iblk m hO c 1 t) (iblk m hO c 2 t) (tbl m 0)
  rw [after0_5, after0_6, after0_7, after0_8]
  dsimp only [outsAt0]
  exact h

theorem covers5 : ((cfgM m hO).win 5).Covers :=
  ⟨(by decide : ∀ a : Fin 4, 0 < S1x1x128x1024.size a), fun β =>
    have ⟨t, ht⟩ := onto' (fun a => (β a).val) ((β (0 : Fin 4)).isLt.trans_eq (show (2 + 1 - 1) / 1 = 2 by rfl)) ((β (1 : Fin 4)).isLt.trans_eq (show (2 + 1 - 1) / 1 = 2 by rfl))
      ((β (2 : Fin 4)).isLt.trans_eq (show (128 + 128 - 1) / 128 = 1 by rfl)) ((β (3 : Fin 4)).isLt.trans_eq (show (1024 + 1024 - 1) / 1024 = 1 by rfl))
    ⟨t, flush0_5 _ t, fun a => ⟨ht a, .inl rfl⟩⟩⟩

/-- The gradient put together. -/
def grad (c : Dev nD) : S2x2x128x1024.Idx → EReal := halves (L := 2) (R := 128) (C := 1024) (word (c := c) (tbl m 0)) (V m c main_arg2) (V m c main_arg3)

theorem final5 (c : Dev nD) : (dats m hO 0 c).arrAt 5 (cfgM m hO).N = grad m c :=
  (dats m hO 0 c).arrAt_eq_of_covers 5 _ (covers5 m hO) fun t hf y =>
    (congrFun (afters m hO c t).1 y).trans ((pay5 _ _ _ _ y).trans (gr_cell m hO c t y))

/-- The blocks the parameter and the two moments are read through lie where the results' blocks do, whatever the buffers hold. -/
theorem reads (c : Dev nD) (W : (b : Ref sig .tc) → Buf (Elt Ideal) ((c : Thread nD τ).loc b)) (t : Fin (cfgM m hO).N) (y : S1x1x128x1024.Idx) :
    (((cfgM m hO).win 0).blk t).view.read (Elt Ideal) (W (Pipeline.arrRef spec0 0)) y = W main_v0 ((((cfgM m hO).win 5).blk t).view.emb y)
    ∧ (((cfgM m hO).win 3).blk t).view.read (Elt Ideal) (W (Pipeline.arrRef spec0 3)) y = W main_v1 ((((cfgM m hO).win 5).blk t).view.emb y)
    ∧ (((cfgM m hO).win 4).blk t).view.read (Elt Ideal) (W (Pipeline.arrRef spec0 4)) y = W main_v2 ((((cfgM m hO).win 5).blk t).view.emb y) := by
  have h0 : (((cfgM m hO).win 0).blk t).view.emb y = (((cfgM m hO).win 5).blk t).view.emb y := funext fun a => Fin.ext rfl
  have h3 : (((cfgM m hO).win 3).blk t).view.emb y = (((cfgM m hO).win 5).blk t).view.emb y := funext fun a => Fin.ext rfl
  have h4 : (((cfgM m hO).win 4).blk t).view.emb y = (((cfgM m hO).win 5).blk t).view.emb y := funext fun a => Fin.ext rfl
  exact ⟨congrArg (W main_v0) h0, congrArg (W main_v1) h3, congrArg (W main_v2) h4⟩

/-- A point's blocks of the parameter and the moments lie where its results' do. -/
theorem cells (c : Dev nD) (t : Fin (cfgM m hO).N) (y : S1x1x128x1024.Idx) :
    iblk m hO c 0 t y = V m c main_v0 ((((cfgM m hO).win 5).blk t).view.emb y) ∧ iblk m hO c 3 t y = V m c main_v1 ((((cfgM m hO).win 5).blk t).view.emb y) ∧ iblk m hO c 4 t y = V m c main_v2 ((((cfgM m hO).win 5).blk t).view.emb y) := by
  unfold iblk
  exact reads m hO c (V m c) t y

theorem final6 (c : Dev nD) : (dats m hO 0 c).arrAt 6 (cfgM m hO).N = fun i => delta (V m c main_v0 i) (grad m c i) (V m c main_v1 i) (V m c main_v2 i) :=
  (dats m hO 0 c).arrAt_eq_of_covers 6 _ (covers5 m hO) fun t hf y =>
    (congrFun (afters m hO c t).2.1 y).trans ((pay6 _ _ _ _ _ _ _ y).trans (delta_congr (cells m hO c t y).1 (gr_cell m hO c t y) (cells m hO c t y).2.1 (cells m hO c t y).2.2))

theorem final7 (c : Dev nD) : (dats m hO 0 c).arrAt 7 (cfgM m hO).N = fun i => newM (grad m c i) (V m c main_v1 i) :=
  (dats m hO 0 c).arrAt_eq_of_covers 7 _ (covers5 m hO) fun t hf y =>
    (congrFun (afters m hO c t).2.2.1 y).trans ((pay7 _ _ _ _ _ y).trans (congrArg₂ newM (gr_cell m hO c t y) (cells m hO c t y).2.1))

theorem final8 (c : Dev nD) : (dats m hO 0 c).arrAt 8 (cfgM m hO).N = fun i => newV (grad m c i) (V m c main_v2 i) :=
  (dats m hO 0 c).arrAt_eq_of_covers 8 _ (covers5 m hO) fun t hf y =>
    (congrFun (afters m hO c t).2.2.2 y).trans ((pay8 _ _ _ _ _ y).trans (congrArg₂ newV (gr_cell m hO c t y) (cells m hO c t y).2.2))

theorem word_eq (c : Dev nD) : word (c := c) (tbl m 0) = m (c.tc.loc main_arg0) (ix1 0) := by
  obtain rfl : c = 0 := Subsingleton.elim _ _
  refine Eq.trans ?_ (congrFun (V_main_arg0 m 0) (ix1 0))
  exact congrArg (V m 0 main_arg0) (funext fun a => by fin_cases a; exact Subsingleton.elim (α := Fin 1) _ _)

theorem grad_eq (c : Dev nD) : grad m c = halves (L := 2) (R := 128) (C := 1024) (m (c.tc.loc main_arg0) (ix1 0)) (m (c.tc.loc main_arg2)) (m (c.tc.loc main_arg3)) := by
  unfold grad
  rw [word_eq, V_main_arg2, V_main_arg3]

theorem entry0 (c : Dev nD) : V m c main_v0 = shapeCast S2x2x128x1024 (m (c.tc.loc main_arg1)) shapeCasts_S2x256x1024_S2x2x128x1024 := by
  show StableHlo.after hostOps0 _ _ = _
  after_results
  rfl

theorem entry1 (c : Dev nD) : V m c main_v1 = shapeCast S2x2x128x1024 (m (c.tc.loc main_arg4)) shapeCasts_S2x256x1024_S2x2x128x1024 := by
  show StableHlo.after hostOps0 _ _ = _
  after_results
  rfl

theorem entry2 (c : Dev nD) : V m c main_v2 = shapeCast S2x2x128x1024 (m (c.tc.loc main_arg5)) shapeCasts_S2x256x1024_S2x2x128x1024 := by
  show StableHlo.after hostOps0 _ _ = _
  after_results
  rfl

theorem alg : Cert.algebraic_Kernel23Ideal_Reference23Ideal (hKernel23Ideal := Cert.Kernel23Ideal.Gen.facts) (hReference23Ideal := Cert.Reference23Ideal.Gen.facts) := by
  intro m g m' g' _ hag
  refine ⟨fun c => grad m c, fun c i => delta (V m c main_v0 i) (grad m c i) (V m c main_v1 i) (V m c main_v2 i), fun c i => newM (grad m c i) (V m c main_v1 i), fun c i => newV (grad m c i) (V m c main_v2 i), ?_, ?_⟩
  · exact (θ_run defs _ _).mono (fun r h c => ⟨((h c).1 5).trans (final5 m trivial c), ((h c).1 6).trans (final6 m trivial c), ((h c).1 7).trans (final7 m trivial c), ((h c).1 8).trans (final8 m trivial c), ((h c).2 main_arg0 (by decide : main_arg0 ∈ Pipeline.restRefs sig spec0)).trans (V_main_arg0 m c), ((h c).2 main_arg1 (by decide : main_arg1 ∈ Pipeline.restRefs sig spec0)).trans (V_main_arg1 m c), ((h c).1 1).trans (((dats m trivial 0 c).arrAt_in 1 rfl _).trans ((A_eq m trivial c 1).trans (V_main_arg2 m c))), ((h c).1 2).trans (((dats m trivial 0 c).arrAt_in 2 rfl _).trans ((A_eq m trivial c 2).trans (V_main_arg3 m c))), ((h c).2 main_arg4 (by decide : main_arg4 ∈ Pipeline.restRefs sig spec0)).trans (V_main_arg4 m c), ((h c).2 main_arg5 (by decide : main_arg5 ∈ Pipeline.restRefs sig spec0)).trans (V_main_arg5 m c)⟩) (run_main m g trivial)
  · refine (θ_run Cert.Reference23Ideal.defs _ _).mono (fun r h c => ⟨(h c).1.trans ?_, (h c).2.1.trans ?_, (h c).2.2.1.trans ?_, (h c).2.2.2.1.trans ?_, (h c).2.2.2.2⟩) (Cert.Reference23Ideal.Value.run m' g')
    all_goals obtain ⟨e0, e1, e2, e3, e4, e5⟩ := hag c
    · rw [e0, e2, e3]
      exact (ref_halves _ _ _ _ _ _ _).trans (grad_eq m c).symm
    · rw [e0, e1, e2, e3, e4, e5, ref_halves, ← grad_eq]
      show _ = fun i => delta (V m c main_v0 i) (grad m c i) (V m c main_v1 i) (V m c main_v2 i)
      rw [entry0, entry1, entry2]
      exact ref_delta _ _ _ _ _
    · rw [e0, e2, e3, e4, ref_halves, ← grad_eq]
      show _ = fun i => newM (grad m c i) (V m c main_v1 i)
      rw [entry1]
      exact ref_newM _ _ _
    · rw [e0, e2, e3, e5, ref_halves, ← grad_eq]
      show _ = fun i => newV (grad m c i) (V m c main_v2 i)
      rw [entry2]
      exact ref_newV _ _ _

end Cert.Mm.K23

end
-- ==== Proof.Mm.K24.lean ====
module

public import proofs.«01_k».proof.Proof.Mm.Halves
public import proofs.«01_k».proof.Proof.Gen.Kernel24Ideal.Frame
public import proofs.«01_k».proof.Proof.Gen.Reference24Ideal.Run
public import proofs.«01_k».proof.Defs
public import Idealize.ShloMosaic.Lib.Claim
public import Idealize.ShloMosaic.Lib.Tactic
public import Idealize.ShloMosaic.Lib.Pipeline.ValueKit
public import Idealize.ShloMosaic.Lib.Pointwise

/-! The optimiser’s call on the padded input projection’s weight, the gradient in two halves: the values of its call. -/

@[expose] public section

set_option maxRecDepth 16384

noncomputable section

namespace Cert.Mm.K24

open Cert.Kernel24Ideal Cert.Kernel24Ideal.Gen
open Idealize.ShloMosaic Idealize.ShloMosaic.TcCoe Idealize.SL.Sem
open Idealize.ShloMosaic.Pipeline (Dat)

section

variable {F : FTy → Type} [FloatOps F]

/-- The table's one word. -/
def word {c : Dev nD} (xt0 : TbBuf0 (F := F) c tbM0_0) : BitVec 32 :=
  View.ld (View.read (Elt F) (View.whole main_arg0) xt0) (Rect.unit ![0] ![1] inb_S1_S1_0) (Shape.Idx.first (by decide))

theorem outs (c : Dev nD) (i : grid0.Coords) (arg4 : Memref sig .tc .vmem S1x1x256x896 .f32) (harg4 : arg4.IsWhole) (arg5 : Memref sig .tc .vmem S1x256x896 .f32) (harg5 : arg5.IsWhole) (arg6 : Memref sig .tc .vmem S1x256x896 .f32) (harg6 : arg6.IsWhole) (arg7 : Memref sig .tc .vmem S1x1x256x896 .f32) (harg7 : arg7.IsWhole) (arg8 : Memref sig .tc .vmem S1x1x256x896 .f32) (harg8 : arg8.IsWhole) (arg9 : Memref sig .tc .vmem S1x1x256x896 .f32) (harg9 : arg9.IsWhole) (arg10 : Memref sig .tc .vmem S1x1x256x896 .f32) (harg10 : arg10.IsWhole) (arg11 : Memref sig .tc .vmem S1x1x256x896 .f32) (harg11 : arg11.IsWhole) (arg12 : Memref sig .tc .vmem S1x1x256x896 .f32) (harg12 : arg12.IsWhole)
    (x0 x3 x4 : Vec F S1x1x256x896 .f32) (x1 x2 : Vec F S1x256x896 .f32) (xt0 : TbBuf0 (F := F) c tbM0_0) :
    out0_A_5 c i arg4 harg4 arg5 harg5 arg6 harg6 arg7 harg7 arg8 harg8 arg9 harg9 arg10 harg10 arg11 harg11 arg12 harg12 x0 x1 x2 x3 x4 xt0 = k0_pay5 i (word xt0) x1 x2
    ∧ out0_A_6 c i arg4 harg4 arg5 harg5 arg6 harg6 arg7 harg7 arg8 harg8 arg9 harg9 arg10 harg10 arg11 harg11 arg12 harg12 x0 x1 x2 x3 x4 xt0 = k0_pay1 (k0_pay6 x0) (k0_pay7 i (word xt0) x1 x2 x3) (k0_pay8 i (word xt0) x1 x2 x4) k0_pay9
    ∧ out0_A_7 c i arg4 harg4 arg5 harg5 arg6 harg6 arg7 harg7 arg8 harg8 arg9 harg9 arg10 harg10 arg11 harg11 arg12 harg12 x0 x1 x2 x3 x4 xt0 = k0_pay2 (k0_pay7 i (word xt0) x1 x2 x3)
    ∧ out0_A_8 c i arg4 harg4 arg5 harg5 arg6 harg6 arg7 harg7 arg8 harg8 arg9 harg9 arg10 harg10 arg11 harg11 arg12 harg12 x0 x1 x2 x3 x4 xt0 = k0_pay3 (k0_pay8 i (word xt0) x1 x2 x4) := by
  unfold out0_A_5 out0_A_6 out0_A_7 out0_A_8
  rw [View.read_writes_eq_canon _ _ _ (cover0_A_5 c i arg4 harg4 arg5 harg5 arg6 harg6 arg7 harg7 arg8 harg8 arg9 harg9 arg10 harg10 arg11 harg11 arg12 harg12 x0 x1 x2 x3 x4 xt0), View.read_writes_eq_canon _ _ _ (cover0_A_6 c i arg4 harg4 arg5 harg5 arg6 harg6 arg7 harg7 arg8 harg8 arg9 harg9 arg10 harg10 arg11 harg11 arg12 harg12 x0 x1 x2 x3 x4 xt0), View.read_writes_eq_canon _ _ _ (cover0_A_7 c i arg4 harg4 arg5 harg5 arg6 harg6 arg7 harg7 arg8 harg8 arg9 harg9 arg10 harg10 arg11 harg11 arg12 harg12 x0 x1 x2 x3 x4 xt0), View.read_writes_eq_canon _ _ _ (cover0_A_8 c i arg4 harg4 arg5 harg5 arg6 harg6 arg7 harg7 arg8 harg8 arg9 harg9 arg10 harg10 arg11 harg11 arg12 harg12 x0 x1 x2 x3 x4 xt0)]
  unfold kernelRun0_A
  dsimp only
  sl_unfold_words
  rw [View.canon_unit_zero hz4, View.canon_unit_zero hz4, View.canon_unit_zero hz4, View.canon_unit_zero hz4]
  simp only [View.readAt_eq_ld, harg4.read_unread, harg5.read_unread, harg6.read_unread, harg7.read_unread, harg8.read_unread, View.ld_unit_zero (S := S1x1x256x896) hz4, View.ld_unit_zero (S := S1x256x896) hz3]
  exact ⟨rfl, rfl, rfl, rfl⟩

end

section
variable (i : grid0.Coords) (w : BitVec 32) (x0 x3 x4 : Vec Ideal S1x1x256x896 .f32) (x1 x2 : Vec Ideal S1x256x896 .f32) (y : S1x1x256x896.Idx)

/-- The gradient of a block's cell. -/
def gr : EReal := half (i 1).val w (x1 (ix3 0 (y 2) (y 3))) (x2 (ix3 0 (y 2) (y 3)))

theorem pay5 : k0_pay5 i w x1 x2 y = gr i w x1 x2 y := by
  idx_vars y
  pointwise [k0_pay5, k0_pay4]
  exact select_half _ _ _ _

theorem pay7 : k0_pay2 (k0_pay7 i w x1 x2 x3) y = newM (gr i w x1 x2 y) (x3 y) := by
  idx_vars y
  pointwise [k0_pay2, k0_pay7, k0_pay4, newM]
  rw [select_half]
  obtain rfl : y0 = 0 := Subsingleton.elim _ _
  obtain rfl : y1 = 0 := Subsingleton.elim _ _
  rfl

theorem pay8 : k0_pay3 (k0_pay8 i w x1 x2 x4) y = newV (gr i w x1 x2 y) (x4 y) := by
  idx_vars y
  pointwise [k0_pay3, k0_pay8, k0_pay4, newV]
  rw [select_half]
  obtain rfl : y0 = 0 := Subsingleton.elim _ _
  obtain rfl : y1 = 0 := Subsingleton.elim _ _
  rfl

theorem pay6 : k0_pay1 (k0_pay6 x0) (k0_pay7 i w x1 x2 x3) (k0_pay8 i w x1 x2 x4) k0_pay9 y = delta (x0 y) (gr i w x1 x2 y) (x3 y) (x4 y) := by
  idx_vars y
  pointwise [k0_pay1, k0_pay6, k0_pay7, k0_pay8, k0_pay9, k0_pay4, delta, newM, newV]
  rw [select_half]
  obtain rfl : y0 = 0 := Subsingleton.elim _ _
  obtain rfl : y1 = 0 := Subsingleton.elim _ _
  rfl

end

variable (m : (ℓ : Loc nD τ sig) → Buf (Elt Ideal) ℓ) (hO : Ok m)

/-- Every block of the result is some point's. -/
theorem onto : ∀ (a : Fin 2) (b : Fin 2) (d : Fin 2), ∃ t : Fin grid0.N, cc0_transform_5 (grid0.coords t) = ![a.val, b.val, d.val, 0] := by
  decide +kernel

theorem onto' (β : Fin 4 → ℕ) (h0 : β 0 < 2) (h1 : β 1 < 2) (h2 : β 2 < 2) (h3 : β 3 < 1) : ∃ t : Fin grid0.N, ∀ a, cc0_transform_5 (grid0.coords t) a = β a := by
  obtain ⟨t, ht⟩ := onto ⟨β 0, h0⟩ ⟨β 1, h1⟩ ⟨β 2, h2⟩
  refine ⟨t, fun a => ?_⟩
  rw [ht]
  fin_cases a
  · rfl
  · rfl
  · rfl
  · exact (Nat.lt_one_iff.mp h3).symm

/-- The gradient's cell under a point's block. -/
theorem gr_cell (c : Dev nD) (t : Fin (cfgM m hO).N) (y : S1x1x256x896.Idx) :
    gr (grid0.coords t) (word (c := c) (tbl m 0)) (iblk m hO c 1 t) (iblk m hO c 2 t) y
      = halves (L := 2) (R := 512) (C := 896) (word (c := c) (tbl m 0)) (V m c main_arg2) (V m c main_arg3) ((((cfgM m hO).win 5).blk t).view.emb y) := by
  have h1 : ((((cfgM m hO).win 5).blk t).view.emb y (1 : Fin 4)).val = (BitVec.ofNat 32 (grid0.coords t 1).val).toNat := by
    have e : ((((cfgM m hO).win 5).blk t).view.emb y (1 : Fin 4)).val = (BitVec.ofNat 32 (grid0.coords t 1).val).toNat * 1 + 1 * (y 1).val := rfl
    have := (y 1).isLt
    have h : (y 1).val < 1 := this
    omega
  have h2 : (((cfgM m hO).win 1).blk t).view.emb (ix3 0 (y 2) (y 3)) = ix3 ((((cfgM m hO).win 5).blk t).view.emb y (0 : Fin 4)) ((((cfgM m hO).win 5).blk t).view.emb y (2 : Fin 4)) ((((cfgM m hO).win 5).blk t).view.emb y (3 : Fin 4)) := by
    funext a
    fin_cases a
    · apply Fin.ext
      show (BitVec.ofNat 32 (grid0.coords t 0).val).toNat * 1 + 1 * 0 = (BitVec.ofNat 32 (grid0.coords t 0).val).toNat * 1 + 1 * (y 0).val
      have h : (y 0).val < 1 := (y 0).isLt
      omega
    · rfl
    · rfl
  unfold gr halves
  rw [h1, half_word]
  exact congrArg₂ (half _ _) (congrArg (V m c main_arg2) h2) (congrArg (V m c main_arg3) h2)

theorem afters (c : Dev nD) (t : Fin (cfgM m hO).N) :
    (dats m hO 0 c).after 5 t = k0_pay5 (grid0.coords t) (word (c := c) (tbl m 0)) (iblk m hO c 1 t) (iblk m hO c 2 t)
    ∧ (dats m hO 0 c).after 6 t = k0_pay1 (k0_pay6 (iblk m hO c 0 t)) (k0_pay7 (grid0.coords t) (word (c := c) (tbl m 0)) (iblk m hO c 1 t) (iblk m hO c 2 t) (iblk m hO c 3 t)) (k0_pay8 (grid0.coords t) (word (c := c) (tbl m 0)) (iblk m hO c 1 t) (iblk m hO c 2 t) (iblk m hO c 4 t)) k0_pay9
    ∧ (dats m hO 0 c).after 7 t = k0_pay2 (k0_pay7 (grid0.coords t) (word (c := c) (tbl m 0)) (iblk m hO c 1 t) (iblk m hO c 2 t) (iblk m hO c 3 t))
    ∧ (dats m hO 0 c).after 8 t = k0_pay3 (k0_pay8 (grid0.coords t) (word (c := c) (tbl m 0)) (iblk m hO c 1 t) (iblk m hO c 2 t) (iblk m hO c 4 t)) := by
  have h := outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 3 t) (iblk m hO c 4 t) (iblk m hO c 1 t) (iblk m hO c 2 t) (tbl m 0)
  rw [after0_5, after0_6, after0_7, after0_8]
  dsimp only [outsAt0]
  exact h

theorem covers5 : ((cfgM m hO).win 5).Covers :=
  ⟨(by decide : ∀ a : Fin 4, 0 < S1x1x256x896.size a), fun β =>
    have ⟨t, ht⟩ := onto' (fun a => (β a).val) ((β (0 : Fin 4)).isLt.trans_eq (show (2 + 1 - 1) / 1 = 2 by rfl)) ((β (1 : Fin 4)).isLt.trans_eq (show (2 + 1 - 1) / 1 = 2 by rfl))
      ((β (2 : Fin 4)).isLt.trans_eq (show (512 + 256 - 1) / 256 = 2 by rfl)) ((β (3 : Fin 4)).isLt.trans_eq (show (896 + 896 - 1) / 896 = 1 by rfl))
    ⟨t, flush0_5 _ t, fun a => ⟨ht a, .inl rfl⟩⟩⟩

/-- The gradient put together. -/
def grad (c : Dev nD) : S2x2x512x896.Idx → EReal := halves (L := 2) (R := 512) (C := 896) (word (c := c) (tbl m 0)) (V m c main_arg2) (V m c main_arg3)

theorem final5 (c : Dev nD) : (dats m hO 0 c).arrAt 5 (cfgM m hO).N = grad m c :=
  (dats m hO 0 c).arrAt_eq_of_covers 5 _ (covers5 m hO) fun t hf y =>
    (congrFun (afters m hO c t).1 y).trans ((pay5 _ _ _ _ y).trans (gr_cell m hO c t y))

/-- The blocks the parameter and the two moments are read through lie where the results' blocks do, whatever the buffers hold. -/
theorem reads (c : Dev nD) (W : (b : Ref sig .tc) → Buf (Elt Ideal) ((c : Thread nD τ).loc b)) (t : Fin (cfgM m hO).N) (y : S1x1x256x896.Idx) :
    (((cfgM m hO).win 0).blk t).view.read (Elt Ideal) (W (Pipeline.arrRef spec0 0)) y = W main_v3 ((((cfgM m hO).win 5).blk t).view.emb y)
    ∧ (((cfgM m hO).win 3).blk t).view.read (Elt Ideal) (W (Pipeline.arrRef spec0 3)) y = W main_v4 ((((cfgM m hO).win 5).blk t).view.emb y)
    ∧ (((cfgM m hO).win 4).blk t).view.read (Elt Ideal) (W (Pipeline.arrRef spec0 4)) y = W main_v5 ((((cfgM m hO).win 5).blk t).view.emb y) := by
  have h0 : (((cfgM m hO).win 0).blk t).view.emb y = (((cfgM m hO).win 5).blk t).view.emb y := funext fun a => Fin.ext rfl
  have h3 : (((cfgM m hO).win 3).blk t).view.emb y = (((cfgM m hO).win 5).blk t).view.emb y := funext fun a => Fin.ext rfl
  have h4 : (((cfgM m hO).win 4).blk t).view.emb y = (((cfgM m hO).win 5).blk t).view.emb y := funext fun a => Fin.ext rfl
  exact ⟨congrArg (W main_v3) h0, congrArg (W main_v4) h3, congrArg (W main_v5) h4⟩

/-- A point's blocks of the parameter and the moments lie where its results' do. -/
theorem cells (c : Dev nD) (t : Fin (cfgM m hO).N) (y : S1x1x256x896.Idx) :
    iblk m hO c 0 t y = V m c main_v3 ((((cfgM m hO).win 5).blk t).view.emb y) ∧ iblk m hO c 3 t y = V m c main_v4 ((((cfgM m hO).win 5).blk t).view.emb y) ∧ iblk m hO c 4 t y = V m c main_v5 ((((cfgM m hO).win 5).blk t).view.emb y) := by
  unfold iblk
  exact reads m hO c (V m c) t y

theorem final6 (c : Dev nD) : (dats m hO 0 c).arrAt 6 (cfgM m hO).N = fun i => delta (V m c main_v3 i) (grad m c i) (V m c main_v4 i) (V m c main_v5 i) :=
  (dats m hO 0 c).arrAt_eq_of_covers 6 _ (covers5 m hO) fun t hf y =>
    (congrFun (afters m hO c t).2.1 y).trans ((pay6 _ _ _ _ _ _ _ y).trans (delta_congr (cells m hO c t y).1 (gr_cell m hO c t y) (cells m hO c t y).2.1 (cells m hO c t y).2.2))

theorem final7 (c : Dev nD) : (dats m hO 0 c).arrAt 7 (cfgM m hO).N = fun i => newM (grad m c i) (V m c main_v4 i) :=
  (dats m hO 0 c).arrAt_eq_of_covers 7 _ (covers5 m hO) fun t hf y =>
    (congrFun (afters m hO c t).2.2.1 y).trans ((pay7 _ _ _ _ _ y).trans (congrArg₂ newM (gr_cell m hO c t y) (cells m hO c t y).2.1))

theorem final8 (c : Dev nD) : (dats m hO 0 c).arrAt 8 (cfgM m hO).N = fun i => newV (grad m c i) (V m c main_v5 i) :=
  (dats m hO 0 c).arrAt_eq_of_covers 8 _ (covers5 m hO) fun t hf y =>
    (congrFun (afters m hO c t).2.2.2 y).trans ((pay8 _ _ _ _ _ y).trans (congrArg₂ newV (gr_cell m hO c t y) (cells m hO c t y).2.2))

theorem word_eq (c : Dev nD) : word (c := c) (tbl m 0) = m (c.tc.loc main_arg0) (ix1 0) := by
  obtain rfl : c = 0 := Subsingleton.elim _ _
  refine Eq.trans ?_ (congrFun (V_main_arg0 m 0) (ix1 0))
  exact congrArg (V m 0 main_arg0) (funext fun a => by fin_cases a; exact Subsingleton.elim (α := Fin 1) _ _)

theorem grad_eq (c : Dev nD) : grad m c = halves (L := 2) (R := 512) (C := 896) (m (c.tc.loc main_arg0) (ix1 0)) (m (c.tc.loc main_arg2)) (m (c.tc.loc main_arg3)) := by
  unfold grad
  rw [word_eq, V_main_arg2, V_main_arg3]

theorem entry0 (c : Dev nD) : V m c main_v3 = shapeCast S2x2x512x896 (pad S2x1024x896 ![0, 0, 0] ![0, 0, 124] ![0, 0, 0] (m (c.tc.loc main_arg1)) (sitofp (F := Ideal) .f32 (constantI S_ 32 0#32)) pads_S2x1024x772_S2x1024x896_000_000_01240 h_S_) shapeCasts_S2x1024x896_S2x2x512x896 := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil, List.cons_append, List.nil_append]
  after_results
  simp only [StableHlo.TRef.ofBuf, StableHlo.TRef.toBuf, cast_eq]
  rfl

theorem entry1 (c : Dev nD) : V m c main_v4 = shapeCast S2x2x512x896 (pad S2x1024x896 ![0, 0, 0] ![0, 0, 124] ![0, 0, 0] (m (c.tc.loc main_arg4)) (sitofp (F := Ideal) .f32 (constantI S_ 32 0#32)) pads_S2x1024x772_S2x1024x896_000_000_01240 h_S_) shapeCasts_S2x1024x896_S2x2x512x896 := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil, List.cons_append, List.nil_append]
  after_results
  simp only [StableHlo.TRef.ofBuf, StableHlo.TRef.toBuf, cast_eq]
  rfl

theorem entry2 (c : Dev nD) : V m c main_v5 = shapeCast S2x2x512x896 (pad S2x1024x896 ![0, 0, 0] ![0, 0, 124] ![0, 0, 0] (m (c.tc.loc main_arg5)) (sitofp (F := Ideal) .f32 (constantI S_ 32 0#32)) pads_S2x1024x772_S2x1024x896_000_000_01240 h_S_) shapeCasts_S2x1024x896_S2x2x512x896 := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil, List.cons_append, List.nil_append]
  after_results
  simp only [StableHlo.TRef.ofBuf, StableHlo.TRef.toBuf, cast_eq]
  rfl

theorem alg : Cert.algebraic_Kernel24Ideal_Reference24Ideal (hKernel24Ideal := Cert.Kernel24Ideal.Gen.facts) (hReference24Ideal := Cert.Reference24Ideal.Gen.facts) := by
  intro m g m' g' _ hag
  refine ⟨fun c => grad m c, fun c i => delta (V m c main_v3 i) (grad m c i) (V m c main_v4 i) (V m c main_v5 i), fun c i => newM (grad m c i) (V m c main_v4 i), fun c i => newV (grad m c i) (V m c main_v5 i), ?_, ?_⟩
  · exact (θ_run defs _ _).mono (fun r h c => ⟨((h c).1 5).trans (final5 m trivial c), ((h c).1 6).trans (final6 m trivial c), ((h c).1 7).trans (final7 m trivial c), ((h c).1 8).trans (final8 m trivial c), ((h c).2 main_arg0 (by decide : main_arg0 ∈ Pipeline.restRefs sig spec0)).trans (V_main_arg0 m c), ((h c).2 main_arg1 (by decide : main_arg1 ∈ Pipeline.restRefs sig spec0)).trans (V_main_arg1 m c), ((h c).1 1).trans (((dats m trivial 0 c).arrAt_in 1 rfl _).trans ((A_eq m trivial c 1).trans (V_main_arg2 m c))), ((h c).1 2).trans (((dats m trivial 0 c).arrAt_in 2 rfl _).trans ((A_eq m trivial c 2).trans (V_main_arg3 m c))), ((h c).2 main_arg4 (by decide : main_arg4 ∈ Pipeline.restRefs sig spec0)).trans (V_main_arg4 m c), ((h c).2 main_arg5 (by decide : main_arg5 ∈ Pipeline.restRefs sig spec0)).trans (V_main_arg5 m c)⟩) (run_main m g trivial)
  · refine (θ_run Cert.Reference24Ideal.defs _ _).mono (fun r h c => ⟨(h c).1.trans ?_, (h c).2.1.trans ?_, (h c).2.2.1.trans ?_, (h c).2.2.2.1.trans ?_, (h c).2.2.2.2⟩) (Cert.Reference24Ideal.Value.run m' g')
    all_goals obtain ⟨e0, e1, e2, e3, e4, e5⟩ := hag c
    · rw [e0, e2, e3]
      exact (ref_halves _ _ _ _ _ _ _).trans (grad_eq m c).symm
    · rw [e0, e1, e2, e3, e4, e5, ref_halves, ← grad_eq]
      show _ = fun i => delta (V m c main_v3 i) (grad m c i) (V m c main_v4 i) (V m c main_v5 i)
      rw [entry0, entry1, entry2]
      exact ref_delta _ _ _ _ _
    · rw [e0, e2, e3, e4, ref_halves, ← grad_eq]
      show _ = fun i => newM (grad m c i) (V m c main_v4 i)
      rw [entry1]
      exact ref_newM _ _ _
    · rw [e0, e2, e3, e5, ref_halves, ← grad_eq]
      show _ = fun i => newV (grad m c i) (V m c main_v5 i)
      rw [entry2]
      exact ref_newV _ _ _

end Cert.Mm.K24

end
-- ==== Proof.lean ====
module

public import proofs.«01_k».proof.Defs
public import proofs.«01_k».proof.Proof.Attn.BitsFrame
public import proofs.«01_k».proof.Proof.Attn.IdealFrame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Kernel20Ideal.Value
public import proofs.«01_k».proof.Proof.Gen.Kernel21Ideal.Value
public import proofs.«01_k».proof.Proof.Gen.Kernel22Ideal.Frame
public import proofs.«01_k».proof.Proof.Gen.Kernel23Ideal.Frame
public import proofs.«01_k».proof.Proof.Gen.Kernel24Ideal.Frame
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Mm.K2
public import proofs.«01_k».proof.Proof.Mm.K3
public import proofs.«01_k».proof.Proof.Mm.K4
public import proofs.«01_k».proof.Proof.Mm.K5
public import proofs.«01_k».proof.Proof.Mm.K6
public import proofs.«01_k».proof.Proof.Mm.K7
public import proofs.«01_k».proof.Proof.Mm.K8
public import proofs.«01_k».proof.Proof.Mm.K9
public import proofs.«01_k».proof.Proof.Mm.K10
public import proofs.«01_k».proof.Proof.Mm.K11
public import proofs.«01_k».proof.Proof.Mm.K12
public import proofs.«01_k».proof.Proof.Mm.K13
public import proofs.«01_k».proof.Proof.Mm.K14
public import proofs.«01_k».proof.Proof.Mm.K15
public import proofs.«01_k».proof.Proof.Mm.K16
public import proofs.«01_k».proof.Proof.Mm.K17
public import proofs.«01_k».proof.Proof.Mm.K18
public import proofs.«01_k».proof.Proof.Mm.K19
public import proofs.«01_k».proof.Proof.Mm.K20
public import proofs.«01_k».proof.Proof.Mm.K21
public import proofs.«01_k».proof.Proof.Mm.K22
public import proofs.«01_k».proof.Proof.Mm.K23
public import proofs.«01_k».proof.Proof.Mm.K24

@[expose] public section

noncomputable section

namespace Cert.Proof

open Idealize.ShloMosaic Idealize.SL.Sem

theorem claim : Cert.Claim :=
  ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts,
  fun m g _ => Cert.Attn.Bits.frame_ok m g,
  fun m g _ => Cert.Attn.Ideal.frame_ok m g,
  fun m g _ => Cert.Kernel2.Gen.frame m g,
  fun m g _ => Cert.Kernel2Ideal.Gen.frame m g,
  fun m g _ => (θ_run Cert.Reference2Ideal.defs _ _).mono (fun r h => ⟨fun c => (h c).2, sem_eq_zero_of_no_sems rfl _⟩) (Cert.Reference2Ideal.Value.run m g),
  fun m g _ => Cert.Kernel3.Gen.frame m g,
  fun m g _ => Cert.Kernel3Ideal.Gen.frame m g,
  fun m g _ => (θ_run Cert.Reference3Ideal.defs _ _).mono (fun r h => ⟨fun c => (h c).2, sem_eq_zero_of_no_sems rfl _⟩) (Cert.Reference3Ideal.Value.run m g),
  fun m g _ => Cert.Kernel4.Gen.frame m g,
  fun m g _ => Cert.Kernel4Ideal.Gen.frame m g,
  fun m g _ => (θ_run Cert.Reference4Ideal.defs _ _).mono (fun r h => ⟨fun c => (h c).2, sem_eq_zero_of_no_sems rfl _⟩) (Cert.Reference4Ideal.Value.run m g),
  fun m g _ => Cert.Kernel5.Gen.frame m g,
  fun m g _ => Cert.Kernel5Ideal.Gen.frame m g,
  fun m g _ => (θ_run Cert.Reference5Ideal.defs _ _).mono (fun r h => ⟨fun c => (h c).2, sem_eq_zero_of_no_sems rfl _⟩) (Cert.Reference5Ideal.Value.run m g),
  fun m g _ => Cert.Kernel6.Gen.frame m g,
  fun m g _ => Cert.Kernel6Ideal.Gen.frame m g,
  fun m g _ => (θ_run Cert.Reference6Ideal.defs _ _).mono (fun r h => ⟨fun c => (h c).2.2.2, sem_eq_zero_of_no_sems rfl _⟩) (Cert.Reference6Ideal.Value.run m g),
  fun m g _ => Cert.Kernel7.Gen.frame m g,
  fun m g _ => Cert.Kernel7Ideal.Gen.frame m g,
  fun m g _ => (θ_run Cert.Reference7Ideal.defs _ _).mono (fun r h => ⟨fun c => (h c).2.2.2.2, sem_eq_zero_of_no_sems rfl _⟩) (Cert.Reference7Ideal.Value.run m g),
  fun m g _ => Cert.Kernel8.Gen.frame m g,
  fun m g _ => Cert.Kernel8Ideal.Gen.frame m g,
  fun m g _ => (θ_run Cert.Reference8Ideal.defs _ _).mono (fun r h => ⟨fun c => (h c).2, sem_eq_zero_of_no_sems rfl _⟩) (Cert.Reference8Ideal.Value.run m g),
  fun m g _ => Cert.Kernel9.Gen.frame m g,
  fun m g _ => Cert.Kernel9Ideal.Gen.frame m g,
  fun m g _ => (θ_run Cert.Reference9Ideal.defs _ _).mono (fun r h => ⟨fun c => (h c).2, sem_eq_zero_of_no_sems rfl _⟩) (Cert.Reference9Ideal.Value.run m g),
  fun m g _ => Cert.Kernel10.Gen.frame m g,
  fun m g _ => Cert.Kernel10Ideal.Gen.frame m g,
  fun m g _ => (θ_run Cert.Reference10Ideal.defs _ _).mono (fun r h => ⟨fun c => (h c).2, sem_eq_zero_of_no_sems rfl _⟩) (Cert.Reference10Ideal.Value.run m g),
  fun m g _ => Cert.Kernel11.Gen.frame m g,
  fun m g _ => Cert.Kernel11Ideal.Gen.frame m g,
  fun m g _ => (θ_run Cert.Reference11Ideal.defs _ _).mono (fun r h => ⟨fun c => (h c).2, sem_eq_zero_of_no_sems rfl _⟩) (Cert.Reference11Ideal.Value.run m g),
  fun m g _ => Cert.Kernel12.Gen.frame m g,
  fun m g _ => Cert.Kernel12Ideal.Gen.frame m g,
  fun m g _ => (θ_run Cert.Reference12Ideal.defs _ _).mono (fun r h => ⟨fun c => (h c).2, sem_eq_zero_of_no_sems rfl _⟩) (Cert.Reference12Ideal.Value.run m g),
  fun m g _ => Cert.Kernel13.Gen.frame m g,
  fun m g _ => Cert.Kernel13Ideal.Gen.frame m g,
  fun m g _ => (θ_run Cert.Reference13Ideal.defs _ _).mono (fun r h => ⟨fun c => (h c).2.2.2, sem_eq_zero_of_no_sems rfl _⟩) (Cert.Reference13Ideal.Value.run m g),
  fun m g _ => Cert.Kernel14.Gen.frame m g,
  fun m g _ => Cert.Kernel14Ideal.Gen.frame m g,
  fun m g _ => (θ_run Cert.Reference14Ideal.defs _ _).mono (fun r h => ⟨fun c => (h c).2.2.2, sem_eq_zero_of_no_sems rfl _⟩) (Cert.Reference14Ideal.Value.run m g),
  fun m g _ => Cert.Kernel15.Gen.frame m g,
  fun m g _ => Cert.Kernel15Ideal.Gen.frame m g,
  fun m g _ => (θ_run Cert.Reference15Ideal.defs _ _).mono (fun r h => ⟨fun c => (h c).2.2.2.2, sem_eq_zero_of_no_sems rfl _⟩) (Cert.Reference15Ideal.Value.run m g),
  fun m g _ => Cert.Kernel16.Gen.frame m g,
  fun m g _ => Cert.Kernel16Ideal.Gen.frame m g,
  fun m g _ => (θ_run Cert.Reference16Ideal.defs _ _).mono (fun r h => ⟨fun c => (h c).2.2, sem_eq_zero_of_no_sems rfl _⟩) (Cert.Reference16Ideal.Value.run m g),
  fun m g _ => Cert.Kernel17.Gen.frame m g,
  fun m g _ => Cert.Kernel17Ideal.Gen.frame m g,
  fun m g _ => (θ_run Cert.Reference17Ideal.defs _ _).mono (fun r h => ⟨fun c => (h c).2.2.2, sem_eq_zero_of_no_sems rfl _⟩) (Cert.Reference17Ideal.Value.run m g),
  fun m g _ => Cert.Kernel18.Gen.frame m g,
  fun m g _ => Cert.Kernel18Ideal.Gen.frame m g,
  fun m g _ => (θ_run Cert.Reference18Ideal.defs _ _).mono (fun r h => ⟨fun c => (h c).2.2.2, sem_eq_zero_of_no_sems rfl _⟩) (Cert.Reference18Ideal.Value.run m g),
  fun m g _ => Cert.Kernel19.Gen.frame m g,
  fun m g _ => Cert.Kernel19Ideal.Gen.frame m g,
  fun m g _ => (θ_run Cert.Reference19Ideal.defs _ _).mono (fun r h => ⟨fun c => (h c).2.2.2, sem_eq_zero_of_no_sems rfl _⟩) (Cert.Reference19Ideal.Value.run m g),
  fun m g _ => Cert.Kernel20.Gen.frame m g,
  fun m g _ => Cert.Kernel20Ideal.Gen.frame m g,
  fun m g _ => (θ_run Cert.Reference20Ideal.defs _ _).mono (fun r h => ⟨fun c => (h c).2.2.2, sem_eq_zero_of_no_sems rfl _⟩) (Cert.Reference20Ideal.Value.run m g),
  fun m g _ => Cert.Kernel21.Gen.frame m g,
  fun m g _ => Cert.Kernel21Ideal.Gen.frame m g,
  fun m g _ => (θ_run Cert.Reference21Ideal.defs _ _).mono (fun r h => ⟨fun c => (h c).2.2.2, sem_eq_zero_of_no_sems rfl _⟩) (Cert.Reference21Ideal.Value.run m g),
  fun m g _ => Cert.Kernel22.Gen.frame m g trivial,
  fun m g _ => Cert.Kernel22Ideal.Gen.frame m g trivial,
  fun m g _ => (θ_run Cert.Reference22Ideal.defs _ _).mono (fun r h => ⟨fun c => (h c).2.2.2.2, sem_eq_zero_of_no_sems rfl _⟩) (Cert.Reference22Ideal.Value.run m g),
  fun m g _ => Cert.Kernel23.Gen.frame m g trivial,
  fun m g _ => Cert.Kernel23Ideal.Gen.frame m g trivial,
  fun m g _ => (θ_run Cert.Reference23Ideal.defs _ _).mono (fun r h => ⟨fun c => (h c).2.2.2.2, sem_eq_zero_of_no_sems rfl _⟩) (Cert.Reference23Ideal.Value.run m g),
  fun m g _ => Cert.Kernel24.Gen.frame m g trivial,
  fun m g _ => Cert.Kernel24Ideal.Gen.frame m g trivial,
  fun m g _ => (θ_run Cert.Reference24Ideal.defs _ _).mono (fun r h => ⟨fun c => (h c).2.2.2.2, sem_eq_zero_of_no_sems rfl _⟩) (Cert.Reference24Ideal.Value.run m g),
  IdealRules.named_const.statement _ _ _ _ _ rfl,
  trivial,
  Cert.Mm.K2.alg,
  trivial,
  Cert.Mm.K3.alg,
  trivial,
  Cert.Mm.K4.alg,
  trivial,
  Cert.Mm.K5.alg,
  trivial,
  Cert.Mm.K6.alg,
  trivial,
  Cert.Mm.K7.alg,
  trivial,
  Cert.Mm.K8.alg,
  trivial,
  Cert.Mm.K9.alg,
  trivial,
  Cert.Mm.K10.alg,
  trivial,
  Cert.Mm.K11.alg,
  trivial,
  Cert.Mm.K12.alg,
  trivial,
  Cert.Mm.K13.alg,
  trivial,
  Cert.Mm.K14.alg,
  trivial,
  Cert.Mm.K15.alg,
  trivial,
  Cert.Mm.K16.alg,
  trivial,
  Cert.Mm.K17.alg,
  trivial,
  Cert.Mm.K18.alg,
  trivial,
  Cert.Mm.K19.alg,
  trivial,
  Cert.Mm.K20.alg,
  trivial,
  Cert.Mm.K21.alg,
  trivial,
  Cert.Mm.K22.alg,
  trivial,
  Cert.Mm.K23.alg,
  trivial,
  Cert.Mm.K24.alg⟩

end Cert.Proof

end
